-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  IdealRules.named_const.Statement Cert.KernelIdeal.κ "neg" .f32 0xF149F2CA#32 ⊥
  ∧ IdealRules.named_const.Statement Cert.KernelIdeal.κ "qk_scale" .f32 0x3E0293EE#32 (((Real.sqrt 128)⁻¹ * (Real.log 2)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x1x32x128 : Shape := ⟨4, ![2, 1, 32, 128]⟩
abbrev S2x1x4x128 : Shape := ⟨4, ![2, 1, 4, 128]⟩
abbrev S131072x4x128 : Shape := ⟨3, ![131072, 4, 128]⟩
abbrev S131072x4 : Shape := ⟨2, ![131072, 4]⟩
abbrev S2x1024x4x128 : Shape := ⟨4, ![2, 1024, 4, 128]⟩
abbrev S2x1024x4 : Shape := ⟨3, ![2, 1024, 4]⟩
abbrev S2 : Shape := ⟨1, ![2]⟩
abbrev S524288x128 : Shape := ⟨2, ![524288, 128]⟩
abbrev S2x4x1024 : Shape := ⟨3, ![2, 4, 1024]⟩
abbrev S2x32x128 : Shape := ⟨3, ![2, 32, 128]⟩
abbrev S2x4x128 : Shape := ⟨3, ![2, 4, 128]⟩
abbrev S4x131072 : Shape := ⟨2, ![4, 131072]⟩
abbrev S16384x128 : Shape := ⟨2, ![16384, 128]⟩
abbrev S4x4096 : Shape := ⟨2, ![4, 4096]⟩
abbrev S2x32x256 : Shape := ⟨3, ![2, 32, 256]⟩
abbrev S2x32x133120 : Shape := ⟨3, ![2, 32, 133120]⟩
abbrev S16x128 : Shape := ⟨2, ![16, 128]⟩
abbrev S1x8x128 : Shape := ⟨3, ![1, 8, 128]⟩
abbrev S8x128 : Shape := ⟨2, ![8, 128]⟩
abbrev S16x256 : Shape := ⟨2, ![16, 256]⟩
abbrev S32x256 : Shape := ⟨2, ![32, 256]⟩
abbrev S1x32x256 : Shape := ⟨3, ![1, 32, 256]⟩
abbrev S1 : Shape := ⟨1, ![1]⟩
abbrev S8192x128 : Shape := ⟨2, ![8192, 128]⟩
abbrev S1024x128 : Shape := ⟨2, ![1024, 128]⟩
abbrev S256x512 : Shape := ⟨2, ![256, 512]⟩
abbrev S256x128 : Shape := ⟨2, ![256, 128]⟩
abbrev S256x256 : Shape := ⟨2, ![256, 256]⟩
abbrev S1x4x256 : Shape := ⟨3, ![1, 4, 256]⟩
abbrev S4x256 : Shape := ⟨2, ![4, 256]⟩
abbrev S1x256 : Shape := ⟨2, ![1, 256]⟩
abbrev S1x32x128 : Shape := ⟨3, ![1, 32, 128]⟩
abbrev S32x128 : Shape := ⟨2, ![32, 128]⟩
abbrev S1x1x128 : Shape := ⟨3, ![1, 1, 128]⟩
abbrev S1x128 : Shape := ⟨2, ![1, 128]⟩
abbrev S32 : Shape := ⟨1, ![32]⟩
abbrev S32x1 : Shape := ⟨2, ![32, 1]⟩
abbrev S4096x128 : Shape := ⟨2, ![4096, 128]⟩
abbrev S1x4x1024 : Shape := ⟨3, ![1, 4, 1024]⟩
abbrev S4x1024 : Shape := ⟨2, ![4, 1024]⟩
abbrev S32x1024 : Shape := ⟨2, ![32, 1024]⟩
abbrev S1024x256 : Shape := ⟨2, ![1024, 256]⟩
abbrev S32x4096 : Shape := ⟨2, ![32, 4096]⟩
abbrev S4096x256 : Shape := ⟨2, ![4096, 256]⟩
abbrev S1x16x128 : Shape := ⟨3, ![1, 16, 128]⟩
abbrev S16x1 : Shape := ⟨2, ![16, 1]⟩

abbrev nBuf : Space → Nat
  | .hbm => 21
  | .vmem => 21
  | .smem => 1
  | _ => 0

abbrev bufTy : (tb : Table) → Fin (tcTables nBuf tb) → BufTy
  | .hbm, ⟨0, _⟩ => ⟨S2x1x32x128, .bf16⟩
  | .hbm, ⟨1, _⟩ => ⟨S2x1x4x128, .bf16⟩
  | .hbm, ⟨2, _⟩ => ⟨S2x1x4x128, .bf16⟩
  | .hbm, ⟨3, _⟩ => ⟨S131072x4x128, .fp8e4m3⟩
  | .hbm, ⟨4, _⟩ => ⟨S131072x4x128, .fp8e4m3⟩
  | .hbm, ⟨5, _⟩ => ⟨S131072x4, .f32⟩
  | .hbm, ⟨6, _⟩ => ⟨S131072x4, .f32⟩
  | .hbm, ⟨7, _⟩ => ⟨S2x1024x4x128, .fp8e4m3⟩
  | .hbm, ⟨8, _⟩ => ⟨S2x1024x4x128, .fp8e4m3⟩
  | .hbm, ⟨9, _⟩ => ⟨S2x1024x4, .f32⟩
  | .hbm, ⟨10, _⟩ => ⟨S2x1024x4, .f32⟩
  | .hbm, ⟨11, _⟩ => ⟨S524288x128, .fp8e4m3⟩
  | .hbm, ⟨12, _⟩ => ⟨S524288x128, .fp8e4m3⟩
  | .hbm, ⟨13, _⟩ => ⟨S2x4x1024, .f32⟩
  | .hbm, ⟨14, _⟩ => ⟨S2x4x1024, .f32⟩
  | .hbm, ⟨15, _⟩ => ⟨S2x32x128, .bf16⟩
  | .hbm, ⟨16, _⟩ => ⟨S2x4x128, .bf16⟩
  | .hbm, ⟨17, _⟩ => ⟨S2x4x128, .bf16⟩
  | .hbm, ⟨18, _⟩ => ⟨S4x131072, .f32⟩
  | .hbm, ⟨19, _⟩ => ⟨S4x131072, .f32⟩
  | .hbm, ⟨20, _⟩ => ⟨S2x32x128, .bf16⟩
  | .local _ .vmem, ⟨0, _⟩ => ⟨S2x32x128, .bf16⟩
  | .local _ .vmem, ⟨1, _⟩ => ⟨S2x4x128, .bf16⟩
  | .local _ .vmem, ⟨2, _⟩ => ⟨S2x4x128, .bf16⟩
  | .local _ .vmem, ⟨3, _⟩ => ⟨S16384x128, .fp8e4m3⟩
  | .local _ .vmem, ⟨4, _⟩ => ⟨S16384x128, .fp8e4m3⟩
  | .local _ .vmem, ⟨5, _⟩ => ⟨S16384x128, .fp8e4m3⟩
  | .local _ .vmem, ⟨6, _⟩ => ⟨S16384x128, .fp8e4m3⟩
  | .local _ .vmem, ⟨7, _⟩ => ⟨S4x4096, .f32⟩
  | .local _ .vmem, ⟨8, _⟩ => ⟨S4x4096, .f32⟩
  | .local _ .vmem, ⟨9, _⟩ => ⟨S4x4096, .f32⟩
  | .local _ .vmem, ⟨10, _⟩ => ⟨S4x4096, .f32⟩
  | .local _ .vmem, ⟨11, _⟩ => ⟨S2x1024x4x128, .fp8e4m3⟩
  | .local _ .vmem, ⟨12, _⟩ => ⟨S2x1024x4x128, .fp8e4m3⟩
  | .local _ .vmem, ⟨13, _⟩ => ⟨S2x4x1024, .f32⟩
  | .local _ .vmem, ⟨14, _⟩ => ⟨S2x4x1024, .f32⟩
  | .local _ .vmem, ⟨15, _⟩ => ⟨S2x32x128, .bf16⟩
  | .local _ .vmem, ⟨16, _⟩ => ⟨S2x32x256, .bf16⟩
  | .local _ .vmem, ⟨17, _⟩ => ⟨S2x32x133120, .f32⟩
  | .local _ .vmem, ⟨18, _⟩ => ⟨S2x32x128, .f32⟩
  | .local _ .vmem, ⟨19, _⟩ => ⟨S2x32x128, .f32⟩
  | .local _ .vmem, ⟨20, _⟩ => ⟨S2x32x256, .f32⟩
  | .local _ .smem, ⟨0, _⟩ => ⟨S2, .i32⟩
  | _, _ => ⟨S2x1x32x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_arg11 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15

abbrev nD : Nat := 1
abbrev τ : Topo := Topo.v7x

variable {F : FTy → Type} [FloatOps F]

abbrev grid0 : Pipeline.Grid := ⟨1, ![64], ![false]⟩

abbrev pre0 : Pipeline.Prefetch sig := ⟨1, ![main_arg11.idx], fun | 0 => main_arg11.names | ⟨_ + 1, h⟩ => absurd h (Nat.not_lt.2 (Nat.le_add_left _ _)), fun | 0 => rfl | ⟨_ + 1, h⟩ => absurd h (Nat.not_lt.2 (Nat.le_add_left _ _))⟩

def k0_cond2 (i : grid0.Coords) : BitVec 1 :=
  let arg0 : BitVec 32 := BitVec.ofNat 32 (i 0).val
  let c32_i32 : BitVec 32 := 32#32
  let v3 : BitVec 1 := Scalar.cmpi .slt arg0 c32_i32
  let v4 : BitVec 32 := Scalar.extui v3
  let c0_i32_1 : BitVec 32 := 0#32
  let v5 : BitVec 1 := Scalar.cmpi .ne v4 c0_i32_1
  v5

def k0_mult1 (i : grid0.Coords) : BitVec 32 :=
  let arg0 : BitVec 32 := BitVec.ofNat 32 (i 0).val
  let c4096_i32 : BitVec 32 := 4096#32
  let v15 : BitVec 32 := Scalar.muli arg0 c4096_i32
  v15
def k0_off1 (i : grid0.Coords) (c0_i32_19 : BitVec 32) : Fin 3 → Nat :=
  let c0_20 : Index := 0#32
  let c0_21 : Index := 0#32
  let arg0 : BitVec 32 := BitVec.ofNat 32 (i 0).val
  let c4096_i32 : BitVec 32 := 4096#32
  let v15 : BitVec 32 := Scalar.muli arg0 c4096_i32
  let v16 : BitVec 32 := v15
  let v45 : BitVec 32 := Scalar.addi v16 c0_i32_19
  let v46 : Index := Scalar.indexCast v45
  ![0, 0, v46.toNat]
def k0_off2 (i : grid0.Coords) (c0_i32_26 : BitVec 32) : Fin 3 → Nat :=
  let c1_27 : Index := 1#32
  let c0_28 : Index := 0#32
  let arg0 : BitVec 32 := BitVec.ofNat 32 (i 0).val
  let c4096_i32 : BitVec 32 := 4096#32
  let v15 : BitVec 32 := Scalar.muli arg0 c4096_i32
  let v16 : BitVec 32 := v15
  let v65 : BitVec 32 := Scalar.addi v16 c0_i32_26
  let v66 : Index := Scalar.indexCast v65
  ![1, 0, v66.toNat]
def k0_cond4 (i : grid0.Coords) : BitVec 1 :=
  let arg0 : BitVec 32 := BitVec.ofNat 32 (i 0).val
  let c32_i32_4 : BitVec 32 := 32#32
  let v9 : BitVec 1 := Scalar.cmpi .sge arg0 c32_i32_4
  let v10 : BitVec 32 := Scalar.extui v9
  let c0_i32_5 : BitVec 32 := 0#32
  let v11 : BitVec 1 := Scalar.cmpi .ne v10 c0_i32_5
  v11

def k0_mult2 (i : grid0.Coords) : BitVec 32 :=
  let arg0 : BitVec 32 := BitVec.ofNat 32 (i 0).val
  let c32_i32_7 : BitVec 32 := 32#32
  let v15 : BitVec 32 := Scalar.subi arg0 c32_i32_7
  let c4096_i32 : BitVec 32 := 4096#32
  let v16 : BitVec 32 := Scalar.muli v15 c4096_i32
  v16
def k0_off3 (i : grid0.Coords) (c0_i32_19 : BitVec 32) : Fin 3 → Nat :=
  let c0_20 : Index := 0#32
  let c0_21 : Index := 0#32
  let arg0 : BitVec 32 := BitVec.ofNat 32 (i 0).val
  let c32_i32_7 : BitVec 32 := 32#32
  let v15 : BitVec 32 := Scalar.subi arg0 c32_i32_7
  let c4096_i32 : BitVec 32 := 4096#32
  let v16 : BitVec 32 := Scalar.muli v15 c4096_i32
  let v17 : BitVec 32 := v16
  let v35 : BitVec 32 := Scalar.addi v17 c0_i32_19
  let v36 : Index := Scalar.indexCast v35
  ![0, 0, v36.toNat]
def k0_off4 (i : grid0.Coords) (c0_i32_25 : BitVec 32) : Fin 3 → Nat :=
  let c1_26 : Index := 1#32
  let c0_27 : Index := 0#32
  let arg0 : BitVec 32 := BitVec.ofNat 32 (i 0).val
  let c32_i32_7 : BitVec 32 := 32#32
  let v15 : BitVec 32 := Scalar.subi arg0 c32_i32_7
  let c4096_i32 : BitVec 32 := 4096#32
  let v16 : BitVec 32 := Scalar.muli v15 c4096_i32
  let v17 : BitVec 32 := v16
  let v57 : BitVec 32 := Scalar.addi v17 c0_i32_25
  let v58 : Index := Scalar.indexCast v57
  ![1, 0, v58.toNat]
def k0_cond5 (i : grid0.Coords) : BitVec 1 :=
  let arg0 : BitVec 32 := BitVec.ofNat 32 (i 0).val
  let c63_i32 : BitVec 32 := 63#32
  let v12 : BitVec 1 := Scalar.cmpi .eq arg0 c63_i32
  let v13 : BitVec 32 := Scalar.extui v12
  let c0_i32_6 : BitVec 32 := 0#32
  let v14 : BitVec 1 := Scalar.cmpi .ne v13 c0_i32_6
  v14

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S2x32x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2x4x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x4x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S16384x128 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16384x128 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S2x1024x4x128 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2x1024x4x128 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2x4x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2x4x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2x32x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== KernelIdeal.lean ====
variable {F : FTy → Type} [FloatOps F] [Named F]
def κ : String → Option EReal := fun
  | "neg" => some ⊥
  | "qk_scale" => some (((Real.sqrt 128)⁻¹ * (Real.log 2)⁻¹ : ℝ) : EReal)
  | _ => none
-- ==== ReferenceIdeal.lean ====
abbrev S2x1x32x128 : Shape := ⟨4, ![2, 1, 32, 128]⟩
abbrev S2x1x4x128 : Shape := ⟨4, ![2, 1, 4, 128]⟩
abbrev S131072x4x128 : Shape := ⟨3, ![131072, 4, 128]⟩
abbrev S131072x4 : Shape := ⟨2, ![131072, 4]⟩
abbrev S2x1024x4x128 : Shape := ⟨4, ![2, 1024, 4, 128]⟩
abbrev S2x1024x4 : Shape := ⟨3, ![2, 1024, 4]⟩
abbrev S2 : Shape := ⟨1, ![2]⟩
abbrev S2x32x128 : Shape := ⟨3, ![2, 32, 128]⟩
abbrev S131072x512 : Shape := ⟨2, ![131072, 512]⟩
abbrev S2x1024x512 : Shape := ⟨3, ![2, 1024, 512]⟩
abbrev S4x131072 : Shape := ⟨2, ![4, 131072]⟩
abbrev S2x4x1024 : Shape := ⟨3, ![2, 4, 1024]⟩
abbrev S2x4x128 : Shape := ⟨3, ![2, 4, 128]⟩
abbrev S1x8x128 : Shape := ⟨3, ![1, 8, 128]⟩
abbrev S8x128 : Shape := ⟨2, ![8, 128]⟩
abbrev S131072x128 : Shape := ⟨2, ![131072, 128]⟩
abbrev S8x131072 : Shape := ⟨2, ![8, 131072]⟩
abbrev S1x131072 : Shape := ⟨2, ![1, 131072]⟩
abbrev S1x1024x128 : Shape := ⟨3, ![1, 1024, 128]⟩
abbrev S1024x128 : Shape := ⟨2, ![1024, 128]⟩
abbrev S8x1024 : Shape := ⟨2, ![8, 1024]⟩
abbrev S1x1x1024 : Shape := ⟨3, ![1, 1, 1024]⟩
abbrev S1x1024 : Shape := ⟨2, ![1, 1024]⟩
abbrev S1 : Shape := ⟨1, ![1]⟩
abbrev S1x1x128 : Shape := ⟨3, ![1, 1, 128]⟩
abbrev S1x128 : Shape := ⟨2, ![1, 128]⟩
abbrev S8 : Shape := ⟨1, ![8]⟩
abbrev S8x1 : Shape := ⟨2, ![8, 1]⟩

abbrev nBuf : Space → Nat
  | .hbm => 24
  | .vmem => 12
  | .smem => 1
  | _ => 0

abbrev bufTy : (tb : Table) → Fin (tcTables nBuf tb) → BufTy
  | .hbm, ⟨0, _⟩ => ⟨S2x1x32x128, .bf16⟩
  | .hbm, ⟨1, _⟩ => ⟨S2x1x4x128, .bf16⟩
  | .hbm, ⟨2, _⟩ => ⟨S2x1x4x128, .bf16⟩
  | .hbm, ⟨3, _⟩ => ⟨S131072x4x128, .fp8e4m3⟩
  | .hbm, ⟨4, _⟩ => ⟨S131072x4x128, .fp8e4m3⟩
  | .hbm, ⟨5, _⟩ => ⟨S131072x4, .f32⟩
  | .hbm, ⟨6, _⟩ => ⟨S131072x4, .f32⟩
  | .hbm, ⟨7, _⟩ => ⟨S2x1024x4x128, .fp8e4m3⟩
  | .hbm, ⟨8, _⟩ => ⟨S2x1024x4x128, .fp8e4m3⟩
  | .hbm, ⟨9, _⟩ => ⟨S2x1024x4, .f32⟩
  | .hbm, ⟨10, _⟩ => ⟨S2x1024x4, .f32⟩
  | .hbm, ⟨11, _⟩ => ⟨S2, .i32⟩
  | .hbm, ⟨12, _⟩ => ⟨S2x32x128, .bf16⟩
  | .hbm, ⟨13, _⟩ => ⟨S131072x512, .fp8e4m3⟩
  | .hbm, ⟨14, _⟩ => ⟨S131072x512, .fp8e4m3⟩
  | .hbm, ⟨15, _⟩ => ⟨S2x1024x512, .fp8e4m3⟩
  | .hbm, ⟨16, _⟩ => ⟨S2x1024x512, .fp8e4m3⟩
  | .hbm, ⟨17, _⟩ => ⟨S4x131072, .f32⟩
  | .hbm, ⟨18, _⟩ => ⟨S4x131072, .f32⟩
  | .hbm, ⟨19, _⟩ => ⟨S2x4x1024, .f32⟩
  | .hbm, ⟨20, _⟩ => ⟨S2x4x1024, .f32⟩
  | .hbm, ⟨21, _⟩ => ⟨S2x4x128, .bf16⟩
  | .hbm, ⟨22, _⟩ => ⟨S2x4x128, .bf16⟩
  | .hbm, ⟨23, _⟩ => ⟨S2x32x128, .bf16⟩
  | .local _ .vmem, ⟨0, _⟩ => ⟨S2x32x128, .bf16⟩
  | .local _ .vmem, ⟨1, _⟩ => ⟨S2x4x128, .bf16⟩
  | .local _ .vmem, ⟨2, _⟩ => ⟨S2x4x128, .bf16⟩
  | .local _ .vmem, ⟨3, _⟩ => ⟨S131072x512, .fp8e4m3⟩
  | .local _ .vmem, ⟨4, _⟩ => ⟨S131072x512, .fp8e4m3⟩
  | .local _ .vmem, ⟨5, _⟩ => ⟨S4x131072, .f32⟩
  | .local _ .vmem, ⟨6, _⟩ => ⟨S4x131072, .f32⟩
  | .local _ .vmem, ⟨7, _⟩ => ⟨S2x1024x512, .fp8e4m3⟩
  | .local _ .vmem, ⟨8, _⟩ => ⟨S2x1024x512, .fp8e4m3⟩
  | .local _ .vmem, ⟨9, _⟩ => ⟨S2x4x1024, .f32⟩
  | .local _ .vmem, ⟨10, _⟩ => ⟨S2x4x1024, .f32⟩
  | .local _ .vmem, ⟨11, _⟩ => ⟨S2x32x128, .bf16⟩
  | .local _ .smem, ⟨0, _⟩ => ⟨S2, .i32⟩
  | _, _ => ⟨S2x1x32x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg12_0 : Ref sig .tc := ⟨.vmem, 11, rfl⟩
abbrev cc0_stg11_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F] [Named F]

def κ : String → Option EReal := fun
  | "score_scale" => some (((Real.sqrt 128)⁻¹ : ℝ) : EReal)
  | _ => none

abbrev grid0 : Pipeline.Grid := .none

abbrev stage0_0 : Fin 1 → Memref sig .tc .vmem S2x32x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x4x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x4x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S131072x512 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S131072x512 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x131072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x131072 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x1024x512 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x1024x512 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x4x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2x4x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .smem S2 .i32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S2x32x128 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
-- ==== Proof.K.Points.lean ====
module

public import proofs.«01_k».proof.Proof.Gen.Kernel
public import Idealize.ShloMosaic.Lib.Pipeline.Kit

@[expose] public section

noncomputable section

namespace Cert.Kernel.Gen

open Idealize.ShloMosaic Idealize.ShloMosaic.TcCoe
open Idealize.SL Idealize.SL.Sem

variable {F : FTy → Type} [FloatOps F]
/-! ## custom_call 0 -/

/-! A call with PREFETCHED TABLES: its memrefs and body are stated over the pipeline at ANY admissible contents `a`
    of the tables (a certificate instantiates them at the contents it reads off the launch memory). A window whose
    index map reads no table has the same schedule at every `a`: stated over the grid, the window's direction and
    that map alone (Lib/Pipeline/Kit.lean `Window.fetchOf` / `flushOf`), proved from the map and the fact about the
    axes it reads (`hreadsK_W`) or decided, and restated over the pinned window, which unfolds to them. A window whose
    map reads a table gets none here. -/

/-- Window 0 (operand 1 (%4)) is fetched at the first point only, at any contents of the tables (its index map reads none). -/
theorem fetch0_0 (a : (pcfg0 (F := F)).Adm) : ∀ t : Fin (cfg0 a).N, ((cfg0 a).win 0).fetch t = true ↔ t.val % 64 = 0 :=
  (fun t => Pipeline.Window.fetchOf_const cc0_transform_0 (fun _ _ => rfl) (n := 64) (by decide) t : ∀ t : Fin grid0.N, Pipeline.Window.fetchOf grid0 false cc0_transform_0 t = true ↔ t.val % 64 = 0)
/-- Window 1 (operand 2 (%5)) is fetched at the first point only, at any contents of the tables (its index map reads none). -/
theorem fetch0_1 (a : (pcfg0 (F := F)).Adm) : ∀ t : Fin (cfg0 a).N, ((cfg0 a).win 1).fetch t = true ↔ t.val % 64 = 0 :=
  (fun t => Pipeline.Window.fetchOf_const cc0_transform_1 (fun _ _ => rfl) (n := 64) (by decide) t : ∀ t : Fin grid0.N, Pipeline.Window.fetchOf grid0 false cc0_transform_1 t = true ↔ t.val % 64 = 0)
/-- Window 2 (operand 3 (%6)) is fetched at the first point only, at any contents of the tables (its index map reads none). -/
theorem fetch0_2 (a : (pcfg0 (F := F)).Adm) : ∀ t : Fin (cfg0 a).N, ((cfg0 a).win 2).fetch t = true ↔ t.val % 64 = 0 :=
  (fun t => Pipeline.Window.fetchOf_const cc0_transform_2 (fun _ _ => rfl) (n := 64) (by decide) t : ∀ t : Fin grid0.N, Pipeline.Window.fetchOf grid0 false cc0_transform_2 t = true ↔ t.val % 64 = 0)
-- window 3 is fetched at points [0, 1, 2, 3, 4, 5, 6, 7, 8, 9, 10, 11]…: no closed form stated
-- window 4 is fetched at points [0, 33, 34, 35, 36, 37, 38, 39, 40, 41, 42, 43]…: no closed form stated
-- window 5 is fetched at points [0, 1, 2, 3, 4, 5, 6, 7, 8, 9, 10, 11]…: no closed form stated
-- window 6 is fetched at points [0, 33, 34, 35, 36, 37, 38, 39, 40, 41, 42, 43]…: no closed form stated
/-- Window 7 (operand 8 (%arg7)) is fetched at the first point only, at any contents of the tables (its index map reads none). -/
theorem fetch0_7 (a : (pcfg0 (F := F)).Adm) : ∀ t : Fin (cfg0 a).N, ((cfg0 a).win 7).fetch t = true ↔ t.val % 64 = 0 :=
  (fun t => Pipeline.Window.fetchOf_const cc0_transform_7 (fun _ _ => rfl) (n := 64) (by decide) t : ∀ t : Fin grid0.N, Pipeline.Window.fetchOf grid0 false cc0_transform_7 t = true ↔ t.val % 64 = 0)
/-- Window 8 (operand 9 (%arg8)) is fetched at the first point only, at any contents of the tables (its index map reads none). -/
theorem fetch0_8 (a : (pcfg0 (F := F)).Adm) : ∀ t : Fin (cfg0 a).N, ((cfg0 a).win 8).fetch t = true ↔ t.val % 64 = 0 :=
  (fun t => Pipeline.Window.fetchOf_const cc0_transform_8 (fun _ _ => rfl) (n := 64) (by decide) t : ∀ t : Fin grid0.N, Pipeline.Window.fetchOf grid0 false cc0_transform_8 t = true ↔ t.val % 64 = 0)
/-- Window 9 (operand 10 (%2)) is fetched at the first point only, at any contents of the tables (its index map reads none). -/
theorem fetch0_9 (a : (pcfg0 (F := F)).Adm) : ∀ t : Fin (cfg0 a).N, ((cfg0 a).win 9).fetch t = true ↔ t.val % 64 = 0 :=
  (fun t => Pipeline.Window.fetchOf_const cc0_transform_9 (fun _ _ => rfl) (n := 64) (by decide) t : ∀ t : Fin grid0.N, Pipeline.Window.fetchOf grid0 false cc0_transform_9 t = true ↔ t.val % 64 = 0)
/-- Window 10 (operand 11 (%3)) is fetched at the first point only, at any contents of the tables (its index map reads none). -/
theorem fetch0_10 (a : (pcfg0 (F := F)).Adm) : ∀ t : Fin (cfg0 a).N, ((cfg0 a).win 10).fetch t = true ↔ t.val % 64 = 0 :=
  (fun t => Pipeline.Window.fetchOf_const cc0_transform_10 (fun _ _ => rfl) (n := 64) (by decide) t : ∀ t : Fin grid0.N, Pipeline.Window.fetchOf grid0 false cc0_transform_10 t = true ↔ t.val % 64 = 0)
/-- Window 11 (result 0 (%9)) is written back at the last point only, at any contents of the tables (its index map reads none). -/
theorem flush0_11 (a : (pcfg0 (F := F)).Adm) : ∀ t : Fin (cfg0 a).N, ((cfg0 a).win 11).flush t = true ↔ t.val % 64 = 63 :=
  (fun t => Pipeline.Window.flushOf_const cc0_transform_11 (fun _ _ => rfl) (n := 64) (by decide) rfl t : ∀ t : Fin grid0.N, Pipeline.Window.flushOf grid0 true cc0_transform_11 t = true ↔ t.val % 64 = 63)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)
abbrev st0_6 (a : (pcfg0 (F := F)).Adm) (t : Fin (cfg0 a).N) := ((cfg0 a).win 6).stage ((cfg0 a).slots t 6)
abbrev st0_7 (a : (pcfg0 (F := F)).Adm) (t : Fin (cfg0 a).N) := ((cfg0 a).win 7).stage ((cfg0 a).slots t 7)
abbrev st0_8 (a : (pcfg0 (F := F)).Adm) (t : Fin (cfg0 a).N) := ((cfg0 a).win 8).stage ((cfg0 a).slots t 8)
abbrev st0_9 (a : (pcfg0 (F := F)).Adm) (t : Fin (cfg0 a).N) := ((cfg0 a).win 9).stage ((cfg0 a).slots t 9)
abbrev st0_10 (a : (pcfg0 (F := F)).Adm) (t : Fin (cfg0 a).N) := ((cfg0 a).win 10).stage ((cfg0 a).slots t 10)
abbrev st0_11 (a : (pcfg0 (F := F)).Adm) (t : Fin (cfg0 a).N) := ((cfg0 a).win 11).stage ((cfg0 a).slots t 11)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_cascade_decode (grid0.coords t) (Memref.whole main_arg11) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (spec0_9.stage ((cfg0 a).slots t 9)) (hstage0_9 (((cfg0 a).slots t 9).cast nbuf0_9)) (spec0_10.stage ((cfg0 a).slots t 10)) (hstage0_10 (((cfg0 a).slots t 10).cast nbuf0_10)) (spec0_11.stage ((cfg0 a).slots t 11)) (hstage0_11 (((cfg0 a).slots t 11).cast nbuf0_11)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _)

end Cert.Kernel.Gen

end
-- ==== Proof.K.Runs.lean ====
module

public import proofs.«01_k».proof.Proof.Gen.Kernel.Launch
public import proofs.«01_k».proof.Proof.Gen.Kernel.Skeleton
public import proofs.«01_k».proof.Proof.K.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of large extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg10`: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg11`: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S2 .i32 := Memref.whole main_arg11
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of (hO : Ok m) {c : Dev nD} (dat : Dat τ (Elt F) Unit ℕ (UR sig nD τ) ℕ (cfgM m hO) c) (hA : dat.A 6 = V m c (Pipeline.arrRef spec0 6))
    (hafter : ∀ t, dat.after 6 t = iblk m hO c 6 t) (t : Fin (cfgM m hO).N) (d) : dat.before 6 t d = iblk m hO c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of (hO : Ok m) {c : Dev nD} (dat : Dat τ (Elt F) Unit ℕ (UR sig nD τ) ℕ (cfgM m hO) c) (hA : dat.A 7 = V m c (Pipeline.arrRef spec0 7))
    (hafter : ∀ t, dat.after 7 t = iblk m hO c 7 t) (t : Fin (cfgM m hO).N) (d) : dat.before 7 t d = iblk m hO c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of (hO : Ok m) {c : Dev nD} (dat : Dat τ (Elt F) Unit ℕ (UR sig nD τ) ℕ (cfgM m hO) c) (hA : dat.A 8 = V m c (Pipeline.arrRef spec0 8))
    (hafter : ∀ t, dat.after 8 t = iblk m hO c 8 t) (t : Fin (cfgM m hO).N) (d) : dat.before 8 t d = iblk m hO c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_9_of (hO : Ok m) {c : Dev nD} (dat : Dat τ (Elt F) Unit ℕ (UR sig nD τ) ℕ (cfgM m hO) c) (hA : dat.A 9 = V m c (Pipeline.arrRef spec0 9))
    (hafter : ∀ t, dat.after 9 t = iblk m hO c 9 t) (t : Fin (cfgM m hO).N) (d) : dat.before 9 t d = iblk m hO c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_10_of (hO : Ok m) {c : Dev nD} (dat : Dat τ (Elt F) Unit ℕ (UR sig nD τ) ℕ (cfgM m hO) c) (hA : dat.A 10 = V m c (Pipeline.arrRef spec0 10))
    (hafter : ∀ t, dat.after 10 t = iblk m hO c 10 t) (t : Fin (cfgM m hO).N) (d) : dat.before 10 t d = iblk m hO c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m hO) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).2 main_arg4 (by decide : main_arg4 ∈ Pipeline.restRefs sig spec0)).trans (V_main_arg4 m c),
      ((h c).2 main_arg5 (by decide : main_arg5 ∈ Pipeline.restRefs sig spec0)).trans (V_main_arg5 m c),
      ((h c).2 main_arg6 (by decide : main_arg6 ∈ Pipeline.restRefs sig spec0)).trans (V_main_arg6 m c),
      (Pipeline.RDat.FramePost.arr_in h c 7 rfl).trans ((hA c 7).trans (V_main_arg7 m c)),
      (Pipeline.RDat.FramePost.arr_in h c 8 rfl).trans ((hA c 8).trans (V_main_arg8 m c)),
      ((h c).2 main_arg9 (by decide : main_arg9 ∈ Pipeline.restRefs sig spec0)).trans (V_main_arg9 m c),
      ((h c).2 main_arg10 (by decide : main_arg10 ∈ Pipeline.restRefs sig spec0)).trans (V_main_arg10 m c),
      ((h c).2 main_arg11 (by decide : main_arg11 ∈ Pipeline.restRefs sig spec0)).trans (V_main_arg11 m c)⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin grid0.N, cond0_0 (grid0.coords t) ↔ t.val % 64 = 0 :=
  (fun t => by
    have ht : t.val < 64 := Nat.lt_of_lt_of_eq t.isLt N_0
    have e0 : (grid0.coords t 0).val = t.val / 1 % 64 := Pipeline.Grid.coords_val t 0 (by decide) rfl
    simp only [cond0_0, e0]
    word_cmp
   : ∀ t : Fin grid0.N, cond0_0 (grid0.coords t) ↔ t.val % 64 = 0)

/-- The condition of the body's `scf.if` 1 (`k0_h2`), from the grid coordinates (the skeleton's scalar
    chain substituted). -/
abbrev cond0_1 (i : grid0.Coords) : Prop := k0_cond2 i = 1#1
/-- It holds at the points before point 32 — decided over the grid. -/
theorem hcond0_1 : ∀ t : Fin grid0.N, cond0_1 (grid0.coords t) ↔ t.val < 32 :=
  (by decide +kernel : ∀ t : Fin grid0.N, cond0_1 (grid0.coords t) ↔ t.val < 32)

/-- The condition of the body's `scf.if` 2 (`k0_h3`), from the grid coordinates (the skeleton's scalar
    chain substituted). -/
abbrev cond0_2 (i : grid0.Coords) : Prop := (Scalar.cmpi .ne (Scalar.extui (Scalar.cmpi .eq (BitVec.ofNat 32 (i 0).val) 32#32)) 0#32) = 1#1
/-- It holds at point 32 only — by arithmetic of the point. -/
theorem hcond0_2 : ∀ t : Fin grid0.N, cond0_2 (grid0.coords t) ↔ t.val % 64 = 32 :=
  (fun t => by
    have ht : t.val < 64 := Nat.lt_of_lt_of_eq t.isLt N_0
    have e0 : (grid0.coords t 0).val = t.val / 1 % 64 := Pipeline.Grid.coords_val t 0 (by decide) rfl
    simp only [cond0_2, e0]
    word_cmp
   : ∀ t : Fin grid0.N, cond0_2 (grid0.coords t) ↔ t.val % 64 = 32)

/-- The condition of the body's `scf.if` 3 (`k0_h4`), from the grid coordinates (the skeleton's scalar
    chain substituted). -/
abbrev cond0_3 (i : grid0.Coords) : Prop := k0_cond4 i = 1#1
/-- It holds at the points from point 32 on — decided over the grid. -/
theorem hcond0_3 : ∀ t : Fin grid0.N, cond0_3 (grid0.coords t) ↔ 32 ≤ t.val :=
  (by decide +kernel : ∀ t : Fin grid0.N, cond0_3 (grid0.coords t) ↔ 32 ≤ t.val)

/-- The condition of the body's `scf.if` 4 (`k0_h5`), from the grid coordinates (the skeleton's scalar
    chain substituted). -/
abbrev cond0_4 (i : grid0.Coords) : Prop := k0_cond5 i = 1#1
/-- It holds at the last point only — by arithmetic of the point. -/
theorem hcond0_4 : ∀ t : Fin grid0.N, cond0_4 (grid0.coords t) ↔ t.val % 64 = 63 :=
  (fun t => by
    have ht : t.val < 64 := Nat.lt_of_lt_of_eq t.isLt N_0
    have e0 : (grid0.coords t 0).val = t.val / 1 % 64 := Pipeline.Grid.coords_val t 0 (by decide) rfl
    simp only [cond0_4, k0_cond5, e0]
    word_cmp
   : ∀ t : Fin grid0.N, cond0_4 (grid0.coords t) ↔ t.val % 64 = 63)

/-! ## Where the windows are idle (the printed configuration's table `Cfg.idle`) -/

/-- Window 0 is never idle (an input). -/
theorem liveAt0_0 (hO : Ok m) : ∀ t : Fin (cfgM m hO).N, (cfgM m hO).idle 0 (grid0.coords t) = false :=
  (fun _ => rfl : ∀ t : Fin grid0.N, idle0 0 (grid0.coords t) = false)
/-- Window 1 is never idle (an input). -/
theorem liveAt0_1 (hO : Ok m) : ∀ t : Fin (cfgM m hO).N, (cfgM m hO).idle 1 (grid0.coords t) = false :=
  (fun _ => rfl : ∀ t : Fin grid0.N, idle0 1 (grid0.coords t) = false)
/-- Window 2 is never idle (an input). -/
theorem liveAt0_2 (hO : Ok m) : ∀ t : Fin (cfgM m hO).N, (cfgM m hO).idle 2 (grid0.coords t) = false :=
  (fun _ => rfl : ∀ t : Fin grid0.N, idle0 2 (grid0.coords t) = false)
/-- Window 3 is never idle (an input). -/
theorem liveAt0_3 (hO : Ok m) : ∀ t : Fin (cfgM m hO).N, (cfgM m hO).idle 3 (grid0.coords t) = false :=
  (fun _ => rfl : ∀ t : Fin grid0.N, idle0 3 (grid0.coords t) = false)
/-- Window 4 is never idle (an input). -/
theorem liveAt0_4 (hO : Ok m) : ∀ t : Fin (cfgM m hO).N, (cfgM m hO).idle 4 (grid0.coords t) = false :=
  (fun _ => rfl : ∀ t : Fin grid0.N, idle0 4 (grid0.coords t) = false)
/-- Window 5 is never idle (an input). -/
theorem liveAt0_5 (hO : Ok m) : ∀ t : Fin (cfgM m hO).N, (cfgM m hO).idle 5 (grid0.coords t) = false :=
  (fun _ => rfl : ∀ t : Fin grid0.N, idle0 5 (grid0.coords t) = false)
/-- Window 6 is never idle (an input). -/
theorem liveAt0_6 (hO : Ok m) : ∀ t : Fin (cfgM m hO).N, (cfgM m hO).idle 6 (grid0.coords t) = false :=
  (fun _ => rfl : ∀ t : Fin grid0.N, idle0 6 (grid0.coords t) = false)
/-- Window 7 is never idle (an input). -/
theorem liveAt0_7 (hO : Ok m) : ∀ t : Fin (cfgM m hO).N, (cfgM m hO).idle 7 (grid0.coords t) = false :=
  (fun _ => rfl : ∀ t : Fin grid0.N, idle0 7 (grid0.coords t) = false)
/-- Window 8 is never idle (an input). -/
theorem liveAt0_8 (hO : Ok m) : ∀ t : Fin (cfgM m hO).N, (cfgM m hO).idle 8 (grid0.coords t) = false :=
  (fun _ => rfl : ∀ t : Fin grid0.N, idle0 8 (grid0.coords t) = false)
/-- Window 9 is never idle (an input). -/
theorem liveAt0_9 (hO : Ok m) : ∀ t : Fin (cfgM m hO).N, (cfgM m hO).idle 9 (grid0.coords t) = false :=
  (fun _ => rfl : ∀ t : Fin grid0.N, idle0 9 (grid0.coords t) = false)
/-- Window 10 is never idle (an input). -/
theorem liveAt0_10 (hO : Ok m) : ∀ t : Fin (cfgM m hO).N, (cfgM m hO).idle 10 (grid0.coords t) = false :=
  (fun _ => rfl : ∀ t : Fin grid0.N, idle0 10 (grid0.coords t) = false)
/-! ## The kernel body on any staging memrefs: a subtype the run finds -/

/-- Each window's current staging memref at point `t`, spelled as the pipeline passes it (`bodyAt0`), and its wholeness. -/
abbrev ms0_0 (hO : Ok m) (t : Fin (cfgM m hO).N) : Memref sig .tc .vmem S2x32x128 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S2x4x128 .bf16 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S2x4x128 .bf16 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S16384x128 .fp8e4m3 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S16384x128 .fp8e4m3 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S4x4096 .f32 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S4x4096 .f32 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S2x1024x4x128 .fp8e4m3 := spec0_7.stage ((cfgM m hO).slots t 7)
abbrev hs0_7 (hO : Ok m) (t : Fin (cfgM m hO).N) : (ms0_7 m hO t).IsWhole := hstage0_7 (((cfgM m hO).slots t 7).cast nbuf0_7)
abbrev ms0_8 (hO : Ok m) (t : Fin (cfgM m hO).N) : Memref sig .tc .vmem S2x1024x4x128 .fp8e4m3 := spec0_8.stage ((cfgM m hO).slots t 8)
abbrev hs0_8 (hO : Ok m) (t : Fin (cfgM m hO).N) : (ms0_8 m hO t).IsWhole := hstage0_8 (((cfgM m hO).slots t 8).cast nbuf0_8)
abbrev ms0_9 (hO : Ok m) (t : Fin (cfgM m hO).N) : Memref sig .tc .vmem S2x4x1024 .f32 := spec0_9.stage ((cfgM m hO).slots t 9)
abbrev hs0_9 (hO : Ok m) (t : Fin (cfgM m hO).N) : (ms0_9 m hO t).IsWhole := hstage0_9 (((cfgM m hO).slots t 9).cast nbuf0_9)
abbrev ms0_10 (hO : Ok m) (t : Fin (cfgM m hO).N) : Memref sig .tc .vmem S2x4x1024 .f32 := spec0_10.stage ((cfgM m hO).slots t 10)
abbrev hs0_10 (hO : Ok m) (t : Fin (cfgM m hO).N) : (ms0_10 m hO t).IsWhole := hstage0_10 (((cfgM m hO).slots t 10).cast nbuf0_10)
abbrev ms0_11 (hO : Ok m) (t : Fin (cfgM m hO).N) : Memref sig .tc .vmem S2x32x128 .bf16 := spec0_11.stage ((cfgM m hO).slots t 11)
abbrev hs0_11 (hO : Ok m) (t : Fin (cfgM m hO).N) : (ms0_11 m hO t).IsWhole := hstage0_11 (((cfgM m hO).slots t 11).cast nbuf0_11)
/-- The scratch operands: whole scoped buffers of the kernel's own, passed beside the windows. -/
abbrev scM0_0 : Memref sig .tc .vmem S2x32x256 .bf16 := Memref.whole cc0_scratch0
abbrev scM0_1 : Memref sig .tc .vmem S2x32x133120 .f32 := Memref.whole cc0_scratch1
abbrev scM0_2 : Memref sig .tc .vmem S2x32x128 .f32 := Memref.whole cc0_scratch2
abbrev scM0_3 : Memref sig .tc .vmem S2x32x128 .f32 := Memref.whole cc0_scratch3
abbrev scM0_4 : Memref sig .tc .vmem S2x32x256 .f32 := Memref.whole cc0_scratch4
/-- The scratch `arg14` the kernel carries between points, as a view: what it holds is stated through it. -/
abbrev VS0_0 : View sig .tc .vmem S2x32x256 .bf16 := scM0_0.view
/-- The scratch `arg15` the kernel carries between points, as a view: what it holds is stated through it. -/
abbrev VS0_1 : View sig .tc .vmem S2x32x133120 .f32 := scM0_1.view
/-- The scratch `arg16` the kernel carries between points, as a view: what it holds is stated through it. -/
abbrev VS0_2 : View sig .tc .vmem S2x32x128 .f32 := scM0_2.view
/-- The scratch `arg17` the kernel carries between points, as a view: what it holds is stated through it. -/
abbrev VS0_3 : View sig .tc .vmem S2x32x128 .f32 := scM0_3.view
/-- The scratch `arg18` the kernel carries between points, as a view: what it holds is stated through it. -/
abbrev VS0_4 : View sig .tc .vmem S2x32x256 .f32 := scM0_4.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

end Cert.Kernel.Gen

end
-- ==== Proof.K.RunA.lean ====
module

public import proofs.«01_k».proof.Proof.K.Runs

@[expose] public section

-- membership in a rectangle of large extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 2092000 in
/-- What the body's stores leave in each output's staging memref, as pieces (last first) IN CASE A (`scf.if` 0 taken, `scf.if` 1 taken, `scf.if` 2 not taken, `scf.if` 3 not taken, `scf.if` 4 not taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which the symbolic execution steps through — each `scf.if` decided by the case's hypotheses `hc·`; the pieces are
    the witness that run finds (assigned when `iexact` hands the buffer to the continuation). Here also the FORGOTTEN outputs' (11) at anything, handed back at some contents nothing names. -/
noncomputable def kernelRun0_A (c : Dev nD) (i : grid0.Coords) (arg2 : Memref sig .tc .vmem S2x32x128 .bf16) (harg2 : arg2.IsWhole) (arg3 : Memref sig .tc .vmem S2x4x128 .bf16) (harg3 : arg3.IsWhole) (arg4 : Memref sig .tc .vmem S2x4x128 .bf16) (harg4 : arg4.IsWhole) (arg5 : Memref sig .tc .vmem S16384x128 .fp8e4m3) (harg5 : arg5.IsWhole) (arg6 : Memref sig .tc .vmem S16384x128 .fp8e4m3) (harg6 : arg6.IsWhole) (arg7 : Memref sig .tc .vmem S4x4096 .f32) (harg7 : arg7.IsWhole) (arg8 : Memref sig .tc .vmem S4x4096 .f32) (harg8 : arg8.IsWhole) (arg9 : Memref sig .tc .vmem S2x1024x4x128 .fp8e4m3) (harg9 : arg9.IsWhole) (arg10 : Memref sig .tc .vmem S2x1024x4x128 .fp8e4m3) (harg10 : arg10.IsWhole) (arg11 : Memref sig .tc .vmem S2x4x1024 .f32) (harg11 : arg11.IsWhole) (arg12 : Memref sig .tc .vmem S2x4x1024 .f32) (harg12 : arg12.IsWhole) (arg13 : Memref sig .tc .vmem S2x32x128 .bf16) (harg13 : arg13.IsWhole) (arg14 : Memref sig .tc .vmem S2x32x256 .bf16) (harg14 : arg14.IsWhole) (arg15 : Memref sig .tc .vmem S2x32x133120 .f32) (harg15 : arg15.IsWhole) (arg16 : Memref sig .tc .vmem S2x32x128 .f32) (harg16 : arg16.IsWhole) (arg17 : Memref sig .tc .vmem S2x32x128 .f32) (harg17 : arg17.IsWhole) (arg18 : Memref sig .tc .vmem S2x32x256 .f32) (harg18 : arg18.IsWhole) (hc0 : cond0_0 i) (hc1 : cond0_1 i) (hc2 : ¬cond0_2 i) (hc3 : ¬cond0_3 i) (hc4 : ¬cond0_4 i)
    (x0 : Vec F S2x32x128 .bf16) (x1 : Vec F S2x4x128 .bf16) (x2 : Vec F S2x4x128 .bf16) (x3 : Vec F S16384x128 .fp8e4m3) (x4 : Vec F S16384x128 .fp8e4m3) (x5 : Vec F S4x4096 .f32) (x6 : Vec F S4x4096 .f32) (x7 : Vec F S2x1024x4x128 .fp8e4m3) (x8 : Vec F S2x1024x4x128 .fp8e4m3) (x9 : Vec F S2x4x1024 .f32) (x10 : Vec F S2x4x1024 .f32) (xt0 : TbBuf0 (F := F) c tbM0_0) :
    Σ' (LS0 : List (View.Piece (Elt F) S2x32x256 .bf16)), Σ' (LS1 : List (View.Piece (Elt F) S2x32x133120 .f32)), Σ' (LS2 : List (View.Piece (Elt F) S2x32x128 .f32)), Σ' (LS3 : List (View.Piece (Elt F) S2x32x128 .f32)), { LS4 : List (View.Piece (Elt F) S2x32x256 .f32) //
      ∀ (xs1 : Vec F S2x32x133120 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ (∃ d, owns (c : Thread nD τ) arg14 fullShare d) ∗ owns (c : Thread nD τ) arg15 fullShare xs1 ∗ (∃ d, owns (c : Thread nD τ) arg16 fullShare d) ∗ (∃ d, owns (c : Thread nD τ) arg17 fullShare d) ∗ (∃ d, owns (c : Thread nD τ) arg18 fullShare d) ∗ tbPt0 c tbM0_0 xt0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ (∃ f, arg14.view.loc (c : Thread nD τ) ↦[arg14.view.set]{fullShare} arg14.view.writes (Elt F) f LS0) ∗ (arg15.view.loc (c : Thread nD τ) ↦[arg15.view.set]{fullShare} arg15.view.writes (Elt F) (harg15.unread xs1) LS1) ∗ (∃ f, arg16.view.loc (c : Thread nD τ) ↦[arg16.view.set]{fullShare} arg16.view.writes (Elt F) f LS2) ∗ (∃ f, arg17.view.loc (c : Thread nD τ) ↦[arg17.view.set]{fullShare} arg17.view.writes (Elt F) f LS3) ∗ (∃ f, arg18.view.loc (c : Thread nD τ) ↦[arg18.view.set]{fullShare} arg18.view.writes (Elt F) f LS4) ∗ tbPt0 c tbM0_0 xt0) -∗ K ⟨⟩))
          ⊢ wp frame (wpE (defs₀ (F := F)) Variants.none c none) E (cc0_cascade_decode i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, ?_, ?_, fun xs1 E K => ?run⟩
  case run =>
    simp only [cc0_cascade_decode_eq_skeleton]; unfold cc0_cascade_decode_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%ds0, %fs0, -, HS0⟩, ⟨%fs1, %hfs1, HS1⟩, ⟨%ds2, %fs2, -, HS2⟩, ⟨%ds3, %fs3, -, HS3⟩, ⟨%ds4, %fs4, -, HS4⟩, HT0, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg15.eq_unread hfs1
    sl_exec (disch := first | sl_exact hc0 | sl_exact hc1 | sl_exact hc2 | sl_exact hc3 | sl_exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _, _; isplitr; swap; · iexact H11
      ipureintro; rfl
    isplitl [HS0]; · iexists _; iexact HS0
    isplitl [HS1]; · iexact HS1
    isplitl [HS2]; · iexists _; iexact HS2
    isplitl [HS3]; · iexists _; iexact HS3
    isplitl [HS4]; · iexists _; iexact HS4
    iexact HT0

end Cert.Kernel.Gen

end
-- ==== Proof.K.RunB.lean ====
module

public import proofs.«01_k».proof.Proof.K.RunA

@[expose] public section

-- membership in a rectangle of large extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1204000 in
/-- What the body's stores leave in each output's staging memref, as pieces (last first) IN CASE B (`scf.if` 0 not taken, `scf.if` 1 taken, `scf.if` 2 not taken, `scf.if` 3 not taken, `scf.if` 4 not taken: points 1, 2, … 31: 31 of 64), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which the symbolic execution steps through — each `scf.if` decided by the case's hypotheses `hc·`; the pieces are
    the witness that run finds (assigned when `iexact` hands the buffer to the continuation). Here also the FORGOTTEN outputs' (11) at anything, handed back at some contents nothing names. -/
noncomputable def kernelRun0_B (c : Dev nD) (i : grid0.Coords) (arg2 : Memref sig .tc .vmem S2x32x128 .bf16) (harg2 : arg2.IsWhole) (arg3 : Memref sig .tc .vmem S2x4x128 .bf16) (harg3 : arg3.IsWhole) (arg4 : Memref sig .tc .vmem S2x4x128 .bf16) (harg4 : arg4.IsWhole) (arg5 : Memref sig .tc .vmem S16384x128 .fp8e4m3) (harg5 : arg5.IsWhole) (arg6 : Memref sig .tc .vmem S16384x128 .fp8e4m3) (harg6 : arg6.IsWhole) (arg7 : Memref sig .tc .vmem S4x4096 .f32) (harg7 : arg7.IsWhole) (arg8 : Memref sig .tc .vmem S4x4096 .f32) (harg8 : arg8.IsWhole) (arg9 : Memref sig .tc .vmem S2x1024x4x128 .fp8e4m3) (harg9 : arg9.IsWhole) (arg10 : Memref sig .tc .vmem S2x1024x4x128 .fp8e4m3) (harg10 : arg10.IsWhole) (arg11 : Memref sig .tc .vmem S2x4x1024 .f32) (harg11 : arg11.IsWhole) (arg12 : Memref sig .tc .vmem S2x4x1024 .f32) (harg12 : arg12.IsWhole) (arg13 : Memref sig .tc .vmem S2x32x128 .bf16) (harg13 : arg13.IsWhole) (arg14 : Memref sig .tc .vmem S2x32x256 .bf16) (harg14 : arg14.IsWhole) (arg15 : Memref sig .tc .vmem S2x32x133120 .f32) (harg15 : arg15.IsWhole) (arg16 : Memref sig .tc .vmem S2x32x128 .f32) (harg16 : arg16.IsWhole) (arg17 : Memref sig .tc .vmem S2x32x128 .f32) (harg17 : arg17.IsWhole) (arg18 : Memref sig .tc .vmem S2x32x256 .f32) (harg18 : arg18.IsWhole) (hc0 : ¬cond0_0 i) (hc1 : cond0_1 i) (hc2 : ¬cond0_2 i) (hc3 : ¬cond0_3 i) (hc4 : ¬cond0_4 i)
    (x0 : Vec F S2x32x128 .bf16) (x1 : Vec F S2x4x128 .bf16) (x2 : Vec F S2x4x128 .bf16) (x3 : Vec F S16384x128 .fp8e4m3) (x4 : Vec F S16384x128 .fp8e4m3) (x5 : Vec F S4x4096 .f32) (x6 : Vec F S4x4096 .f32) (x7 : Vec F S2x1024x4x128 .fp8e4m3) (x8 : Vec F S2x1024x4x128 .fp8e4m3) (x9 : Vec F S2x4x1024 .f32) (x10 : Vec F S2x4x1024 .f32) (xt0 : TbBuf0 (F := F) c tbM0_0) (xs0 : Vec F S2x32x256 .bf16) (xs2 : Vec F S2x32x128 .f32) (xs3 : Vec F S2x32x128 .f32) (xs4 : Vec F S2x32x256 .f32) :
    Σ' (LS0 : List (View.Piece (Elt F) S2x32x256 .bf16)), Σ' (LS1 : List (View.Piece (Elt F) S2x32x133120 .f32)), Σ' (LS2 : List (View.Piece (Elt F) S2x32x128 .f32)), Σ' (LS3 : List (View.Piece (Elt F) S2x32x128 .f32)), { LS4 : List (View.Piece (Elt F) S2x32x256 .f32) //
      ∀ (xs1 : Vec F S2x32x133120 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ owns (c : Thread nD τ) arg14 fullShare xs0 ∗ owns (c : Thread nD τ) arg15 fullShare xs1 ∗ owns (c : Thread nD τ) arg16 fullShare xs2 ∗ owns (c : Thread nD τ) arg17 fullShare xs3 ∗ owns (c : Thread nD τ) arg18 fullShare xs4 ∗ tbPt0 c tbM0_0 xt0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ owns (c : Thread nD τ) arg14 fullShare xs0 ∗ (arg15.view.loc (c : Thread nD τ) ↦[arg15.view.set]{fullShare} arg15.view.writes (Elt F) (harg15.unread xs1) LS1) ∗ (∃ f, arg16.view.loc (c : Thread nD τ) ↦[arg16.view.set]{fullShare} arg16.view.writes (Elt F) f LS2) ∗ owns (c : Thread nD τ) arg17 fullShare xs3 ∗ owns (c : Thread nD τ) arg18 fullShare xs4 ∗ tbPt0 c tbM0_0 xt0) -∗ K ⟨⟩))
          ⊢ wp frame (wpE (defs₀ (F := F)) Variants.none c none) E (cc0_cascade_decode i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨[], ?_, ?_, [], [], fun xs1 E K => ?run⟩
  case run =>
    simp only [cc0_cascade_decode_eq_skeleton]; unfold cc0_cascade_decode_skel
    simp only [k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%fs0, %hfs0, HS0⟩, ⟨%fs1, %hfs1, HS1⟩, ⟨%fs2, %hfs2, HS2⟩, ⟨%fs3, %hfs3, HS3⟩, ⟨%fs4, %hfs4, HS4⟩, HT0, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg14.eq_unread hfs0; obtain rfl := harg15.eq_unread hfs1; obtain rfl := harg16.eq_unread hfs2; obtain rfl := harg17.eq_unread hfs3; obtain rfl := harg18.eq_unread hfs4
    sl_exec (disch := first | sl_exact hc0 | sl_exact hc1 | sl_exact hc2 | sl_exact hc3 | sl_exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _, _; isplitr; swap; · iexact H11
      ipureintro; rfl
    isplitl [HS0]
    · iexists _; isplitr; · ipureintro; exact harg14.read_unread _
      iexact HS0
    isplitl [HS1]; · iexact HS1
    isplitl [HS2]; · iexists _; iexact HS2
    isplitl [HS3]
    · iexists _; isplitr; · ipureintro; exact harg17.read_unread _
      iexact HS3
    isplitl [HS4]
    · iexists _; isplitr; · ipureintro; exact harg18.read_unread _
      iexact HS4
    iexact HT0

end Cert.Kernel.Gen

end
-- ==== Proof.K.RunC.lean ====
module

public import proofs.«01_k».proof.Proof.K.RunB

@[expose] public section

-- membership in a rectangle of large extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1772000 in
/-- What the body's stores leave in each output's staging memref, as pieces (last first) IN CASE C (`scf.if` 0 not taken, `scf.if` 1 not taken, `scf.if` 2 taken, `scf.if` 3 taken, `scf.if` 4 not taken: points 32), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which the symbolic execution steps through — each `scf.if` decided by the case's hypotheses `hc·`; the pieces are
    the witness that run finds (assigned when `iexact` hands the buffer to the continuation). Here also the FORGOTTEN outputs' (11) at anything, handed back at some contents nothing names. -/
noncomputable def kernelRun0_C (c : Dev nD) (i : grid0.Coords) (arg2 : Memref sig .tc .vmem S2x32x128 .bf16) (harg2 : arg2.IsWhole) (arg3 : Memref sig .tc .vmem S2x4x128 .bf16) (harg3 : arg3.IsWhole) (arg4 : Memref sig .tc .vmem S2x4x128 .bf16) (harg4 : arg4.IsWhole) (arg5 : Memref sig .tc .vmem S16384x128 .fp8e4m3) (harg5 : arg5.IsWhole) (arg6 : Memref sig .tc .vmem S16384x128 .fp8e4m3) (harg6 : arg6.IsWhole) (arg7 : Memref sig .tc .vmem S4x4096 .f32) (harg7 : arg7.IsWhole) (arg8 : Memref sig .tc .vmem S4x4096 .f32) (harg8 : arg8.IsWhole) (arg9 : Memref sig .tc .vmem S2x1024x4x128 .fp8e4m3) (harg9 : arg9.IsWhole) (arg10 : Memref sig .tc .vmem S2x1024x4x128 .fp8e4m3) (harg10 : arg10.IsWhole) (arg11 : Memref sig .tc .vmem S2x4x1024 .f32) (harg11 : arg11.IsWhole) (arg12 : Memref sig .tc .vmem S2x4x1024 .f32) (harg12 : arg12.IsWhole) (arg13 : Memref sig .tc .vmem S2x32x128 .bf16) (harg13 : arg13.IsWhole) (arg14 : Memref sig .tc .vmem S2x32x256 .bf16) (harg14 : arg14.IsWhole) (arg15 : Memref sig .tc .vmem S2x32x133120 .f32) (harg15 : arg15.IsWhole) (arg16 : Memref sig .tc .vmem S2x32x128 .f32) (harg16 : arg16.IsWhole) (arg17 : Memref sig .tc .vmem S2x32x128 .f32) (harg17 : arg17.IsWhole) (arg18 : Memref sig .tc .vmem S2x32x256 .f32) (harg18 : arg18.IsWhole) (hc0 : ¬cond0_0 i) (hc1 : ¬cond0_1 i) (hc2 : cond0_2 i) (hc3 : cond0_3 i) (hc4 : ¬cond0_4 i)
    (x0 : Vec F S2x32x128 .bf16) (x1 : Vec F S2x4x128 .bf16) (x2 : Vec F S2x4x128 .bf16) (x3 : Vec F S16384x128 .fp8e4m3) (x4 : Vec F S16384x128 .fp8e4m3) (x5 : Vec F S4x4096 .f32) (x6 : Vec F S4x4096 .f32) (x7 : Vec F S2x1024x4x128 .fp8e4m3) (x8 : Vec F S2x1024x4x128 .fp8e4m3) (x9 : Vec F S2x4x1024 .f32) (x10 : Vec F S2x4x1024 .f32) (xt0 : TbBuf0 (F := F) c tbM0_0) (xs0 : Vec F S2x32x256 .bf16) (xs1 : Vec F S2x32x133120 .f32) (xs2 : Vec F S2x32x128 .f32) :
    Σ' (LS0 : List (View.Piece (Elt F) S2x32x256 .bf16)), Σ' (LS1 : List (View.Piece (Elt F) S2x32x133120 .f32)), Σ' (LS2 : List (View.Piece (Elt F) S2x32x128 .f32)), Σ' (LS3 : List (View.Piece (Elt F) S2x32x128 .f32)), { LS4 : List (View.Piece (Elt F) S2x32x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ owns (c : Thread nD τ) arg14 fullShare xs0 ∗ owns (c : Thread nD τ) arg15 fullShare xs1 ∗ owns (c : Thread nD τ) arg16 fullShare xs2 ∗ (∃ d, owns (c : Thread nD τ) arg17 fullShare d) ∗ (∃ d, owns (c : Thread nD τ) arg18 fullShare d) ∗ tbPt0 c tbM0_0 xt0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ owns (c : Thread nD τ) arg14 fullShare xs0 ∗ owns (c : Thread nD τ) arg15 fullShare xs1 ∗ (∃ f, arg16.view.loc (c : Thread nD τ) ↦[arg16.view.set]{fullShare} arg16.view.writes (Elt F) f LS2) ∗ (∃ f, arg17.view.loc (c : Thread nD τ) ↦[arg17.view.set]{fullShare} arg17.view.writes (Elt F) f LS3) ∗ (∃ f, arg18.view.loc (c : Thread nD τ) ↦[arg18.view.set]{fullShare} arg18.view.writes (Elt F) f LS4) ∗ tbPt0 c tbM0_0 xt0) -∗ K ⟨⟩))
          ⊢ wp frame (wpE (defs₀ (F := F)) Variants.none c none) E (cc0_cascade_decode i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨[], [], ?_, ?_, ?_, fun E K => ?run⟩
  case run =>
    simp only [cc0_cascade_decode_eq_skeleton]; unfold cc0_cascade_decode_skel
    simp only [k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part73_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%fs0, %hfs0, HS0⟩, ⟨%fs1, %hfs1, HS1⟩, ⟨%fs2, %hfs2, HS2⟩, ⟨%ds3, %fs3, -, HS3⟩, ⟨%ds4, %fs4, -, HS4⟩, HT0, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg14.eq_unread hfs0; obtain rfl := harg15.eq_unread hfs1; obtain rfl := harg16.eq_unread hfs2
    sl_exec (disch := first | sl_exact hc0 | sl_exact hc1 | sl_exact hc2 | sl_exact hc3 | sl_exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _, _; isplitr; swap; · iexact H11
      ipureintro; rfl
    isplitl [HS0]
    · iexists _; isplitr; · ipureintro; exact harg14.read_unread _
      iexact HS0
    isplitl [HS1]
    · iexists _; isplitr; · ipureintro; exact harg15.read_unread _
      iexact HS1
    isplitl [HS2]; · iexists _; iexact HS2
    isplitl [HS3]; · iexists _; iexact HS3
    isplitl [HS4]; · iexists _; iexact HS4
    iexact HT0

end Cert.Kernel.Gen

end
-- ==== Proof.K.RunD.lean ====
module

public import proofs.«01_k».proof.Proof.K.RunC

@[expose] public section

-- membership in a rectangle of large extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1600000 in
/-- What the body's stores leave in each output's staging memref, as pieces (last first) IN CASE D (`scf.if` 0 not taken, `scf.if` 1 not taken, `scf.if` 2 not taken, `scf.if` 3 taken, `scf.if` 4 not taken: points 33, 34, … 62: 30 of 64), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which the symbolic execution steps through — each `scf.if` decided by the case's hypotheses `hc·`; the pieces are
    the witness that run finds (assigned when `iexact` hands the buffer to the continuation). Here also the FORGOTTEN outputs' (11) at anything, handed back at some contents nothing names. -/
noncomputable def kernelRun0_D (c : Dev nD) (i : grid0.Coords) (arg2 : Memref sig .tc .vmem S2x32x128 .bf16) (harg2 : arg2.IsWhole) (arg3 : Memref sig .tc .vmem S2x4x128 .bf16) (harg3 : arg3.IsWhole) (arg4 : Memref sig .tc .vmem S2x4x128 .bf16) (harg4 : arg4.IsWhole) (arg5 : Memref sig .tc .vmem S16384x128 .fp8e4m3) (harg5 : arg5.IsWhole) (arg6 : Memref sig .tc .vmem S16384x128 .fp8e4m3) (harg6 : arg6.IsWhole) (arg7 : Memref sig .tc .vmem S4x4096 .f32) (harg7 : arg7.IsWhole) (arg8 : Memref sig .tc .vmem S4x4096 .f32) (harg8 : arg8.IsWhole) (arg9 : Memref sig .tc .vmem S2x1024x4x128 .fp8e4m3) (harg9 : arg9.IsWhole) (arg10 : Memref sig .tc .vmem S2x1024x4x128 .fp8e4m3) (harg10 : arg10.IsWhole) (arg11 : Memref sig .tc .vmem S2x4x1024 .f32) (harg11 : arg11.IsWhole) (arg12 : Memref sig .tc .vmem S2x4x1024 .f32) (harg12 : arg12.IsWhole) (arg13 : Memref sig .tc .vmem S2x32x128 .bf16) (harg13 : arg13.IsWhole) (arg14 : Memref sig .tc .vmem S2x32x256 .bf16) (harg14 : arg14.IsWhole) (arg15 : Memref sig .tc .vmem S2x32x133120 .f32) (harg15 : arg15.IsWhole) (arg16 : Memref sig .tc .vmem S2x32x128 .f32) (harg16 : arg16.IsWhole) (arg17 : Memref sig .tc .vmem S2x32x128 .f32) (harg17 : arg17.IsWhole) (arg18 : Memref sig .tc .vmem S2x32x256 .f32) (harg18 : arg18.IsWhole) (hc0 : ¬cond0_0 i) (hc1 : ¬cond0_1 i) (hc2 : ¬cond0_2 i) (hc3 : cond0_3 i) (hc4 : ¬cond0_4 i)
    (x0 : Vec F S2x32x128 .bf16) (x1 : Vec F S2x4x128 .bf16) (x2 : Vec F S2x4x128 .bf16) (x3 : Vec F S16384x128 .fp8e4m3) (x4 : Vec F S16384x128 .fp8e4m3) (x5 : Vec F S4x4096 .f32) (x6 : Vec F S4x4096 .f32) (x7 : Vec F S2x1024x4x128 .fp8e4m3) (x8 : Vec F S2x1024x4x128 .fp8e4m3) (x9 : Vec F S2x4x1024 .f32) (x10 : Vec F S2x4x1024 .f32) (xt0 : TbBuf0 (F := F) c tbM0_0) (xs0 : Vec F S2x32x256 .bf16) (xs1 : Vec F S2x32x133120 .f32) (xs2 : Vec F S2x32x128 .f32) (xs3 : Vec F S2x32x128 .f32) (xs4 : Vec F S2x32x256 .f32) :
    Σ' (LS0 : List (View.Piece (Elt F) S2x32x256 .bf16)), Σ' (LS1 : List (View.Piece (Elt F) S2x32x133120 .f32)), Σ' (LS2 : List (View.Piece (Elt F) S2x32x128 .f32)), Σ' (LS3 : List (View.Piece (Elt F) S2x32x128 .f32)), { LS4 : List (View.Piece (Elt F) S2x32x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ owns (c : Thread nD τ) arg14 fullShare xs0 ∗ owns (c : Thread nD τ) arg15 fullShare xs1 ∗ owns (c : Thread nD τ) arg16 fullShare xs2 ∗ owns (c : Thread nD τ) arg17 fullShare xs3 ∗ owns (c : Thread nD τ) arg18 fullShare xs4 ∗ tbPt0 c tbM0_0 xt0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ owns (c : Thread nD τ) arg14 fullShare xs0 ∗ owns (c : Thread nD τ) arg15 fullShare xs1 ∗ owns (c : Thread nD τ) arg16 fullShare xs2 ∗ (∃ f, arg17.view.loc (c : Thread nD τ) ↦[arg17.view.set]{fullShare} arg17.view.writes (Elt F) f LS3) ∗ (∃ f, arg18.view.loc (c : Thread nD τ) ↦[arg18.view.set]{fullShare} arg18.view.writes (Elt F) f LS4) ∗ tbPt0 c tbM0_0 xt0) -∗ K ⟨⟩))
          ⊢ wp frame (wpE (defs₀ (F := F)) Variants.none c none) E (cc0_cascade_decode i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨[], [], [], ?_, ?_, fun E K => ?run⟩
  case run =>
    simp only [cc0_cascade_decode_eq_skeleton]; unfold cc0_cascade_decode_skel
    simp only [k0_part73_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%fs0, %hfs0, HS0⟩, ⟨%fs1, %hfs1, HS1⟩, ⟨%fs2, %hfs2, HS2⟩, ⟨%fs3, %hfs3, HS3⟩, ⟨%fs4, %hfs4, HS4⟩, HT0, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg14.eq_unread hfs0; obtain rfl := harg15.eq_unread hfs1; obtain rfl := harg16.eq_unread hfs2; obtain rfl := harg17.eq_unread hfs3; obtain rfl := harg18.eq_unread hfs4
    sl_exec (disch := first | sl_exact hc0 | sl_exact hc1 | sl_exact hc2 | sl_exact hc3 | sl_exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _, _; isplitr; swap; · iexact H11
      ipureintro; rfl
    isplitl [HS0]
    · iexists _; isplitr; · ipureintro; exact harg14.read_unread _
      iexact HS0
    isplitl [HS1]
    · iexists _; isplitr; · ipureintro; exact harg15.read_unread _
      iexact HS1
    isplitl [HS2]
    · iexists _; isplitr; · ipureintro; exact harg16.read_unread _
      iexact HS2
    isplitl [HS3]; · iexists _; iexact HS3
    isplitl [HS4]; · iexists _; iexact HS4
    iexact HT0

end Cert.Kernel.Gen

end
-- ==== Proof.K.RunE.lean ====
module

public import proofs.«01_k».proof.Proof.K.RunD

@[expose] public section

-- membership in a rectangle of large extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 4000000 in
/-- What the body's stores leave in each output's staging memref, as pieces (last first) IN CASE E (`scf.if` 0 not taken, `scf.if` 1 not taken, `scf.if` 2 not taken, `scf.if` 3 taken, `scf.if` 4 taken: points 63), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which the symbolic execution steps through — each `scf.if` decided by the case's hypotheses `hc·`; the pieces are
    the witness that run finds (assigned when `iexact` hands the buffer to the continuation). Here also the FORGOTTEN outputs' (11) at anything, handed back at some contents nothing names. -/
noncomputable def kernelRun0_E (c : Dev nD) (i : grid0.Coords) (arg2 : Memref sig .tc .vmem S2x32x128 .bf16) (harg2 : arg2.IsWhole) (arg3 : Memref sig .tc .vmem S2x4x128 .bf16) (harg3 : arg3.IsWhole) (arg4 : Memref sig .tc .vmem S2x4x128 .bf16) (harg4 : arg4.IsWhole) (arg5 : Memref sig .tc .vmem S16384x128 .fp8e4m3) (harg5 : arg5.IsWhole) (arg6 : Memref sig .tc .vmem S16384x128 .fp8e4m3) (harg6 : arg6.IsWhole) (arg7 : Memref sig .tc .vmem S4x4096 .f32) (harg7 : arg7.IsWhole) (arg8 : Memref sig .tc .vmem S4x4096 .f32) (harg8 : arg8.IsWhole) (arg9 : Memref sig .tc .vmem S2x1024x4x128 .fp8e4m3) (harg9 : arg9.IsWhole) (arg10 : Memref sig .tc .vmem S2x1024x4x128 .fp8e4m3) (harg10 : arg10.IsWhole) (arg11 : Memref sig .tc .vmem S2x4x1024 .f32) (harg11 : arg11.IsWhole) (arg12 : Memref sig .tc .vmem S2x4x1024 .f32) (harg12 : arg12.IsWhole) (arg13 : Memref sig .tc .vmem S2x32x128 .bf16) (harg13 : arg13.IsWhole) (arg14 : Memref sig .tc .vmem S2x32x256 .bf16) (harg14 : arg14.IsWhole) (arg15 : Memref sig .tc .vmem S2x32x133120 .f32) (harg15 : arg15.IsWhole) (arg16 : Memref sig .tc .vmem S2x32x128 .f32) (harg16 : arg16.IsWhole) (arg17 : Memref sig .tc .vmem S2x32x128 .f32) (harg17 : arg17.IsWhole) (arg18 : Memref sig .tc .vmem S2x32x256 .f32) (harg18 : arg18.IsWhole) (hc0 : ¬cond0_0 i) (hc1 : ¬cond0_1 i) (hc2 : ¬cond0_2 i) (hc3 : cond0_3 i) (hc4 : cond0_4 i)
    (x0 : Vec F S2x32x128 .bf16) (x1 : Vec F S2x4x128 .bf16) (x2 : Vec F S2x4x128 .bf16) (x3 : Vec F S16384x128 .fp8e4m3) (x4 : Vec F S16384x128 .fp8e4m3) (x5 : Vec F S4x4096 .f32) (x6 : Vec F S4x4096 .f32) (x7 : Vec F S2x1024x4x128 .fp8e4m3) (x8 : Vec F S2x1024x4x128 .fp8e4m3) (x9 : Vec F S2x4x1024 .f32) (x10 : Vec F S2x4x1024 .f32) (xt0 : TbBuf0 (F := F) c tbM0_0) (xs0 : Vec F S2x32x256 .bf16) (xs1 : Vec F S2x32x133120 .f32) (xs2 : Vec F S2x32x128 .f32) (xs3 : Vec F S2x32x128 .f32) (xs4 : Vec F S2x32x256 .f32) :
    Σ' (LS0 : List (View.Piece (Elt F) S2x32x256 .bf16)), Σ' (LS1 : List (View.Piece (Elt F) S2x32x133120 .f32)), Σ' (LS2 : List (View.Piece (Elt F) S2x32x128 .f32)), Σ' (LS3 : List (View.Piece (Elt F) S2x32x128 .f32)), { LS4 : List (View.Piece (Elt F) S2x32x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ owns (c : Thread nD τ) arg14 fullShare xs0 ∗ owns (c : Thread nD τ) arg15 fullShare xs1 ∗ owns (c : Thread nD τ) arg16 fullShare xs2 ∗ owns (c : Thread nD τ) arg17 fullShare xs3 ∗ owns (c : Thread nD τ) arg18 fullShare xs4 ∗ tbPt0 c tbM0_0 xt0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ owns (c : Thread nD τ) arg14 fullShare xs0 ∗ owns (c : Thread nD τ) arg15 fullShare xs1 ∗ owns (c : Thread nD τ) arg16 fullShare xs2 ∗ (∃ f, arg17.view.loc (c : Thread nD τ) ↦[arg17.view.set]{fullShare} arg17.view.writes (Elt F) f LS3) ∗ (∃ f, arg18.view.loc (c : Thread nD τ) ↦[arg18.view.set]{fullShare} arg18.view.writes (Elt F) f LS4) ∗ tbPt0 c tbM0_0 xt0) -∗ K ⟨⟩))
          ⊢ wp frame (wpE (defs₀ (F := F)) Variants.none c none) E (cc0_cascade_decode i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨[], [], [], ?_, ?_, fun E K => ?run⟩
  case run =>
    simp only [cc0_cascade_decode_eq_skeleton]; unfold cc0_cascade_decode_skel
    rw [k0_part74_eq_skeleton, k0_part75_eq_skeleton]
    simp only [k0_part73_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%fs0, %hfs0, HS0⟩, ⟨%fs1, %hfs1, HS1⟩, ⟨%fs2, %hfs2, HS2⟩, ⟨%fs3, %hfs3, HS3⟩, ⟨%fs4, %hfs4, HS4⟩, HT0, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg14.eq_unread hfs0; obtain rfl := harg15.eq_unread hfs1; obtain rfl := harg16.eq_unread hfs2; obtain rfl := harg17.eq_unread hfs3; obtain rfl := harg18.eq_unread hfs4
    sl_exec (disch := first | sl_exact hc0 | sl_exact hc1 | sl_exact hc2 | sl_exact hc3 | sl_exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _, _; isplitr; swap; · iexact H11
      ipureintro; rfl
    isplitl [HS0]
    · iexists _; isplitr; · ipureintro; exact harg14.read_unread _
      iexact HS0
    isplitl [HS1]
    · iexists _; isplitr; · ipureintro; exact harg15.read_unread _
      iexact HS1
    isplitl [HS2]
    · iexists _; isplitr; · ipureintro; exact harg16.read_unread _
      iexact HS2
    isplitl [HS3]; · iexists _; iexact HS3
    isplitl [HS4]; · iexists _; iexact HS4
    iexact HT0

end Cert.Kernel.Gen

end
-- ==== Proof.K.Frame.lean ====
/- The launch of the kernel, point by point: what the five scratch arrays are known to hold before each grid point, the body
   at each point by the five runs (RunA … RunE), and the run of the whole program, nothing stated of its result. -/
module

public import proofs.«01_k».proof.Proof.K.RunE
public import Idealize.ShloMosaic.Lib.Claim

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Case A's run at point `t`, on the point's own buffers and blocks. -/
abbrev runA (hO : Ok m) (c : Dev nD) (t : Fin (cfgM m hO).N) (hc0 : cond0_0 (grid0.coords t)) (hc1 : cond0_1 (grid0.coords t)) (hc2 : ¬cond0_2 (grid0.coords t)) (hc3 : ¬cond0_3 (grid0.coords t)) (hc4 : ¬cond0_4 (grid0.coords t))  :=
  kernelRun0_A (F := F) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) scM0_0 (Memref.isWhole_whole _) scM0_1 (Memref.isWhole_whole _) scM0_2 (Memref.isWhole_whole _) scM0_3 (Memref.isWhole_whole _) scM0_4 (Memref.isWhole_whole _) hc0 hc1 hc2 hc3 hc4 (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (tbl m 0)

/-- Case B's run at point `t`, on the point's own buffers and blocks. -/
abbrev runB (hO : Ok m) (c : Dev nD) (t : Fin (cfgM m hO).N) (hc0 : ¬cond0_0 (grid0.coords t)) (hc1 : cond0_1 (grid0.coords t)) (hc2 : ¬cond0_2 (grid0.coords t)) (hc3 : ¬cond0_3 (grid0.coords t)) (hc4 : ¬cond0_4 (grid0.coords t)) (xs0 : Vec F S2x32x256 .bf16) (xs2 : Vec F S2x32x128 .f32) (xs3 : Vec F S2x32x128 .f32) (xs4 : Vec F S2x32x256 .f32) :=
  kernelRun0_B (F := F) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) scM0_0 (Memref.isWhole_whole _) scM0_1 (Memref.isWhole_whole _) scM0_2 (Memref.isWhole_whole _) scM0_3 (Memref.isWhole_whole _) scM0_4 (Memref.isWhole_whole _) hc0 hc1 hc2 hc3 hc4 (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (tbl m 0) xs0 xs2 xs3 xs4

/-- Case C's run at point `t`, on the point's own buffers and blocks. -/
abbrev runC (hO : Ok m) (c : Dev nD) (t : Fin (cfgM m hO).N) (hc0 : ¬cond0_0 (grid0.coords t)) (hc1 : ¬cond0_1 (grid0.coords t)) (hc2 : cond0_2 (grid0.coords t)) (hc3 : cond0_3 (grid0.coords t)) (hc4 : ¬cond0_4 (grid0.coords t)) (xs0 : Vec F S2x32x256 .bf16) (xs1 : Vec F S2x32x133120 .f32) (xs2 : Vec F S2x32x128 .f32) :=
  kernelRun0_C (F := F) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) scM0_0 (Memref.isWhole_whole _) scM0_1 (Memref.isWhole_whole _) scM0_2 (Memref.isWhole_whole _) scM0_3 (Memref.isWhole_whole _) scM0_4 (Memref.isWhole_whole _) hc0 hc1 hc2 hc3 hc4 (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (tbl m 0) xs0 xs1 xs2

/-- Case D's run at point `t`, on the point's own buffers and blocks. -/
abbrev runD (hO : Ok m) (c : Dev nD) (t : Fin (cfgM m hO).N) (hc0 : ¬cond0_0 (grid0.coords t)) (hc1 : ¬cond0_1 (grid0.coords t)) (hc2 : ¬cond0_2 (grid0.coords t)) (hc3 : cond0_3 (grid0.coords t)) (hc4 : ¬cond0_4 (grid0.coords t)) (xs0 : Vec F S2x32x256 .bf16) (xs1 : Vec F S2x32x133120 .f32) (xs2 : Vec F S2x32x128 .f32) (xs3 : Vec F S2x32x128 .f32) (xs4 : Vec F S2x32x256 .f32) :=
  kernelRun0_D (F := F) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) scM0_0 (Memref.isWhole_whole _) scM0_1 (Memref.isWhole_whole _) scM0_2 (Memref.isWhole_whole _) scM0_3 (Memref.isWhole_whole _) scM0_4 (Memref.isWhole_whole _) hc0 hc1 hc2 hc3 hc4 (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (tbl m 0) xs0 xs1 xs2 xs3 xs4

/-- Case E's run at point `t`, on the point's own buffers and blocks. -/
abbrev runE (hO : Ok m) (c : Dev nD) (t : Fin (cfgM m hO).N) (hc0 : ¬cond0_0 (grid0.coords t)) (hc1 : ¬cond0_1 (grid0.coords t)) (hc2 : ¬cond0_2 (grid0.coords t)) (hc3 : cond0_3 (grid0.coords t)) (hc4 : cond0_4 (grid0.coords t)) (xs0 : Vec F S2x32x256 .bf16) (xs1 : Vec F S2x32x133120 .f32) (xs2 : Vec F S2x32x128 .f32) (xs3 : Vec F S2x32x128 .f32) (xs4 : Vec F S2x32x256 .f32) :=
  kernelRun0_E (F := F) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) scM0_0 (Memref.isWhole_whole _) scM0_1 (Memref.isWhole_whole _) scM0_2 (Memref.isWhole_whole _) scM0_3 (Memref.isWhole_whole _) scM0_4 (Memref.isWhole_whole _) hc0 hc1 hc2 hc3 hc4 (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (tbl m 0) xs0 xs1 xs2 xs3 xs4

/-- What holds before every point: the scratch arrays at some contents. -/
def Phi (c : Dev nD) : sProp 𝕄 :=
  iprop(((∃ d0 d1 d2 d3 d4, owns (c : Thread nD τ) scM0_0 fullShare d0 ∗ owns (c : Thread nD τ) scM0_1 fullShare d1 ∗ owns (c : Thread nD τ) scM0_2 fullShare d2 ∗ owns (c : Thread nD τ) scM0_3 fullShare d3 ∗ owns (c : Thread nD τ) scM0_4 fullShare d4) ∗ (∃ r, prngReg c r)) ∗ tbPt0 c tbM0_0 (tbl m 0))

/-- The result's window is the one nothing is stated of. -/
def forgets0 : Fin 12 → Bool := fun w => w.val == 11

/-- The proof data of the one pipeline on core `c`. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, _⟩ => iblk m hO c 8 t
    | ⟨9, _⟩ => iblk m hO c 9 t
    | ⟨10, _⟩ => iblk m hO c 10 t
    | ⟨11, h⟩ => Pipeline.Dat.unnamed (cfg := (cfgM m hO)) ⟨11, h⟩ t
  Φ t := Phi m c
  q _ := fullShare
  owed _ := 0

theorem A_eq (hO : Ok m) (c : Dev nD) (w : Fin (cfgM m hO).W) : (dats m hO 0 c).A w = V m c (Pipeline.arrRef spec0 w) := by
  dsimp only [dats]

theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl
theorem after0_6 (hO : Ok m) (c : Dev nD) (t : Fin (cfgM m hO).N) : (dats m hO 0 c).after 6 t = iblk m hO c 6 t := by dsimp only [dats]; try rfl
theorem after0_7 (hO : Ok m) (c : Dev nD) (t : Fin (cfgM m hO).N) : (dats m hO 0 c).after 7 t = iblk m hO c 7 t := by dsimp only [dats]; try rfl
theorem after0_8 (hO : Ok m) (c : Dev nD) (t : Fin (cfgM m hO).N) : (dats m hO 0 c).after 8 t = iblk m hO c 8 t := by dsimp only [dats]; try rfl
theorem after0_9 (hO : Ok m) (c : Dev nD) (t : Fin (cfgM m hO).N) : (dats m hO 0 c).after 9 t = iblk m hO c 9 t := by dsimp only [dats]; try rfl
theorem after0_10 (hO : Ok m) (c : Dev nD) (t : Fin (cfgM m hO).N) : (dats m hO 0 c).after 10 t = iblk m hO c 10 t := by dsimp only [dats]; try rfl

theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d
theorem before0_6 (hO : Ok m) (c : Dev nD) (t : Fin (cfgM m hO).N) (d) : (dats m hO 0 c).before 6 t d = iblk m hO c 6 t :=
  before0_6_of m hO (dats m hO 0 c) (A_eq m hO c 6) (after0_6 m hO c) t d
theorem before0_7 (hO : Ok m) (c : Dev nD) (t : Fin (cfgM m hO).N) (d) : (dats m hO 0 c).before 7 t d = iblk m hO c 7 t :=
  before0_7_of m hO (dats m hO 0 c) (A_eq m hO c 7) (after0_7 m hO c) t d
theorem before0_8 (hO : Ok m) (c : Dev nD) (t : Fin (cfgM m hO).N) (d) : (dats m hO 0 c).before 8 t d = iblk m hO c 8 t :=
  before0_8_of m hO (dats m hO 0 c) (A_eq m hO c 8) (after0_8 m hO c) t d
theorem before0_9 (hO : Ok m) (c : Dev nD) (t : Fin (cfgM m hO).N) (d) : (dats m hO 0 c).before 9 t d = iblk m hO c 9 t :=
  before0_9_of m hO (dats m hO 0 c) (A_eq m hO c 9) (after0_9 m hO c) t d
theorem before0_10 (hO : Ok m) (c : Dev nD) (t : Fin (cfgM m hO).N) (d) : (dats m hO 0 c).before 10 t d = iblk m hO c 10 t :=
  before0_10_of m hO (dats m hO 0 c) (A_eq m hO c 10) (after0_10 m hO c) t d

theorem leaves0_0 (hO : Ok m) (c : Dev nD) (t : Fin (cfgM m hO).N) : (dats m hO 0 c).leavesExact 0 t = owns (c : Thread nD τ) (ms0_0 m hO t) fullShare (iblk m hO c 0 t) := by
  rw [show (dats m hO 0 c).leavesExact 0 t = owns (c : Thread nD τ) (ms0_0 m hO t) fullShare ((dats m hO 0 c).after 0 t) from by
    unfold Dat.leavesExact; rw [liveAt0_0 m hO t]; try rfl, after0_0]
theorem leaves0_1 (hO : Ok m) (c : Dev nD) (t : Fin (cfgM m hO).N) : (dats m hO 0 c).leavesExact 1 t = owns (c : Thread nD τ) (ms0_1 m hO t) fullShare (iblk m hO c 1 t) := by
  rw [show (dats m hO 0 c).leavesExact 1 t = owns (c : Thread nD τ) (ms0_1 m hO t) fullShare ((dats m hO 0 c).after 1 t) from by
    unfold Dat.leavesExact; rw [liveAt0_1 m hO t]; try rfl, after0_1]
theorem leaves0_2 (hO : Ok m) (c : Dev nD) (t : Fin (cfgM m hO).N) : (dats m hO 0 c).leavesExact 2 t = owns (c : Thread nD τ) (ms0_2 m hO t) fullShare (iblk m hO c 2 t) := by
  rw [show (dats m hO 0 c).leavesExact 2 t = owns (c : Thread nD τ) (ms0_2 m hO t) fullShare ((dats m hO 0 c).after 2 t) from by
    unfold Dat.leavesExact; rw [liveAt0_2 m hO t]; try rfl, after0_2]
theorem leaves0_3 (hO : Ok m) (c : Dev nD) (t : Fin (cfgM m hO).N) : (dats m hO 0 c).leavesExact 3 t = owns (c : Thread nD τ) (ms0_3 m hO t) fullShare (iblk m hO c 3 t) := by
  rw [show (dats m hO 0 c).leavesExact 3 t = owns (c : Thread nD τ) (ms0_3 m hO t) fullShare ((dats m hO 0 c).after 3 t) from by
    unfold Dat.leavesExact; rw [liveAt0_3 m hO t]; try rfl, after0_3]
theorem leaves0_4 (hO : Ok m) (c : Dev nD) (t : Fin (cfgM m hO).N) : (dats m hO 0 c).leavesExact 4 t = owns (c : Thread nD τ) (ms0_4 m hO t) fullShare (iblk m hO c 4 t) := by
  rw [show (dats m hO 0 c).leavesExact 4 t = owns (c : Thread nD τ) (ms0_4 m hO t) fullShare ((dats m hO 0 c).after 4 t) from by
    unfold Dat.leavesExact; rw [liveAt0_4 m hO t]; try rfl, after0_4]
theorem leaves0_5 (hO : Ok m) (c : Dev nD) (t : Fin (cfgM m hO).N) : (dats m hO 0 c).leavesExact 5 t = owns (c : Thread nD τ) (ms0_5 m hO t) fullShare (iblk m hO c 5 t) := by
  rw [show (dats m hO 0 c).leavesExact 5 t = owns (c : Thread nD τ) (ms0_5 m hO t) fullShare ((dats m hO 0 c).after 5 t) from by
    unfold Dat.leavesExact; rw [liveAt0_5 m hO t]; try rfl, after0_5]
theorem leaves0_6 (hO : Ok m) (c : Dev nD) (t : Fin (cfgM m hO).N) : (dats m hO 0 c).leavesExact 6 t = owns (c : Thread nD τ) (ms0_6 m hO t) fullShare (iblk m hO c 6 t) := by
  rw [show (dats m hO 0 c).leavesExact 6 t = owns (c : Thread nD τ) (ms0_6 m hO t) fullShare ((dats m hO 0 c).after 6 t) from by
    unfold Dat.leavesExact; rw [liveAt0_6 m hO t]; try rfl, after0_6]
theorem leaves0_7 (hO : Ok m) (c : Dev nD) (t : Fin (cfgM m hO).N) : (dats m hO 0 c).leavesExact 7 t = owns (c : Thread nD τ) (ms0_7 m hO t) fullShare (iblk m hO c 7 t) := by
  rw [show (dats m hO 0 c).leavesExact 7 t = owns (c : Thread nD τ) (ms0_7 m hO t) fullShare ((dats m hO 0 c).after 7 t) from by
    unfold Dat.leavesExact; rw [liveAt0_7 m hO t]; try rfl, after0_7]
theorem leaves0_8 (hO : Ok m) (c : Dev nD) (t : Fin (cfgM m hO).N) : (dats m hO 0 c).leavesExact 8 t = owns (c : Thread nD τ) (ms0_8 m hO t) fullShare (iblk m hO c 8 t) := by
  rw [show (dats m hO 0 c).leavesExact 8 t = owns (c : Thread nD τ) (ms0_8 m hO t) fullShare ((dats m hO 0 c).after 8 t) from by
    unfold Dat.leavesExact; rw [liveAt0_8 m hO t]; try rfl, after0_8]
theorem leaves0_9 (hO : Ok m) (c : Dev nD) (t : Fin (cfgM m hO).N) : (dats m hO 0 c).leavesExact 9 t = owns (c : Thread nD τ) (ms0_9 m hO t) fullShare (iblk m hO c 9 t) := by
  rw [show (dats m hO 0 c).leavesExact 9 t = owns (c : Thread nD τ) (ms0_9 m hO t) fullShare ((dats m hO 0 c).after 9 t) from by
    unfold Dat.leavesExact; rw [liveAt0_9 m hO t]; try rfl, after0_9]
theorem leaves0_10 (hO : Ok m) (c : Dev nD) (t : Fin (cfgM m hO).N) : (dats m hO 0 c).leavesExact 10 t = owns (c : Thread nD τ) (ms0_10 m hO t) fullShare (iblk m hO c 10 t) := by
  rw [show (dats m hO 0 c).leavesExact 10 t = owns (c : Thread nD τ) (ms0_10 m hO t) fullShare ((dats m hO 0 c).after 10 t) from by
    unfold Dat.leavesExact; rw [liveAt0_10 m hO t]; try rfl, after0_10]

/-- What the body is called with at point `t`, -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d))
    ∗ (∃ d, owns (c : Thread nD τ) (ms0_8 m hO t) fullShare ((dats m hO 0 c).before 8 t d))
    ∗ (∃ d, owns (c : Thread nD τ) (ms0_9 m hO t) fullShare ((dats m hO 0 c).before 9 t d))
    ∗ (∃ d, owns (c : Thread nD τ) (ms0_10 m hO t) fullShare ((dats m hO 0 c).before 10 t d))
    ∗ (∃ d, owns (c : Thread nD τ) (ms0_11 m hO t) fullShare d))

/-- and what it returns. -/
def bodyPost (hO : Ok m) (c : Dev nD) (t : Fin (cfgM m hO).N) : sProp 𝕄 :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t
    ∗ (dats m hO 0 c).leavesExact 3 t
    ∗ (dats m hO 0 c).leavesExact 4 t
    ∗ (dats m hO 0 c).leavesExact 5 t
    ∗ (dats m hO 0 c).leavesExact 6 t
    ∗ (dats m hO 0 c).leavesExact 7 t
    ∗ (dats m hO 0 c).leavesExact 8 t
    ∗ (dats m hO 0 c).leavesExact 9 t
    ∗ (dats m hO 0 c).leavesExact 10 t
    ∗ (∃ d, owns (c : Thread nD τ) (ms0_11 m hO t) fullShare d))

set_option maxHeartbeats 8000000 in
/-- The body at a point of case A. -/
theorem sound_bodyA (hO : Ok m) (c : Dev nD) (t : Fin (cfgM m hO).N) (hc0 : cond0_0 (grid0.coords t)) (hc1 : cond0_1 (grid0.coords t)) (hc2 : ¬cond0_2 (grid0.coords t)) (hc3 : ¬cond0_3 (grid0.coords t)) (hc4 : ¬cond0_4 (grid0.coords t)) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5, before0_6, before0_7, before0_8, before0_9, before0_10]
  rw [leaves0_0 m hO c t, leaves0_1 m hO c t, leaves0_2 m hO c t, leaves0_3 m hO c t, leaves0_4 m hO c t, leaves0_5 m hO c t, leaves0_6 m hO c t, leaves0_7 m hO c t, leaves0_8 m hO c t, leaves0_9 m hO c t, leaves0_10 m hO c t]
  rw [show (dats m hO 0 c).owesAt () t.succ = (dats m hO 0 c).owesAt () t.castSucc from rfl]
  rw [show (dats m hO 0 c).Φ t.succ = Phi m c from rfl, show (dats m hO 0 c).Φ t.castSucc = Phi m c from rfl]
  unfold Phi
  iintro ⟨⟨⟨⟨%d0, %d1, %d2, %d3, %d4, HS0, HS1, HS2, HS3, HS4⟩, Hg⟩, HT0⟩, Ho, ⟨%e0, H0⟩, ⟨%e1, H1⟩, ⟨%e2, H2⟩, ⟨%e3, H3⟩, ⟨%e4, H4⟩, ⟨%e5, H5⟩, ⟨%e6, H6⟩, ⟨%e7, H7⟩, ⟨%e8, H8⟩, ⟨%e9, H9⟩, ⟨%e10, H10⟩, ⟨%e11, H11⟩⟩
  iapply ((runA m hO c t hc0 hc1 hc2 hc3 hc4 ).2.2.2.2.2 d1 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [HS0]; · iexists _; iexact HS0
  isplitl [HS1]; · iexact HS1
  isplitl [HS2]; · iexists _; iexact HS2
  isplitl [HS3]; · iexists _; iexact HS3
  isplitl [HS4]; · iexists _; iexact HS4
  isplitl [HT0]; · iexact HT0
  iintro ⟨H0, H1, H2, H3, H4, H5, H6, H7, H8, H9, H10, H11, ⟨%g0, HS0⟩, HS1, ⟨%g2, HS2⟩, ⟨%g3, HS3⟩, ⟨%g4, HS4⟩, HT0⟩
  isplitl [HS0 HS1 HS2 HS3 HS4 Hg HT0]
  · isplitr [HT0]
    · isplitr [Hg]
      · iexists _, _, _, _, _
        isplitl [HS0]
        · unfold owns; iexists _; isplitr
          swap; · iexact HS0
          ipureintro; rfl
        isplitl [HS1]
        · unfold owns; iexists _; isplitr
          swap; · iexact HS1
          ipureintro; rfl
        isplitl [HS2]
        · unfold owns; iexists _; isplitr
          swap; · iexact HS2
          ipureintro; rfl
        isplitl [HS3]
        · unfold owns; iexists _; isplitr
          swap; · iexact HS3
          ipureintro; rfl
        unfold owns; iexists _; isplitr
        swap; · iexact HS4
        ipureintro; rfl
      iexact Hg
    iexact HT0
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

set_option maxHeartbeats 8000000 in
/-- The body at a point of case B. -/
theorem sound_bodyB (hO : Ok m) (c : Dev nD) (t : Fin (cfgM m hO).N) (hc0 : ¬cond0_0 (grid0.coords t)) (hc1 : cond0_1 (grid0.coords t)) (hc2 : ¬cond0_2 (grid0.coords t)) (hc3 : ¬cond0_3 (grid0.coords t)) (hc4 : ¬cond0_4 (grid0.coords t)) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5, before0_6, before0_7, before0_8, before0_9, before0_10]
  rw [leaves0_0 m hO c t, leaves0_1 m hO c t, leaves0_2 m hO c t, leaves0_3 m hO c t, leaves0_4 m hO c t, leaves0_5 m hO c t, leaves0_6 m hO c t, leaves0_7 m hO c t, leaves0_8 m hO c t, leaves0_9 m hO c t, leaves0_10 m hO c t]
  rw [show (dats m hO 0 c).owesAt () t.succ = (dats m hO 0 c).owesAt () t.castSucc from rfl]
  rw [show (dats m hO 0 c).Φ t.succ = Phi m c from rfl, show (dats m hO 0 c).Φ t.castSucc = Phi m c from rfl]
  unfold Phi
  iintro ⟨⟨⟨⟨%d0, %d1, %d2, %d3, %d4, HS0, HS1, HS2, HS3, HS4⟩, Hg⟩, HT0⟩, Ho, ⟨%e0, H0⟩, ⟨%e1, H1⟩, ⟨%e2, H2⟩, ⟨%e3, H3⟩, ⟨%e4, H4⟩, ⟨%e5, H5⟩, ⟨%e6, H6⟩, ⟨%e7, H7⟩, ⟨%e8, H8⟩, ⟨%e9, H9⟩, ⟨%e10, H10⟩, ⟨%e11, H11⟩⟩
  iapply ((runB m hO c t hc0 hc1 hc2 hc3 hc4 d0 d2 d3 d4).2.2.2.2.2 d1 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [HS0]; · iexact HS0
  isplitl [HS1]; · iexact HS1
  isplitl [HS2]; · iexact HS2
  isplitl [HS3]; · iexact HS3
  isplitl [HS4]; · iexact HS4
  isplitl [HT0]; · iexact HT0
  iintro ⟨H0, H1, H2, H3, H4, H5, H6, H7, H8, H9, H10, H11, HS0, HS1, ⟨%g2, HS2⟩, HS3, HS4, HT0⟩
  isplitl [HS0 HS1 HS2 HS3 HS4 Hg HT0]
  · isplitr [HT0]
    · isplitr [Hg]
      · iexists _, _, _, _, _
        isplitl [HS0]; · iexact HS0
        isplitl [HS1]
        · unfold owns; iexists _; isplitr
          swap; · iexact HS1
          ipureintro; rfl
        isplitl [HS2]
        · unfold owns; iexists _; isplitr
          swap; · iexact HS2
          ipureintro; rfl
        isplitl [HS3]; · iexact HS3
        iexact HS4
      iexact Hg
    iexact HT0
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

set_option maxHeartbeats 8000000 in
/-- The body at a point of case C. -/
theorem sound_bodyC (hO : Ok m) (c : Dev nD) (t : Fin (cfgM m hO).N) (hc0 : ¬cond0_0 (grid0.coords t)) (hc1 : ¬cond0_1 (grid0.coords t)) (hc2 : cond0_2 (grid0.coords t)) (hc3 : cond0_3 (grid0.coords t)) (hc4 : ¬cond0_4 (grid0.coords t)) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5, before0_6, before0_7, before0_8, before0_9, before0_10]
  rw [leaves0_0 m hO c t, leaves0_1 m hO c t, leaves0_2 m hO c t, leaves0_3 m hO c t, leaves0_4 m hO c t, leaves0_5 m hO c t, leaves0_6 m hO c t, leaves0_7 m hO c t, leaves0_8 m hO c t, leaves0_9 m hO c t, leaves0_10 m hO c t]
  rw [show (dats m hO 0 c).owesAt () t.succ = (dats m hO 0 c).owesAt () t.castSucc from rfl]
  rw [show (dats m hO 0 c).Φ t.succ = Phi m c from rfl, show (dats m hO 0 c).Φ t.castSucc = Phi m c from rfl]
  unfold Phi
  iintro ⟨⟨⟨⟨%d0, %d1, %d2, %d3, %d4, HS0, HS1, HS2, HS3, HS4⟩, Hg⟩, HT0⟩, Ho, ⟨%e0, H0⟩, ⟨%e1, H1⟩, ⟨%e2, H2⟩, ⟨%e3, H3⟩, ⟨%e4, H4⟩, ⟨%e5, H5⟩, ⟨%e6, H6⟩, ⟨%e7, H7⟩, ⟨%e8, H8⟩, ⟨%e9, H9⟩, ⟨%e10, H10⟩, ⟨%e11, H11⟩⟩
  iapply ((runC m hO c t hc0 hc1 hc2 hc3 hc4 d0 d1 d2).2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [HS0]; · iexact HS0
  isplitl [HS1]; · iexact HS1
  isplitl [HS2]; · iexact HS2
  isplitl [HS3]; · iexists _; iexact HS3
  isplitl [HS4]; · iexists _; iexact HS4
  isplitl [HT0]; · iexact HT0
  iintro ⟨H0, H1, H2, H3, H4, H5, H6, H7, H8, H9, H10, H11, HS0, HS1, ⟨%g2, HS2⟩, ⟨%g3, HS3⟩, ⟨%g4, HS4⟩, HT0⟩
  isplitl [HS0 HS1 HS2 HS3 HS4 Hg HT0]
  · isplitr [HT0]
    · isplitr [Hg]
      · iexists _, _, _, _, _
        isplitl [HS0]; · iexact HS0
        isplitl [HS1]; · iexact HS1
        isplitl [HS2]
        · unfold owns; iexists _; isplitr
          swap; · iexact HS2
          ipureintro; rfl
        isplitl [HS3]
        · unfold owns; iexists _; isplitr
          swap; · iexact HS3
          ipureintro; rfl
        unfold owns; iexists _; isplitr
        swap; · iexact HS4
        ipureintro; rfl
      iexact Hg
    iexact HT0
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

set_option maxHeartbeats 8000000 in
/-- The body at a point of case D. -/
theorem sound_bodyD (hO : Ok m) (c : Dev nD) (t : Fin (cfgM m hO).N) (hc0 : ¬cond0_0 (grid0.coords t)) (hc1 : ¬cond0_1 (grid0.coords t)) (hc2 : ¬cond0_2 (grid0.coords t)) (hc3 : cond0_3 (grid0.coords t)) (hc4 : ¬cond0_4 (grid0.coords t)) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5, before0_6, before0_7, before0_8, before0_9, before0_10]
  rw [leaves0_0 m hO c t, leaves0_1 m hO c t, leaves0_2 m hO c t, leaves0_3 m hO c t, leaves0_4 m hO c t, leaves0_5 m hO c t, leaves0_6 m hO c t, leaves0_7 m hO c t, leaves0_8 m hO c t, leaves0_9 m hO c t, leaves0_10 m hO c t]
  rw [show (dats m hO 0 c).owesAt () t.succ = (dats m hO 0 c).owesAt () t.castSucc from rfl]
  rw [show (dats m hO 0 c).Φ t.succ = Phi m c from rfl, show (dats m hO 0 c).Φ t.castSucc = Phi m c from rfl]
  unfold Phi
  iintro ⟨⟨⟨⟨%d0, %d1, %d2, %d3, %d4, HS0, HS1, HS2, HS3, HS4⟩, Hg⟩, HT0⟩, Ho, ⟨%e0, H0⟩, ⟨%e1, H1⟩, ⟨%e2, H2⟩, ⟨%e3, H3⟩, ⟨%e4, H4⟩, ⟨%e5, H5⟩, ⟨%e6, H6⟩, ⟨%e7, H7⟩, ⟨%e8, H8⟩, ⟨%e9, H9⟩, ⟨%e10, H10⟩, ⟨%e11, H11⟩⟩
  iapply ((runD m hO c t hc0 hc1 hc2 hc3 hc4 d0 d1 d2 d3 d4).2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [HS0]; · iexact HS0
  isplitl [HS1]; · iexact HS1
  isplitl [HS2]; · iexact HS2
  isplitl [HS3]; · iexact HS3
  isplitl [HS4]; · iexact HS4
  isplitl [HT0]; · iexact HT0
  iintro ⟨H0, H1, H2, H3, H4, H5, H6, H7, H8, H9, H10, H11, HS0, HS1, HS2, ⟨%g3, HS3⟩, ⟨%g4, HS4⟩, HT0⟩
  isplitl [HS0 HS1 HS2 HS3 HS4 Hg HT0]
  · isplitr [HT0]
    · isplitr [Hg]
      · iexists _, _, _, _, _
        isplitl [HS0]; · iexact HS0
        isplitl [HS1]; · iexact HS1
        isplitl [HS2]; · iexact HS2
        isplitl [HS3]
        · unfold owns; iexists _; isplitr
          swap; · iexact HS3
          ipureintro; rfl
        unfold owns; iexists _; isplitr
        swap; · iexact HS4
        ipureintro; rfl
      iexact Hg
    iexact HT0
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

set_option maxHeartbeats 8000000 in
/-- The body at a point of case E. -/
theorem sound_bodyE (hO : Ok m) (c : Dev nD) (t : Fin (cfgM m hO).N) (hc0 : ¬cond0_0 (grid0.coords t)) (hc1 : ¬cond0_1 (grid0.coords t)) (hc2 : ¬cond0_2 (grid0.coords t)) (hc3 : cond0_3 (grid0.coords t)) (hc4 : cond0_4 (grid0.coords t)) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5, before0_6, before0_7, before0_8, before0_9, before0_10]
  rw [leaves0_0 m hO c t, leaves0_1 m hO c t, leaves0_2 m hO c t, leaves0_3 m hO c t, leaves0_4 m hO c t, leaves0_5 m hO c t, leaves0_6 m hO c t, leaves0_7 m hO c t, leaves0_8 m hO c t, leaves0_9 m hO c t, leaves0_10 m hO c t]
  rw [show (dats m hO 0 c).owesAt () t.succ = (dats m hO 0 c).owesAt () t.castSucc from rfl]
  rw [show (dats m hO 0 c).Φ t.succ = Phi m c from rfl, show (dats m hO 0 c).Φ t.castSucc = Phi m c from rfl]
  unfold Phi
  iintro ⟨⟨⟨⟨%d0, %d1, %d2, %d3, %d4, HS0, HS1, HS2, HS3, HS4⟩, Hg⟩, HT0⟩, Ho, ⟨%e0, H0⟩, ⟨%e1, H1⟩, ⟨%e2, H2⟩, ⟨%e3, H3⟩, ⟨%e4, H4⟩, ⟨%e5, H5⟩, ⟨%e6, H6⟩, ⟨%e7, H7⟩, ⟨%e8, H8⟩, ⟨%e9, H9⟩, ⟨%e10, H10⟩, ⟨%e11, H11⟩⟩
  iapply ((runE m hO c t hc0 hc1 hc2 hc3 hc4 d0 d1 d2 d3 d4).2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [HS0]; · iexact HS0
  isplitl [HS1]; · iexact HS1
  isplitl [HS2]; · iexact HS2
  isplitl [HS3]; · iexact HS3
  isplitl [HS4]; · iexact HS4
  isplitl [HT0]; · iexact HT0
  iintro ⟨H0, H1, H2, H3, H4, H5, H6, H7, H8, H9, H10, H11, HS0, HS1, HS2, ⟨%g3, HS3⟩, ⟨%g4, HS4⟩, HT0⟩
  isplitl [HS0 HS1 HS2 HS3 HS4 Hg HT0]
  · isplitr [HT0]
    · isplitr [Hg]
      · iexists _, _, _, _, _
        isplitl [HS0]; · iexact HS0
        isplitl [HS1]; · iexact HS1
        isplitl [HS2]; · iexact HS2
        isplitl [HS3]
        · unfold owns; iexists _; isplitr
          swap; · iexact HS3
          ipureintro; rfl
        unfold owns; iexists _; isplitr
        swap; · iexact HS4
        ipureintro; rfl
      iexact Hg
    iexact HT0
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The body at any point: the five cases. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  have hN : t.val < 64 := lt_of_lt_of_eq t.isLt (show (cfgM m hO).N = 64 from N_0)
  by_cases h0 : t.val % 64 = 0
  · have h1 : t.val < 32 := by omega
    have h2 : ¬t.val % 64 = 32 := by omega
    have h3 : ¬32 ≤ t.val := by omega
    have h4 : ¬t.val % 64 = 63 := by omega
    exact sound_bodyA m hO c t ((hcond0_0 t).mpr h0) ((hcond0_1 t).mpr h1) (fun h => h2 ((hcond0_2 t).mp h)) (fun h => h3 ((hcond0_3 t).mp h)) (fun h => h4 ((hcond0_4 t).mp h))
  · by_cases h1 : t.val < 32
    · have h2 : ¬t.val % 64 = 32 := by omega
      have h3 : ¬32 ≤ t.val := by omega
      have h4 : ¬t.val % 64 = 63 := by omega
      exact sound_bodyB m hO c t (fun h => h0 ((hcond0_0 t).mp h)) ((hcond0_1 t).mpr h1) (fun h => h2 ((hcond0_2 t).mp h)) (fun h => h3 ((hcond0_3 t).mp h)) (fun h => h4 ((hcond0_4 t).mp h))
    · have h3 : 32 ≤ t.val := by omega
      by_cases h2 : t.val % 64 = 32
      · have h4 : ¬t.val % 64 = 63 := by omega
        exact sound_bodyC m hO c t (fun h => h0 ((hcond0_0 t).mp h)) (fun h => h1 ((hcond0_1 t).mp h)) ((hcond0_2 t).mpr h2) ((hcond0_3 t).mpr h3) (fun h => h4 ((hcond0_4 t).mp h))
      · by_cases h4 : t.val % 64 = 63
        · exact sound_bodyE m hO c t (fun h => h0 ((hcond0_0 t).mp h)) (fun h => h1 ((hcond0_1 t).mp h)) (fun h => h2 ((hcond0_2 t).mp h)) ((hcond0_3 t).mpr h3) ((hcond0_4 t).mpr h4)
        · exact sound_bodyD m hO c t (fun h => h0 ((hcond0_0 t).mp h)) (fun h => h1 ((hcond0_1 t).mp h)) (fun h => h2 ((hcond0_2 t).mp h)) ((hcond0_3 t).mpr h3) (fun h => h4 ((hcond0_4 t).mp h))

theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The body's triple in the pipeline's own terms. -/
theorem body_obligation (hO : Ok m) (c : Dev nD) : BodyObligation (dats (F := F) m hO 0 c) (defs₀ (F := F)) Variants.none () Set.univ forgets0 := fun t => by
  rw [bigSep_W0, bigSep_W0, defs₀_row m hO]
  exact triple_restated (sound_body m hO c t) rfl .rfl fun _ => .rfl

/-- What the launch hands over is what holds before the first point. -/
theorem hin (hO : Ok m) (c : Dev nD) : iprop(Pipeline.ΦA spec0 c ∗ Pipeline.ΦT pre0 (tbl m) c) ⊢ (dats m hO 0 c).Φ 0 := by
  rw [show (dats m hO 0 c).Φ 0 = Phi m c from rfl, PhiA0_eq, PhiT0_eq]
  unfold Phi
  iintro ⟨⟨⟨⟨%d0, HS0⟩, ⟨%d1, HS1⟩, ⟨%d2, HS2⟩, ⟨%d3, HS3⟩, ⟨%d4, HS4⟩⟩, Hg⟩, HT⟩
  isplitr [HT]
  · isplitr [Hg]
    · iexists d0, d1, d2, d3, d4
      isplitl [HS0]; · iexact HS0
      isplitl [HS1]; · iexact HS1
      isplitl [HS2]; · iexact HS2
      isplitl [HS3]; · iexact HS3
      iexact HS4
    iexact Hg
  iexact HT

/-- After the last point the scratch arrays are given back. -/
theorem hout (hO : Ok m) (c : Dev nD) : (dats m hO 0 c).Φ (Fin.last (cfgM m hO).N) ⊢ Pipeline.ΦA spec0 c := by
  rw [show (dats m hO 0 c).Φ (Fin.last (cfgM m hO).N) = Phi m c from rfl, PhiA0_eq]
  unfold Phi
  iintro ⟨⟨⟨%d0, %d1, %d2, %d3, %d4, HS0, HS1, HS2, HS3, HS4⟩, Hg⟩, -⟩
  isplitr [Hg]
  · isplitl [HS0]
    · iexists _; iexact HS0
    isplitl [HS1]
    · iexists _; iexact HS1
    isplitl [HS2]
    · iexists _; iexact HS2
    isplitl [HS3]
    · iexists _; iexact HS3
    iexists _; iexact HS4
  iexact Hg

set_option backward.isDefEq.respectTransparency.types false in
/-- The whole program ends, with every counter at zero and the arguments unchanged. -/
theorem run_main (hO : Ok m) : θ_run defs (onTc (τ := τ) (main (F := F))) (s₀ m ρ) (fun r => (Pipeline.RDat.FramePost ((Pipeline.pin pcfgs fun _ => adm m hO) 0) (fun c => (dats m hO 0 c).toRForget forgets0) (V m)) r ∧ r.2.sem = fun _ => 0) :=
  Pipeline.θ_run_frameP_track_forget (Q' := _) pcfgs (fun _ => adm m hO) (dats m hO) (0 : Fin 1) launch0 defs₀ Variants.none forgets0 m ρ main
    (hbody := fun c => (body_obligation m hO c).loose) (hshare := fun c => (dats m hO 0 c).share_full fun _ => rfl)
    (howed := fun _ _ => rfl) (V := V m) (hmain := hmain m Variants.none) (hA := A_eq m hO) (hpf := V_pre m) (hin := hin m hO) (hout := hout m hO)

/-- The frame: the argument arrays end unchanged, every counter at zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) ∧ r.2.sem = fun _ => 0) :=
  θ_run_and (frame_of m ρ hO (fun c => (dats m hO 0 c).toRForget forgets0) (A_eq m hO) ((θ_run defs _ _).mono (fun _ h => h.1) (run_main m ρ hO)))
    ((θ_run defs _ _).mono (fun _ h => h.2) (run_main m ρ hO))

end Cert.Kernel.Gen

end
-- ==== Proof.KI.Model.lean ====
/- The kernel's steps as functions of the arrays they read: a tile of scores, a step of the running maximum, a tile of weights,
   a step of the denominator, and the chains of sixteen of them that one block runs through. -/
module

public import proofs.«01_k».proof.Proof.Gen.KernelIdeal.Skeleton
public import Idealize.ShloMosaic.Lib.Pipeline.FrameBody

@[expose] public section

noncomputable section

namespace Cert.KernelIdeal.Gen

open Idealize.ShloMosaic Idealize.ShloMosaic.TcCoe

variable {F : FTy → Type} [FloatOps F] [Named F]

/-- A tile of 256 tokens' scores for pair 0, from the tile's keys, key scales and the pair's queries. -/
def sc0 (kv : Vec F S1024x128 .fp8e4m3) (ks : Vec F S4x256 .f32) (q : Vec F S1x32x256 .bf16) : FVec F S32x256 .f32 := k0_pay122 kv ks q
/-- The same for pair 1. -/
def sc1 (kv : Vec F S1024x128 .fp8e4m3) (ks : Vec F S4x256 .f32) (q : Vec F S1x32x256 .bf16) : FVec F S32x256 .f32 :=
  k0_pay125 (k0_pay120 kv) (k0_pay121 ks) q

/-- A tile of scores as it is stored. -/
def up256 (s : FVec F S32x256 .f32) : FVec F S1x32x256 .f32 := shapeCast S1x32x256 s shapeCasts_S32x256_S1x32x256
/-- A pair's rows of lanes, loaded and stored. -/
def dn128 (v : Vec F S1x32x128 .f32) : FVec F S32x128 .f32 := shapeCast S32x128 v shapeCasts_S1x32x128_S32x128
def up128 (v : FVec F S32x128 .f32) : FVec F S1x32x128 .f32 := shapeCast S1x32x128 v shapeCasts_S32x128_S1x32x128

/-- The running maximum after one more tile of scores. -/
def mstep (m : FVec F S32x128 .f32) (s : FVec F S32x256 .f32) : FVec F S32x128 .f32 :=
  maximumf m (maximumf (extractStridedSlice S32x128 ![0, 0] s slices_S32x256_o0_0_S32x128)
    (extractStridedSlice S32x128 ![0, 128] s slices_S32x256_o0_128_S32x128))
/-- The running maximum after the first `n` tiles. -/
def mchain (m : FVec F S32x128 .f32) (s : ℕ → FVec F S32x256 .f32) : ℕ → FVec F S32x128 .f32
  | 0 => m
  | n + 1 => mstep (mchain m s n) (s n)

/-! ### The tiles of a block, by number -/

theorem inb_k (k : ℕ) : ∀ a, (![1024 * (k % 16), 0] : Fin 2 → ℕ) a + S1024x128.size a ≤ S16384x128.size a := by
  have : k % 16 < 16 := Nat.mod_lt _ (by decide)
  intro a; fin_cases a
  · show 1024 * (k % 16) + 1024 ≤ 16384; omega
  · show 0 + 128 ≤ 128; omega
theorem inb_ks (k : ℕ) : ∀ a, (![0, 256 * (k % 16)] : Fin 2 → ℕ) a + S4x256.size a ≤ S4x4096.size a := by
  have : k % 16 < 16 := Nat.mod_lt _ (by decide)
  intro a; fin_cases a
  · show 0 + 4 ≤ 4; omega
  · show 256 * (k % 16) + 256 ≤ 4096; omega

variable {sp : Space}

/-- Tile `k` of a block of keys or values, as the kernel loads it. -/
def tileK (a : Memref sig .tc sp S16384x128 .fp8e4m3) (h : a.IsWhole) (x : Vec F S16384x128 .fp8e4m3) (k : ℕ) : Vec F S1024x128 .fp8e4m3 :=
  View.readAt (Elt F) a.view (Rect.unit (s := S16384x128) ![1024 * (k % 16), 0] S1024x128.size (inb_k k)).toLoadRect (h.unread x)
/-- Tile `k` of a block of scales. -/
def tileS (a : Memref sig .tc sp S4x4096 .f32) (h : a.IsWhole) (x : Vec F S4x4096 .f32) (k : ℕ) : Vec F S4x256 .f32 :=
  View.readAt (Elt F) a.view (Rect.unit (s := S4x4096) ![0, 256 * (k % 16)] S4x256.size (inb_ks k)).toLoadRect (h.unread x)
/-- The queries of a pair. -/
def rdQ0 (a : Memref sig .tc sp S2x32x256 .bf16) (h : a.IsWhole) (x : Vec F S2x32x256 .bf16) : Vec F S1x32x256 .bf16 :=
  View.readAt (Elt F) a.view (Rect.unit (s := S2x32x256) ![0, 0, 0] S1x32x256.size inb_S2x32x256_S1x32x256_0_0_0).toLoadRect (h.unread x)
def rdQ1 (a : Memref sig .tc sp S2x32x256 .bf16) (h : a.IsWhole) (x : Vec F S2x32x256 .bf16) : Vec F S1x32x256 .bf16 :=
  View.readAt (Elt F) a.view (Rect.unit (s := S2x32x256) ![1, 0, 0] S1x32x256.size inb_S2x32x256_S1x32x256_1_0_0).toLoadRect (h.unread x)
/-- A pair's rows of lanes. -/
def rdL0 (a : Memref sig .tc sp S2x32x128 .f32) (h : a.IsWhole) (x : Vec F S2x32x128 .f32) : Vec F S1x32x128 .f32 :=
  View.readAt (Elt F) a.view (Rect.unit (s := S2x32x128) ![0, 0, 0] S1x32x128.size inb_S2x32x128_S1x32x128_0_0_0).toLoadRect (h.unread x)
def rdL1 (a : Memref sig .tc sp S2x32x128 .f32) (h : a.IsWhole) (x : Vec F S2x32x128 .f32) : Vec F S1x32x128 .f32 :=
  View.readAt (Elt F) a.view (Rect.unit (s := S2x32x128) ![1, 0, 0] S1x32x128.size inb_S2x32x128_S1x32x128_1_0_0).toLoadRect (h.unread x)

/-! ### The block of scores -/

theorem inb_s1 (i : grid0.Coords) (h : k0_cond2 i = 1#1) (k : ℕ) :
    ∀ a, (k0_off1 i (BitVec.ofNat 32 (256 * (k % 16)))) a + S1x32x256.size a ≤ S2x32x133120.size a :=
  k0_off1_inb i h ⟨k % 16, Nat.mod_lt _ (by decide)⟩
theorem inb_s2 (i : grid0.Coords) (h : k0_cond2 i = 1#1) (k : ℕ) :
    ∀ a, (k0_off2 i (BitVec.ofNat 32 (256 * (k % 16)))) a + S1x32x256.size a ≤ S2x32x133120.size a :=
  k0_off2_inb i h ⟨k % 16, Nat.mod_lt _ (by decide)⟩
theorem inb_s3 (i : grid0.Coords) (h : k0_cond4 i = 1#1) (k : ℕ) :
    ∀ a, (k0_off3 i (BitVec.ofNat 32 (256 * (k % 16)))) a + S1x32x256.size a ≤ S2x32x133120.size a :=
  k0_off3_inb i h ⟨k % 16, Nat.mod_lt _ (by decide)⟩
theorem inb_s4 (i : grid0.Coords) (h : k0_cond4 i = 1#1) (k : ℕ) :
    ∀ a, (k0_off4 i (BitVec.ofNat 32 (256 * (k % 16)))) a + S1x32x256.size a ≤ S2x32x133120.size a :=
  k0_off4_inb i h ⟨k % 16, Nat.mod_lt _ (by decide)⟩

/-- What the first `n` tiles of a block store of their scores, the last first, on top of `base`. -/
def sPieces (i : grid0.Coords) (h : k0_cond2 i = 1#1) (s0 s1 : ℕ → FVec F S32x256 .f32) (base : List (View.Piece (Elt F) S2x32x133120 .f32)) :
    ℕ → List (View.Piece (Elt F) S2x32x133120 .f32)
  | 0 => base
  | n + 1 => ⟨Rect.unit (s := S2x32x133120) (k0_off2 i (BitVec.ofNat 32 (256 * (n % 16)))) S1x32x256.size (inb_s2 i h n), up256 (s1 n)⟩ ::
      ⟨Rect.unit (s := S2x32x133120) (k0_off1 i (BitVec.ofNat 32 (256 * (n % 16)))) S1x32x256.size (inb_s1 i h n), up256 (s0 n)⟩ ::
      sPieces i h s0 s1 base n

/-! ### The weighted sums -/

def dn256 (s : Vec F S1x32x256 .f32) : FVec F S32x256 .f32 := shapeCast S32x256 s shapeCasts_S1x32x256_S32x256

/-- A tile's weights before their value scales: the powers of two of the scores less the maximum. -/
def expT (s : Vec F S1x32x256 .f32) (m : Vec F S1x32x128 .f32) : FVec F S32x256 .f32 :=
  exp2 (subf (dn256 s) (concatenate S32x256 1 [⟨S32x128, dn128 m⟩, ⟨S32x128, dn128 m⟩] concatenates_S32x128_S32x128_S32x256_d1))

/-- The value scales of a tile, a row of them per row of the pair. -/
def prow0 (vs : FVec F S4x256 .f32) : FVec F S32x256 .f32 :=
  concatenate S32x256 0
    [⟨S16x256, broadcastTo S16x256 (shapeCast S1x256 (extractStridedSlice S1x256 ![0, 0] vs slices_S4x256_o0_0_S1x256) shapeCasts_S1x256_S1x256) broadcasts_S1x256_S16x256⟩,
     ⟨S16x256, broadcastTo S16x256 (shapeCast S1x256 (extractStridedSlice S1x256 ![1, 0] vs slices_S4x256_o1_0_S1x256) shapeCasts_S1x256_S1x256) broadcasts_S1x256_S16x256⟩]
    concatenates_S16x256_S16x256_S32x256_d0
def prow1 (vs : FVec F S4x256 .f32) : FVec F S32x256 .f32 :=
  concatenate S32x256 0
    [⟨S16x256, broadcastTo S16x256 (shapeCast S1x256 (extractStridedSlice S1x256 ![2, 0] vs slices_S4x256_o2_0_S1x256) shapeCasts_S1x256_S1x256) broadcasts_S1x256_S16x256⟩,
     ⟨S16x256, broadcastTo S16x256 (shapeCast S1x256 (extractStridedSlice S1x256 ![3, 0] vs slices_S4x256_o3_0_S1x256) shapeCasts_S1x256_S1x256) broadcasts_S1x256_S16x256⟩]
    concatenates_S16x256_S16x256_S32x256_d0

/-- A tile's weights. -/
def wt0 (s : Vec F S1x32x256 .f32) (m : Vec F S1x32x128 .f32) (vs : Vec F S4x256 .f32) : FVec F S32x256 .bf16 :=
  truncf .bf16 (mulf (expT s m) (prow0 (shapeCast S4x256 vs shapeCasts_S4x256_S4x256))) bitsLt_bf16_f32
def wt1 (s : Vec F S1x32x256 .f32) (m : Vec F S1x32x128 .f32) (vs : Vec F S4x256 .f32) : FVec F S32x256 .bf16 :=
  truncf .bf16 (mulf (expT s m) (prow1 (shapeCast S4x256 vs shapeCasts_S4x256_S4x256))) bitsLt_bf16_f32

/-- A tile's values, the two heads of a pair side by side. -/
def vp0 (v : Vec F S1024x128 .fp8e4m3) : FVec F S256x256 .fp8e4m3 :=
  concatenate S256x256 1 [⟨S256x128, extractStridedSlice S256x128 ![0, 0] (k0_pay119 v) slices_S256x512_o0_0_S256x128⟩,
    ⟨S256x128, extractStridedSlice S256x128 ![0, 128] (k0_pay119 v) slices_S256x512_o0_128_S256x128⟩] concatenates_S256x128_S256x128_S256x256_d1
def vp1 (v : Vec F S1024x128 .fp8e4m3) : FVec F S256x256 .fp8e4m3 := k0_pay120 v

/-- The denominator after one more tile, and after the first `n` tiles. -/
def dstep (d : FVec F S32x128 .f32) (e : FVec F S32x256 .f32) : FVec F S32x128 .f32 :=
  addf d (addf (extractStridedSlice S32x128 ![0, 0] e slices_S32x256_o0_0_S32x128)
    (extractStridedSlice S32x128 ![0, 128] e slices_S32x256_o0_128_S32x128))
def dchain (d : FVec F S32x128 .f32) (e : ℕ → FVec F S32x256 .f32) : ℕ → FVec F S32x128 .f32
  | 0 => d
  | n + 1 => dstep (dchain d e n) (e n)

/-- Sixteen tiles of weights and of values, joined. -/
def catW (w : ℕ → FVec F S32x256 .bf16) : FVec F S32x4096 .bf16 :=
  concatenate S32x4096 1 [⟨S32x256, w 0⟩, ⟨S32x256, w 1⟩, ⟨S32x256, w 2⟩, ⟨S32x256, w 3⟩, ⟨S32x256, w 4⟩, ⟨S32x256, w 5⟩, ⟨S32x256, w 6⟩, ⟨S32x256, w 7⟩, ⟨S32x256, w 8⟩, ⟨S32x256, w 9⟩, ⟨S32x256, w 10⟩, ⟨S32x256, w 11⟩, ⟨S32x256, w 12⟩, ⟨S32x256, w 13⟩, ⟨S32x256, w 14⟩, ⟨S32x256, w 15⟩]
    concatenates_S32x256_S32x256_S32x256_S32x256_S32x256_S32x256_S32x256_S32x256_S32x256_S32x256_S32x256_S32x256_S32x256_S32x256_S32x256_S32x256_S32x4096_d1
def catV (w : ℕ → FVec F S256x256 .fp8e4m3) : FVec F S4096x256 .fp8e4m3 :=
  concatenate S4096x256 0 [⟨S256x256, w 0⟩, ⟨S256x256, w 1⟩, ⟨S256x256, w 2⟩, ⟨S256x256, w 3⟩, ⟨S256x256, w 4⟩, ⟨S256x256, w 5⟩, ⟨S256x256, w 6⟩, ⟨S256x256, w 7⟩, ⟨S256x256, w 8⟩, ⟨S256x256, w 9⟩, ⟨S256x256, w 10⟩, ⟨S256x256, w 11⟩, ⟨S256x256, w 12⟩, ⟨S256x256, w 13⟩, ⟨S256x256, w 14⟩, ⟨S256x256, w 15⟩]
    concatenates_S256x256_S256x256_S256x256_S256x256_S256x256_S256x256_S256x256_S256x256_S256x256_S256x256_S256x256_S256x256_S256x256_S256x256_S256x256_S256x256_S4096x256_d0
/-- Four of them. -/
def catW4 (w : ℕ → FVec F S32x256 .bf16) : FVec F S32x1024 .bf16 :=
  concatenate S32x1024 1 [⟨S32x256, w 0⟩, ⟨S32x256, w 1⟩, ⟨S32x256, w 2⟩, ⟨S32x256, w 3⟩]
    concatenates_S32x256_S32x256_S32x256_S32x256_S32x1024_d1
def catV4 (w : ℕ → FVec F S256x256 .fp8e4m3) : FVec F S1024x256 .fp8e4m3 :=
  concatenate S1024x256 0 [⟨S256x256, w 0⟩, ⟨S256x256, w 1⟩, ⟨S256x256, w 2⟩, ⟨S256x256, w 3⟩]
    concatenates_S256x256_S256x256_S256x256_S256x256_S1024x256_d0

/-- The weighted sum after one more block of sixteen tiles. -/
def accB (a : Vec F S1x32x256 .f32) (w : ℕ → FVec F S32x256 .bf16) (v : ℕ → FVec F S256x256 .fp8e4m3) : FVec F S1x32x256 .f32 :=
  k0_pay580 a (catW w) (catV v)

/-- The tiles of scores of a block, read back. -/
def rdS0 (i : grid0.Coords) (h : k0_cond4 i = 1#1) (a : Memref sig .tc sp S2x32x133120 .f32) (ha : a.IsWhole) (x : Vec F S2x32x133120 .f32) (k : ℕ) : Vec F S1x32x256 .f32 :=
  View.readAt (Elt F) a.view (Rect.unit (s := S2x32x133120) (k0_off3 i (BitVec.ofNat 32 (256 * (k % 16)))) S1x32x256.size (inb_s3 i h k)).toLoadRect (ha.unread x)
def rdS1 (i : grid0.Coords) (h : k0_cond4 i = 1#1) (a : Memref sig .tc sp S2x32x133120 .f32) (ha : a.IsWhole) (x : Vec F S2x32x133120 .f32) (k : ℕ) : Vec F S1x32x256 .f32 :=
  View.readAt (Elt F) a.view (Rect.unit (s := S2x32x133120) (k0_off4 i (BitVec.ofNat 32 (256 * (k % 16)))) S1x32x256.size (inb_s4 i h k)).toLoadRect (ha.unread x)
def rdA0 (a : Memref sig .tc sp S2x32x256 .f32) (h : a.IsWhole) (x : Vec F S2x32x256 .f32) : Vec F S1x32x256 .f32 :=
  View.readAt (Elt F) a.view (Rect.unit (s := S2x32x256) ![0, 0, 0] S1x32x256.size inb_S2x32x256_S1x32x256_0_0_0).toLoadRect (h.unread x)
def rdA1 (a : Memref sig .tc sp S2x32x256 .f32) (h : a.IsWhole) (x : Vec F S2x32x256 .f32) : Vec F S1x32x256 .f32 :=
  View.readAt (Elt F) a.view (Rect.unit (s := S2x32x256) ![1, 0, 0] S1x32x256.size inb_S2x32x256_S1x32x256_1_0_0).toLoadRect (h.unread x)

/-- The pieces that rewrite both pairs' rows. -/
def two128 (a b : FVec F S1x32x128 .f32) (base : List (View.Piece (Elt F) S2x32x128 .f32)) : List (View.Piece (Elt F) S2x32x128 .f32) :=
  ⟨Rect.unit (s := S2x32x128) ![1, 0, 0] S1x32x128.size inb_S2x32x128_S1x32x128_1_0_0, b⟩ ::
  ⟨Rect.unit (s := S2x32x128) ![0, 0, 0] S1x32x128.size inb_S2x32x128_S1x32x128_0_0_0, a⟩ :: base
def two256 (a b : FVec F S1x32x256 .f32) (base : List (View.Piece (Elt F) S2x32x256 .f32)) : List (View.Piece (Elt F) S2x32x256 .f32) :=
  ⟨Rect.unit (s := S2x32x256) ![1, 0, 0] S1x32x256.size inb_S2x32x256_S1x32x256_1_0_0, b⟩ ::
  ⟨Rect.unit (s := S2x32x256) ![0, 0, 0] S1x32x256.size inb_S2x32x256_S1x32x256_0_0_0, a⟩ :: base

end Cert.KernelIdeal.Gen

end
-- ==== Proof.KI.Points.lean ====
module

public import proofs.«01_k».proof.Proof.Gen.KernelIdeal
public import Idealize.ShloMosaic.Lib.Pipeline.Kit

@[expose] public section

noncomputable section

namespace Cert.KernelIdeal.Gen

open Idealize.ShloMosaic Idealize.ShloMosaic.TcCoe
open Idealize.SL Idealize.SL.Sem

variable {F : FTy → Type} [FloatOps F] [Named F]
/-! ## custom_call 0 -/

/-! A call with PREFETCHED TABLES: its memrefs and body are stated over the pipeline at ANY admissible contents `a`
    of the tables (a certificate instantiates them at the contents it reads off the launch memory). A window whose
    index map reads no table has the same schedule at every `a`: stated over the grid, the window's direction and
    that map alone (Lib/Pipeline/Kit.lean `Window.fetchOf` / `flushOf`), proved from the map and the fact about the
    axes it reads (`hreadsK_W`) or decided, and restated over the pinned window, which unfolds to them. A window whose
    map reads a table gets none here. -/

/-- Window 0 (operand 1 (%4)) is fetched at the first point only, at any contents of the tables (its index map reads none). -/
theorem fetch0_0 (a : (pcfg0 (F := F)).Adm) : ∀ t : Fin (cfg0 a).N, ((cfg0 a).win 0).fetch t = true ↔ t.val % 64 = 0 :=
  (fun t => Pipeline.Window.fetchOf_const cc0_transform_0 (fun _ _ => rfl) (n := 64) (by decide) t : ∀ t : Fin grid0.N, Pipeline.Window.fetchOf grid0 false cc0_transform_0 t = true ↔ t.val % 64 = 0)
/-- Window 1 (operand 2 (%5)) is fetched at the first point only, at any contents of the tables (its index map reads none). -/
theorem fetch0_1 (a : (pcfg0 (F := F)).Adm) : ∀ t : Fin (cfg0 a).N, ((cfg0 a).win 1).fetch t = true ↔ t.val % 64 = 0 :=
  (fun t => Pipeline.Window.fetchOf_const cc0_transform_1 (fun _ _ => rfl) (n := 64) (by decide) t : ∀ t : Fin grid0.N, Pipeline.Window.fetchOf grid0 false cc0_transform_1 t = true ↔ t.val % 64 = 0)
/-- Window 2 (operand 3 (%6)) is fetched at the first point only, at any contents of the tables (its index map reads none). -/
theorem fetch0_2 (a : (pcfg0 (F := F)).Adm) : ∀ t : Fin (cfg0 a).N, ((cfg0 a).win 2).fetch t = true ↔ t.val % 64 = 0 :=
  (fun t => Pipeline.Window.fetchOf_const cc0_transform_2 (fun _ _ => rfl) (n := 64) (by decide) t : ∀ t : Fin grid0.N, Pipeline.Window.fetchOf grid0 false cc0_transform_2 t = true ↔ t.val % 64 = 0)
-- window 3 is fetched at points [0, 1, 2, 3, 4, 5, 6, 7, 8, 9, 10, 11]…: no closed form stated
-- window 4 is fetched at points [0, 33, 34, 35, 36, 37, 38, 39, 40, 41, 42, 43]…: no closed form stated
-- window 5 is fetched at points [0, 1, 2, 3, 4, 5, 6, 7, 8, 9, 10, 11]…: no closed form stated
-- window 6 is fetched at points [0, 33, 34, 35, 36, 37, 38, 39, 40, 41, 42, 43]…: no closed form stated
/-- Window 7 (operand 8 (%arg7)) is fetched at the first point only, at any contents of the tables (its index map reads none). -/
theorem fetch0_7 (a : (pcfg0 (F := F)).Adm) : ∀ t : Fin (cfg0 a).N, ((cfg0 a).win 7).fetch t = true ↔ t.val % 64 = 0 :=
  (fun t => Pipeline.Window.fetchOf_const cc0_transform_7 (fun _ _ => rfl) (n := 64) (by decide) t : ∀ t : Fin grid0.N, Pipeline.Window.fetchOf grid0 false cc0_transform_7 t = true ↔ t.val % 64 = 0)
/-- Window 8 (operand 9 (%arg8)) is fetched at the first point only, at any contents of the tables (its index map reads none). -/
theorem fetch0_8 (a : (pcfg0 (F := F)).Adm) : ∀ t : Fin (cfg0 a).N, ((cfg0 a).win 8).fetch t = true ↔ t.val % 64 = 0 :=
  (fun t => Pipeline.Window.fetchOf_const cc0_transform_8 (fun _ _ => rfl) (n := 64) (by decide) t : ∀ t : Fin grid0.N, Pipeline.Window.fetchOf grid0 false cc0_transform_8 t = true ↔ t.val % 64 = 0)
/-- Window 9 (operand 10 (%2)) is fetched at the first point only, at any contents of the tables (its index map reads none). -/
theorem fetch0_9 (a : (pcfg0 (F := F)).Adm) : ∀ t : Fin (cfg0 a).N, ((cfg0 a).win 9).fetch t = true ↔ t.val % 64 = 0 :=
  (fun t => Pipeline.Window.fetchOf_const cc0_transform_9 (fun _ _ => rfl) (n := 64) (by decide) t : ∀ t : Fin grid0.N, Pipeline.Window.fetchOf grid0 false cc0_transform_9 t = true ↔ t.val % 64 = 0)
/-- Window 10 (operand 11 (%3)) is fetched at the first point only, at any contents of the tables (its index map reads none). -/
theorem fetch0_10 (a : (pcfg0 (F := F)).Adm) : ∀ t : Fin (cfg0 a).N, ((cfg0 a).win 10).fetch t = true ↔ t.val % 64 = 0 :=
  (fun t => Pipeline.Window.fetchOf_const cc0_transform_10 (fun _ _ => rfl) (n := 64) (by decide) t : ∀ t : Fin grid0.N, Pipeline.Window.fetchOf grid0 false cc0_transform_10 t = true ↔ t.val % 64 = 0)
/-- Window 11 (result 0 (%9)) is written back at the last point only, at any contents of the tables (its index map reads none). -/
theorem flush0_11 (a : (pcfg0 (F := F)).Adm) : ∀ t : Fin (cfg0 a).N, ((cfg0 a).win 11).flush t = true ↔ t.val % 64 = 63 :=
  (fun t => Pipeline.Window.flushOf_const cc0_transform_11 (fun _ _ => rfl) (n := 64) (by decide) rfl t : ∀ t : Fin grid0.N, Pipeline.Window.flushOf grid0 true cc0_transform_11 t = true ↔ t.val % 64 = 63)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)
abbrev st0_6 (a : (pcfg0 (F := F)).Adm) (t : Fin (cfg0 a).N) := ((cfg0 a).win 6).stage ((cfg0 a).slots t 6)
abbrev st0_7 (a : (pcfg0 (F := F)).Adm) (t : Fin (cfg0 a).N) := ((cfg0 a).win 7).stage ((cfg0 a).slots t 7)
abbrev st0_8 (a : (pcfg0 (F := F)).Adm) (t : Fin (cfg0 a).N) := ((cfg0 a).win 8).stage ((cfg0 a).slots t 8)
abbrev st0_9 (a : (pcfg0 (F := F)).Adm) (t : Fin (cfg0 a).N) := ((cfg0 a).win 9).stage ((cfg0 a).slots t 9)
abbrev st0_10 (a : (pcfg0 (F := F)).Adm) (t : Fin (cfg0 a).N) := ((cfg0 a).win 10).stage ((cfg0 a).slots t 10)
abbrev st0_11 (a : (pcfg0 (F := F)).Adm) (t : Fin (cfg0 a).N) := ((cfg0 a).win 11).stage ((cfg0 a).slots t 11)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_cascade_decode (grid0.coords t) (Memref.whole main_arg11) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (spec0_9.stage ((cfg0 a).slots t 9)) (hstage0_9 (((cfg0 a).slots t 9).cast nbuf0_9)) (spec0_10.stage ((cfg0 a).slots t 10)) (hstage0_10 (((cfg0 a).slots t 10).cast nbuf0_10)) (spec0_11.stage ((cfg0 a).slots t 11)) (hstage0_11 (((cfg0 a).slots t 11).cast nbuf0_11)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _)

end Cert.KernelIdeal.Gen

end
-- ==== Proof.KI.Runs.lean ====
module

public import proofs.«01_k».proof.Proof.Gen.KernelIdeal.Launch
public import proofs.«01_k».proof.Proof.Gen.KernelIdeal.Skeleton
public import proofs.«01_k».proof.Proof.KI.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of large extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg10`: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg11`: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S2 .i32 := Memref.whole main_arg11
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of (hO : Ok m) {c : Dev nD} (dat : Dat τ (Elt F) Unit ℕ (UR sig nD τ) ℕ (cfgM m hO) c) (hA : dat.A 6 = V m c (Pipeline.arrRef spec0 6))
    (hafter : ∀ t, dat.after 6 t = iblk m hO c 6 t) (t : Fin (cfgM m hO).N) (d) : dat.before 6 t d = iblk m hO c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of (hO : Ok m) {c : Dev nD} (dat : Dat τ (Elt F) Unit ℕ (UR sig nD τ) ℕ (cfgM m hO) c) (hA : dat.A 7 = V m c (Pipeline.arrRef spec0 7))
    (hafter : ∀ t, dat.after 7 t = iblk m hO c 7 t) (t : Fin (cfgM m hO).N) (d) : dat.before 7 t d = iblk m hO c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of (hO : Ok m) {c : Dev nD} (dat : Dat τ (Elt F) Unit ℕ (UR sig nD τ) ℕ (cfgM m hO) c) (hA : dat.A 8 = V m c (Pipeline.arrRef spec0 8))
    (hafter : ∀ t, dat.after 8 t = iblk m hO c 8 t) (t : Fin (cfgM m hO).N) (d) : dat.before 8 t d = iblk m hO c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_9_of (hO : Ok m) {c : Dev nD} (dat : Dat τ (Elt F) Unit ℕ (UR sig nD τ) ℕ (cfgM m hO) c) (hA : dat.A 9 = V m c (Pipeline.arrRef spec0 9))
    (hafter : ∀ t, dat.after 9 t = iblk m hO c 9 t) (t : Fin (cfgM m hO).N) (d) : dat.before 9 t d = iblk m hO c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_10_of (hO : Ok m) {c : Dev nD} (dat : Dat τ (Elt F) Unit ℕ (UR sig nD τ) ℕ (cfgM m hO) c) (hA : dat.A 10 = V m c (Pipeline.arrRef spec0 10))
    (hafter : ∀ t, dat.after 10 t = iblk m hO c 10 t) (t : Fin (cfgM m hO).N) (d) : dat.before 10 t d = iblk m hO c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_KernelIdeal`, Defs.lean, at any `F`). -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).2 main_arg4 (by decide : main_arg4 ∈ Pipeline.restRefs sig spec0)).trans (V_main_arg4 m c),
      ((h c).2 main_arg5 (by decide : main_arg5 ∈ Pipeline.restRefs sig spec0)).trans (V_main_arg5 m c),
      ((h c).2 main_arg6 (by decide : main_arg6 ∈ Pipeline.restRefs sig spec0)).trans (V_main_arg6 m c),
      ((h c).1 7).trans (((dats 0 c).arrAt_in 7 rfl _).trans ((hA c 7).trans (V_main_arg7 m c))),
      ((h c).1 8).trans (((dats 0 c).arrAt_in 8 rfl _).trans ((hA c 8).trans (V_main_arg8 m c))),
      ((h c).2 main_arg9 (by decide : main_arg9 ∈ Pipeline.restRefs sig spec0)).trans (V_main_arg9 m c),
      ((h c).2 main_arg10 (by decide : main_arg10 ∈ Pipeline.restRefs sig spec0)).trans (V_main_arg10 m c),
      ((h c).2 main_arg11 (by decide : main_arg11 ∈ Pipeline.restRefs sig spec0)).trans (V_main_arg11 m c)⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin grid0.N, cond0_0 (grid0.coords t) ↔ t.val % 64 = 0 :=
  (fun t => by
    have ht : t.val < 64 := Nat.lt_of_lt_of_eq t.isLt N_0
    have e0 : (grid0.coords t 0).val = t.val / 1 % 64 := Pipeline.Grid.coords_val t 0 (by decide) rfl
    simp only [cond0_0, e0]
    word_cmp
   : ∀ t : Fin grid0.N, cond0_0 (grid0.coords t) ↔ t.val % 64 = 0)

/-- The condition of the body's `scf.if` 1 (`k0_h2`), from the grid coordinates (the skeleton's scalar
    chain substituted). -/
abbrev cond0_1 (i : grid0.Coords) : Prop := k0_cond2 i = 1#1
/-- It holds at the points before point 32 — decided over the grid. -/
theorem hcond0_1 : ∀ t : Fin grid0.N, cond0_1 (grid0.coords t) ↔ t.val < 32 :=
  (by decide +kernel : ∀ t : Fin grid0.N, cond0_1 (grid0.coords t) ↔ t.val < 32)

/-- The condition of the body's `scf.if` 2 (`k0_h3`), from the grid coordinates (the skeleton's scalar
    chain substituted). -/
abbrev cond0_2 (i : grid0.Coords) : Prop := (Scalar.cmpi .ne (Scalar.extui (Scalar.cmpi .eq (BitVec.ofNat 32 (i 0).val) 32#32)) 0#32) = 1#1
/-- It holds at point 32 only — by arithmetic of the point. -/
theorem hcond0_2 : ∀ t : Fin grid0.N, cond0_2 (grid0.coords t) ↔ t.val % 64 = 32 :=
  (fun t => by
    have ht : t.val < 64 := Nat.lt_of_lt_of_eq t.isLt N_0
    have e0 : (grid0.coords t 0).val = t.val / 1 % 64 := Pipeline.Grid.coords_val t 0 (by decide) rfl
    simp only [cond0_2, e0]
    word_cmp
   : ∀ t : Fin grid0.N, cond0_2 (grid0.coords t) ↔ t.val % 64 = 32)

/-- The condition of the body's `scf.if` 3 (`k0_h4`), from the grid coordinates (the skeleton's scalar
    chain substituted). -/
abbrev cond0_3 (i : grid0.Coords) : Prop := k0_cond4 i = 1#1
/-- It holds at the points from point 32 on — decided over the grid. -/
theorem hcond0_3 : ∀ t : Fin grid0.N, cond0_3 (grid0.coords t) ↔ 32 ≤ t.val :=
  (by decide +kernel : ∀ t : Fin grid0.N, cond0_3 (grid0.coords t) ↔ 32 ≤ t.val)

/-- The condition of the body's `scf.if` 4 (`k0_h5`), from the grid coordinates (the skeleton's scalar
    chain substituted). -/
abbrev cond0_4 (i : grid0.Coords) : Prop := k0_cond5 i = 1#1
/-- It holds at the last point only — by arithmetic of the point. -/
theorem hcond0_4 : ∀ t : Fin grid0.N, cond0_4 (grid0.coords t) ↔ t.val % 64 = 63 :=
  (fun t => by
    have ht : t.val < 64 := Nat.lt_of_lt_of_eq t.isLt N_0
    have e0 : (grid0.coords t 0).val = t.val / 1 % 64 := Pipeline.Grid.coords_val t 0 (by decide) rfl
    simp only [cond0_4, k0_cond5, e0]
    word_cmp
   : ∀ t : Fin grid0.N, cond0_4 (grid0.coords t) ↔ t.val % 64 = 63)

/-! ## Where the windows are idle (the printed configuration's table `Cfg.idle`) -/

/-- Window 0 is never idle (an input). -/
theorem liveAt0_0 (hO : Ok m) : ∀ t : Fin (cfgM m hO).N, (cfgM m hO).idle 0 (grid0.coords t) = false :=
  (fun _ => rfl : ∀ t : Fin grid0.N, idle0 0 (grid0.coords t) = false)
/-- Window 1 is never idle (an input). -/
theorem liveAt0_1 (hO : Ok m) : ∀ t : Fin (cfgM m hO).N, (cfgM m hO).idle 1 (grid0.coords t) = false :=
  (fun _ => rfl : ∀ t : Fin grid0.N, idle0 1 (grid0.coords t) = false)
/-- Window 2 is never idle (an input). -/
theorem liveAt0_2 (hO : Ok m) : ∀ t : Fin (cfgM m hO).N, (cfgM m hO).idle 2 (grid0.coords t) = false :=
  (fun _ => rfl : ∀ t : Fin grid0.N, idle0 2 (grid0.coords t) = false)
/-- Window 3 is never idle (an input). -/
theorem liveAt0_3 (hO : Ok m) : ∀ t : Fin (cfgM m hO).N, (cfgM m hO).idle 3 (grid0.coords t) = false :=
  (fun _ => rfl : ∀ t : Fin grid0.N, idle0 3 (grid0.coords t) = false)
/-- Window 4 is never idle (an input). -/
theorem liveAt0_4 (hO : Ok m) : ∀ t : Fin (cfgM m hO).N, (cfgM m hO).idle 4 (grid0.coords t) = false :=
  (fun _ => rfl : ∀ t : Fin grid0.N, idle0 4 (grid0.coords t) = false)
/-- Window 5 is never idle (an input). -/
theorem liveAt0_5 (hO : Ok m) : ∀ t : Fin (cfgM m hO).N, (cfgM m hO).idle 5 (grid0.coords t) = false :=
  (fun _ => rfl : ∀ t : Fin grid0.N, idle0 5 (grid0.coords t) = false)
/-- Window 6 is never idle (an input). -/
theorem liveAt0_6 (hO : Ok m) : ∀ t : Fin (cfgM m hO).N, (cfgM m hO).idle 6 (grid0.coords t) = false :=
  (fun _ => rfl : ∀ t : Fin grid0.N, idle0 6 (grid0.coords t) = false)
/-- Window 7 is never idle (an input). -/
theorem liveAt0_7 (hO : Ok m) : ∀ t : Fin (cfgM m hO).N, (cfgM m hO).idle 7 (grid0.coords t) = false :=
  (fun _ => rfl : ∀ t : Fin grid0.N, idle0 7 (grid0.coords t) = false)
/-- Window 8 is never idle (an input). -/
theorem liveAt0_8 (hO : Ok m) : ∀ t : Fin (cfgM m hO).N, (cfgM m hO).idle 8 (grid0.coords t) = false :=
  (fun _ => rfl : ∀ t : Fin grid0.N, idle0 8 (grid0.coords t) = false)
/-- Window 9 is never idle (an input). -/
theorem liveAt0_9 (hO : Ok m) : ∀ t : Fin (cfgM m hO).N, (cfgM m hO).idle 9 (grid0.coords t) = false :=
  (fun _ => rfl : ∀ t : Fin grid0.N, idle0 9 (grid0.coords t) = false)
/-- Window 10 is never idle (an input). -/
theorem liveAt0_10 (hO : Ok m) : ∀ t : Fin (cfgM m hO).N, (cfgM m hO).idle 10 (grid0.coords t) = false :=
  (fun _ => rfl : ∀ t : Fin grid0.N, idle0 10 (grid0.coords t) = false)
/-- At the points of case A the printed configuration (`Cfg.idle`) calls output 11 idle: the case stores nothing into it. -/
theorem idleAt0_11_A (hO : Ok m) : ∀ t : Fin (cfgM m hO).N, cond0_0 (grid0.coords t) → cond0_1 (grid0.coords t) → ¬cond0_2 (grid0.coords t) → ¬cond0_3 (grid0.coords t) → ¬cond0_4 (grid0.coords t) → (cfgM m hO).idle 11 (grid0.coords t) = true :=
  (by decide +kernel : ∀ t : Fin grid0.N, cond0_0 (grid0.coords t) → cond0_1 (grid0.coords t) → ¬cond0_2 (grid0.coords t) → ¬cond0_3 (grid0.coords t) → ¬cond0_4 (grid0.coords t) → idle0 11 (grid0.coords t) = true)
/-- At the points of case A the pipeline does not write output 11's block back. -/
theorem noFlush0_11_A (hO : Ok m) : ∀ t : Fin (cfgM m hO).N, cond0_0 (grid0.coords t) → cond0_1 (grid0.coords t) → ¬cond0_2 (grid0.coords t) → ¬cond0_3 (grid0.coords t) → ¬cond0_4 (grid0.coords t) → ((cfgM m hO).win 11).flush t = false :=
  (by decide +kernel : ∀ t : Fin grid0.N, cond0_0 (grid0.coords t) → cond0_1 (grid0.coords t) → ¬cond0_2 (grid0.coords t) → ¬cond0_3 (grid0.coords t) → ¬cond0_4 (grid0.coords t) → Pipeline.Window.flushOf grid0 true cc0_transform_11 t = false)
/-- At the points of case B the printed configuration (`Cfg.idle`) calls output 11 idle: the case stores nothing into it. -/
theorem idleAt0_11_B (hO : Ok m) : ∀ t : Fin (cfgM m hO).N, ¬cond0_0 (grid0.coords t) → cond0_1 (grid0.coords t) → ¬cond0_2 (grid0.coords t) → ¬cond0_3 (grid0.coords t) → ¬cond0_4 (grid0.coords t) → (cfgM m hO).idle 11 (grid0.coords t) = true :=
  (by decide +kernel : ∀ t : Fin grid0.N, ¬cond0_0 (grid0.coords t) → cond0_1 (grid0.coords t) → ¬cond0_2 (grid0.coords t) → ¬cond0_3 (grid0.coords t) → ¬cond0_4 (grid0.coords t) → idle0 11 (grid0.coords t) = true)
/-- At the points of case B the pipeline does not write output 11's block back. -/
theorem noFlush0_11_B (hO : Ok m) : ∀ t : Fin (cfgM m hO).N, ¬cond0_0 (grid0.coords t) → cond0_1 (grid0.coords t) → ¬cond0_2 (grid0.coords t) → ¬cond0_3 (grid0.coords t) → ¬cond0_4 (grid0.coords t) → ((cfgM m hO).win 11).flush t = false :=
  (by decide +kernel : ∀ t : Fin grid0.N, ¬cond0_0 (grid0.coords t) → cond0_1 (grid0.coords t) → ¬cond0_2 (grid0.coords t) → ¬cond0_3 (grid0.coords t) → ¬cond0_4 (grid0.coords t) → Pipeline.Window.flushOf grid0 true cc0_transform_11 t = false)
/-- At the points of case C the printed configuration (`Cfg.idle`) calls output 11 idle: the case stores nothing into it. -/
theorem idleAt0_11_C (hO : Ok m) : ∀ t : Fin (cfgM m hO).N, ¬cond0_0 (grid0.coords t) → ¬cond0_1 (grid0.coords t) → cond0_2 (grid0.coords t) → cond0_3 (grid0.coords t) → ¬cond0_4 (grid0.coords t) → (cfgM m hO).idle 11 (grid0.coords t) = true :=
  (by decide +kernel : ∀ t : Fin grid0.N, ¬cond0_0 (grid0.coords t) → ¬cond0_1 (grid0.coords t) → cond0_2 (grid0.coords t) → cond0_3 (grid0.coords t) → ¬cond0_4 (grid0.coords t) → idle0 11 (grid0.coords t) = true)
/-- At the points of case C the pipeline does not write output 11's block back. -/
theorem noFlush0_11_C (hO : Ok m) : ∀ t : Fin (cfgM m hO).N, ¬cond0_0 (grid0.coords t) → ¬cond0_1 (grid0.coords t) → cond0_2 (grid0.coords t) → cond0_3 (grid0.coords t) → ¬cond0_4 (grid0.coords t) → ((cfgM m hO).win 11).flush t = false :=
  (by decide +kernel : ∀ t : Fin grid0.N, ¬cond0_0 (grid0.coords t) → ¬cond0_1 (grid0.coords t) → cond0_2 (grid0.coords t) → cond0_3 (grid0.coords t) → ¬cond0_4 (grid0.coords t) → Pipeline.Window.flushOf grid0 true cc0_transform_11 t = false)
/-- At the points of case D the printed configuration (`Cfg.idle`) calls output 11 idle: the case stores nothing into it. -/
theorem idleAt0_11_D (hO : Ok m) : ∀ t : Fin (cfgM m hO).N, ¬cond0_0 (grid0.coords t) → ¬cond0_1 (grid0.coords t) → ¬cond0_2 (grid0.coords t) → cond0_3 (grid0.coords t) → ¬cond0_4 (grid0.coords t) → (cfgM m hO).idle 11 (grid0.coords t) = true :=
  (by decide +kernel : ∀ t : Fin grid0.N, ¬cond0_0 (grid0.coords t) → ¬cond0_1 (grid0.coords t) → ¬cond0_2 (grid0.coords t) → cond0_3 (grid0.coords t) → ¬cond0_4 (grid0.coords t) → idle0 11 (grid0.coords t) = true)
/-- At the points of case D the pipeline does not write output 11's block back. -/
theorem noFlush0_11_D (hO : Ok m) : ∀ t : Fin (cfgM m hO).N, ¬cond0_0 (grid0.coords t) → ¬cond0_1 (grid0.coords t) → ¬cond0_2 (grid0.coords t) → cond0_3 (grid0.coords t) → ¬cond0_4 (grid0.coords t) → ((cfgM m hO).win 11).flush t = false :=
  (by decide +kernel : ∀ t : Fin grid0.N, ¬cond0_0 (grid0.coords t) → ¬cond0_1 (grid0.coords t) → ¬cond0_2 (grid0.coords t) → cond0_3 (grid0.coords t) → ¬cond0_4 (grid0.coords t) → Pipeline.Window.flushOf grid0 true cc0_transform_11 t = false)
/-- At the points of case E the printed configuration (`Cfg.idle`) calls output 11 live: the case stores into it. -/
theorem liveAt0_11_E (hO : Ok m) : ∀ t : Fin (cfgM m hO).N, ¬cond0_0 (grid0.coords t) → ¬cond0_1 (grid0.coords t) → ¬cond0_2 (grid0.coords t) → cond0_3 (grid0.coords t) → cond0_4 (grid0.coords t) → (cfgM m hO).idle 11 (grid0.coords t) = false :=
  (by decide +kernel : ∀ t : Fin grid0.N, ¬cond0_0 (grid0.coords t) → ¬cond0_1 (grid0.coords t) → ¬cond0_2 (grid0.coords t) → cond0_3 (grid0.coords t) → cond0_4 (grid0.coords t) → idle0 11 (grid0.coords t) = false)

/-! ## The kernel body on any staging memrefs: a subtype the run finds -/

/-- One staging buffer of output window 11, through which its contents are stated (`View.read_writes_of_cover`: the
    choice does not matter). -/
abbrev VO0_11 : View sig .tc .vmem S2x32x128 .bf16 := (Memref.whole cc0_stg11_0 : Memref sig .tc .vmem S2x32x128 .bf16).view
/-- Each window's current staging memref at point `t`, spelled as the pipeline passes it (`bodyAt0`), and its wholeness. -/
abbrev ms0_0 (hO : Ok m) (t : Fin (cfgM m hO).N) : Memref sig .tc .vmem S2x32x128 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S2x4x128 .bf16 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S2x4x128 .bf16 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S16384x128 .fp8e4m3 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S16384x128 .fp8e4m3 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S4x4096 .f32 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S4x4096 .f32 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S2x1024x4x128 .fp8e4m3 := spec0_7.stage ((cfgM m hO).slots t 7)
abbrev hs0_7 (hO : Ok m) (t : Fin (cfgM m hO).N) : (ms0_7 m hO t).IsWhole := hstage0_7 (((cfgM m hO).slots t 7).cast nbuf0_7)
abbrev ms0_8 (hO : Ok m) (t : Fin (cfgM m hO).N) : Memref sig .tc .vmem S2x1024x4x128 .fp8e4m3 := spec0_8.stage ((cfgM m hO).slots t 8)
abbrev hs0_8 (hO : Ok m) (t : Fin (cfgM m hO).N) : (ms0_8 m hO t).IsWhole := hstage0_8 (((cfgM m hO).slots t 8).cast nbuf0_8)
abbrev ms0_9 (hO : Ok m) (t : Fin (cfgM m hO).N) : Memref sig .tc .vmem S2x4x1024 .f32 := spec0_9.stage ((cfgM m hO).slots t 9)
abbrev hs0_9 (hO : Ok m) (t : Fin (cfgM m hO).N) : (ms0_9 m hO t).IsWhole := hstage0_9 (((cfgM m hO).slots t 9).cast nbuf0_9)
abbrev ms0_10 (hO : Ok m) (t : Fin (cfgM m hO).N) : Memref sig .tc .vmem S2x4x1024 .f32 := spec0_10.stage ((cfgM m hO).slots t 10)
abbrev hs0_10 (hO : Ok m) (t : Fin (cfgM m hO).N) : (ms0_10 m hO t).IsWhole := hstage0_10 (((cfgM m hO).slots t 10).cast nbuf0_10)
abbrev ms0_11 (hO : Ok m) (t : Fin (cfgM m hO).N) : Memref sig .tc .vmem S2x32x128 .bf16 := spec0_11.stage ((cfgM m hO).slots t 11)
abbrev hs0_11 (hO : Ok m) (t : Fin (cfgM m hO).N) : (ms0_11 m hO t).IsWhole := hstage0_11 (((cfgM m hO).slots t 11).cast nbuf0_11)
/-- The scratch operands: whole scoped buffers of the kernel's own, passed beside the windows. -/
abbrev scM0_0 : Memref sig .tc .vmem S2x32x256 .bf16 := Memref.whole cc0_scratch0
abbrev scM0_1 : Memref sig .tc .vmem S2x32x133120 .f32 := Memref.whole cc0_scratch1
abbrev scM0_2 : Memref sig .tc .vmem S2x32x128 .f32 := Memref.whole cc0_scratch2
abbrev scM0_3 : Memref sig .tc .vmem S2x32x128 .f32 := Memref.whole cc0_scratch3
abbrev scM0_4 : Memref sig .tc .vmem S2x32x256 .f32 := Memref.whole cc0_scratch4
/-- The scratch `arg14` the kernel carries between points, as a view: what it holds is stated through it. -/
abbrev VS0_0 : View sig .tc .vmem S2x32x256 .bf16 := scM0_0.view
/-- The scratch `arg15` the kernel carries between points, as a view: what it holds is stated through it. -/
abbrev VS0_1 : View sig .tc .vmem S2x32x133120 .f32 := scM0_1.view
/-- The scratch `arg16` the kernel carries between points, as a view: what it holds is stated through it. -/
abbrev VS0_2 : View sig .tc .vmem S2x32x128 .f32 := scM0_2.view
/-- The scratch `arg17` the kernel carries between points, as a view: what it holds is stated through it. -/
abbrev VS0_3 : View sig .tc .vmem S2x32x128 .f32 := scM0_3.view
/-- The scratch `arg18` the kernel carries between points, as a view: what it holds is stated through it. -/
abbrev VS0_4 : View sig .tc .vmem S2x32x256 .f32 := scM0_4.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

end Cert.KernelIdeal.Gen

end
-- ==== Proof.KI.Model2.lean ====
/- The kernel's steps at its first point and at the first point of the weighted sums: the queries laid out in pairs, the tails'
   scores behind their mask, the new token, and the tails' values. -/
module

public import proofs.«01_k».proof.Proof.KI.Model
public import proofs.«01_k».proof.Proof.KI.Runs

@[expose] public section

noncomputable section

namespace Cert.KernelIdeal.Gen

open Idealize.ShloMosaic Idealize.ShloMosaic.TcCoe

variable {F : FTy → Type} [FloatOps F] [Named F] {sp : Space}

/-- The two pairs' rows of an array, as rectangles. -/
abbrev R0q : Rect S2x32x256 := Rect.unit (s := S2x32x256) ![0, 0, 0] S1x32x256.size inb_S2x32x256_S1x32x256_0_0_0
abbrev R1q : Rect S2x32x256 := Rect.unit (s := S2x32x256) ![1, 0, 0] S1x32x256.size inb_S2x32x256_S1x32x256_1_0_0
abbrev R0l : Rect S2x32x128 := Rect.unit (s := S2x32x128) ![0, 0, 0] S1x32x128.size inb_S2x32x128_S1x32x128_0_0_0
abbrev R1l : Rect S2x32x128 := Rect.unit (s := S2x32x128) ![1, 0, 0] S1x32x128.size inb_S2x32x128_S1x32x128_1_0_0

/-! ### The queries -/

theorem inb_x0 (b g : ℕ) : ∀ a, (![b % 2, 8 * (g % 4), 0] : Fin 3 → ℕ) a + S1x8x128.size a ≤ S2x32x128.size a := by
  have : b % 2 < 2 := Nat.mod_lt _ (by decide)
  have : g % 4 < 4 := Nat.mod_lt _ (by decide)
  intro a; fin_cases a
  · show b % 2 + 1 ≤ 2; omega
  · show 8 * (g % 4) + 8 ≤ 32; omega
  · show 0 + 128 ≤ 128; omega
/-- The eight queries of a group, for one batch. -/
def rdX (a : Memref sig .tc sp S2x32x128 .bf16) (h : a.IsWhole) (x : Vec F S2x32x128 .bf16) (b g : ℕ) : Vec F S1x8x128 .bf16 :=
  View.readAt (Elt F) a.view (Rect.unit (s := S2x32x128) ![b % 2, 8 * (g % 4), 0] S1x8x128.size (inb_x0 b g)).toLoadRect (h.unread x)
/-- The queries of a pair, from the four groups of eight rows. -/
def qrows (v : ℕ → ℕ → Vec F S1x8x128 .bf16) (p : ℕ) : FVec F S1x32x256 .bf16 :=
  k0_pay11 (v 0 (2 * p)) (v 1 (2 * p)) (v 0 (2 * p + 1)) (v 1 (2 * p + 1))

/-- The pieces that write both pairs' queries. -/
def two256q (a b : FVec F S1x32x256 .bf16) : List (View.Piece (Elt F) S2x32x256 .bf16) := [⟨R1q, b⟩, ⟨R0q, a⟩]

/-! ### The tails' scores -/

theorem inb_t (k : ℕ) : ∀ a, (![1024 * (k % 8), 0] : Fin 2 → ℕ) a + S1024x128.size a ≤ S8192x128.size a := by
  have : k % 8 < 8 := Nat.mod_lt _ (by decide)
  intro a; fin_cases a
  · show 1024 * (k % 8) + 1024 ≤ 8192; omega
  · show 0 + 128 ≤ 128; omega
theorem inb_ts (k : ℕ) : ∀ a, (![k % 8 / 4, 0, 256 * (k % 8 % 4)] : Fin 3 → ℕ) a + S1x4x256.size a ≤ S2x4x1024.size a := by
  have : k % 8 < 8 := Nat.mod_lt _ (by decide)
  intro a; fin_cases a
  · show k % 8 / 4 + 1 ≤ 2; omega
  · show 0 + 4 ≤ 4; omega
  · show 256 * (k % 8 % 4) + 256 ≤ 1024; omega
theorem inb_st (p k : ℕ) : ∀ a, (![p % 2, 0, 131072 + 256 * (k % 8)] : Fin 3 → ℕ) a + S1x32x256.size a ≤ S2x32x133120.size a := by
  have : k % 8 < 8 := Nat.mod_lt _ (by decide)
  have : p % 2 < 2 := Nat.mod_lt _ (by decide)
  intro a; fin_cases a
  · show p % 2 + 1 ≤ 2; omega
  · show 0 + 32 ≤ 32; omega
  · show 131072 + 256 * (k % 8) + 256 ≤ 133120; omega
/-- Tile `k` of the tails' keys: four tiles for each batch. -/
def tailK (a : Memref sig .tc sp S2x1024x4x128 .fp8e4m3) (h : a.IsWhole) (x : Vec F S2x1024x4x128 .fp8e4m3) (k : ℕ) : Vec F S1024x128 .fp8e4m3 :=
  View.readAt (Elt F) (a.reshape S8192x128 reshapes_S2x1024x4x128_S8192x128.1 reshapes_S2x1024x4x128_S8192x128.2 h.contiguous).view
    (Rect.unit (s := S8192x128) ![1024 * (k % 8), 0] S1024x128.size (inb_t k)).toLoadRect (h.unread x)
/-- Tile `k` of the tails' key scales. -/
def tailS (a : Memref sig .tc sp S2x4x1024 .f32) (h : a.IsWhole) (x : Vec F S2x4x1024 .f32) (k : ℕ) : Vec F S1x4x256 .f32 :=
  View.readAt (Elt F) a.view (Rect.unit (s := S2x4x1024) ![k % 8 / 4, 0, 256 * (k % 8 % 4)] S1x4x256.size (inb_ts k)).toLoadRect (h.unread x)

theorem inb_len (b : ℕ) : ∀ a, (![b % 2] : Fin 1 → ℕ) a + S1.size a ≤ S2.size a := by
  have : b % 2 < 2 := Nat.mod_lt _ (by decide)
  intro a; fin_cases a
  show b % 2 + 1 ≤ 2; omega
/-- The length of a batch's tail. -/
def rdLen {c : Dev nD} (xt0 : TbBuf0 (F := F) c tbM0_0) (b : ℕ) : BitVec 32 :=
  View.readAt (Elt F) tbM0_0.view (Rect.unit (s := S2) ![b % 2] S1.size (inb_len b)).toLoadRect xt0 (Shape.Idx.first (s := S1) (by decide))

/-- Which batch each of a pair's rows belongs to. -/
def rowB : IVec S32x256 32 := k0_pay20 (iota .tc S32x256 32 [0] iota_S32x256_d0_w32) 8#32 k0_pay18 k0_pay19 1#1
/-- Where a tile of a tail counts: on the rows of its batch, up to the tail's length. -/
def tmask (b off len : BitVec 32) : IVec S32x256 1 :=
  andi (cmpi .eq rowB (broadcast S32x256 b)) (cmpi .slt (addi (iota .tc S32x256 32 [1] iota_S32x256_d1_w32) (broadcast S32x256 off)) (broadcast S32x256 len))

/-- A tail's tile of scores, for each pair, behind the mask. -/
def tsc0 (mk : IVec S32x256 1) (kv : Vec F S1024x128 .fp8e4m3) (ks : Vec F S1x4x256 .f32) (q : Vec F S1x32x256 .bf16) : FVec F S32x256 .f32 :=
  k0_pay28 mk (k0_pay23 kv) (k0_pay24 kv) ks q
def tsc1 (mk : IVec S32x256 1) (kv : Vec F S1024x128 .fp8e4m3) (ks : Vec F S1x4x256 .f32) (q : Vec F S1x32x256 .bf16) : FVec F S32x256 .f32 :=
  k0_pay33 mk (k0_pay27 ks) (k0_pay31 (k0_pay25 kv) (k0_pay26 kv) q) (k0_pay32 ks)

/-- What the first `n` tiles of the tails store of their scores, the last first. -/
def tPieces (s0 s1 : ℕ → FVec F S32x256 .f32) : ℕ → List (View.Piece (Elt F) S2x32x133120 .f32)
  | 0 => []
  | n + 1 => ⟨Rect.unit (s := S2x32x133120) ![1 % 2, 0, 131072 + 256 * (n % 8)] S1x32x256.size (inb_st 1 n), up256 (s1 n)⟩ ::
      ⟨Rect.unit (s := S2x32x133120) ![0 % 2, 0, 131072 + 256 * (n % 8)] S1x32x256.size (inb_st 0 n), up256 (s0 n)⟩ :: tPieces s0 s1 n

/-- Rewriting both pairs' rows, each from what it held. -/
def step128 (v : View sig .tc sp S2x32x128 .f32) (f g : Vec F S1x32x128 .f32 → FVec F S1x32x128 .f32) (L : List (View.Piece (Elt F) S2x32x128 .f32)) :
    List (View.Piece (Elt F) S2x32x128 .f32) :=
  ⟨R1l, g (v.readCov (⟨R0l, f (v.readCov L R0l.toLoadRect)⟩ :: L) R1l.toLoadRect)⟩ :: ⟨R0l, f (v.readCov L R0l.toLoadRect)⟩ :: L
def step256 (v : View sig .tc sp S2x32x256 .f32) (f g : Vec F S1x32x256 .f32 → FVec F S1x32x256 .f32) (L : List (View.Piece (Elt F) S2x32x256 .f32)) :
    List (View.Piece (Elt F) S2x32x256 .f32) :=
  ⟨R1q, g (v.readCov (⟨R0q, f (v.readCov L R0q.toLoadRect)⟩ :: L) R1q.toLoadRect)⟩ :: ⟨R0q, f (v.readCov L R0q.toLoadRect)⟩ :: L
/-- The running maxima after the first `n` tiles of the tails. -/
def mPieces (v : View sig .tc sp S2x32x128 .f32) (s0 s1 : ℕ → FVec F S32x256 .f32) (base : List (View.Piece (Elt F) S2x32x128 .f32)) :
    ℕ → List (View.Piece (Elt F) S2x32x128 .f32)
  | 0 => base
  | n + 1 => step128 v (fun d => up128 (mstep (dn128 d) (s0 n))) (fun d => up128 (mstep (dn128 d) (s1 n))) (mPieces v s0 s1 base n)

/-- The arrays of a whole scratch, filled. -/
abbrev fill128 (z : FVec F S2x32x128 .f32) : List (View.Piece (Elt F) S2x32x128 .f32) :=
  [⟨Rect.unit (s := S2x32x128) ![0, 0, 0] S2x32x128.size inb_S2x32x128_S2x32x128_0_0_0, z⟩]
abbrev fill256 (z : FVec F S2x32x256 .f32) : List (View.Piece (Elt F) S2x32x256 .f32) :=
  [⟨Rect.unit (s := S2x32x256) ![0, 0, 0] S2x32x256.size inb_S2x32x256_S2x32x256_0_0_0, z⟩]

/-! ### The new token -/

theorem inb_n (b g : ℕ) : ∀ a, (![b % 2, g % 4, 0] : Fin 3 → ℕ) a + S1x1x128.size a ≤ S2x4x128.size a := by
  have : b % 2 < 2 := Nat.mod_lt _ (by decide)
  have : g % 4 < 4 := Nat.mod_lt _ (by decide)
  intro a; fin_cases a
  · show b % 2 + 1 ≤ 2; omega
  · show g % 4 + 1 ≤ 4; omega
  · show 0 + 128 ≤ 128; omega
/-- The new token's key or value for one batch and group. -/
def rdN (a : Memref sig .tc sp S2x4x128 .bf16) (h : a.IsWhole) (x : Vec F S2x4x128 .bf16) (b g : ℕ) : Vec F S1x1x128 .bf16 :=
  View.readAt (Elt F) a.view (Rect.unit (s := S2x4x128) ![b % 2, g % 4, 0] S1x1x128.size (inb_n b g)).toLoadRect (h.unread x)
/-- The new token's score, the maximum with it, and its weight, for the rows of pair `p`. -/
def snew (v : ℕ → ℕ → Vec F S1x1x128 .bf16) (p : ℕ) (q : Vec F S1x32x256 .bf16) : FVec F S32x1 .f32 :=
  k0_pay291 (k0_pay283 (v 0 (2 * p))) (k0_pay283 (v 1 (2 * p))) (k0_pay283 (v 0 (2 * p + 1))) (k0_pay283 (v 1 (2 * p + 1))) q
def mnew (v : ℕ → ℕ → Vec F S1x1x128 .bf16) (p : ℕ) (q : Vec F S1x32x256 .bf16) (m : Vec F S1x32x128 .f32) : FVec F S1x32x128 .f32 :=
  k0_pay293 (k0_pay283 (v 0 (2 * p))) (k0_pay283 (v 1 (2 * p))) (k0_pay283 (v 0 (2 * p + 1))) (k0_pay283 (v 1 (2 * p + 1))) q m
def dnew (v : ℕ → ℕ → Vec F S1x1x128 .bf16) (p : ℕ) (q : Vec F S1x32x256 .bf16) (m : Vec F S1x32x128 .f32) : FVec F S1x32x128 .f32 :=
  k0_pay295 (k0_pay283 (v 0 (2 * p))) (k0_pay283 (v 1 (2 * p))) (k0_pay283 (v 0 (2 * p + 1))) (k0_pay283 (v 1 (2 * p + 1))) q m
def anew (v w : ℕ → ℕ → Vec F S1x1x128 .bf16) (p : ℕ) (q : Vec F S1x32x256 .bf16) (m : Vec F S1x32x128 .f32) : FVec F S1x32x256 .f32 :=
  k0_pay297 (k0_pay290 (k0_pay283 (w 0 (2 * p))) (k0_pay283 (w 1 (2 * p))) (k0_pay283 (w 0 (2 * p + 1))) (w 1 (2 * p + 1)))
    (k0_pay296 (k0_pay283 (v 0 (2 * p))) (k0_pay283 (v 1 (2 * p))) (k0_pay283 (v 0 (2 * p + 1))) (k0_pay283 (v 1 (2 * p + 1))) q m)

/-! ### The tails' values -/

theorem inb_tv (b : ℕ) : ∀ a, (![4096 * (b % 2), 0] : Fin 2 → ℕ) a + S4096x128.size a ≤ S8192x128.size a := by
  have : b % 2 < 2 := Nat.mod_lt _ (by decide)
  intro a; fin_cases a
  · show 4096 * (b % 2) + 4096 ≤ 8192; omega
  · show 0 + 128 ≤ 128; omega
theorem inb_tvk (j : ℕ) : ∀ a, (![1024 * (j % 4), 0] : Fin 2 → ℕ) a + S1024x128.size a ≤ S4096x128.size a := by
  have : j % 4 < 4 := Nat.mod_lt _ (by decide)
  intro a; fin_cases a
  · show 1024 * (j % 4) + 1024 ≤ 4096; omega
  · show 0 + 128 ≤ 128; omega
theorem inb_tvs (b : ℕ) : ∀ a, (![b % 2, 0, 0] : Fin 3 → ℕ) a + S1x4x1024.size a ≤ S2x4x1024.size a := by
  have : b % 2 < 2 := Nat.mod_lt _ (by decide)
  intro a; fin_cases a
  · show b % 2 + 1 ≤ 2; omega
  · show 0 + 4 ≤ 4; omega
  · show 0 + 1024 ≤ 1024; omega
theorem inb_tvsk (j : ℕ) : ∀ a, (![0, 256 * (j % 4)] : Fin 2 → ℕ) a + S4x256.size a ≤ S4x1024.size a := by
  have : j % 4 < 4 := Nat.mod_lt _ (by decide)
  intro a; fin_cases a
  · show 0 + 4 ≤ 4; omega
  · show 256 * (j % 4) + 256 ≤ 1024; omega
/-- Tile `j` of a batch's tail of values, and its scales. -/
def tailV (a : Memref sig .tc sp S2x1024x4x128 .fp8e4m3) (h : a.IsWhole) (x : Vec F S2x1024x4x128 .fp8e4m3) (b j : ℕ) : Vec F S1024x128 .fp8e4m3 :=
  View.readAt (Elt F) ((a.reshape S8192x128 reshapes_S2x1024x4x128_S8192x128.1 reshapes_S2x1024x4x128_S8192x128.2 h.contiguous).slice
      (Rect.unit (s := S8192x128) ![4096 * (b % 2), 0] S4096x128.size (inb_tv b)) (fun _ => rfl)).view
    (Rect.unit (s := S4096x128) ![1024 * (j % 4), 0] S1024x128.size (inb_tvk j)).toLoadRect (h.unread x)
def tailVS (a : Memref sig .tc sp S2x4x1024 .f32) (h : a.IsWhole) (x : Vec F S2x4x1024 .f32) (b j : ℕ) : Vec F S4x256 .f32 :=
  View.readAt (Elt F) ((a.slice (Rect.unit (s := S2x4x1024) ![b % 2, 0, 0] S1x4x1024.size (inb_tvs b)) (fun _ => rfl)).squeeze S4x1024 squeezes_S1x4x1024_S4x1024).view
    (Rect.unit (s := S4x1024) ![0, 256 * (j % 4)] S4x256.size (inb_tvsk j)).toLoadRect (h.unread x)
/-- A tile of the tails' values, the two heads of a pair side by side. -/
def tvp0 (v : Vec F S1024x128 .fp8e4m3) : FVec F S256x256 .fp8e4m3 := k0_pay313 v
def tvp1 (v : Vec F S1024x128 .fp8e4m3) : FVec F S256x256 .fp8e4m3 := k0_pay314 v
/-- A tile of the tails' scores of a pair, read back. -/
def rdT (a : Memref sig .tc sp S2x32x133120 .f32) (h : a.IsWhole) (x : Vec F S2x32x133120 .f32) (p k : ℕ) : Vec F S1x32x256 .f32 :=
  View.readAt (Elt F) a.view (Rect.unit (s := S2x32x133120) ![p % 2, 0, 131072 + 256 * (k % 8)] S1x32x256.size (inb_st p k)).toLoadRect (h.unread x)
/-- The weighted sum after one batch's tail. -/
def accT (a : Vec F S1x32x256 .f32) (w : ℕ → FVec F S32x256 .bf16) (v : ℕ → FVec F S256x256 .fp8e4m3) : FVec F S1x32x256 .f32 :=
  up256 (addf (dn256 a) (matmul dot_S32x1024_S1024x256_S32x256_1_0_0_1_n_n none (catW4 w) (catV4 v) (constant S32x256 .f32 0x00000000#32)))

end Cert.KernelIdeal.Gen

end
-- ==== Proof.Val.Math.lean ====
/- The mathematics of the two programs over the extended reals, free of arrays and shapes: the attention's inputs as functions of
   natural coordinates, what the kernel computes row by row, what the reference computes, and that the two are one number. -/
module

public import Idealize.ShloMosaic.Lib.Pointwise

@[expose] public section

noncomputable section

namespace Cert.Attn

open Finset Idealize.ShloMosaic

/-- The inputs: queries (batch, head, coordinate), new keys and values (batch, group, coordinate), prefix keys and values (token,
    group, coordinate) with their scales (token, group), tails (batch, token, group, coordinate) with theirs, the tails' lengths. -/
structure In where
  q : ℕ → ℕ → ℕ → EReal
  kn : ℕ → ℕ → ℕ → EReal
  vn : ℕ → ℕ → ℕ → EReal
  kp : ℕ → ℕ → ℕ → EReal
  vp : ℕ → ℕ → ℕ → EReal
  kps : ℕ → ℕ → EReal
  vps : ℕ → ℕ → EReal
  kt : ℕ → ℕ → ℕ → ℕ → EReal
  vt : ℕ → ℕ → ℕ → ℕ → EReal
  kts : ℕ → ℕ → ℕ → EReal
  vts : ℕ → ℕ → ℕ → EReal
  len : ℕ → ℤ

variable (X : In)

/-- The scale of a score in base 2. -/
def qkScale : EReal := (((Real.sqrt 128)⁻¹ * (Real.log 2)⁻¹ : ℝ) : EReal)
/-- The scale of a score. -/
def scoreScale : EReal := (((Real.sqrt 128)⁻¹ : ℝ) : EReal)
/-- The change of base. -/
def base2 : EReal := (((Real.log 2)⁻¹ : ℝ) : EReal)

/-! ### The kernel's rows: row `r` of pair `p` is group `2p + r/16`, batch `(r/8) % 2`, query head `r % 8` of the group -/

def grp (p r : ℕ) : ℕ := 2 * p + r / 16
def bat (r : ℕ) : ℕ := r / 8 % 2
def head (p r : ℕ) : ℕ := 8 * grp p r + r % 8

/-- The query at column `dd` of the pair's 256: its own head's half, zero in the other. -/
def qrow (p r dd : ℕ) : EReal := if dd / 128 = r / 16 then X.q (bat r) (head p r) (dd % 128) else 0

/-- A prefix token's score. -/
def scoreP (p r j : ℕ) : EReal :=
  (∑ d ∈ range 128, X.q (bat r) (head p r) d * X.kp j (grp p r) d) * (X.kps j (grp p r) * qkScale)
/-- Token `t` of batch `b`'s tail: scored for the rows of that batch, where it is valid. -/
def scoreT (p r b t : ℕ) : EReal :=
  if bat r = b ∧ (t : ℤ) < X.len b then
    (∑ d ∈ range 128, X.q (bat r) (head p r) d * X.kt b t (grp p r) d) * (X.kts b t (grp p r) * qkScale)
  else ⊥
/-- The score at column `j` of the score array: the prefix, then the two tails. -/
def score (p r j : ℕ) : EReal :=
  if j < 131072 then scoreP X p r j else scoreT X p r ((j - 131072) / 1024) ((j - 131072) % 1024)
/-- The new token's score. -/
def scoreN (p r : ℕ) : EReal :=
  (∑ d ∈ range 128, X.q (bat r) (head p r) d * X.kn (bat r) (grp p r) d) * qkScale
/-- The row's maximum. -/
def rowMax (p r : ℕ) : EReal := (range 133120).sup (score X p r) ⊔ scoreN X p r
/-- The weight of column `j`, and of the new token. -/
def wt (p r j : ℕ) : EReal := Ideal.exp2 (score X p r j - rowMax X p r)
def wtN (p r : ℕ) : EReal := Ideal.exp2 (scoreN X p r - rowMax X p r)
/-- The value scale and the value of column `j` (the value at column `dd` of the pair's 256). -/
def vscale (p r j : ℕ) : EReal :=
  if j < 131072 then X.vps j (grp p r) else X.vts ((j - 131072) / 1024) ((j - 131072) % 1024) (grp p r)
def value (p dd j : ℕ) : EReal :=
  if j < 131072 then X.vp j (2 * p + dd / 128) (dd % 128)
  else X.vt ((j - 131072) / 1024) ((j - 131072) % 1024) (2 * p + dd / 128) (dd % 128)
/-- Column `j`'s contribution to the accumulator. -/
def term (p r dd j : ℕ) : EReal := wt X p r j * vscale X p r j * value X p dd j
/-- The new token's. -/
def accN (p r dd : ℕ) : EReal := if dd / 128 = r / 16 then wtN X p r * X.vn (bat r) (grp p r) (dd % 128) else 0
/-- The accumulator after the tails and `n` blocks of the prefix. -/
def accAt (n p r dd : ℕ) : EReal :=
  accN X p r dd + ∑ t ∈ range 2048, term X p r dd (131072 + t) + ∑ j ∈ range (4096 * n), term X p r dd j
/-- Lane `l` of the denominator after the tails and `n` blocks. -/
def denAt (n p r l : ℕ) : EReal :=
  (if l = 0 then wtN X p r else 0) + ∑ u ∈ range 16, wt X p r (131072 + 128 * u + l) + ∑ u ∈ range (32 * n), wt X p r (128 * u + l)
/-- The kernel's result. -/
def kout (p r dd : ℕ) : EReal := Ideal.div (accAt X 32 p r dd) (∑ l ∈ range 128, denAt X 32 p r l)

/-! ### The reference -/

def rsp (b h j : ℕ) : EReal := (∑ d ∈ range 128, X.q b h d * X.kp j (h / 8) d) * X.kps j (h / 8) * scoreScale
def rst (b h t : ℕ) : EReal :=
  if (t : ℤ) < X.len b then (∑ d ∈ range 128, X.q b h d * X.kt b t (h / 8) d) * X.kts b t (h / 8) * scoreScale else ⊥
def rsn (b h : ℕ) : EReal := (∑ d ∈ range 128, X.q b h d * X.kn b (h / 8) d) * scoreScale
def rmax (b h : ℕ) : EReal := ((range 131072).sup (rsp X b h) ⊔ (range 1024).sup (rst X b h)) ⊔ rsn X b h
def rden (b h : ℕ) : EReal :=
  (∑ j ∈ range 131072, Ideal.exp (rsp X b h j - rmax X b h) + ∑ t ∈ range 1024, Ideal.exp (rst X b h t - rmax X b h))
    + Ideal.exp (rsn X b h - rmax X b h)
def rnum (b h d : ℕ) : EReal :=
  (∑ j ∈ range 131072, Ideal.exp (rsp X b h j - rmax X b h) * X.vps j (h / 8) * X.vp j (h / 8) d
    + ∑ t ∈ range 1024, Ideal.exp (rst X b h t - rmax X b h) * X.vts b t (h / 8) * X.vt b t (h / 8) d)
    + Ideal.exp (rsn X b h - rmax X b h) * X.vn b (h / 8) d
def rout (b h d : ℕ) : EReal := Ideal.div (rnum X b h d) (rden X b h)

/-! ### Change of base -/

theorem log2_pos : 0 < (Real.log 2)⁻¹ := inv_pos.mpr (Real.log_pos (by norm_num))

theorem qkScale_eq : qkScale = scoreScale * base2 := by
  unfold qkScale scoreScale base2; rw [← EReal.coe_mul]

theorem bot_mul_base2 : (⊥ : EReal) * base2 = ⊥ := EReal.bot_mul_coe_of_pos log2_pos
theorem top_mul_base2 : (⊤ : EReal) * base2 = ⊤ := EReal.top_mul_coe_of_pos log2_pos

theorem base2_mono : Monotone fun x : EReal => x * base2 := fun _ _ h =>
  mul_le_mul_of_nonneg_right h (by unfold base2; exact_mod_cast log2_pos.le)

theorem sub_mul_base2 (x y : EReal) : x * base2 - y * base2 = (x - y) * base2 := by
  induction x <;> induction y <;>
    simp only [bot_mul_base2, top_mul_base2, sub_eq_add_neg, EReal.neg_top, EReal.neg_bot, EReal.bot_add, EReal.add_bot] <;>
    first
    | rfl
    | (unfold base2; norm_cast; done)
    | (unfold base2; norm_cast; ring_nf; done)
    | (rw [← EReal.coe_neg, EReal.top_add_coe]; unfold base2; rw [← EReal.coe_mul, ← EReal.coe_neg, EReal.top_add_coe, ← base2, top_mul_base2])
    | (rw [EReal.coe_add_top]; unfold base2; rw [← EReal.coe_mul, EReal.coe_add_top, ← base2, top_mul_base2])
    | (rw [EReal.top_add_top, top_mul_base2])

theorem exp2_base2 (x : EReal) : Ideal.exp2 (x * base2) = Ideal.exp x := by
  induction x with
  | bot => rw [bot_mul_base2]; rfl
  | top => rw [top_mul_base2]; rfl
  | coe r =>
    unfold base2; rw [← EReal.coe_mul, Ideal.exp2_coe, Ideal.exp_coe]; congr 1
    rw [show Real.rpow 2 (r * (Real.log 2)⁻¹) = (2 : ℝ) ^ (r * (Real.log 2)⁻¹) from rfl, Real.rpow_def_of_pos (by norm_num)]
    congr 1
    have : Real.log 2 ≠ 0 := (Real.log_pos (by norm_num)).ne'
    field_simp

/-! ### Sums and maxima over the columns -/

theorem sum_lanes (f : ℕ → EReal) (n : ℕ) : ∑ l ∈ range 128, ∑ u ∈ range n, f (128 * u + l) = ∑ j ∈ range (128 * n), f j := by
  rw [Finset.sum_comm]
  induction n with
  | zero => simp
  | succ n ih => rw [Finset.sum_range_succ, ih, Nat.mul_succ, Finset.sum_range_add]

theorem sum_lane0 (x : EReal) : ∑ l ∈ range 128, (if l = 0 then x else 0) = x := by
  rw [Finset.sum_ite_eq']; simp

/-- The two tails' columns, batch by batch. -/
theorem sum_tails (f : ℕ → EReal) : ∑ t ∈ range 2048, f t = ∑ t ∈ range 1024, f t + ∑ t ∈ range 1024, f (1024 + t) := by
  rw [show 2048 = 1024 + 1024 from rfl, Finset.sum_range_add]

/-- Over both tails, only the row's own batch counts. -/
theorem sum_own (b : ℕ) (hb : b < 2) (f : ℕ → ℕ → EReal) (h0 : ∀ b' t, b' ≠ b → f b' t = 0) :
    ∑ t ∈ range 2048, f (t / 1024) (t % 1024) = ∑ t ∈ range 1024, f b t := by
  rw [sum_tails]
  have e0 : ∀ t ∈ range 1024, f (t / 1024) (t % 1024) = f 0 t := fun t ht => by
    have := mem_range.mp ht; rw [Nat.div_eq_of_lt this, Nat.mod_eq_of_lt this]
  have e1 : ∀ t ∈ range 1024, f ((1024 + t) / 1024) ((1024 + t) % 1024) = f 1 t := fun t ht => by
    have := mem_range.mp ht
    rw [show (1024 + t) / 1024 = 1 by omega, show (1024 + t) % 1024 = t by omega]
  rw [sum_congr rfl e0, sum_congr rfl e1]
  obtain rfl | rfl : b = 0 ∨ b = 1 := by omega
  · rw [sum_eq_zero (fun t _ => h0 1 t (by omega)), add_zero]
  · rw [sum_eq_zero (fun t _ => h0 0 t (by omega)), zero_add]

/-! ### The two results are one -/

section Bridge
variable (p r : ℕ) (hr : r < 32)
include hr

theorem head_div : head p r / 8 = grp p r := by unfold head; omega

theorem scoreP_eq (j : ℕ) : scoreP X p r j = rsp X (bat r) (head p r) j * base2 := by
  unfold scoreP rsp; rw [head_div p r hr, qkScale_eq, ← mul_assoc, ← mul_assoc]

theorem scoreT_eq (t : ℕ) : scoreT X p r (bat r) t = rst X (bat r) (head p r) t * base2 := by
  unfold scoreT rst; rw [head_div p r hr, qkScale_eq]
  by_cases h : (t : ℤ) < X.len (bat r)
  · rw [if_pos ⟨rfl, h⟩, if_pos h, ← mul_assoc, ← mul_assoc]
  · rw [if_neg (fun h' => h h'.2), if_neg h, bot_mul_base2]

theorem scoreT_other (b t : ℕ) (h : b ≠ bat r) : scoreT X p r b t = ⊥ := by
  unfold scoreT; rw [if_neg (fun h' => h h'.1.symm)]

theorem scoreN_eq : scoreN X p r = rsn X (bat r) (head p r) * base2 := by
  unfold scoreN rsn; rw [head_div p r hr, qkScale_eq, ← mul_assoc]

theorem score_tail (t : ℕ) : score X p r (131072 + t) = scoreT X p r (t / 1024) (t % 1024) := by
  unfold score; rw [if_neg (by omega), Nat.add_sub_cancel_left]

theorem score_prefix (j : ℕ) (hj : j < 131072) : score X p r j = scoreP X p r j := by
  unfold score; rw [if_pos hj]

theorem rowMax_le (x : EReal) : rowMax X p r ≤ x ↔ (∀ j < 133120, score X p r j ≤ x) ∧ scoreN X p r ≤ x := by
  unfold rowMax; rw [sup_le_iff, Finset.sup_le_iff]; simp only [mem_range]

theorem rowMax_eq : rowMax X p r = rmax X (bat r) (head p r) * base2 := by
  have hs : ∀ (n : ℕ) (f : ℕ → EReal), (range n).sup f * base2 = (range n).sup fun j => f j * base2 := fun n f =>
    Finset.comp_sup_eq_sup_comp_of_is_total (fun x : EReal => x * base2) base2_mono bot_mul_base2
  have hm : rmax X (bat r) (head p r) * base2
      = ((range 131072).sup (fun j => scoreP X p r j) ⊔ (range 1024).sup (fun t => scoreT X p r (bat r) t)) ⊔ scoreN X p r := by
    have h1 : (fun j => scoreP X p r j) = fun j => rsp X (bat r) (head p r) j * base2 := funext fun j => scoreP_eq X p r hr j
    have h2 : (fun t => scoreT X p r (bat r) t) = fun t => rst X (bat r) (head p r) t * base2 := funext fun t => scoreT_eq X p r hr t
    rw [h1, h2, ← hs, ← hs, scoreN_eq X p r hr]
    unfold rmax
    generalize (range 131072).sup (rsp X (bat r) (head p r)) = a
    generalize (range 1024).sup (rst X (bat r) (head p r)) = b
    exact (base2_mono.map_sup (a ⊔ b) _).trans (congrArg (· ⊔ _) (base2_mono.map_sup a b))
  rw [hm]
  clear hm
  have hb : bat r < 2 := by unfold bat; omega
  apply eq_of_forall_ge_iff
  intro x
  rw [rowMax_le X p r hr, sup_le_iff, sup_le_iff, Finset.sup_le_iff, Finset.sup_le_iff]
  simp only [mem_range]
  refine and_congr_left fun _ => ⟨fun h => ⟨fun j hj => ?_, fun t ht => ?_⟩, fun h j hj => ?_⟩
  · rw [← score_prefix X p r hr j hj]; exact h j (by omega)
  · have := h (131072 + (1024 * bat r + t)) (by omega)
    rw [score_tail X p r hr, show (1024 * bat r + t) / 1024 = bat r by omega, show (1024 * bat r + t) % 1024 = t by omega] at this
    exact this
  · by_cases hj' : j < 131072
    · rw [score_prefix X p r hr j hj']; exact h.1 j hj'
    · obtain ⟨t, rfl⟩ : ∃ t, j = 131072 + t := ⟨j - 131072, by omega⟩
      rw [score_tail X p r hr]
      by_cases hb' : t / 1024 = bat r
      · rw [hb']; exact h.2 _ (Nat.mod_lt _ (by omega))
      · rw [scoreT_other X p r hr _ _ hb']; exact bot_le

theorem wt_prefix (j : ℕ) (hj : j < 131072) :
    wt X p r j = Ideal.exp (rsp X (bat r) (head p r) j - rmax X (bat r) (head p r)) := by
  unfold wt; rw [score_prefix X p r hr j hj, scoreP_eq X p r hr, rowMax_eq X p r hr, sub_mul_base2, exp2_base2]

theorem wt_own (t : ℕ) (ht : t < 1024) :
    wt X p r (131072 + (1024 * bat r + t)) = Ideal.exp (rst X (bat r) (head p r) t - rmax X (bat r) (head p r)) := by
  unfold wt
  rw [score_tail X p r hr, show (1024 * bat r + t) / 1024 = bat r by omega, show (1024 * bat r + t) % 1024 = t by omega,
    scoreT_eq X p r hr, rowMax_eq X p r hr, sub_mul_base2, exp2_base2]

theorem wtN_eq : wtN X p r = Ideal.exp (rsn X (bat r) (head p r) - rmax X (bat r) (head p r)) := by
  unfold wtN; rw [scoreN_eq X p r hr, rowMax_eq X p r hr, sub_mul_base2, exp2_base2]

/-- A sum over both tails' columns, of something that vanishes off the row's own batch. -/
theorem wt_tail (t : ℕ) (ht : t < 2048) :
    wt X p r (131072 + t) = if t / 1024 = bat r then
      Ideal.exp (rst X (bat r) (head p r) (t % 1024) - rmax X (bat r) (head p r)) else 0 := by
  by_cases h : t / 1024 = bat r
  · rw [if_pos h, ← wt_own X p r hr (t % 1024) (Nat.mod_lt _ (by omega)), ← h]; congr 2; omega
  · rw [if_neg h]; unfold wt
    rw [score_tail X p r hr, scoreT_other X p r hr _ _ h, sub_eq_add_neg, EReal.bot_add, Ideal.exp2_bot]

theorem den_eq : ∑ l ∈ range 128, denAt X 32 p r l = rden X (bat r) (head p r) := by
  have hb : bat r < 2 := by unfold bat; omega
  unfold denAt rden
  rw [Finset.sum_add_distrib, Finset.sum_add_distrib, sum_lane0,
    sum_lanes (fun j => wt X p r j) (32 * 32)]
  have e : ∀ l u : ℕ, wt X p r (131072 + 128 * u + l) = (fun t => wt X p r (131072 + t)) (128 * u + l) := fun l u => by
    show _ = wt X p r (131072 + (128 * u + l)); rw [add_assoc]
  simp only [e]
  rw [sum_lanes (fun t => wt X p r (131072 + t)) 16]
  rw [sum_congr rfl (fun t ht => wt_tail X p r hr t (mem_range.mp ht)),
    sum_own (bat r) hb (fun b t => if b = bat r then Ideal.exp (rst X (bat r) (head p r) t - rmax X (bat r) (head p r)) else 0)
      (fun b t h => if_neg h), sum_congr rfl (fun j hj => wt_prefix X p r hr j (by have := mem_range.mp hj; omega)), wtN_eq X p r hr]
  simp only [if_true]
  rw [show 128 * (32 * 32) = 131072 from rfl]
  abel

theorem num_eq (d : ℕ) (hd : d < 128) : accAt X 32 p r (128 * (r / 16) + d) = rnum X (bat r) (head p r) d := by
  have hb : bat r < 2 := by unfold bat; omega
  have h1 : (128 * (r / 16) + d) / 128 = r / 16 := by omega
  have h2 : (128 * (r / 16) + d) % 128 = d := by omega
  unfold accAt rnum accN
  rw [if_pos h1, h2, wtN_eq X p r hr, head_div p r hr]
  have eP : ∀ j ∈ range (4096 * 32), term X p r (128 * (r / 16) + d) j
      = Ideal.exp (rsp X (bat r) (head p r) j - rmax X (bat r) (head p r)) * X.vps j (grp p r) * X.vp j (grp p r) d := fun j hj => by
    have hj' : j < 131072 := by have := mem_range.mp hj; omega
    unfold term vscale value
    rw [wt_prefix X p r hr j hj', if_pos hj', if_pos hj', h1, h2]; rfl
  have eT : ∀ t ∈ range 2048, term X p r (128 * (r / 16) + d) (131072 + t)
      = (fun b t => if b = bat r then Ideal.exp (rst X (bat r) (head p r) t - rmax X (bat r) (head p r)) * X.vts b t (grp p r)
          * X.vt b t (grp p r) d else 0) (t / 1024) (t % 1024) := fun t ht => by
    unfold term vscale value
    have hn : ¬ 131072 + t < 131072 := by omega
    rw [wt_tail X p r hr t (mem_range.mp ht), if_neg hn, if_neg hn, Nat.add_sub_cancel_left, h1, h2]
    by_cases h : t / 1024 = bat r
    · simp only [if_pos h]; rfl
    · simp only [if_neg h, zero_mul]
  rw [sum_congr rfl eP, sum_congr rfl eT, sum_own (bat r) hb (fun b t => if b = bat r then
    Ideal.exp (rst X (bat r) (head p r) t - rmax X (bat r) (head p r)) * X.vts b t (grp p r) * X.vt b t (grp p r) d else 0)
    (fun b t h => if_neg h)]
  simp only [if_true]
  rw [show 4096 * 32 = 131072 from rfl]
  abel

/-- The kernel's row is the reference's. -/
theorem kout_eq (d : ℕ) (hd : d < 128) : kout X p r (128 * (r / 16) + d) = rout X (bat r) (head p r) d := by
  unfold kout rout; rw [num_eq X p r hr d hd, den_eq X p r hr]

end Bridge

end Cert.Attn

end
-- ==== Proof.Val.Entry2.lean ====
/- The entries of the kernel's weights, sums, new-token terms and results over the extended reals. -/
module

public import proofs.«01_k».proof.Proof.KI.Model2
public import proofs.«01_k».proof.Proof.Val.Math
public import Idealize.ShloMosaic.Lib.Pipeline.ValueKit

@[expose] public section

set_option maxRecDepth 16384

noncomputable section

namespace Cert.KernelIdeal.Gen

open Idealize.ShloMosaic Idealize.ShloMosaic.TcCoe Idealize.ShloMosaic.Tactic
open Cert.Attn Finset

variable (X : In)

theorem expT_at (s : Vec Ideal S1x32x256 .f32) (m : Vec Ideal S1x32x128 .f32) (r : Fin 32) (M : EReal) (hm : ∀ l : Fin 128, m (ix3 0 r l) = M) (x : Fin 256) :
    expT s m (ix2 r x) = Ideal.exp2 (s (ix3 0 r x) - M) := by
  pointwise [expT, dn256, dn128]
  split <;> rw [hm] <;> rfl

theorem wt0_at (s : Vec Ideal S1x32x256 .f32) (m : Vec Ideal S1x32x128 .f32) (vs : Vec Ideal S4x256 .f32) (r : Fin 32) (M : EReal)
    (hm : ∀ l : Fin 128, m (ix3 0 r l) = M) (x : Fin 256) (S : ℕ → ℕ → EReal) (hs : ∀ (g : Fin 4) (x : Fin 256), vs (ix2 g x) = S x.val g.val) :
    wt0 s m vs (ix2 r x) = Ideal.exp2 (s (ix3 0 r x) - M) * S x.val (grp 0 r.val) := by
  have e : wt0 s m vs (ix2 r x) = expT s m (ix2 r x) * (if h : r.val < 16 then vs (ix2 0 x) else vs (ix2 1 x)) := by
    pointwise [wt0, prow0]
  rw [e, expT_at s m r M hm]
  refine congrArg₂ (· * ·) rfl ?_
  split
  · rename_i h; rw [hs, show grp 0 r.val = 0 by unfold grp; omega]; rfl
  · rename_i h; rw [hs, show grp 0 r.val = 1 by unfold grp; omega]; rfl
theorem wt1_at (s : Vec Ideal S1x32x256 .f32) (m : Vec Ideal S1x32x128 .f32) (vs : Vec Ideal S4x256 .f32) (r : Fin 32) (M : EReal)
    (hm : ∀ l : Fin 128, m (ix3 0 r l) = M) (x : Fin 256) (S : ℕ → ℕ → EReal) (hs : ∀ (g : Fin 4) (x : Fin 256), vs (ix2 g x) = S x.val g.val) :
    wt1 s m vs (ix2 r x) = Ideal.exp2 (s (ix3 0 r x) - M) * S x.val (grp 1 r.val) := by
  have e : wt1 s m vs (ix2 r x) = expT s m (ix2 r x) * (if h : r.val < 16 then vs (ix2 2 x) else vs (ix2 3 x)) := by
    pointwise [wt1, prow1]
  rw [e, expT_at s m r M hm]
  refine congrArg₂ (· * ·) rfl ?_
  split
  · rename_i h; rw [hs, show grp 1 r.val = 2 by unfold grp; omega]; rfl
  · rename_i h; rw [hs, show grp 1 r.val = 3 by unfold grp; omega]; rfl

section
variable (v : Vec Ideal S1024x128 .fp8e4m3) (K : ℕ → ℕ → ℕ → EReal) (hk : ∀ (a : Fin 1024) (d : Fin 128), v (ix2 a d) = K (a.val / 4) (a.val % 4) d.val) (x dd : Fin 256)
include hk

theorem vp0_at : vp0 v (ix2 x dd) = K x.val (2 * 0 + dd.val / 128) (dd.val % 128) := by
  have hd := dd.isLt
  pointwise [vp0, k0_pay119]
  split
  · rename_i h; rw [hk]; congr 1 <;> simp only <;> omega
  · rename_i h; rw [hk]; congr 1 <;> simp only <;> omega
theorem vp1_at : vp1 v (ix2 x dd) = K x.val (2 * 1 + dd.val / 128) (dd.val % 128) := by
  have hd := dd.isLt
  pointwise [vp1, k0_pay120, k0_pay119]
  split
  · rename_i h; rw [hk]; congr 1 <;> simp only <;> omega
  · rename_i h; rw [hk]; congr 1 <;> simp only <;> omega
theorem tvp0_at : tvp0 v (ix2 x dd) = K x.val (2 * 0 + dd.val / 128) (dd.val % 128) := by
  have hd := dd.isLt
  pointwise [tvp0, k0_pay313, k0_pay312]
  split
  · rename_i h; rw [hk]; congr 1 <;> simp only <;> omega
  · rename_i h; rw [hk]; congr 1 <;> simp only <;> omega
theorem tvp1_at : tvp1 v (ix2 x dd) = K x.val (2 * 1 + dd.val / 128) (dd.val % 128) := by
  have hd := dd.isLt
  pointwise [tvp1, k0_pay314, k0_pay312]
  split
  · rename_i h; rw [hk]; congr 1 <;> simp only <;> omega
  · rename_i h; rw [hk]; congr 1 <;> simp only <;> omega
end

theorem catW4_at (w : ℕ → FVec Ideal S32x256 .bf16) (r : Fin 32) (W : ℕ → EReal) (h : ∀ k < 4, ∀ x : Fin 256, w k (ix2 r x) = W (256 * k + x.val)) (j : Fin 1024) :
    catW4 w (ix2 r j) = W j.val := by
  pointwise [catW4]
  repeat' split
  all_goals rw [h _ (by norm_num)]; congr 1; simp only; omega
theorem catV4_at (w : ℕ → FVec Ideal S256x256 .fp8e4m3) (d : Fin 256) (W : ℕ → EReal) (h : ∀ k < 4, ∀ x : Fin 256, w k (ix2 x d) = W (256 * k + x.val)) (j : Fin 1024) :
    catV4 w (ix2 j d) = W j.val := by
  pointwise [catV4]
  repeat' split
  all_goals rw [h _ (by norm_num)]; congr 1; simp only; omega
theorem catW_at (w : ℕ → FVec Ideal S32x256 .bf16) (r : Fin 32) (W : ℕ → EReal) (h : ∀ k < 16, ∀ x : Fin 256, w k (ix2 r x) = W (256 * k + x.val)) (j : Fin 4096) :
    catW w (ix2 r j) = W j.val := by
  have hj := j.isLt
  refine (concatenate_ofFn_apply (t := S32x4096) (s₁ := S32x256) 1 (fun n : Fin 16 => w n.val)
    concatenates_S32x256_S32x256_S32x256_S32x256_S32x256_S32x256_S32x256_S32x256_S32x256_S32x256_S32x256_S32x256_S32x256_S32x256_S32x256_S32x256_S32x4096_d1
    rfl 256 rfl (ix2 r j) ⟨j.val / 256, by omega⟩ rfl (ix2 r ⟨j.val % 256, by omega⟩) rfl ?_).trans ((h _ (by omega) _).trans (congrArg W (by simp only; omega)))
  · intro b hb; fin_cases b
    · rfl
    · exact absurd rfl hb
theorem catV_at (w : ℕ → FVec Ideal S256x256 .fp8e4m3) (d : Fin 256) (W : ℕ → EReal) (h : ∀ k < 16, ∀ x : Fin 256, w k (ix2 x d) = W (256 * k + x.val)) (j : Fin 4096) :
    catV w (ix2 j d) = W j.val := by
  have hj := j.isLt
  refine (concatenate_ofFn_apply (t := S4096x256) (s₁ := S256x256) 0 (fun n : Fin 16 => w n.val)
    concatenates_S256x256_S256x256_S256x256_S256x256_S256x256_S256x256_S256x256_S256x256_S256x256_S256x256_S256x256_S256x256_S256x256_S256x256_S256x256_S256x256_S4096x256_d0
    rfl 256 rfl (ix2 j d) ⟨j.val / 256, by omega⟩ rfl (ix2 ⟨j.val % 256, by omega⟩ d) rfl ?_).trans ((h _ (by omega) _).trans (congrArg W (by simp only; omega)))
  · intro b hb; fin_cases b
    · exact absurd rfl hb
    · rfl

theorem accT_at (a : Vec Ideal S1x32x256 .f32) (w : ℕ → FVec Ideal S32x256 .bf16) (v : ℕ → FVec Ideal S256x256 .fp8e4m3) (r : Fin 32) (d : Fin 256) (W V : ℕ → EReal)
    (hw : ∀ k < 4, ∀ x : Fin 256, w k (ix2 r x) = W (256 * k + x.val)) (hv : ∀ k < 4, ∀ x : Fin 256, v k (ix2 x d) = V (256 * k + x.val)) :
    accT a w v (ix3 0 r d) = a (ix3 0 r d) + ∑ j ∈ range 1024, W j * V j := by
  have e : ∀ (A : FVec Ideal S32x1024 .bf16) (B : FVec Ideal S1024x256 .fp8e4m3),
      up256 (addf (dn256 a) (matmul dot_S32x1024_S1024x256_S32x256_1_0_0_1_n_n none A B (constant S32x256 .f32 0x00000000#32))) (ix3 0 r d)
        = a (ix3 0 r d) + ∑ k : Fin 1024, A (ix2 r k) * B (ix2 k d) := fun A B => by
    pointwise [up256, dn256]
  rw [accT, e, Finset.sum_range]
  exact congrArg _ (Finset.sum_congr rfl fun k _ => by rw [catW4_at w r W hw, catV4_at v d V hv])
theorem accB_at (a : Vec Ideal S1x32x256 .f32) (w : ℕ → FVec Ideal S32x256 .bf16) (v : ℕ → FVec Ideal S256x256 .fp8e4m3) (r : Fin 32) (d : Fin 256) (W V : ℕ → EReal)
    (hw : ∀ k < 16, ∀ x : Fin 256, w k (ix2 r x) = W (256 * k + x.val)) (hv : ∀ k < 16, ∀ x : Fin 256, v k (ix2 x d) = V (256 * k + x.val)) :
    accB a w v (ix3 0 r d) = a (ix3 0 r d) + ∑ j ∈ range 4096, W j * V j := by
  have e : ∀ (A : FVec Ideal S32x4096 .bf16) (B : FVec Ideal S4096x256 .fp8e4m3),
      k0_pay580 a A B (ix3 0 r d) = a (ix3 0 r d) + ∑ k : Fin 4096, A (ix2 r k) * B (ix2 k d) := fun A B => by
    pointwise [k0_pay580]
  rw [accB, e, Finset.sum_range]
  exact congrArg _ (Finset.sum_congr rfl fun k _ => by rw [catW_at w r W hw, catV_at v d V hv])

/-! ### The queries and the new token -/

theorem qrows_at (v : ℕ → ℕ → Vec Ideal S1x8x128 .bf16) (p : ℕ) (hv : ∀ b < 2, ∀ g, (h : Fin 8) → (d : Fin 128) → v b g (ix3 0 h d) = X.q b (8 * g + h.val) d.val)
    (r : Fin 32) (dd : Fin 256) : qrows v p (ix3 0 r dd) = qrow X p r.val dd.val := by
  have hr := r.isLt
  have hd := dd.isLt
  have e : ∀ b c k g : ℕ, b = bat r.val → c = head p r.val → k = dd.val % 128 → dd.val / 128 = r.val / 16 → X.q b c k = qrow X p r.val dd.val := fun b c k g h1 h2 h3 h4 => by
    unfold qrow; rw [if_pos h4, h1, h2, h3]
  have e0 : dd.val / 128 ≠ r.val / 16 → 0 = qrow X p r.val dd.val := fun h => by unfold qrow; rw [if_neg h]
  pointwise [qrows, k0_pay11, k0_pay10]
  repeat' split
  all_goals first
    | (rw [hv _ (by norm_num)]; exact e _ _ _ 0 (by unfold bat; omega) (by unfold head grp; simp only; omega) (by simp only; omega) (by omega))
    | exact e0 (by omega)

/-- A maximum over the lanes as a supremum. -/
theorem fold_max_eq (f : Fin 128 → EReal) (z : EReal) : Finset.fold max z f Finset.univ = z ⊔ Finset.univ.sup f := by
  classical
  generalize (Finset.univ : Finset (Fin 128)) = A
  induction A using Finset.induction_on with
  | empty => simp
  | insert a A ha ih => rw [Finset.fold_insert ha, ih, Finset.sup_insert]; show max _ (max _ _) = max _ (max _ _); ac_rfl

section
variable (v w : ℕ → ℕ → Vec Ideal S1x1x128 .bf16) (p : ℕ) (q : Vec Ideal S1x32x256 .bf16) (m : Vec Ideal S1x32x128 .f32)
variable (hq : ∀ (r : Fin 32) (dd : Fin 256), q (ix3 0 r dd) = qrow X p r.val dd.val)
variable (hv : ∀ b < 2, ∀ g, (d : Fin 128) → v b g (ix3 0 0 d) = X.kn b g d.val) (hw : ∀ b < 2, ∀ g, (d : Fin 128) → w b g (ix3 0 0 d) = X.vn b g d.val)

include hq hv in
theorem snew_at (r : Fin 32) : snew v p q (ix2 r 0) = scoreN X p r.val := by
  have hr := r.isLt
  pointwise [snew, k0_pay291, k0_pay283]
  unfold scoreN
  refine congrArg₂ (· * ·) ?_ rfl
  rw [Finset.sum_range]
  refine Finset.sum_congr rfl fun d _ => ?_
  simp only [hq]
  refine congrArg₂ (· * ·) ?_ ?_
  · unfold qrow
    split
    · rename_i h; rw [if_pos (by omega), show d.val % 128 = d.val by omega]
    · rename_i h; rw [show 16 + (r.val - 16) = r.val by omega, if_pos (by omega), show (128 + d.val) % 128 = d.val by omega]
  · repeat' split
    all_goals rw [hv _ (by norm_num)]; congr 1 <;> first | (unfold bat; omega) | (unfold grp; omega)

include hq hv in
theorem mnew_at (r : Fin 32) (l : Fin 128) : mnew v p q m (ix3 0 r l) = Finset.univ.sup (fun l : Fin 128 => m (ix3 0 r l)) ⊔ scoreN X p r.val := by
  have e : mnew v p q m (ix3 0 r l) = max (Finset.fold max (Ideal.ofBits FTy.f32 4286578688#32) (fun x : Fin 128 => m (ix3 0 r x)) Finset.univ) (snew v p q (ix2 r 0)) := by
    pointwise [mnew, k0_pay293, k0_pay292, snew]
  rw [e, snew_at X v p q hq hv, fold_max_eq, show Ideal.ofBits FTy.f32 4286578688#32 = (⊥ : EReal) from by simp [Ideal.ofBits, Ideal.ieee], bot_sup_eq]

theorem enew_at (r : Fin 32) : k0_pay294 (k0_pay283 (v 0 (2 * p))) (k0_pay283 (v 1 (2 * p))) (k0_pay283 (v 0 (2 * p + 1))) (k0_pay283 (v 1 (2 * p + 1))) q m (ix2 r 0)
    = Ideal.exp2 (snew v p q (ix2 r 0) - mnew v p q m (ix3 0 r 0)) := by
  pointwise [mnew, k0_pay293, k0_pay294, snew]
  rfl

theorem dnew_at (r : Fin 32) (l : Fin 128) : dnew v p q m (ix3 0 r l) = if l.val = 0 then Ideal.exp2 (snew v p q (ix2 r 0) - mnew v p q m (ix3 0 r 0)) else 0 := by
  rw [← enew_at]
  pointwise [dnew, k0_pay295]
  have hl := l.isLt
  rw [WordCmp.cmpi_eq_eq]
  have h3 : (BitVec.ofNat 32 l.val = 0#32) ↔ l.val = 0 := by
    constructor
    · intro h
      have := congrArg BitVec.toNat h
      simp only [BitVec.toNat_ofNat] at this
      omega
    · intro h; rw [h]
  by_cases c : l.val = 0
  · rw [if_pos c, decide_eq_true (h3.mpr c)]; rfl
  · rw [if_neg c, decide_eq_false (fun h => c (h3.mp h))]; rfl

include hw in
theorem anew_at (r : Fin 32) (dd : Fin 256) : anew v w p q m (ix3 0 r dd)
    = if dd.val / 128 = r.val / 16 then Ideal.exp2 (snew v p q (ix2 r 0) - mnew v p q m (ix3 0 r 0)) * X.vn (bat r.val) (grp p r.val) (dd.val % 128) else 0 := by
  rw [← enew_at]
  have hr := r.isLt
  have hd := dd.isLt
  have eV : ∀ (r : Fin 32) (d : Fin 128), k0_pay290 (k0_pay283 (w 0 (2 * p))) (k0_pay283 (w 1 (2 * p))) (k0_pay283 (w 0 (2 * p + 1))) (w 1 (2 * p + 1)) (ix2 r d)
      = X.vn (bat r.val) (grp p r.val) d.val := fun r d => by
    have hr := r.isLt
    pointwise [k0_pay290, k0_pay283]
    repeat' split
    all_goals rw [hw _ (by norm_num)]; congr 1 <;> first | (unfold bat; omega) | (unfold grp; omega)
  have eE : ∀ r, k0_pay296 (k0_pay283 (v 0 (2 * p))) (k0_pay283 (v 1 (2 * p))) (k0_pay283 (v 0 (2 * p + 1))) (k0_pay283 (v 1 (2 * p + 1))) q m (ix2 r 0)
      = k0_pay294 (k0_pay283 (v 0 (2 * p))) (k0_pay283 (v 1 (2 * p))) (k0_pay283 (v 0 (2 * p + 1))) (k0_pay283 (v 1 (2 * p + 1))) q m (ix2 r 0) := fun r => by
    pointwise [k0_pay296]
  have e : ∀ (V : FVec Ideal S32x128 .f32) (E : FVec Ideal S32x1 .f32), k0_pay297 V E (ix3 0 r dd)
      = if dd.val / 128 = r.val / 16 then E (ix2 r 0) * V (ix2 r ⟨dd.val % 128, by omega⟩) else 0 := fun V E => by
    have cong : ∀ (a b : ℕ) (ha : a < 32) (hb : b < 128), a = r.val → b = dd.val % 128 →
        E (ix2 ⟨a, ha⟩ 0) * V (ix2 ⟨a, ha⟩ ⟨b, hb⟩) = E (ix2 r 0) * V (ix2 r ⟨dd.val % 128, by omega⟩) := by
      intro a b ha hb h1 h2; subst h1; subst h2; rfl
    pointwise [k0_pay297]
    by_cases c : dd.val / 128 = r.val / 16
    · rw [if_pos c]; split_ifs
      all_goals first
        | omega
        | exact cong _ _ (by omega) (by omega) (by omega) (by omega)
    · rw [if_neg c]; split_ifs
      all_goals first
        | omega
        | rfl
  unfold anew
  rw [e, eV, eE]
end

end Cert.KernelIdeal.Gen

end
-- ==== Proof.Val.Entry1.lean ====
/- The entries of the kernel's score tiles, masks and running maxima over the extended reals. -/
module

public import proofs.«01_k».proof.Proof.KI.Model2
public import proofs.«01_k».proof.Proof.Val.Math
public import Idealize.ShloMosaic.Lib.Pipeline.ValueKit

@[expose] public section

set_option maxRecDepth 16384

noncomputable section

namespace Cert.KernelIdeal.Gen

open Idealize.ShloMosaic Idealize.ShloMosaic.TcCoe Idealize.ShloMosaic.Tactic
open Cert.Attn Finset

variable (X : In)

theorem named_qk (b : BitVec 32) : Named.named (F := Ideal) κ "qk_scale" (φ := .f32) b = qkScale := rfl
theorem named_neg (b : BitVec 32) : Named.named (F := Ideal) κ "neg" (φ := .f32) b = (⊥ : EReal) := rfl

/-- A product over a pair's 256 columns keeps the row's own head. -/
theorem qk_sum (p r : ℕ) (hr : r < 32) (K : ℕ → ℕ → EReal) :
    (∑ x : Fin 128, qrow X p r x.val * K 0 x.val) + ∑ x : Fin 128, qrow X p r (128 + x.val) * K 1 x.val
      = ∑ d ∈ range 128, X.q (bat r) (head p r) d * K (r / 16) d := by
  rw [Finset.sum_range]
  have h0 : ∀ x : Fin 128, qrow X p r x.val = if 0 = r / 16 then X.q (bat r) (head p r) x.val else 0 := fun x => by
    have : x.val / 128 = 0 := by omega
    have h2 : x.val % 128 = x.val := by omega
    unfold qrow; rw [this, h2]
  have h1 : ∀ x : Fin 128, qrow X p r (128 + x.val) = if 1 = r / 16 then X.q (bat r) (head p r) x.val else 0 := fun x => by
    have : (128 + x.val) / 128 = 1 := by omega
    have h2 : (128 + x.val) % 128 = x.val := by omega
    unfold qrow; rw [this, h2]
  simp only [h0, h1]
  by_cases h : r / 16 = 0
  · simp [h]
  · have h' : r / 16 = 1 := by omega
    simp [h']

/-- The queries of pair `p`, laid out in rows. -/
def IsQ (p : ℕ) (q : Vec Ideal S1x32x256 .bf16) : Prop := ∀ (r : Fin 32) (dd : Fin 256), q (ix3 0 r dd) = qrow X p r.val dd.val

theorem sc0_at (kv : Vec Ideal S1024x128 .fp8e4m3) (ks : Vec Ideal S4x256 .f32) (q : Vec Ideal S1x32x256 .bf16) (K : ℕ → ℕ → ℕ → EReal)
    (S : ℕ → ℕ → EReal) (hq : IsQ X 0 q) (hk : ∀ (a : Fin 1024) (d : Fin 128), kv (ix2 a d) = K (a.val / 4) (a.val % 4) d.val)
    (hs : ∀ (g : Fin 4) (x : Fin 256), ks (ix2 g x) = S x.val g.val) (r : Fin 32) (x : Fin 256) :
    sc0 kv ks q (ix2 r x) = (∑ d ∈ range 128, X.q (bat r.val) (head 0 r.val) d * K x.val (grp 0 r.val) d) * (S x.val (grp 0 r.val) * qkScale) := by
  pointwise [sc0, k0_pay122, k0_pay121, k0_pay119]
  unfold IsQ at hq
  simp only [hq, hk, hs, named_qk]
  refine congrArg₂ (· * ·) ?_ ?_
  · refine Eq.trans ?_ ((qk_sum X 0 r.val r.isLt (fun h d => K x.val h d)).trans ?_)
    · refine congrArg₂ (· + ·) (Finset.sum_congr rfl fun y _ => ?_) (Finset.sum_congr rfl fun y _ => ?_)
      · rw [show (x.val * 4 + y.val / 128) / 4 = x.val by omega, show (x.val * 4 + y.val / 128) % 4 = 0 by omega, show y.val % 128 = y.val by omega]
      · rw [show (x.val * 4 + (128 + y.val) / 128) / 4 = x.val by omega, show (x.val * 4 + (128 + y.val) / 128) % 4 = 1 by omega, show (128 + y.val) % 128 = y.val by omega]
    · unfold grp; simp only [Nat.mul_zero, Nat.zero_add]
  · split
    · rename_i h; rw [show grp 0 r.val = 0 by unfold grp; omega]; rfl
    · rename_i h; rw [show grp 0 r.val = 1 by unfold grp; omega]; rfl

theorem sc1_at (kv : Vec Ideal S1024x128 .fp8e4m3) (ks : Vec Ideal S4x256 .f32) (q : Vec Ideal S1x32x256 .bf16) (K : ℕ → ℕ → ℕ → EReal)
    (S : ℕ → ℕ → EReal) (hq : IsQ X 1 q) (hk : ∀ (a : Fin 1024) (d : Fin 128), kv (ix2 a d) = K (a.val / 4) (a.val % 4) d.val)
    (hs : ∀ (g : Fin 4) (x : Fin 256), ks (ix2 g x) = S x.val g.val) (r : Fin 32) (x : Fin 256) :
    sc1 kv ks q (ix2 r x) = (∑ d ∈ range 128, X.q (bat r.val) (head 1 r.val) d * K x.val (grp 1 r.val) d) * (S x.val (grp 1 r.val) * qkScale) := by
  pointwise [sc1, k0_pay125, k0_pay120, k0_pay121, k0_pay119]
  unfold IsQ at hq
  simp only [hq, hk, hs, named_qk]
  refine congrArg₂ (· * ·) ?_ ?_
  · refine Eq.trans ?_ ((qk_sum X 1 r.val r.isLt (fun h d => K x.val (2 + h) d)).trans ?_)
    · refine congrArg₂ (· + ·) (Finset.sum_congr rfl fun y _ => ?_) (Finset.sum_congr rfl fun y _ => ?_)
      · first
          | rw [show (x.val * 4 + (256 + y.val) / 128) / 4 = x.val by omega, show (x.val * 4 + (256 + y.val) / 128) % 4 = 2 + 0 by omega, show (256 + y.val) % 128 = y.val by omega]
          | skip
      · first
          | rw [show (x.val * 4 + (384 + y.val) / 128) / 4 = x.val by omega, show (x.val * 4 + (384 + y.val) / 128) % 4 = 2 + 1 by omega, show (384 + y.val) % 128 = y.val by omega]
          | skip
    · unfold grp; simp only [Nat.mul_one]
  · split
    · rename_i h; rw [show grp 1 r.val = 2 by unfold grp; omega]; rfl
    · rename_i h; rw [show grp 1 r.val = 3 by unfold grp; omega]; rfl

/-! ### The tails -/

theorem rowB_at (r : Fin 32) (x : Fin 256) : rowB (ix2 r x) = BitVec.ofNat 32 (r.val / 8 % 2) := by
  pointwise [rowB, k0_pay20, k0_pay18, k0_pay19]
  revert r; decide +kernel

theorem tmask_at (b off : ℕ) (hb : b < 2) (ho : off ≤ 768) (len : BitVec 32) (r : Fin 32) (x : Fin 256) :
    tmask (BitVec.ofNat 32 b) (BitVec.ofNat 32 off) len (ix2 r x)
      = if bat r.val = b ∧ ((off + x.val : ℕ) : ℤ) < len.toInt then 1#1 else 0#1 := by
  have e : tmask (BitVec.ofNat 32 b) (BitVec.ofNat 32 off) len (ix2 r x)
      = IntOp.andi (IntOp.cmpi .eq (rowB (ix2 r x)) (BitVec.ofNat 32 b)) (IntOp.cmpi .slt (IntOp.addi (BitVec.ofNat 32 x.val) (BitVec.ofNat 32 off)) len) := by
    pointwise [tmask]
  rw [e, rowB_at]
  have h1 : BitVec.ofNat 32 x.val + BitVec.ofNat 32 off = BitVec.ofNat 32 (off + x.val) := by
    rw [Nat.add_comm off, BitVec.ofNat_add]
  have h2 : (BitVec.ofNat 32 (off + x.val)).toInt = ((off + x.val : ℕ) : ℤ) := by
    have hx := x.isLt
    rw [BitVec.toInt_eq_toNat_of_lt] <;> rw [BitVec.toNat_ofNat, Nat.mod_eq_of_lt (by omega)] <;> omega
  have h3 : (BitVec.ofNat 32 (r.val / 8 % 2) = BitVec.ofNat 32 b) ↔ bat r.val = b := by
    unfold bat
    constructor
    · intro h
      have := congrArg BitVec.toNat h
      simp only [BitVec.toNat_ofNat] at this
      omega
    · intro h; rw [h]
  show IntOp.andi _ (IntOp.cmpi .slt (BitVec.ofNat 32 x.val + BitVec.ofNat 32 off) len) = _
  rw [h1, WordCmp.cmpi_eq_eq, WordCmp.cmpi_slt_eq, h2]
  by_cases c1 : bat r.val = b <;> by_cases c2 : ((off + x.val : ℕ) : ℤ) < len.toInt
  all_goals simp only [h3, c1, c2, decide_true, decide_false, if_true, if_false, true_and, false_and, and_true, and_false]
  all_goals decide

theorem tsc0_at (mk : IVec S32x256 1) (kv : Vec Ideal S1024x128 .fp8e4m3) (ks : Vec Ideal S1x4x256 .f32) (q : Vec Ideal S1x32x256 .bf16) (K : ℕ → ℕ → ℕ → EReal)
    (S : ℕ → ℕ → EReal) (hq : IsQ X 0 q) (hk : ∀ (a : Fin 1024) (d : Fin 128), kv (ix2 a d) = K (a.val / 4) (a.val % 4) d.val)
    (hs : ∀ (g : Fin 4) (x : Fin 256), ks (ix3 0 g x) = S x.val g.val) (r : Fin 32) (x : Fin 256) (P : Prop) [Decidable P] (hm : mk (ix2 r x) = if P then 1#1 else 0#1) :
    tsc0 mk kv ks q (ix2 r x) = if P then (∑ d ∈ range 128, X.q (bat r.val) (head 0 r.val) d * K x.val (grp 0 r.val) d) * (S x.val (grp 0 r.val) * qkScale) else ⊥ := by
  pointwise [tsc0, k0_pay28, k0_pay27, k0_pay23, k0_pay24, k0_pay22]
  unfold IsQ at hq
  simp only [hq, hk, hs, named_qk, named_neg, hm]
  by_cases hP : P
  swap
  · rw [if_neg hP, if_neg hP]; rfl
  rw [if_pos hP, if_pos hP]
  show _ * _ = _ * _
  refine congrArg₂ (· * ·) ?_ ?_
  · refine Eq.trans ?_ ((qk_sum X 0 r.val r.isLt (fun h d => K x.val h d)).trans ?_)
    · refine congrArg₂ (· + ·) (Finset.sum_congr rfl fun y _ => ?_) (Finset.sum_congr rfl fun y _ => ?_)
      · rw [show (x.val * 4 + y.val / 128) / 4 = x.val by omega, show (x.val * 4 + y.val / 128) % 4 = 0 by omega, show y.val % 128 = y.val by omega]
      · rw [show (x.val * 4 + (128 + y.val) / 128) / 4 = x.val by omega, show (x.val * 4 + (128 + y.val) / 128) % 4 = 1 by omega, show (128 + y.val) % 128 = y.val by omega]
    · unfold grp; simp only [Nat.mul_zero, Nat.zero_add]
  · split
    · rename_i h; rw [show grp 0 r.val = 0 by unfold grp; omega]; rfl
    · rename_i h; rw [show grp 0 r.val = 1 by unfold grp; omega]; rfl

theorem tsc1_at (mk : IVec S32x256 1) (kv : Vec Ideal S1024x128 .fp8e4m3) (ks : Vec Ideal S1x4x256 .f32) (q : Vec Ideal S1x32x256 .bf16) (K : ℕ → ℕ → ℕ → EReal)
    (S : ℕ → ℕ → EReal) (hq : IsQ X 1 q) (hk : ∀ (a : Fin 1024) (d : Fin 128), kv (ix2 a d) = K (a.val / 4) (a.val % 4) d.val)
    (hs : ∀ (g : Fin 4) (x : Fin 256), ks (ix3 0 g x) = S x.val g.val) (r : Fin 32) (x : Fin 256) (P : Prop) [Decidable P] (hm : mk (ix2 r x) = if P then 1#1 else 0#1) :
    tsc1 mk kv ks q (ix2 r x) = if P then (∑ d ∈ range 128, X.q (bat r.val) (head 1 r.val) d * K x.val (grp 1 r.val) d) * (S x.val (grp 1 r.val) * qkScale) else ⊥ := by
  pointwise [tsc1, k0_pay33, k0_pay31, k0_pay32, k0_pay27, k0_pay25, k0_pay26, k0_pay22]
  unfold IsQ at hq
  simp only [hq, hk, hs, named_qk, named_neg, hm]
  by_cases hP : P
  swap
  · rw [if_neg hP, if_neg hP]; rfl
  rw [if_pos hP, if_pos hP]
  show _ * _ = _ * _
  refine congrArg₂ (· * ·) ?_ ?_
  · refine Eq.trans ?_ ((qk_sum X 1 r.val r.isLt (fun h d => K x.val (2 + h) d)).trans ?_)
    · refine congrArg₂ (· + ·) (Finset.sum_congr rfl fun y _ => ?_) (Finset.sum_congr rfl fun y _ => ?_)
      · rw [show (x.val * 4 + (256 + y.val) / 128) / 4 = x.val by omega, show (x.val * 4 + (256 + y.val) / 128) % 4 = 2 + 0 by omega, show (256 + y.val) % 128 = y.val by omega]
      · rw [show (x.val * 4 + (384 + y.val) / 128) / 4 = x.val by omega, show (x.val * 4 + (384 + y.val) / 128) % 4 = 2 + 1 by omega, show (384 + y.val) % 128 = y.val by omega]
    · unfold grp; simp only [Nat.mul_one]
  · split
    · rename_i h; rw [show grp 1 r.val = 2 by unfold grp; omega]; rfl
    · rename_i h; rw [show grp 1 r.val = 3 by unfold grp; omega]; rfl

/-! ### The chains -/

theorem mstep_at (a : FVec Ideal S32x128 .f32) (s : FVec Ideal S32x256 .f32) (r : Fin 32) (l : Fin 128) :
    mstep a s (ix2 r l) = max (a (ix2 r l)) (max (s (ix2 r ⟨l.val, by omega⟩)) (s (ix2 r ⟨128 + l.val, by omega⟩))) := by
  pointwise [mstep]

theorem mchain_at (a : FVec Ideal S32x128 .f32) (s : ℕ → FVec Ideal S32x256 .f32) (r : Fin 32) (l : Fin 128) (f : ℕ → EReal) (n : ℕ)
    (h : ∀ k < n, ∀ x : Fin 256, s k (ix2 r x) = f (256 * k + x.val)) :
    mchain a s n (ix2 r l) = a (ix2 r l) ⊔ (range (2 * n)).sup fun u => f (128 * u + l.val) := by
  induction n with
  | zero => simp [mchain]
  | succ n ih =>
    rw [mchain, mstep_at, ih fun k hk => h k (by omega), h n (by omega), h n (by omega), show 2 * (n + 1) = 2 * n + 1 + 1 by ring,
      Finset.range_add_one, Finset.range_add_one, Finset.sup_insert, Finset.sup_insert]
    rw [show 128 * (2 * n) + l.val = 256 * n + l.val by ring, show 128 * (2 * n + 1) + l.val = 256 * n + (128 + l.val) by ring]
    show max (max _ _) (max _ _) = max _ (max _ (max _ _))
    simp only
    ac_rfl

theorem dstep_at (a : FVec Ideal S32x128 .f32) (s : FVec Ideal S32x256 .f32) (r : Fin 32) (l : Fin 128) :
    dstep a s (ix2 r l) = a (ix2 r l) + (s (ix2 r ⟨l.val, by omega⟩) + s (ix2 r ⟨128 + l.val, by omega⟩)) := by
  pointwise [dstep]

theorem dchain_at (a : FVec Ideal S32x128 .f32) (s : ℕ → FVec Ideal S32x256 .f32) (r : Fin 32) (l : Fin 128) (f : ℕ → EReal) (n : ℕ)
    (h : ∀ k < n, ∀ x : Fin 256, s k (ix2 r x) = f (256 * k + x.val)) :
    dchain a s n (ix2 r l) = a (ix2 r l) + ∑ u ∈ range (2 * n), f (128 * u + l.val) := by
  induction n with
  | zero => simp [dchain]
  | succ n ih =>
    rw [dchain, dstep_at, ih fun k hk => h k (by omega), h n (by omega), h n (by omega), show 2 * (n + 1) = 2 * n + 1 + 1 by ring,
      Finset.sum_range_succ, Finset.sum_range_succ]
    rw [show 128 * (2 * n) + l.val = 256 * n + l.val by ring, show 128 * (2 * n + 1) + l.val = 256 * n + (128 + l.val) by ring]
    simp only [add_assoc]

theorem dn128_at (v : Vec Ideal S1x32x128 .f32) (r : Fin 32) (l : Fin 128) : dn128 v (ix2 r l) = v (ix3 0 r l) := by
  pointwise [dn128]
theorem up128_at (v : FVec Ideal S32x128 .f32) (r : Fin 32) (l : Fin 128) : up128 v (ix3 0 r l) = v (ix2 r l) := by
  pointwise [up128]
theorem dn256_at (v : Vec Ideal S1x32x256 .f32) (r : Fin 32) (l : Fin 256) : dn256 v (ix2 r l) = v (ix3 0 r l) := by
  pointwise [dn256]
theorem up256_at (v : FVec Ideal S32x256 .f32) (r : Fin 32) (l : Fin 256) : up256 v (ix3 0 r l) = v (ix2 r l) := by
  pointwise [up256]

end Cert.KernelIdeal.Gen

end
-- ==== Proof.Val.Back.lean ====
/- Reading the scratch arrays back after the stores of a point, and the tiles of a block at an index. -/
module

public import proofs.«01_k».proof.Proof.Val.Entry1
public import Idealize.ShloMosaic.Lib.Pipeline.ReadBack
public import Idealize.ShloMosaic.Lib.WritesUnit

@[expose] public section

set_option maxRecDepth 16384

noncomputable section

namespace Cert.KernelIdeal.Gen

open Idealize.ShloMosaic Idealize.ShloMosaic.TcCoe Idealize.ShloMosaic.Tactic
open Cert.Attn Finset

variable {sp : Space}

theorem up_dn128 (v : Vec Ideal S1x32x128 .f32) : up128 (dn128 v) = v := by
  funext j
  idx_vars j
  obtain rfl : j0 = 0 := Subsingleton.elim _ _
  rw [up128_at, dn128_at]
theorem dn_up128 (v : FVec Ideal S32x128 .f32) : dn128 (up128 v) = v := by
  funext j
  idx_vars j
  rw [dn128_at, up128_at]

/-! ### Two pairs' rows -/

section
variable (v : View sig .tc sp S2x32x128 .f32) (v' : View sig .tc sp S2x32x256 .f32) (vq : View sig .tc sp S2x32x256 .bf16)

theorem back0_128 (a b L) : v.readCov (two128 (F := Ideal) a b L) R0l.toLoadRect = a := by
  unfold two128
  rw [View.readCov_skip _ _ _ _ _ (by decide), View.readCov_cons_toLoadRect]
theorem back1_128 (a b L) : v.readCov (two128 (F := Ideal) a b L) R1l.toLoadRect = b := by
  unfold two128
  rw [View.readCov_cons_toLoadRect]
theorem back0_256 (a b L) : v'.readCov (two256 (F := Ideal) a b L) R0q.toLoadRect = a := by
  unfold two256
  rw [View.readCov_skip _ _ _ _ _ (by decide), View.readCov_cons_toLoadRect]
theorem back1_256 (a b L) : v'.readCov (two256 (F := Ideal) a b L) R1q.toLoadRect = b := by
  unfold two256
  rw [View.readCov_cons_toLoadRect]
theorem back0_q (a b) : vq.readCov (two256q (F := Ideal) a b) R0q.toLoadRect = a := by
  unfold two256q
  rw [View.readCov_skip _ _ _ _ _ (by decide), View.readCov_cons_toLoadRect]
theorem back1_q (a b) : vq.readCov (two256q (F := Ideal) a b) R1q.toLoadRect = b := by
  unfold two256q
  rw [View.readCov_cons_toLoadRect]
theorem step128_eq (f g L) : step128 (F := Ideal) v f g L = two128 (f (v.readCov L R0l.toLoadRect)) (g (v.readCov L R1l.toLoadRect)) L := by
  unfold step128 two128
  rw [View.readCov_skip _ _ _ _ _ (by decide)]
theorem step256_eq (f g L) : step256 (F := Ideal) v' f g L = two256 (f (v'.readCov L R0q.toLoadRect)) (g (v'.readCov L R1q.toLoadRect)) L := by
  unfold step256 two256
  rw [View.readCov_skip _ _ _ _ _ (by decide)]

theorem backM0 (s0 s1) (L) (n : ℕ) : v.readCov (mPieces (F := Ideal) v s0 s1 L n) R0l.toLoadRect = up128 (mchain (dn128 (v.readCov L R0l.toLoadRect)) s0 n) := by
  induction n with
  | zero => rw [mPieces, mchain, up_dn128]
  | succ n ih => rw [mPieces, step128_eq, back0_128, ih, dn_up128, mchain]
theorem backM1 (s0 s1) (L) (n : ℕ) : v.readCov (mPieces (F := Ideal) v s0 s1 L n) R1l.toLoadRect = up128 (mchain (dn128 (v.readCov L R1l.toLoadRect)) s1 n) := by
  induction n with
  | zero => rw [mPieces, mchain, up_dn128]
  | succ n ih => rw [mPieces, step128_eq, back1_128, ih, dn_up128, mchain]

theorem fill128_0 (z) : v.readCov (fill128 (F := Ideal) z) R0l.toLoadRect = View.ld z R0l := by
  rw [View.readCov_fill _ _ _ _ _ (by decide)]
theorem fill128_1 (z) : v.readCov (fill128 (F := Ideal) z) R1l.toLoadRect = View.ld z R1l := by
  rw [View.readCov_fill _ _ _ _ _ (by decide)]

/-! ### What an array holds after the stores -/

theorem read_two128 (f) (a b : FVec Ideal S1x32x128 .f32) (L) (G : ℕ → ℕ → ℕ → EReal) (h0 : ∀ (r : Fin 32) (l : Fin 128), a (ix3 0 r l) = G 0 r.val l.val)
    (h1 : ∀ (r : Fin 32) (l : Fin 128), b (ix3 0 r l) = G 1 r.val l.val) (p : Fin 2) (r : Fin 32) (l : Fin 128) :
    v.read (Elt Ideal) (v.writes (Elt Ideal) f (two128 a b L)) (ix3 p r l) = G p.val r.val l.val := by
  unfold two128
  obtain rfl | rfl : p = 0 ∨ p = 1 := by omega
  · rw [View.read_writes_cons_unit_of_not_mem _ _ _ _ _ _ rfl 0 (by left; show 0 < 1; decide),
      View.read_writes_cons_unit_of_mem _ _ _ _ _ _ (ix3 0 r l) rfl (by intro a; fin_cases a <;> simp)]
    exact h0 r l
  · rw [View.read_writes_cons_unit_of_mem _ _ _ _ _ _ (ix3 0 r l) rfl (by intro a; fin_cases a <;> simp)]
    exact h1 r l
theorem read_two256 (f) (a b : FVec Ideal S1x32x256 .f32) (L) (G : ℕ → ℕ → ℕ → EReal) (h0 : ∀ (r : Fin 32) (l : Fin 256), a (ix3 0 r l) = G 0 r.val l.val)
    (h1 : ∀ (r : Fin 32) (l : Fin 256), b (ix3 0 r l) = G 1 r.val l.val) (p : Fin 2) (r : Fin 32) (l : Fin 256) :
    v'.read (Elt Ideal) (v'.writes (Elt Ideal) f (two256 a b L)) (ix3 p r l) = G p.val r.val l.val := by
  unfold two256
  obtain rfl | rfl : p = 0 ∨ p = 1 := by omega
  · rw [View.read_writes_cons_unit_of_not_mem _ _ _ _ _ _ rfl 0 (by left; show 0 < 1; decide),
      View.read_writes_cons_unit_of_mem _ _ _ _ _ _ (ix3 0 r l) rfl (by intro a; fin_cases a <;> simp)]
    exact h0 r l
  · rw [View.read_writes_cons_unit_of_mem _ _ _ _ _ _ (ix3 0 r l) rfl (by intro a; fin_cases a <;> simp)]
    exact h1 r l
theorem read_two256q (f) (a b : FVec Ideal S1x32x256 .bf16) (G : ℕ → ℕ → ℕ → EReal) (h0 : ∀ (r : Fin 32) (l : Fin 256), a (ix3 0 r l) = G 0 r.val l.val)
    (h1 : ∀ (r : Fin 32) (l : Fin 256), b (ix3 0 r l) = G 1 r.val l.val) (p : Fin 2) (r : Fin 32) (l : Fin 256) :
    vq.read (Elt Ideal) (vq.writes (Elt Ideal) f (two256q a b)) (ix3 p r l) = G p.val r.val l.val := by
  unfold two256q
  obtain rfl | rfl : p = 0 ∨ p = 1 := by omega
  · rw [View.read_writes_cons_unit_of_not_mem _ _ _ _ _ _ rfl 0 (by left; show 0 < 1; decide),
      View.read_writes_cons_unit_of_mem _ _ _ _ _ _ (ix3 0 r l) rfl (by intro a; fin_cases a <;> simp)]
    exact h0 r l
  · rw [View.read_writes_cons_unit_of_mem _ _ _ _ _ _ (ix3 0 r l) rfl (by intro a; fin_cases a <;> simp)]
    exact h1 r l
end

section
variable (vs : View sig .tc sp S2x32x133120 .f32) (f : vs.ty.Contents (Elt Ideal)) (G : ℕ → ℕ → ℕ → EReal)

/-- One tile of scores stored over the rest. -/
theorem read_tile (off : Fin 3 → ℕ) (inb) (s : FVec Ideal S32x256 .f32) (L) (P T : ℕ) (ho : off = ![P, 0, T]) (hs : ∀ (r : Fin 32) (x : Fin 256), s (ix2 r x) = G P r.val (T + x.val))
    (p : Fin 2) (r : Fin 32) (j : Fin 133120)
    (h : ¬(p.val = P ∧ T ≤ j.val ∧ j.val < T + 256) → vs.read (Elt Ideal) (vs.writes (Elt Ideal) f L) (ix3 p r j) = G p.val r.val j.val) :
    vs.read (Elt Ideal) (vs.writes (Elt Ideal) f (⟨Rect.unit (s := S2x32x133120) off S1x32x256.size inb, up256 s⟩ :: L)) (ix3 p r j) = G p.val r.val j.val := by
  by_cases c : p.val = P ∧ T ≤ j.val ∧ j.val < T + 256
  · obtain ⟨c0, c1, c2⟩ := c
    rw [View.read_writes_cons_unit_of_mem _ _ _ _ _ _ (ix3 0 r ⟨j.val - T, by omega⟩) ho (by
      intro a; fin_cases a
      · show p.val = P + 0; omega
      · show r.val = 0 + r.val; omega
      · show j.val = T + (j.val - T); omega), up256_at, hs, c0]
    congr 1
    simp only; omega
  · have hn := h c
    by_cases c0 : p.val = P
    · rw [View.read_writes_cons_unit_of_not_mem _ _ _ _ _ _ ho 2 (by
        show j.val < T ∨ T + 256 ≤ j.val
        by_contra hh; exact c ⟨c0, by omega, by omega⟩)]
      exact hn
    · rw [View.read_writes_cons_unit_of_not_mem _ _ _ _ _ _ ho 0 (by
        show p.val < P ∨ P + 1 ≤ p.val
        omega)]
      exact hn

theorem off1_eq (i : grid0.Coords) (n : ℕ) (hn : n < 16) : k0_off1 i (BitVec.ofNat 32 (256 * (n % 16))) = ![0, 0, 4096 * (i 0).val + 256 * n] := by
  rw [Nat.mod_eq_of_lt hn]; exact k0_off1_eq i ⟨n, hn⟩
theorem off2_eq (i : grid0.Coords) (n : ℕ) (hn : n < 16) : k0_off2 i (BitVec.ofNat 32 (256 * (n % 16))) = ![1, 0, 4096 * (i 0).val + 256 * n] := by
  rw [Nat.mod_eq_of_lt hn]; exact k0_off2_eq i ⟨n, hn⟩

theorem read_sPieces (i : grid0.Coords) (hc : k0_cond2 i = 1#1) (s0 s1 : ℕ → FVec Ideal S32x256 .f32) (L) (n : ℕ) (hn : n ≤ 16)
    (h0 : ∀ k < 16, ∀ (r : Fin 32) (x : Fin 256), s0 k (ix2 r x) = G 0 r.val (4096 * (i 0).val + 256 * k + x.val))
    (h1 : ∀ k < 16, ∀ (r : Fin 32) (x : Fin 256), s1 k (ix2 r x) = G 1 r.val (4096 * (i 0).val + 256 * k + x.val))
    (p : Fin 2) (r : Fin 32) (j : Fin 133120)
    (h : ¬(4096 * (i 0).val ≤ j.val ∧ j.val < 4096 * (i 0).val + 256 * n) → vs.read (Elt Ideal) (vs.writes (Elt Ideal) f L) (ix3 p r j) = G p.val r.val j.val) :
    vs.read (Elt Ideal) (vs.writes (Elt Ideal) f (sPieces i hc s0 s1 L n)) (ix3 p r j) = G p.val r.val j.val := by
  induction n with
  | zero => exact h (by omega)
  | succ n ih =>
    rw [sPieces]
    refine read_tile vs f G _ _ _ _ 1 _ (off2_eq i n (by omega)) (h1 n (by omega)) p r j fun c => ?_
    refine read_tile vs f G _ _ _ _ 0 _ (off1_eq i n (by omega)) (h0 n (by omega)) p r j fun c' => ?_
    refine ih (by omega) fun c'' => h fun hh => ?_
    have := p.isLt
    by_cases hp : p.val = 0
    · exact c' ⟨hp, by omega, by omega⟩
    · exact c ⟨by omega, by omega, by omega⟩

theorem read_tPieces (s0 s1 : ℕ → FVec Ideal S32x256 .f32) (n : ℕ) (hn : n ≤ 8)
    (h0 : ∀ k < 8, ∀ (r : Fin 32) (x : Fin 256), s0 k (ix2 r x) = G 0 r.val (131072 + 256 * k + x.val))
    (h1 : ∀ k < 8, ∀ (r : Fin 32) (x : Fin 256), s1 k (ix2 r x) = G 1 r.val (131072 + 256 * k + x.val))
    (p : Fin 2) (r : Fin 32) (j : Fin 133120) (h : 131072 ≤ j.val ∧ j.val < 131072 + 256 * n) :
    vs.read (Elt Ideal) (vs.writes (Elt Ideal) f (tPieces s0 s1 n)) (ix3 p r j) = G p.val r.val j.val := by
  induction n with
  | zero => omega
  | succ n ih =>
    rw [tPieces]
    refine read_tile vs f G _ _ _ _ 1 _ (by rw [Nat.mod_eq_of_lt (show n < 8 by omega)]) (h1 n (by omega)) p r j fun c => ?_
    refine read_tile vs f G _ _ _ _ 0 _ (by rw [Nat.mod_eq_of_lt (show n < 8 by omega)]) (h0 n (by omega)) p r j fun c' => ?_
    refine ih (by omega) ?_
    have := p.isLt
    by_cases hp : p.val = 0
    · by_contra hh; exact c' ⟨hp, by omega, by omega⟩
    · by_contra hh; exact c ⟨by omega, by omega, by omega⟩
end

/-! ### The tiles at an index -/

theorem ix4_congr (x : Vec Ideal S2x1024x4x128 .fp8e4m3) (a a' : Fin 2) (b b' : Fin 1024) (c c' : Fin 4) (d : Fin 128) (ha : a.val = a'.val) (hb : b.val = b'.val) (hc : c.val = c'.val) :
    x (ix4 a b c d) = x (ix4 a' b' c' d) := by
  rw [Fin.ext ha, Fin.ext hb, Fin.ext hc]

theorem tileK_at (a : Memref sig .tc sp S16384x128 .fp8e4m3) (h : a.IsWhole) (x : Vec Ideal S16384x128 .fp8e4m3) (k : ℕ) (hk : k < 16) (y : Fin 1024) (d : Fin 128) :
    tileK a h x k (ix2 y d) = x (ix2 ⟨1024 * k + y.val, by omega⟩ d) := by
  unfold tileK
  rw [View.readAt_eq_ld, h.read_unread]
  refine View.ld_unit_apply_of _ _ _ _ _ _ fun a => ?_
  fin_cases a
  · show 1024 * k + y.val = 1024 * (k % 16) + y.val; omega
  · show d.val = 0 + d.val; omega
theorem tileS_at (a : Memref sig .tc sp S4x4096 .f32) (h : a.IsWhole) (x : Vec Ideal S4x4096 .f32) (k : ℕ) (hk : k < 16) (g : Fin 4) (y : Fin 256) :
    tileS a h x k (ix2 g y) = x (ix2 g ⟨256 * k + y.val, by omega⟩) := by
  unfold tileS
  rw [View.readAt_eq_ld, h.read_unread]
  refine View.ld_unit_apply_of _ _ _ _ _ _ fun a => ?_
  fin_cases a
  · show g.val = 0 + g.val; omega
  · show 256 * k + y.val = 256 * (k % 16) + y.val; omega
theorem rdQ0_at (a : Memref sig .tc sp S2x32x256 .bf16) (h : a.IsWhole) (x : Vec Ideal S2x32x256 .bf16) (r : Fin 32) (d : Fin 256) : rdQ0 a h x (ix3 0 r d) = x (ix3 0 r d) := by
  unfold rdQ0
  rw [View.readAt_eq_ld, h.read_unread]
  refine View.ld_unit_apply_of _ _ _ _ _ _ fun a => ?_
  fin_cases a <;> simp
theorem rdQ1_at (a : Memref sig .tc sp S2x32x256 .bf16) (h : a.IsWhole) (x : Vec Ideal S2x32x256 .bf16) (r : Fin 32) (d : Fin 256) : rdQ1 a h x (ix3 0 r d) = x (ix3 1 r d) := by
  unfold rdQ1
  rw [View.readAt_eq_ld, h.read_unread]
  refine View.ld_unit_apply_of _ _ _ _ _ _ fun a => ?_
  fin_cases a <;> simp
theorem rdL0_at (a : Memref sig .tc sp S2x32x128 .f32) (h : a.IsWhole) (x : Vec Ideal S2x32x128 .f32) (r : Fin 32) (d : Fin 128) : rdL0 a h x (ix3 0 r d) = x (ix3 0 r d) := by
  unfold rdL0
  rw [View.readAt_eq_ld, h.read_unread]
  refine View.ld_unit_apply_of _ _ _ _ _ _ fun a => ?_
  fin_cases a <;> simp
theorem rdL1_at (a : Memref sig .tc sp S2x32x128 .f32) (h : a.IsWhole) (x : Vec Ideal S2x32x128 .f32) (r : Fin 32) (d : Fin 128) : rdL1 a h x (ix3 0 r d) = x (ix3 1 r d) := by
  unfold rdL1
  rw [View.readAt_eq_ld, h.read_unread]
  refine View.ld_unit_apply_of _ _ _ _ _ _ fun a => ?_
  fin_cases a <;> simp
theorem rdA0_at (a : Memref sig .tc sp S2x32x256 .f32) (h : a.IsWhole) (x : Vec Ideal S2x32x256 .f32) (r : Fin 32) (d : Fin 256) : rdA0 a h x (ix3 0 r d) = x (ix3 0 r d) := by
  unfold rdA0
  rw [View.readAt_eq_ld, h.read_unread]
  refine View.ld_unit_apply_of _ _ _ _ _ _ fun a => ?_
  fin_cases a <;> simp
theorem rdA1_at (a : Memref sig .tc sp S2x32x256 .f32) (h : a.IsWhole) (x : Vec Ideal S2x32x256 .f32) (r : Fin 32) (d : Fin 256) : rdA1 a h x (ix3 0 r d) = x (ix3 1 r d) := by
  unfold rdA1
  rw [View.readAt_eq_ld, h.read_unread]
  refine View.ld_unit_apply_of _ _ _ _ _ _ fun a => ?_
  fin_cases a <;> simp

theorem off3_eq (i : grid0.Coords) (n : ℕ) (hn : n < 16) (hi : 32 ≤ (i 0).val) : k0_off3 i (BitVec.ofNat 32 (256 * (n % 16))) = ![0, 0, 4096 * ((i 0).val - 32) + 256 * n] := by
  rw [Nat.mod_eq_of_lt hn]
  have e : ∀ i : grid0.Coords, 32 ≤ (i 0).val → ∀ r : Fin 16, ∀ a : Fin 3, k0_off3 i (BitVec.ofNat 32 (256 * r.val)) a = ![0, 0, 4096 * ((i 0).val - 32) + 256 * r.val] a := by decide +kernel
  exact funext (e i hi ⟨n, hn⟩)
theorem off4_eq (i : grid0.Coords) (n : ℕ) (hn : n < 16) (hi : 32 ≤ (i 0).val) : k0_off4 i (BitVec.ofNat 32 (256 * (n % 16))) = ![1, 0, 4096 * ((i 0).val - 32) + 256 * n] := by
  rw [Nat.mod_eq_of_lt hn]
  have e : ∀ i : grid0.Coords, 32 ≤ (i 0).val → ∀ r : Fin 16, ∀ a : Fin 3, k0_off4 i (BitVec.ofNat 32 (256 * r.val)) a = ![1, 0, 4096 * ((i 0).val - 32) + 256 * r.val] a := by decide +kernel
  exact funext (e i hi ⟨n, hn⟩)
theorem rdS0_at (i : grid0.Coords) (hc : k0_cond4 i = 1#1) (hi : 32 ≤ (i 0).val) (a : Memref sig .tc sp S2x32x133120 .f32) (h : a.IsWhole) (x : Vec Ideal S2x32x133120 .f32) (k : ℕ) (hk : k < 16) (r : Fin 32) (y : Fin 256) (hj : 4096 * ((i 0).val - 32) + 256 * k + y.val < 133120) :
    rdS0 i hc a h x k (ix3 0 r y) = x (ix3 0 r ⟨4096 * ((i 0).val - 32) + 256 * k + y.val, hj⟩) := by
  unfold rdS0
  rw [View.readAt_eq_ld, h.read_unread]
  refine View.ld_unit_apply_of _ _ _ _ _ _ fun a => ?_
  have e := off3_eq i k hk hi
  fin_cases a
  · show 0 = k0_off3 i (BitVec.ofNat 32 (256 * (k % 16))) 0 + 0; rw [e]; rfl
  · show r.val = k0_off3 i (BitVec.ofNat 32 (256 * (k % 16))) 1 + r.val; rw [e]; show r.val = 0 + r.val; omega
  · show 4096 * ((i 0).val - 32) + 256 * k + y.val = k0_off3 i (BitVec.ofNat 32 (256 * (k % 16))) 2 + y.val; rw [e]; rfl
theorem rdS1_at (i : grid0.Coords) (hc : k0_cond4 i = 1#1) (hi : 32 ≤ (i 0).val) (a : Memref sig .tc sp S2x32x133120 .f32) (h : a.IsWhole) (x : Vec Ideal S2x32x133120 .f32) (k : ℕ) (hk : k < 16) (r : Fin 32) (y : Fin 256) (hj : 4096 * ((i 0).val - 32) + 256 * k + y.val < 133120) :
    rdS1 i hc a h x k (ix3 0 r y) = x (ix3 1 r ⟨4096 * ((i 0).val - 32) + 256 * k + y.val, hj⟩) := by
  unfold rdS1
  rw [View.readAt_eq_ld, h.read_unread]
  refine View.ld_unit_apply_of _ _ _ _ _ _ fun a => ?_
  have e := off4_eq i k hk hi
  fin_cases a
  · show 1 = k0_off4 i (BitVec.ofNat 32 (256 * (k % 16))) 0 + 0; rw [e]; rfl
  · show r.val = k0_off4 i (BitVec.ofNat 32 (256 * (k % 16))) 1 + r.val; rw [e]; show r.val = 0 + r.val; omega
  · show 4096 * ((i 0).val - 32) + 256 * k + y.val = k0_off4 i (BitVec.ofNat 32 (256 * (k % 16))) 2 + y.val; rw [e]; rfl
theorem rdT_at (a : Memref sig .tc sp S2x32x133120 .f32) (h : a.IsWhole) (x : Vec Ideal S2x32x133120 .f32) (p : Fin 2) (k : ℕ) (hk : k < 8) (r : Fin 32) (y : Fin 256) :
    rdT a h x p.val k (ix3 0 r y) = x (ix3 p r ⟨131072 + 256 * k + y.val, by omega⟩) := by
  unfold rdT
  rw [View.readAt_eq_ld, h.read_unread]
  refine View.ld_unit_apply_of _ _ _ _ _ _ fun a => ?_
  fin_cases a
  · show p.val = p.val % 2 + 0; omega
  · show r.val = 0 + r.val; omega
  · show 131072 + 256 * k + y.val = 131072 + 256 * (k % 8) + y.val; omega
theorem rdX_at (a : Memref sig .tc sp S2x32x128 .bf16) (h : a.IsWhole) (x : Vec Ideal S2x32x128 .bf16) (b g : ℕ) (hb : b < 2) (r : Fin 8) (d : Fin 128) :
    rdX a h x b g (ix3 0 r d) = x (ix3 ⟨b, hb⟩ ⟨8 * (g % 4) + r.val, by omega⟩ d) := by
  unfold rdX
  rw [View.readAt_eq_ld, h.read_unread]
  refine View.ld_unit_apply_of _ _ _ _ _ _ fun a => ?_
  fin_cases a
  · show b = b % 2 + 0; omega
  · show 8 * (g % 4) + r.val = 8 * (g % 4) + r.val; omega
  · show d.val = 0 + d.val; omega
theorem rdN_at (a : Memref sig .tc sp S2x4x128 .bf16) (h : a.IsWhole) (x : Vec Ideal S2x4x128 .bf16) (b g : ℕ) (hb : b < 2) (d : Fin 128) :
    rdN a h x b g (ix3 0 0 d) = x (ix3 ⟨b, hb⟩ ⟨g % 4, Nat.mod_lt _ (by decide)⟩ d) := by
  unfold rdN
  rw [View.readAt_eq_ld, h.read_unread]
  refine View.ld_unit_apply_of _ _ _ _ _ _ fun a => ?_
  fin_cases a
  · show b = b % 2 + 0; omega
  · show g % 4 = g % 4 + 0; omega
  · show d.val = 0 + d.val; omega
theorem tailS_at (a : Memref sig .tc sp S2x4x1024 .f32) (h : a.IsWhole) (x : Vec Ideal S2x4x1024 .f32) (k : ℕ) (hk : k < 8) (g : Fin 4) (y : Fin 256) :
    tailS a h x k (ix3 0 g y) = x (ix3 ⟨k / 4, by omega⟩ g ⟨256 * (k % 4) + y.val, by omega⟩) := by
  unfold tailS
  rw [View.readAt_eq_ld, h.read_unread]
  refine View.ld_unit_apply_of _ _ _ _ _ _ fun a => ?_
  fin_cases a
  · show k / 4 = k % 8 / 4 + 0; omega
  · show g.val = 0 + g.val; omega
  · show 256 * (k % 4) + y.val = 256 * (k % 8 % 4) + y.val; omega

theorem tailK_at (a : Memref sig .tc sp S2x1024x4x128 .fp8e4m3) (h : a.IsWhole) (x : Vec Ideal S2x1024x4x128 .fp8e4m3) (k : ℕ) (hk : k < 8) (y : Fin 1024) (d : Fin 128) :
    tailK a h x k (ix2 y d) = x (ix4 ⟨k / 4, by omega⟩ ⟨256 * (k % 4) + y.val / 4, by omega⟩ ⟨y.val % 4, by omega⟩ d) := by
  unfold tailK
  rw [View.readAt_eq_ld]
  refine (View.ld_unit_apply_of _ _ _ _ _ (ix2 ⟨1024 * k + y.val, by omega⟩ d) fun a => ?_).trans ?_
  · fin_cases a
    · show 1024 * k + y.val = 1024 * (k % 8) + y.val; omega
    · show d.val = 0 + d.val; omega
  show shapeCast S8192x128 (a.view.read (Elt Ideal) (h.unread x)) (by decide) (ix2 ⟨1024 * k + y.val, by omega⟩ d) = _
  rw [h.read_unread]
  pointwise []
  refine ix4_congr x _ _ _ _ _ _ _ ?_ ?_ ?_ <;> dsimp only <;> omega
theorem tailV_at (a : Memref sig .tc sp S2x1024x4x128 .fp8e4m3) (h : a.IsWhole) (x : Vec Ideal S2x1024x4x128 .fp8e4m3) (b j : ℕ) (hb : b < 2) (hj : j < 4) (y : Fin 1024) (d : Fin 128) :
    tailV a h x b j (ix2 y d) = x (ix4 ⟨b, hb⟩ ⟨256 * j + y.val / 4, by omega⟩ ⟨y.val % 4, by omega⟩ d) := by
  unfold tailV
  rw [View.readAt_eq_ld]
  refine (View.ld_unit_apply_of _ _ _ _ _ (ix2 ⟨1024 * j + y.val, by omega⟩ d) fun a => ?_).trans ?_
  · fin_cases a
    · show 1024 * j + y.val = 1024 * (j % 4) + y.val; omega
    · show d.val = 0 + d.val; omega
  refine (View.ld_unit_apply_of (shapeCast S8192x128 (a.view.read (Elt Ideal) (h.unread x)) (by decide)) _ _ _ _ (ix2 ⟨4096 * b + (1024 * j + y.val), by omega⟩ d) fun a => ?_).trans ?_
  · fin_cases a
    · show 4096 * b + (1024 * j + y.val) = 4096 * (b % 2) + (1024 * j + y.val); omega
    · show d.val = 0 + d.val; omega
  rw [h.read_unread]
  pointwise []
  refine ix4_congr x _ _ _ _ _ _ _ ?_ ?_ ?_ <;> dsimp only <;> omega
theorem tailVS_at (a : Memref sig .tc sp S2x4x1024 .f32) (h : a.IsWhole) (x : Vec Ideal S2x4x1024 .f32) (b j : ℕ) (hb : b < 2) (hj : j < 4) (g : Fin 4) (y : Fin 256) :
    tailVS a h x b j (ix2 g y) = x (ix3 ⟨b, hb⟩ g ⟨256 * j + y.val, by omega⟩) := by
  unfold tailVS
  rw [View.readAt_eq_ld]
  refine (View.ld_unit_apply_of _ _ _ _ _ (ix2 g ⟨256 * j + y.val, by omega⟩) fun a => ?_).trans ?_
  · fin_cases a
    · show g.val = 0 + g.val; omega
    · show 256 * j + y.val = 256 * (j % 4) + y.val; omega
  have hc : S1x4x1024.ShapeCasts S4x1024 := by decide
  have key : ∀ w : Vec Ideal S1x4x1024 .f32, shapeCast S4x1024 w hc (ix2 g ⟨256 * j + y.val, by omega⟩) = w (ix3 0 g ⟨256 * j + y.val, by omega⟩) := by
    intro w
    pointwise []
  refine (key (View.ld (a.view.read (Elt Ideal) (h.unread x)) (Rect.unit (s := S2x4x1024) ![b % 2, 0, 0] S1x4x1024.size (inb_tvs b)))).trans ?_
  rw [h.read_unread]
  refine View.ld_unit_apply_of _ _ _ _ _ _ fun a => ?_
  fin_cases a
  · show b = b % 2 + 0; omega
  · show g.val = 0 + g.val; omega
  · show 256 * j + y.val = 0 + (256 * j + y.val); omega

end Cert.KernelIdeal.Gen

end
-- ==== Proof.Val.Tiles.lean ====
/- The kernel's tiles of scores, weights and values, from the blocks of a grid point, as the mathematics names them. -/
module

public import proofs.«01_k».proof.Proof.Val.Entry2
public import proofs.«01_k».proof.Proof.Val.Back

@[expose] public section

set_option maxRecDepth 16384

noncomputable section

namespace Cert.KernelIdeal.Gen

open Idealize.ShloMosaic Idealize.ShloMosaic.TcCoe Idealize.ShloMosaic.Tactic
open Cert.Attn Finset

variable {sp : Space} (X : In)

/-- The blocks of grid point `n` hold the inputs' entries. -/
structure Blocks {c : Dev nD} (n : ℕ) (x0 : Vec Ideal S2x32x128 .bf16) (x1 x2 : Vec Ideal S2x4x128 .bf16) (x3 x4 : Vec Ideal S16384x128 .fp8e4m3)
    (x5 x6 : Vec Ideal S4x4096 .f32) (x7 x8 : Vec Ideal S2x1024x4x128 .fp8e4m3) (x9 x10 : Vec Ideal S2x4x1024 .f32) (xt0 : TbBuf0 (F := Ideal) c tbM0_0) : Prop where
  q : ∀ (b : Fin 2) (h : Fin 32) (d : Fin 128), x0 (ix3 b h d) = X.q b.val h.val d.val
  qper : ∀ b g h, h < 8 → X.q b (8 * (g % 4) + h) = X.q b (8 * g + h)
  kn : ∀ (b : Fin 2) (g : Fin 4) (d : Fin 128), x1 (ix3 b g d) = X.kn b.val g.val d.val
  knper : ∀ b g, X.kn b (g % 4) = X.kn b g
  vn : ∀ (b : Fin 2) (g : Fin 4) (d : Fin 128), x2 (ix3 b g d) = X.vn b.val g.val d.val
  vnper : ∀ b g, X.vn b (g % 4) = X.vn b g
  kp : n < 32 → ∀ (a : Fin 16384) (d : Fin 128), x3 (ix2 a d) = X.kp (4096 * n + a.val / 4) (a.val % 4) d.val
  kps : n < 32 → ∀ (g : Fin 4) (x : Fin 4096), x5 (ix2 g x) = X.kps (4096 * n + x.val) g.val
  vp : 32 ≤ n → ∀ (a : Fin 16384) (d : Fin 128), x4 (ix2 a d) = X.vp (4096 * (n - 32) + a.val / 4) (a.val % 4) d.val
  vps : 32 ≤ n → ∀ (g : Fin 4) (x : Fin 4096), x6 (ix2 g x) = X.vps (4096 * (n - 32) + x.val) g.val
  kt : ∀ (b : Fin 2) (t : Fin 1024) (g : Fin 4) (d : Fin 128), x7 (ix4 b t g d) = X.kt b.val t.val g.val d.val
  vt : ∀ (b : Fin 2) (t : Fin 1024) (g : Fin 4) (d : Fin 128), x8 (ix4 b t g d) = X.vt b.val t.val g.val d.val
  kts : ∀ (b : Fin 2) (g : Fin 4) (t : Fin 1024), x9 (ix3 b g t) = X.kts b.val t.val g.val
  vts : ∀ (b : Fin 2) (g : Fin 4) (t : Fin 1024), x10 (ix3 b g t) = X.vts b.val t.val g.val
  len : ∀ b < 2, (rdLen (F := Ideal) xt0 b).toInt = X.len b

section
variable {X} {c : Dev nD} {n : ℕ} {x0 : Vec Ideal S2x32x128 .bf16} {x1 x2 : Vec Ideal S2x4x128 .bf16} {x3 x4 : Vec Ideal S16384x128 .fp8e4m3}
    {x5 x6 : Vec Ideal S4x4096 .f32} {x7 x8 : Vec Ideal S2x1024x4x128 .fp8e4m3} {x9 x10 : Vec Ideal S2x4x1024 .f32} {xt0 : TbBuf0 (F := Ideal) c tbM0_0}
    (B : Blocks X n x0 x1 x2 x3 x4 x5 x6 x7 x8 x9 x10 xt0)
include B

/-! ### The queries and the new token -/

theorem rdX_ok (a : Memref sig .tc sp S2x32x128 .bf16) (h : a.IsWhole) (p : ℕ) (r : Fin 32) (dd : Fin 256) :
    qrows (rdX a h x0) p (ix3 0 r dd) = qrow X p r.val dd.val := by
  refine qrows_at X _ p (fun b hb g h' d => ?_) r dd
  rw [rdX_at a h x0 b g hb, B.q, ← B.qper b g h'.val h'.isLt]
theorem rdKn_ok (a : Memref sig .tc sp S2x4x128 .bf16) (h : a.IsWhole) : ∀ b < 2, ∀ g, ∀ d : Fin 128, rdN a h x1 b g (ix3 0 0 d) = X.kn b g d.val := by
  intro b hb g d
  rw [rdN_at a h x1 b g hb, B.kn, ← B.knper b g]
theorem rdVn_ok (a : Memref sig .tc sp S2x4x128 .bf16) (h : a.IsWhole) : ∀ b < 2, ∀ g, ∀ d : Fin 128, rdN a h x2 b g (ix3 0 0 d) = X.vn b g d.val := by
  intro b hb g d
  rw [rdN_at a h x2 b g hb, B.vn, ← B.vnper b g]

/-! ### Scores -/

section
variable (hn : n < 32) (a5 : Memref sig .tc sp S16384x128 .fp8e4m3) (h5 : a5.IsWhole) (a7 : Memref sig .tc sp S4x4096 .f32) (h7 : a7.IsWhole) (q : Vec Ideal S1x32x256 .bf16)
include hn

theorem kTile (k : ℕ) (hk : k < 16) (a : Fin 1024) (d : Fin 128) : tileK a5 h5 x3 k (ix2 a d) = X.kp (4096 * n + 256 * k + a.val / 4) (a.val % 4) d.val := by
  rw [tileK_at _ _ _ _ hk, B.kp hn]
  congr 1 <;> dsimp only <;> omega
theorem ksTile (k : ℕ) (hk : k < 16) (g : Fin 4) (x : Fin 256) : tileS a7 h7 x5 k (ix2 g x) = X.kps (4096 * n + 256 * k + x.val) g.val := by
  rw [tileS_at _ _ _ _ hk, B.kps hn]
  congr 1; dsimp only; omega
theorem sc0_ok (hq : IsQ X 0 q) (k : ℕ) (hk : k < 16) (r : Fin 32) (x : Fin 256) :
    sc0 (tileK a5 h5 x3 k) (tileS a7 h7 x5 k) q (ix2 r x) = score X 0 r.val (4096 * n + 256 * k + x.val) := by
  rw [sc0_at X _ _ q (fun x g d => X.kp (4096 * n + 256 * k + x) g d) (fun x g => X.kps (4096 * n + 256 * k + x) g) hq (kTile B hn a5 h5 k hk) (ksTile B hn a7 h7 k hk),
    score_prefix X 0 r.val r.isLt (4096 * n + 256 * k + x.val) (by omega)]
  rfl
theorem sc1_ok (hq : IsQ X 1 q) (k : ℕ) (hk : k < 16) (r : Fin 32) (x : Fin 256) :
    sc1 (tileK a5 h5 x3 k) (tileS a7 h7 x5 k) q (ix2 r x) = score X 1 r.val (4096 * n + 256 * k + x.val) := by
  rw [sc1_at X _ _ q (fun x g d => X.kp (4096 * n + 256 * k + x) g d) (fun x g => X.kps (4096 * n + 256 * k + x) g) hq (kTile B hn a5 h5 k hk) (ksTile B hn a7 h7 k hk),
    score_prefix X 1 r.val r.isLt (4096 * n + 256 * k + x.val) (by omega)]
  rfl
end

section
variable (a9 : Memref sig .tc sp S2x1024x4x128 .fp8e4m3) (h9 : a9.IsWhole) (a11 : Memref sig .tc sp S2x4x1024 .f32) (h11 : a11.IsWhole) (q : Vec Ideal S1x32x256 .bf16)

theorem ktTile (k : ℕ) (hk : k < 8) (a : Fin 1024) (d : Fin 128) : tailK a9 h9 x7 k (ix2 a d) = X.kt (k / 4) (256 * (k % 4) + a.val / 4) (a.val % 4) d.val := by
  rw [tailK_at _ _ _ _ hk, B.kt]
theorem ktsTile (k : ℕ) (hk : k < 8) (g : Fin 4) (x : Fin 256) : tailS a11 h11 x9 k (ix3 0 g x) = X.kts (k / 4) (256 * (k % 4) + x.val) g.val := by
  rw [tailS_at _ _ _ _ hk, B.kts]
theorem tm_ok (k : ℕ) (hk : k < 8) (r : Fin 32) (x : Fin 256) : tmask (BitVec.ofNat 32 (k / 4)) (BitVec.ofNat 32 (256 * (k % 4))) (rdLen (F := Ideal) xt0 (k / 4)) (ix2 r x)
    = if bat r.val = k / 4 ∧ ((256 * (k % 4) + x.val : ℕ) : ℤ) < X.len (k / 4) then 1#1 else 0#1 := by
  rw [tmask_at _ _ (by omega) (by omega), B.len _ (by omega)]
theorem tsc0_ok (hq : IsQ X 0 q) (k : ℕ) (hk : k < 8) (r : Fin 32) (x : Fin 256) :
    tsc0 (tmask (BitVec.ofNat 32 (k / 4)) (BitVec.ofNat 32 (256 * (k % 4))) (rdLen (F := Ideal) xt0 (k / 4))) (tailK a9 h9 x7 k) (tailS a11 h11 x9 k) q (ix2 r x)
      = score X 0 r.val (131072 + 256 * k + x.val) := by
  rw [tsc0_at X _ _ _ q (fun x g d => X.kt (k / 4) (256 * (k % 4) + x) g d) (fun x g => X.kts (k / 4) (256 * (k % 4) + x) g) hq (ktTile B a9 h9 k hk) (ktsTile B a11 h11 k hk) r x _ (tm_ok B k hk r x),
    show 131072 + 256 * k + x.val = 131072 + (256 * k + x.val) from by omega, score_tail X 0 r.val r.isLt (256 * k + x.val),
    show (256 * k + x.val) / 1024 = k / 4 from by omega, show (256 * k + x.val) % 1024 = 256 * (k % 4) + x.val from by omega]
  rfl
theorem tsc1_ok (hq : IsQ X 1 q) (k : ℕ) (hk : k < 8) (r : Fin 32) (x : Fin 256) :
    tsc1 (tmask (BitVec.ofNat 32 (k / 4)) (BitVec.ofNat 32 (256 * (k % 4))) (rdLen (F := Ideal) xt0 (k / 4))) (tailK a9 h9 x7 k) (tailS a11 h11 x9 k) q (ix2 r x)
      = score X 1 r.val (131072 + 256 * k + x.val) := by
  rw [tsc1_at X _ _ _ q (fun x g d => X.kt (k / 4) (256 * (k % 4) + x) g d) (fun x g => X.kts (k / 4) (256 * (k % 4) + x) g) hq (ktTile B a9 h9 k hk) (ktsTile B a11 h11 k hk) r x _ (tm_ok B k hk r x),
    show 131072 + 256 * k + x.val = 131072 + (256 * k + x.val) from by omega, score_tail X 1 r.val r.isLt (256 * k + x.val),
    show (256 * k + x.val) / 1024 = k / 4 from by omega, show (256 * k + x.val) % 1024 = 256 * (k % 4) + x.val from by omega]
  rfl
end

/-! ### Values -/

section
variable (hn : 32 ≤ n) (hn' : n < 64) (a6 : Memref sig .tc sp S16384x128 .fp8e4m3) (h6 : a6.IsWhole) (a8 : Memref sig .tc sp S4x4096 .f32) (h8 : a8.IsWhole)
include hn hn'

theorem vTile (k : ℕ) (hk : k < 16) (a : Fin 1024) (d : Fin 128) : tileK a6 h6 x4 k (ix2 a d) = X.vp (4096 * (n - 32) + 256 * k + a.val / 4) (a.val % 4) d.val := by
  rw [tileK_at _ _ _ _ hk, B.vp hn]
  congr 1 <;> dsimp only <;> omega
theorem vsTile (k : ℕ) (hk : k < 16) (g : Fin 4) (x : Fin 256) : tileS a8 h8 x6 k (ix2 g x) = X.vps (4096 * (n - 32) + 256 * k + x.val) g.val := by
  rw [tileS_at _ _ _ _ hk, B.vps hn]
  congr 1; dsimp only; omega
theorem vp0_ok (k : ℕ) (hk : k < 16) (x d : Fin 256) : vp0 (tileK a6 h6 x4 k) (ix2 x d) = value X 0 d.val (4096 * (n - 32) + 256 * k + x.val) := by
  rw [vp0_at _ (fun x g d => X.vp (4096 * (n - 32) + 256 * k + x) g d) (vTile B hn hn' a6 h6 k hk), value, if_pos (by omega)]
theorem vp1_ok (k : ℕ) (hk : k < 16) (x d : Fin 256) : vp1 (tileK a6 h6 x4 k) (ix2 x d) = value X 1 d.val (4096 * (n - 32) + 256 * k + x.val) := by
  rw [vp1_at _ (fun x g d => X.vp (4096 * (n - 32) + 256 * k + x) g d) (vTile B hn hn' a6 h6 k hk), value, if_pos (by omega)]
theorem wt0_ok (k : ℕ) (hk : k < 16) (s : Vec Ideal S1x32x256 .f32) (m : Vec Ideal S1x32x128 .f32) (r : Fin 32) (x : Fin 256) (hm : ∀ l : Fin 128, m (ix3 0 r l) = rowMax X 0 r.val)
    (hs : s (ix3 0 r x) = score X 0 r.val (4096 * (n - 32) + 256 * k + x.val)) :
    wt0 s m (tileS a8 h8 x6 k) (ix2 r x) = wt X 0 r.val (4096 * (n - 32) + 256 * k + x.val) * vscale X 0 r.val (4096 * (n - 32) + 256 * k + x.val) := by
  rw [wt0_at s m _ r _ hm x (fun x g => X.vps (4096 * (n - 32) + 256 * k + x) g) (vsTile B hn hn' a8 h8 k hk), hs, vscale, if_pos (by omega), wt]
theorem wt1_ok (k : ℕ) (hk : k < 16) (s : Vec Ideal S1x32x256 .f32) (m : Vec Ideal S1x32x128 .f32) (r : Fin 32) (x : Fin 256) (hm : ∀ l : Fin 128, m (ix3 0 r l) = rowMax X 1 r.val)
    (hs : s (ix3 0 r x) = score X 1 r.val (4096 * (n - 32) + 256 * k + x.val)) :
    wt1 s m (tileS a8 h8 x6 k) (ix2 r x) = wt X 1 r.val (4096 * (n - 32) + 256 * k + x.val) * vscale X 1 r.val (4096 * (n - 32) + 256 * k + x.val) := by
  rw [wt1_at s m _ r _ hm x (fun x g => X.vps (4096 * (n - 32) + 256 * k + x) g) (vsTile B hn hn' a8 h8 k hk), hs, vscale, if_pos (by omega), wt]
end

section
variable (a10 : Memref sig .tc sp S2x1024x4x128 .fp8e4m3) (h10 : a10.IsWhole) (a12 : Memref sig .tc sp S2x4x1024 .f32) (h12 : a12.IsWhole) (b j : ℕ) (hb : b < 2) (hj : j < 4)
include hb hj

theorem vtTile (a : Fin 1024) (d : Fin 128) : tailV a10 h10 x8 b j (ix2 a d) = X.vt b (256 * j + a.val / 4) (a.val % 4) d.val := by
  rw [tailV_at _ _ _ _ _ hb hj, B.vt]
theorem vtsTile (g : Fin 4) (x : Fin 256) : tailVS a12 h12 x10 b j (ix2 g x) = X.vts b (256 * j + x.val) g.val := by
  rw [tailVS_at _ _ _ _ _ hb hj, B.vts]
theorem tvp0_ok (x d : Fin 256) : tvp0 (tailV a10 h10 x8 b j) (ix2 x d) = value X 0 d.val (131072 + (1024 * b + (256 * j + x.val))) := by
  rw [tvp0_at _ (fun x g d => X.vt b (256 * j + x) g d) (vtTile B a10 h10 b j hb hj), value, if_neg (by omega), Nat.add_sub_cancel_left,
    show (1024 * b + (256 * j + x.val)) / 1024 = b from by omega, show (1024 * b + (256 * j + x.val)) % 1024 = 256 * j + x.val from by omega]
theorem tvp1_ok (x d : Fin 256) : tvp1 (tailV a10 h10 x8 b j) (ix2 x d) = value X 1 d.val (131072 + (1024 * b + (256 * j + x.val))) := by
  rw [tvp1_at _ (fun x g d => X.vt b (256 * j + x) g d) (vtTile B a10 h10 b j hb hj), value, if_neg (by omega), Nat.add_sub_cancel_left,
    show (1024 * b + (256 * j + x.val)) / 1024 = b from by omega, show (1024 * b + (256 * j + x.val)) % 1024 = 256 * j + x.val from by omega]
theorem twt0_ok (s : Vec Ideal S1x32x256 .f32) (m : Vec Ideal S1x32x128 .f32) (r : Fin 32) (x : Fin 256) (hm : ∀ l : Fin 128, m (ix3 0 r l) = rowMax X 0 r.val)
    (hs : s (ix3 0 r x) = score X 0 r.val (131072 + (1024 * b + (256 * j + x.val)))) :
    wt0 s m (tailVS a12 h12 x10 b j) (ix2 r x) = wt X 0 r.val (131072 + (1024 * b + (256 * j + x.val))) * vscale X 0 r.val (131072 + (1024 * b + (256 * j + x.val))) := by
  rw [wt0_at s m _ r _ hm x (fun x g => X.vts b (256 * j + x) g) (vtsTile B a12 h12 b j hb hj), hs, vscale, if_neg (by omega), Nat.add_sub_cancel_left,
    show (1024 * b + (256 * j + x.val)) / 1024 = b from by omega, show (1024 * b + (256 * j + x.val)) % 1024 = 256 * j + x.val from by omega, wt]
theorem twt1_ok (s : Vec Ideal S1x32x256 .f32) (m : Vec Ideal S1x32x128 .f32) (r : Fin 32) (x : Fin 256) (hm : ∀ l : Fin 128, m (ix3 0 r l) = rowMax X 1 r.val)
    (hs : s (ix3 0 r x) = score X 1 r.val (131072 + (1024 * b + (256 * j + x.val)))) :
    wt1 s m (tailVS a12 h12 x10 b j) (ix2 r x) = wt X 1 r.val (131072 + (1024 * b + (256 * j + x.val))) * vscale X 1 r.val (131072 + (1024 * b + (256 * j + x.val))) := by
  rw [wt1_at s m _ r _ hm x (fun x g => X.vts b (256 * j + x) g) (vtsTile B a12 h12 b j hb hj), hs, vscale, if_neg (by omega), Nat.add_sub_cancel_left,
    show (1024 * b + (256 * j + x.val)) / 1024 = b from by omega, show (1024 * b + (256 * j + x.val)) % 1024 = 256 * j + x.val from by omega, wt]
end
end

end Cert.KernelIdeal.Gen

end
-- ==== Proof.Val.Chain.lean ====
/- The chains of the kernel's rows: the lanes' maxima, the denominators and the accumulators after a point, as the mathematics
   names them. -/
module

public import proofs.«01_k».proof.Proof.Val.Entry2
public import proofs.«01_k».proof.Proof.Val.Back

@[expose] public section

set_option maxRecDepth 16384

noncomputable section

namespace Cert.KernelIdeal.Gen

open Idealize.ShloMosaic Idealize.ShloMosaic.TcCoe Idealize.ShloMosaic.Tactic
open Cert.Attn Finset

variable (X : In)

/-- Lane `l` of a row's maxima after the tails and `n` blocks. -/
def mx (n p r l : ℕ) : EReal := ((range 16).sup fun u => score X p r (131072 + 128 * u + l)) ⊔ (range (32 * n)).sup fun u => score X p r (128 * u + l)

theorem sup_lanes (f : ℕ → EReal) (n : ℕ) : (Finset.univ.sup fun l : Fin 128 => (range n).sup fun u => f (128 * u + l.val)) = (range (128 * n)).sup f := by
  apply le_antisymm
  · refine Finset.sup_le fun l _ => Finset.sup_le fun u hu => ?_
    have := Finset.mem_range.mp hu
    exact Finset.le_sup (f := f) (Finset.mem_range.mpr (by omega))
  · refine Finset.sup_le fun j hj => ?_
    have := Finset.mem_range.mp hj
    refine Finset.le_sup_of_le (f := fun l : Fin 128 => (range n).sup fun u => f (128 * u + l.val)) (Finset.mem_univ (⟨j % 128, Nat.mod_lt _ (by decide)⟩ : Fin 128)) ?_
    refine Finset.le_sup_of_le (f := fun u => f (128 * u + j % 128)) (b := j / 128) (Finset.mem_range.mpr (by omega)) ?_
    exact le_of_eq (by congr 1; omega)

theorem mx_sup (p r : ℕ) : (Finset.univ.sup fun l : Fin 128 => mx X 32 p r l.val) ⊔ scoreN X p r = rowMax X p r := by
  unfold mx rowMax
  rw [show (Finset.univ.sup fun l : Fin 128 => ((range 16).sup fun u => score X p r (131072 + 128 * u + l.val)) ⊔ (range (32 * 32)).sup fun u => score X p r (128 * u + l.val))
      = (Finset.univ.sup fun l : Fin 128 => (range 16).sup fun u => score X p r (131072 + 128 * u + l.val)) ⊔ (Finset.univ.sup fun l : Fin 128 => (range (32 * 32)).sup fun u => score X p r (128 * u + l.val)) from Finset.sup_sup,
    sup_lanes (fun u => score X p r u) (32 * 32)]
  have e := sup_lanes (fun u => score X p r (131072 + u)) 16
  simp only [← add_assoc] at e
  rw [e]
  refine congrArg (· ⊔ scoreN X p r) ?_
  apply le_antisymm
  · refine sup_le (Finset.sup_le fun j hj => ?_) (Finset.sup_le fun j hj => ?_)
    · have := Finset.mem_range.mp hj
      exact Finset.le_sup (f := score X p r) (Finset.mem_range.mpr (by omega))
    · have := Finset.mem_range.mp hj
      exact Finset.le_sup (f := score X p r) (Finset.mem_range.mpr (by omega))
  · refine Finset.sup_le fun j hj => ?_
    have := Finset.mem_range.mp hj
    by_cases h : j < 131072
    · exact le_sup_of_le_right (Finset.le_sup (f := fun u => score X p r u) (Finset.mem_range.mpr (by omega)))
    · refine le_sup_of_le_left ?_
      obtain ⟨u, rfl⟩ : ∃ u, j = 131072 + u := ⟨j - 131072, by omega⟩
      exact Finset.le_sup (f := fun u => score X p r (131072 + u)) (Finset.mem_range.mpr (by omega))

theorem sup_add (f : ℕ → EReal) (a b : ℕ) : (range (a + b)).sup f = (range a).sup f ⊔ (range b).sup fun u => f (a + u) := by
  induction b with
  | zero => simp
  | succ b ih => rw [← add_assoc, Finset.range_add_one, Finset.sup_insert, ih, Finset.range_add_one, Finset.sup_insert]; simp only [sup_left_comm, sup_comm]
theorem sum_add (f : ℕ → EReal) (a b : ℕ) : ∑ u ∈ range (a + b), f u = ∑ u ∈ range a, f u + ∑ u ∈ range b, f (a + u) := Finset.sum_range_add f a b

/-- The maxima of a later point of the first half. -/
theorem m_step (p n : ℕ) (m : Vec Ideal S1x32x128 .f32) (s : ℕ → FVec Ideal S32x256 .f32) (r : Fin 32) (l : Fin 128) (hm : m (ix3 0 r l) = mx X n p r.val l.val)
    (hs : ∀ k < 16, ∀ x : Fin 256, s k (ix2 r x) = score X p r.val (4096 * n + 256 * k + x.val)) :
    up128 (mchain (dn128 m) s 16) (ix3 0 r l) = mx X (n + 1) p r.val l.val := by
  rw [up128_at, mchain_at _ _ _ _ (fun y => score X p r.val (4096 * n + y)) 16 (fun k hk x => by rw [hs k hk x]; congr 1; omega), dn128_at, hm]
  unfold mx
  rw [sup_assoc, show 32 * (n + 1) = 32 * n + 2 * 16 from by ring, sup_add]
  congr 2
  refine Finset.sup_congr rfl fun u _ => ?_
  congr 1; ring
/-- The maxima of the first point: the tails, then the first block. -/
theorem m_first (p : ℕ) (m : Vec Ideal S1x32x128 .f32) (t s : ℕ → FVec Ideal S32x256 .f32) (r : Fin 32) (l : Fin 128) (hm : m (ix3 0 r l) = ⊥)
    (ht : ∀ k < 8, ∀ x : Fin 256, t k (ix2 r x) = score X p r.val (131072 + 256 * k + x.val))
    (hs : ∀ k < 16, ∀ x : Fin 256, s k (ix2 r x) = score X p r.val (256 * k + x.val)) :
    up128 (mchain (dn128 (up128 (mchain (dn128 m) t 8))) s 16) (ix3 0 r l) = mx X 1 p r.val l.val := by
  refine m_step X p 0 _ s r l ?_ (fun k hk x => by rw [hs k hk x]; congr 1; omega)
  rw [up128_at, mchain_at _ _ _ _ (fun y => score X p r.val (131072 + y)) 8 (fun k hk x => by rw [ht k hk x]; congr 1; omega), dn128_at, hm]
  unfold mx
  rw [bot_sup_eq]
  simp [add_assoc]

/-- The denominator of a later point of the second half. -/
theorem d_step (p n : ℕ) (d : Vec Ideal S1x32x128 .f32) (s : ℕ → FVec Ideal S32x256 .f32) (r : Fin 32) (l : Fin 128) (hd : d (ix3 0 r l) = denAt X n p r.val l.val)
    (hs : ∀ k < 16, ∀ x : Fin 256, s k (ix2 r x) = wt X p r.val (4096 * n + 256 * k + x.val)) :
    up128 (dchain (dn128 d) s 16) (ix3 0 r l) = denAt X (n + 1) p r.val l.val := by
  rw [up128_at, dchain_at _ _ _ _ (fun y => wt X p r.val (4096 * n + y)) 16 (fun k hk x => by rw [hs k hk x]; congr 1; omega), dn128_at, hd]
  unfold denAt
  rw [add_assoc _ _ (∑ u ∈ range (2 * 16), _), show 32 * (n + 1) = 32 * n + 2 * 16 from by ring, sum_add]
  congr 2
  refine Finset.sum_congr rfl fun u _ => ?_
  congr 1; ring
/-- The denominator of the first point of the second half: the new token, the two tails, the first block. -/
theorem d_first (p : ℕ) (d : Vec Ideal S1x32x128 .f32) (t0 t1 s : ℕ → FVec Ideal S32x256 .f32) (r : Fin 32) (l : Fin 128) (hd : d (ix3 0 r l) = if l.val = 0 then wtN X p r.val else 0)
    (h0 : ∀ k < 4, ∀ x : Fin 256, t0 k (ix2 r x) = wt X p r.val (131072 + (1024 * 0 + (256 * k + x.val))))
    (h1 : ∀ k < 4, ∀ x : Fin 256, t1 k (ix2 r x) = wt X p r.val (131072 + (1024 * 1 + (256 * k + x.val))))
    (hs : ∀ k < 16, ∀ x : Fin 256, s k (ix2 r x) = wt X p r.val (256 * k + x.val)) :
    up128 (dchain (dn128 (up128 (dchain (dn128 (up128 (dchain (dn128 d) t0 4))) t1 4))) s 16) (ix3 0 r l) = denAt X 1 p r.val l.val := by
  refine d_step X p 0 _ s r l ?_ (fun k hk x => by rw [hs k hk x]; congr 1; omega)
  rw [up128_at, dchain_at _ _ _ _ (fun y => wt X p r.val (131072 + (1024 * 1 + y))) 4 (fun k hk x => h1 k hk x), dn128_at,
    up128_at, dchain_at _ _ _ _ (fun y => wt X p r.val (131072 + (1024 * 0 + y))) 4 (fun k hk x => h0 k hk x), dn128_at, hd]
  unfold denAt
  rw [add_assoc, show (16 : ℕ) = 2 * 4 + 2 * 4 from rfl, sum_add, show 32 * 0 = 0 from rfl, Finset.range_zero, Finset.sum_empty, add_zero]
  congr 2 <;> refine Finset.sum_congr rfl fun u _ => ?_ <;> congr 1 <;> ring

/-- The accumulator of a later point of the second half. -/
theorem a_step (p n : ℕ) (a : Vec Ideal S1x32x256 .f32) (w : ℕ → FVec Ideal S32x256 .bf16) (v : ℕ → FVec Ideal S256x256 .fp8e4m3) (r : Fin 32) (d : Fin 256)
    (ha : a (ix3 0 r d) = accAt X n p r.val d.val)
    (hw : ∀ k < 16, ∀ x : Fin 256, w k (ix2 r x) = wt X p r.val (4096 * n + 256 * k + x.val) * vscale X p r.val (4096 * n + 256 * k + x.val))
    (hv : ∀ k < 16, ∀ x : Fin 256, v k (ix2 x d) = value X p d.val (4096 * n + 256 * k + x.val)) :
    accB a w v (ix3 0 r d) = accAt X (n + 1) p r.val d.val := by
  rw [accB_at a w v r d (fun y => wt X p r.val (4096 * n + y) * vscale X p r.val (4096 * n + y)) (fun y => value X p d.val (4096 * n + y))
    (fun k hk x => by rw [hw k hk x]; simp only [add_assoc]) (fun k hk x => by rw [hv k hk x]; simp only [add_assoc]), ha]
  unfold accAt
  rw [add_assoc _ _ (∑ u ∈ range 4096, _), show 4096 * (n + 1) = 4096 * n + 4096 from by ring, sum_add]
  rfl
/-- The accumulator of the first point of the second half. -/
theorem a_first (p : ℕ) (a : Vec Ideal S1x32x256 .f32) (w0 w1 w : ℕ → FVec Ideal S32x256 .bf16) (v0 v1 v : ℕ → FVec Ideal S256x256 .fp8e4m3) (r : Fin 32) (d : Fin 256)
    (ha : a (ix3 0 r d) = accN X p r.val d.val)
    (hw0 : ∀ k < 4, ∀ x : Fin 256, w0 k (ix2 r x) = wt X p r.val (131072 + (1024 * 0 + (256 * k + x.val))) * vscale X p r.val (131072 + (1024 * 0 + (256 * k + x.val))))
    (hv0 : ∀ k < 4, ∀ x : Fin 256, v0 k (ix2 x d) = value X p d.val (131072 + (1024 * 0 + (256 * k + x.val))))
    (hw1 : ∀ k < 4, ∀ x : Fin 256, w1 k (ix2 r x) = wt X p r.val (131072 + (1024 * 1 + (256 * k + x.val))) * vscale X p r.val (131072 + (1024 * 1 + (256 * k + x.val))))
    (hv1 : ∀ k < 4, ∀ x : Fin 256, v1 k (ix2 x d) = value X p d.val (131072 + (1024 * 1 + (256 * k + x.val))))
    (hw : ∀ k < 16, ∀ x : Fin 256, w k (ix2 r x) = wt X p r.val (256 * k + x.val) * vscale X p r.val (256 * k + x.val))
    (hv : ∀ k < 16, ∀ x : Fin 256, v k (ix2 x d) = value X p d.val (256 * k + x.val)) :
    accB (accT (accT a w0 v0) w1 v1) w v (ix3 0 r d) = accAt X 1 p r.val d.val := by
  refine a_step X p 0 _ w v r d ?_ (fun k hk x => by rw [hw k hk x]; simp only [Nat.mul_zero, Nat.zero_add]) (fun k hk x => by rw [hv k hk x]; simp only [Nat.mul_zero, Nat.zero_add])
  rw [accT_at _ w1 v1 r d (fun y => wt X p r.val (131072 + (1024 * 1 + y)) * vscale X p r.val (131072 + (1024 * 1 + y))) (fun y => value X p d.val (131072 + (1024 * 1 + y))) hw1 hv1,
    accT_at _ w0 v0 r d (fun y => wt X p r.val (131072 + (1024 * 0 + y)) * vscale X p r.val (131072 + (1024 * 0 + y))) (fun y => value X p d.val (131072 + (1024 * 0 + y))) hw0 hv0, ha]
  unfold accAt
  rw [sum_tails, Nat.mul_zero 4096, Finset.range_zero, Finset.sum_empty, add_zero, add_assoc]
  have e0 : ∀ u, 131072 + (1024 * 0 + u) = 131072 + u := fun u => by omega
  have e1 : ∀ u, 131072 + (1024 * 1 + u) = 131072 + (1024 + u) := fun u => by omega
  simp only [e0, e1, term]

end Cert.KernelIdeal.Gen

end
-- ==== Proof.Val.Inv.lean ====
/- What the scratch arrays hold before each point. -/
module

public import proofs.«01_k».proof.Proof.Val.Tiles
public import proofs.«01_k».proof.Proof.Val.Chain
public import proofs.«01_k».proof.Proof.Val.Back

@[expose] public section

noncomputable section

namespace Cert.KernelIdeal.Gen

open Idealize.ShloMosaic Idealize.ShloMosaic.TcCoe Idealize.ShloMosaic.Tactic
open Cert.Attn Finset

variable (X : In)

/-- The packed queries. -/
def QI (q : Vec Ideal S2x32x256 .bf16) : Prop := ∀ (p : Fin 2) (r : Fin 32) (d : Fin 256), q (ix3 p r d) = qrow X p.val r.val d.val
/-- The scores of the tails and of the first `n` blocks. -/
def SI (n : ℕ) (s : Vec Ideal S2x32x133120 .f32) : Prop :=
  ∀ (p : Fin 2) (r : Fin 32) (j : Fin 133120), (131072 ≤ j.val ∨ j.val < 4096 * n) → s (ix3 p r j) = score X p.val r.val j.val
/-- The lane maxima of those scores. -/
def MI (n : ℕ) (m : Vec Ideal S2x32x128 .f32) : Prop := ∀ (p : Fin 2) (r : Fin 32) (l : Fin 128), m (ix3 p r l) = mx X n p.val r.val l.val
/-- The row maxima, over every lane. -/
def MF (m : Vec Ideal S2x32x128 .f32) : Prop := ∀ (p : Fin 2) (r : Fin 32) (l : Fin 128), m (ix3 p r l) = rowMax X p.val r.val
/-- The lanes of the denominators after `n` blocks. -/
def DI (n : ℕ) (d : Vec Ideal S2x32x128 .f32) : Prop := ∀ (p : Fin 2) (r : Fin 32) (l : Fin 128), d (ix3 p r l) = denAt X n p.val r.val l.val
/-- The numerators after `n` blocks. -/
def AI (n : ℕ) (a : Vec Ideal S2x32x256 .f32) : Prop := ∀ (p : Fin 2) (r : Fin 32) (l : Fin 256), a (ix3 p r l) = accAt X n p.val r.val l.val
/-- What holds before point `n`. -/
def Inv (n : ℕ) (q : Vec Ideal S2x32x256 .bf16) (s : Vec Ideal S2x32x133120 .f32) (m d : Vec Ideal S2x32x128 .f32) (a : Vec Ideal S2x32x256 .f32) : Prop :=
  (1 ≤ n ∧ n ≤ 32 → QI X q ∧ SI X n s ∧ MI X n m) ∧ (32 < n → QI X q ∧ SI X 32 s ∧ MF X m ∧ DI X (n - 32) d ∧ AI X (n - 32) a)

end Cert.KernelIdeal.Gen

end
-- ==== Proof.KI.RunA.lean ====
module

public import proofs.«01_k».proof.Proof.KI.Runs

@[expose] public section

-- membership in a rectangle of large extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 2092000 in
/-- What the body's stores leave in each output's staging memref, as pieces (last first) IN CASE A (`scf.if` 0 taken, `scf.if` 1 taken, `scf.if` 2 not taken, `scf.if` 3 not taken, `scf.if` 4 not taken: points 0), WITH the
    proof that on whole staging memrefs — the inputs' at their contents, the outputs it leaves idle (11: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which the symbolic execution steps through — each `scf.if` decided by the case's hypotheses `hc·`; the pieces are
    the witness that run finds (assigned when `iexact` hands the buffer to the continuation). -/
noncomputable def kernelRun0_A (c : Dev nD) (i : grid0.Coords) (arg2 : Memref sig .tc .vmem S2x32x128 .bf16) (harg2 : arg2.IsWhole) (arg3 : Memref sig .tc .vmem S2x4x128 .bf16) (harg3 : arg3.IsWhole) (arg4 : Memref sig .tc .vmem S2x4x128 .bf16) (harg4 : arg4.IsWhole) (arg5 : Memref sig .tc .vmem S16384x128 .fp8e4m3) (harg5 : arg5.IsWhole) (arg6 : Memref sig .tc .vmem S16384x128 .fp8e4m3) (harg6 : arg6.IsWhole) (arg7 : Memref sig .tc .vmem S4x4096 .f32) (harg7 : arg7.IsWhole) (arg8 : Memref sig .tc .vmem S4x4096 .f32) (harg8 : arg8.IsWhole) (arg9 : Memref sig .tc .vmem S2x1024x4x128 .fp8e4m3) (harg9 : arg9.IsWhole) (arg10 : Memref sig .tc .vmem S2x1024x4x128 .fp8e4m3) (harg10 : arg10.IsWhole) (arg11 : Memref sig .tc .vmem S2x4x1024 .f32) (harg11 : arg11.IsWhole) (arg12 : Memref sig .tc .vmem S2x4x1024 .f32) (harg12 : arg12.IsWhole) (arg13 : Memref sig .tc .vmem S2x32x128 .bf16) (harg13 : arg13.IsWhole) (arg14 : Memref sig .tc .vmem S2x32x256 .bf16) (harg14 : arg14.IsWhole) (arg15 : Memref sig .tc .vmem S2x32x133120 .f32) (harg15 : arg15.IsWhole) (arg16 : Memref sig .tc .vmem S2x32x128 .f32) (harg16 : arg16.IsWhole) (arg17 : Memref sig .tc .vmem S2x32x128 .f32) (harg17 : arg17.IsWhole) (arg18 : Memref sig .tc .vmem S2x32x256 .f32) (harg18 : arg18.IsWhole) (hc0 : cond0_0 i) (hc1 : cond0_1 i) (hc2 : ¬cond0_2 i) (hc3 : ¬cond0_3 i) (hc4 : ¬cond0_4 i)
    (x0 : Vec F S2x32x128 .bf16) (x1 : Vec F S2x4x128 .bf16) (x2 : Vec F S2x4x128 .bf16) (x3 : Vec F S16384x128 .fp8e4m3) (x4 : Vec F S16384x128 .fp8e4m3) (x5 : Vec F S4x4096 .f32) (x6 : Vec F S4x4096 .f32) (x7 : Vec F S2x1024x4x128 .fp8e4m3) (x8 : Vec F S2x1024x4x128 .fp8e4m3) (x9 : Vec F S2x4x1024 .f32) (x10 : Vec F S2x4x1024 .f32) (xt0 : TbBuf0 (F := F) c tbM0_0) :
    Σ' (L11 : List (View.Piece (Elt F) S2x32x128 .bf16)), Σ' (LS0 : List (View.Piece (Elt F) S2x32x256 .bf16)), Σ' (LS1 : List (View.Piece (Elt F) S2x32x133120 .f32)), Σ' (LS2 : List (View.Piece (Elt F) S2x32x128 .f32)), Σ' (LS3 : List (View.Piece (Elt F) S2x32x128 .f32)), { LS4 : List (View.Piece (Elt F) S2x32x256 .f32) //
      ∀ (xi11 : Vec F S2x32x128 .bf16) (xs1 : Vec F S2x32x133120 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare xi11 ∗ (∃ d, owns (c : Thread nD τ) arg14 fullShare d) ∗ owns (c : Thread nD τ) arg15 fullShare xs1 ∗ (∃ d, owns (c : Thread nD τ) arg16 fullShare d) ∗ (∃ d, owns (c : Thread nD τ) arg17 fullShare d) ∗ (∃ d, owns (c : Thread nD τ) arg18 fullShare d) ∗ tbPt0 c tbM0_0 xt0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare xi11 ∗ (∃ f, arg14.view.loc (c : Thread nD τ) ↦[arg14.view.set]{fullShare} arg14.view.writes (Elt F) f LS0) ∗ (arg15.view.loc (c : Thread nD τ) ↦[arg15.view.set]{fullShare} arg15.view.writes (Elt F) (harg15.unread xs1) LS1) ∗ (∃ f, arg16.view.loc (c : Thread nD τ) ↦[arg16.view.set]{fullShare} arg16.view.writes (Elt F) f LS2) ∗ (∃ f, arg17.view.loc (c : Thread nD τ) ↦[arg17.view.set]{fullShare} arg17.view.writes (Elt F) f LS3) ∗ (∃ f, arg18.view.loc (c : Thread nD τ) ↦[arg18.view.set]{fullShare} arg18.view.writes (Elt F) f LS4) ∗ tbPt0 c tbM0_0 xt0) -∗ K ⟨⟩))
          ⊢ wp frame (wpE (defs₀ (F := F)) Variants.none c none) E (cc0_cascade_decode i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨[], ?_, ?_, ?_, ?_, ?_, fun xi11 xs1 E K => ?run⟩
  case run =>
    simp only [cc0_cascade_decode_eq_skeleton]; unfold cc0_cascade_decode_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%ds0, %fs0, -, HS0⟩, ⟨%fs1, %hfs1, HS1⟩, ⟨%ds2, %fs2, -, HS2⟩, ⟨%ds3, %fs3, -, HS3⟩, ⟨%ds4, %fs4, -, HS4⟩, HT0, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg15.eq_unread hfs1
    sl_exec (disch := first | sl_exact hc0 | sl_exact hc1 | sl_exact hc2 | sl_exact hc3 | sl_exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [HS0]; · iexists _; iexact HS0
    isplitl [HS1]; · iexact HS1
    isplitl [HS2]; · iexists _; iexact HS2
    isplitl [HS3]; · iexists _; iexact HS3
    isplitl [HS4]; · iexists _; iexact HS4
    iexact HT0

end Cert.KernelIdeal.Gen

end
-- ==== Proof.KI.EqA.lean ====
/- What the stores of the first point leave, as functions of the arrays it reads. -/
module

public import proofs.«01_k».proof.Proof.KI.RunA
public import proofs.«01_k».proof.Proof.KI.Model2

@[expose] public section

set_option maxRecDepth 16384

noncomputable section

namespace Cert.KernelIdeal.Gen

open Idealize.ShloMosaic Idealize.ShloMosaic.TcCoe Idealize.ShloMosaic.Tactic

variable {F : FTy → Type} [FloatOps F] [Named F]

theorem runA_q  (c : Dev nD) (i : grid0.Coords) (arg2 : Memref sig .tc .vmem S2x32x128 .bf16) (harg2 : arg2.IsWhole) (arg3 : Memref sig .tc .vmem S2x4x128 .bf16) (harg3 : arg3.IsWhole) (arg4 : Memref sig .tc .vmem S2x4x128 .bf16) (harg4 : arg4.IsWhole) (arg5 : Memref sig .tc .vmem S16384x128 .fp8e4m3) (harg5 : arg5.IsWhole) (arg6 : Memref sig .tc .vmem S16384x128 .fp8e4m3) (harg6 : arg6.IsWhole) (arg7 : Memref sig .tc .vmem S4x4096 .f32) (harg7 : arg7.IsWhole) (arg8 : Memref sig .tc .vmem S4x4096 .f32) (harg8 : arg8.IsWhole) (arg9 : Memref sig .tc .vmem S2x1024x4x128 .fp8e4m3) (harg9 : arg9.IsWhole) (arg10 : Memref sig .tc .vmem S2x1024x4x128 .fp8e4m3) (harg10 : arg10.IsWhole) (arg11 : Memref sig .tc .vmem S2x4x1024 .f32) (harg11 : arg11.IsWhole) (arg12 : Memref sig .tc .vmem S2x4x1024 .f32) (harg12 : arg12.IsWhole) (arg13 : Memref sig .tc .vmem S2x32x128 .bf16) (harg13 : arg13.IsWhole) (arg14 : Memref sig .tc .vmem S2x32x256 .bf16) (harg14 : arg14.IsWhole) (arg15 : Memref sig .tc .vmem S2x32x133120 .f32) (harg15 : arg15.IsWhole) (arg16 : Memref sig .tc .vmem S2x32x128 .f32) (harg16 : arg16.IsWhole) (arg17 : Memref sig .tc .vmem S2x32x128 .f32) (harg17 : arg17.IsWhole) (arg18 : Memref sig .tc .vmem S2x32x256 .f32) (harg18 : arg18.IsWhole) (hc0 : cond0_0 i) (hc1 : cond0_1 i) (hc2 : ¬cond0_2 i) (hc3 : ¬cond0_3 i) (hc4 : ¬cond0_4 i)
    (x0 : Vec F S2x32x128 .bf16) (x1 : Vec F S2x4x128 .bf16) (x2 : Vec F S2x4x128 .bf16) (x3 : Vec F S16384x128 .fp8e4m3) (x4 : Vec F S16384x128 .fp8e4m3) (x5 : Vec F S4x4096 .f32) (x6 : Vec F S4x4096 .f32) (x7 : Vec F S2x1024x4x128 .fp8e4m3) (x8 : Vec F S2x1024x4x128 .fp8e4m3) (x9 : Vec F S2x4x1024 .f32) (x10 : Vec F S2x4x1024 .f32) (xt0 : TbBuf0 (F := F) c tbM0_0) : (kernelRun0_A (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc4 x0 x1 x2 x3 x4 x5 x6 x7 x8 x9 x10 xt0).2.1 = (two256q (qrows (rdX arg2 harg2 x0) 0) (qrows (rdX arg2 harg2 x0) 1)) := by
  unfold kernelRun0_A; dsimp only
  rfl

theorem runA_den  (c : Dev nD) (i : grid0.Coords) (arg2 : Memref sig .tc .vmem S2x32x128 .bf16) (harg2 : arg2.IsWhole) (arg3 : Memref sig .tc .vmem S2x4x128 .bf16) (harg3 : arg3.IsWhole) (arg4 : Memref sig .tc .vmem S2x4x128 .bf16) (harg4 : arg4.IsWhole) (arg5 : Memref sig .tc .vmem S16384x128 .fp8e4m3) (harg5 : arg5.IsWhole) (arg6 : Memref sig .tc .vmem S16384x128 .fp8e4m3) (harg6 : arg6.IsWhole) (arg7 : Memref sig .tc .vmem S4x4096 .f32) (harg7 : arg7.IsWhole) (arg8 : Memref sig .tc .vmem S4x4096 .f32) (harg8 : arg8.IsWhole) (arg9 : Memref sig .tc .vmem S2x1024x4x128 .fp8e4m3) (harg9 : arg9.IsWhole) (arg10 : Memref sig .tc .vmem S2x1024x4x128 .fp8e4m3) (harg10 : arg10.IsWhole) (arg11 : Memref sig .tc .vmem S2x4x1024 .f32) (harg11 : arg11.IsWhole) (arg12 : Memref sig .tc .vmem S2x4x1024 .f32) (harg12 : arg12.IsWhole) (arg13 : Memref sig .tc .vmem S2x32x128 .bf16) (harg13 : arg13.IsWhole) (arg14 : Memref sig .tc .vmem S2x32x256 .bf16) (harg14 : arg14.IsWhole) (arg15 : Memref sig .tc .vmem S2x32x133120 .f32) (harg15 : arg15.IsWhole) (arg16 : Memref sig .tc .vmem S2x32x128 .f32) (harg16 : arg16.IsWhole) (arg17 : Memref sig .tc .vmem S2x32x128 .f32) (harg17 : arg17.IsWhole) (arg18 : Memref sig .tc .vmem S2x32x256 .f32) (harg18 : arg18.IsWhole) (hc0 : cond0_0 i) (hc1 : cond0_1 i) (hc2 : ¬cond0_2 i) (hc3 : ¬cond0_3 i) (hc4 : ¬cond0_4 i)
    (x0 : Vec F S2x32x128 .bf16) (x1 : Vec F S2x4x128 .bf16) (x2 : Vec F S2x4x128 .bf16) (x3 : Vec F S16384x128 .fp8e4m3) (x4 : Vec F S16384x128 .fp8e4m3) (x5 : Vec F S4x4096 .f32) (x6 : Vec F S4x4096 .f32) (x7 : Vec F S2x1024x4x128 .fp8e4m3) (x8 : Vec F S2x1024x4x128 .fp8e4m3) (x9 : Vec F S2x4x1024 .f32) (x10 : Vec F S2x4x1024 .f32) (xt0 : TbBuf0 (F := F) c tbM0_0) : (kernelRun0_A (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc4 x0 x1 x2 x3 x4 x5 x6 x7 x8 x9 x10 xt0).2.2.2.2.1 = fill128 k0_pay16 := by
  unfold kernelRun0_A; dsimp only

theorem runA_acc  (c : Dev nD) (i : grid0.Coords) (arg2 : Memref sig .tc .vmem S2x32x128 .bf16) (harg2 : arg2.IsWhole) (arg3 : Memref sig .tc .vmem S2x4x128 .bf16) (harg3 : arg3.IsWhole) (arg4 : Memref sig .tc .vmem S2x4x128 .bf16) (harg4 : arg4.IsWhole) (arg5 : Memref sig .tc .vmem S16384x128 .fp8e4m3) (harg5 : arg5.IsWhole) (arg6 : Memref sig .tc .vmem S16384x128 .fp8e4m3) (harg6 : arg6.IsWhole) (arg7 : Memref sig .tc .vmem S4x4096 .f32) (harg7 : arg7.IsWhole) (arg8 : Memref sig .tc .vmem S4x4096 .f32) (harg8 : arg8.IsWhole) (arg9 : Memref sig .tc .vmem S2x1024x4x128 .fp8e4m3) (harg9 : arg9.IsWhole) (arg10 : Memref sig .tc .vmem S2x1024x4x128 .fp8e4m3) (harg10 : arg10.IsWhole) (arg11 : Memref sig .tc .vmem S2x4x1024 .f32) (harg11 : arg11.IsWhole) (arg12 : Memref sig .tc .vmem S2x4x1024 .f32) (harg12 : arg12.IsWhole) (arg13 : Memref sig .tc .vmem S2x32x128 .bf16) (harg13 : arg13.IsWhole) (arg14 : Memref sig .tc .vmem S2x32x256 .bf16) (harg14 : arg14.IsWhole) (arg15 : Memref sig .tc .vmem S2x32x133120 .f32) (harg15 : arg15.IsWhole) (arg16 : Memref sig .tc .vmem S2x32x128 .f32) (harg16 : arg16.IsWhole) (arg17 : Memref sig .tc .vmem S2x32x128 .f32) (harg17 : arg17.IsWhole) (arg18 : Memref sig .tc .vmem S2x32x256 .f32) (harg18 : arg18.IsWhole) (hc0 : cond0_0 i) (hc1 : cond0_1 i) (hc2 : ¬cond0_2 i) (hc3 : ¬cond0_3 i) (hc4 : ¬cond0_4 i)
    (x0 : Vec F S2x32x128 .bf16) (x1 : Vec F S2x4x128 .bf16) (x2 : Vec F S2x4x128 .bf16) (x3 : Vec F S16384x128 .fp8e4m3) (x4 : Vec F S16384x128 .fp8e4m3) (x5 : Vec F S4x4096 .f32) (x6 : Vec F S4x4096 .f32) (x7 : Vec F S2x1024x4x128 .fp8e4m3) (x8 : Vec F S2x1024x4x128 .fp8e4m3) (x9 : Vec F S2x4x1024 .f32) (x10 : Vec F S2x4x1024 .f32) (xt0 : TbBuf0 (F := F) c tbM0_0) : (kernelRun0_A (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc4 x0 x1 x2 x3 x4 x5 x6 x7 x8 x9 x10 xt0).2.2.2.2.2.1 = fill256 k0_pay17 := by
  unfold kernelRun0_A; dsimp only

end Cert.KernelIdeal.Gen

end
-- ==== Proof.KI.EqAs.lean ====
/- What the stores of the first point leave, as functions of the arrays it reads. -/
module

public import proofs.«01_k».proof.Proof.KI.RunA
public import proofs.«01_k».proof.Proof.KI.Model2

@[expose] public section

set_option maxRecDepth 16384

noncomputable section

namespace Cert.KernelIdeal.Gen

open Idealize.ShloMosaic Idealize.ShloMosaic.TcCoe Idealize.ShloMosaic.Tactic

variable {F : FTy → Type} [FloatOps F] [Named F]

theorem runA_s  (c : Dev nD) (i : grid0.Coords) (arg2 : Memref sig .tc .vmem S2x32x128 .bf16) (harg2 : arg2.IsWhole) (arg3 : Memref sig .tc .vmem S2x4x128 .bf16) (harg3 : arg3.IsWhole) (arg4 : Memref sig .tc .vmem S2x4x128 .bf16) (harg4 : arg4.IsWhole) (arg5 : Memref sig .tc .vmem S16384x128 .fp8e4m3) (harg5 : arg5.IsWhole) (arg6 : Memref sig .tc .vmem S16384x128 .fp8e4m3) (harg6 : arg6.IsWhole) (arg7 : Memref sig .tc .vmem S4x4096 .f32) (harg7 : arg7.IsWhole) (arg8 : Memref sig .tc .vmem S4x4096 .f32) (harg8 : arg8.IsWhole) (arg9 : Memref sig .tc .vmem S2x1024x4x128 .fp8e4m3) (harg9 : arg9.IsWhole) (arg10 : Memref sig .tc .vmem S2x1024x4x128 .fp8e4m3) (harg10 : arg10.IsWhole) (arg11 : Memref sig .tc .vmem S2x4x1024 .f32) (harg11 : arg11.IsWhole) (arg12 : Memref sig .tc .vmem S2x4x1024 .f32) (harg12 : arg12.IsWhole) (arg13 : Memref sig .tc .vmem S2x32x128 .bf16) (harg13 : arg13.IsWhole) (arg14 : Memref sig .tc .vmem S2x32x256 .bf16) (harg14 : arg14.IsWhole) (arg15 : Memref sig .tc .vmem S2x32x133120 .f32) (harg15 : arg15.IsWhole) (arg16 : Memref sig .tc .vmem S2x32x128 .f32) (harg16 : arg16.IsWhole) (arg17 : Memref sig .tc .vmem S2x32x128 .f32) (harg17 : arg17.IsWhole) (arg18 : Memref sig .tc .vmem S2x32x256 .f32) (harg18 : arg18.IsWhole) (hc0 : cond0_0 i) (hc1 : cond0_1 i) (hc2 : ¬cond0_2 i) (hc3 : ¬cond0_3 i) (hc4 : ¬cond0_4 i)
    (x0 : Vec F S2x32x128 .bf16) (x1 : Vec F S2x4x128 .bf16) (x2 : Vec F S2x4x128 .bf16) (x3 : Vec F S16384x128 .fp8e4m3) (x4 : Vec F S16384x128 .fp8e4m3) (x5 : Vec F S4x4096 .f32) (x6 : Vec F S4x4096 .f32) (x7 : Vec F S2x1024x4x128 .fp8e4m3) (x8 : Vec F S2x1024x4x128 .fp8e4m3) (x9 : Vec F S2x4x1024 .f32) (x10 : Vec F S2x4x1024 .f32) (xt0 : TbBuf0 (F := F) c tbM0_0) : (kernelRun0_A (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc4 x0 x1 x2 x3 x4 x5 x6 x7 x8 x9 x10 xt0).2.2.1 = sPieces i hc1 (fun k => sc0 (tileK arg5 harg5 x3 k) (tileS arg7 harg7 x5 k) (arg14.view.readCov (two256q (qrows (rdX arg2 harg2 x0) 0) (qrows (rdX arg2 harg2 x0) 1)) R0q.toLoadRect)) (fun k => sc1 (tileK arg5 harg5 x3 k) (tileS arg7 harg7 x5 k) (arg14.view.readCov (two256q (qrows (rdX arg2 harg2 x0) 0) (qrows (rdX arg2 harg2 x0) 1)) R1q.toLoadRect)) (tPieces (fun k => tsc0 (tmask (BitVec.ofNat 32 (k / 4)) (BitVec.ofNat 32 (256 * (k % 4))) (rdLen xt0 (k / 4))) (tailK arg9 harg9 x7 k) (tailS arg11 harg11 x9 k) (arg14.view.readCov (two256q (qrows (rdX arg2 harg2 x0) 0) (qrows (rdX arg2 harg2 x0) 1)) R0q.toLoadRect)) (fun k => tsc1 (tmask (BitVec.ofNat 32 (k / 4)) (BitVec.ofNat 32 (256 * (k % 4))) (rdLen xt0 (k / 4))) (tailK arg9 harg9 x7 k) (tailS arg11 harg11 x9 k) (arg14.view.readCov (two256q (qrows (rdX arg2 harg2 x0) 0) (qrows (rdX arg2 harg2 x0) 1)) R1q.toLoadRect)) 8) 16 := by
  unfold kernelRun0_A; dsimp only
  rfl

end Cert.KernelIdeal.Gen

end
-- ==== Proof.KI.EqAm.lean ====
/- What the stores of the first point leave, as functions of the arrays it reads. -/
module

public import proofs.«01_k».proof.Proof.KI.RunA
public import proofs.«01_k».proof.Proof.KI.Model2

@[expose] public section

set_option maxRecDepth 16384

noncomputable section

namespace Cert.KernelIdeal.Gen

open Idealize.ShloMosaic Idealize.ShloMosaic.TcCoe Idealize.ShloMosaic.Tactic

variable {F : FTy → Type} [FloatOps F] [Named F]

theorem runA_m  (c : Dev nD) (i : grid0.Coords) (arg2 : Memref sig .tc .vmem S2x32x128 .bf16) (harg2 : arg2.IsWhole) (arg3 : Memref sig .tc .vmem S2x4x128 .bf16) (harg3 : arg3.IsWhole) (arg4 : Memref sig .tc .vmem S2x4x128 .bf16) (harg4 : arg4.IsWhole) (arg5 : Memref sig .tc .vmem S16384x128 .fp8e4m3) (harg5 : arg5.IsWhole) (arg6 : Memref sig .tc .vmem S16384x128 .fp8e4m3) (harg6 : arg6.IsWhole) (arg7 : Memref sig .tc .vmem S4x4096 .f32) (harg7 : arg7.IsWhole) (arg8 : Memref sig .tc .vmem S4x4096 .f32) (harg8 : arg8.IsWhole) (arg9 : Memref sig .tc .vmem S2x1024x4x128 .fp8e4m3) (harg9 : arg9.IsWhole) (arg10 : Memref sig .tc .vmem S2x1024x4x128 .fp8e4m3) (harg10 : arg10.IsWhole) (arg11 : Memref sig .tc .vmem S2x4x1024 .f32) (harg11 : arg11.IsWhole) (arg12 : Memref sig .tc .vmem S2x4x1024 .f32) (harg12 : arg12.IsWhole) (arg13 : Memref sig .tc .vmem S2x32x128 .bf16) (harg13 : arg13.IsWhole) (arg14 : Memref sig .tc .vmem S2x32x256 .bf16) (harg14 : arg14.IsWhole) (arg15 : Memref sig .tc .vmem S2x32x133120 .f32) (harg15 : arg15.IsWhole) (arg16 : Memref sig .tc .vmem S2x32x128 .f32) (harg16 : arg16.IsWhole) (arg17 : Memref sig .tc .vmem S2x32x128 .f32) (harg17 : arg17.IsWhole) (arg18 : Memref sig .tc .vmem S2x32x256 .f32) (harg18 : arg18.IsWhole) (hc0 : cond0_0 i) (hc1 : cond0_1 i) (hc2 : ¬cond0_2 i) (hc3 : ¬cond0_3 i) (hc4 : ¬cond0_4 i)
    (x0 : Vec F S2x32x128 .bf16) (x1 : Vec F S2x4x128 .bf16) (x2 : Vec F S2x4x128 .bf16) (x3 : Vec F S16384x128 .fp8e4m3) (x4 : Vec F S16384x128 .fp8e4m3) (x5 : Vec F S4x4096 .f32) (x6 : Vec F S4x4096 .f32) (x7 : Vec F S2x1024x4x128 .fp8e4m3) (x8 : Vec F S2x1024x4x128 .fp8e4m3) (x9 : Vec F S2x4x1024 .f32) (x10 : Vec F S2x4x1024 .f32) (xt0 : TbBuf0 (F := F) c tbM0_0) : (kernelRun0_A (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc4 x0 x1 x2 x3 x4 x5 x6 x7 x8 x9 x10 xt0).2.2.2.1 = two128 (up128 (mchain (dn128 (arg16.view.readCov (mPieces arg16.view (fun k => tsc0 (tmask (BitVec.ofNat 32 (k / 4)) (BitVec.ofNat 32 (256 * (k % 4))) (rdLen xt0 (k / 4))) (tailK arg9 harg9 x7 k) (tailS arg11 harg11 x9 k) (arg14.view.readCov (two256q (qrows (rdX arg2 harg2 x0) 0) (qrows (rdX arg2 harg2 x0) 1)) R0q.toLoadRect)) (fun k => tsc1 (tmask (BitVec.ofNat 32 (k / 4)) (BitVec.ofNat 32 (256 * (k % 4))) (rdLen xt0 (k / 4))) (tailK arg9 harg9 x7 k) (tailS arg11 harg11 x9 k) (arg14.view.readCov (two256q (qrows (rdX arg2 harg2 x0) 0) (qrows (rdX arg2 harg2 x0) 1)) R1q.toLoadRect)) (fill128 k0_pay15) 8) R0l.toLoadRect)) (fun k => sc0 (tileK arg5 harg5 x3 k) (tileS arg7 harg7 x5 k) (arg14.view.readCov (two256q (qrows (rdX arg2 harg2 x0) 0) (qrows (rdX arg2 harg2 x0) 1)) R0q.toLoadRect)) 16)) (up128 (mchain (dn128 (arg16.view.readCov (mPieces arg16.view (fun k => tsc0 (tmask (BitVec.ofNat 32 (k / 4)) (BitVec.ofNat 32 (256 * (k % 4))) (rdLen xt0 (k / 4))) (tailK arg9 harg9 x7 k) (tailS arg11 harg11 x9 k) (arg14.view.readCov (two256q (qrows (rdX arg2 harg2 x0) 0) (qrows (rdX arg2 harg2 x0) 1)) R0q.toLoadRect)) (fun k => tsc1 (tmask (BitVec.ofNat 32 (k / 4)) (BitVec.ofNat 32 (256 * (k % 4))) (rdLen xt0 (k / 4))) (tailK arg9 harg9 x7 k) (tailS arg11 harg11 x9 k) (arg14.view.readCov (two256q (qrows (rdX arg2 harg2 x0) 0) (qrows (rdX arg2 harg2 x0) 1)) R1q.toLoadRect)) (fill128 k0_pay15) 8) R1l.toLoadRect)) (fun k => sc1 (tileK arg5 harg5 x3 k) (tileS arg7 harg7 x5 k) (arg14.view.readCov (two256q (qrows (rdX arg2 harg2 x0) 0) (qrows (rdX arg2 harg2 x0) 1)) R1q.toLoadRect)) 16)) (mPieces arg16.view (fun k => tsc0 (tmask (BitVec.ofNat 32 (k / 4)) (BitVec.ofNat 32 (256 * (k % 4))) (rdLen xt0 (k / 4))) (tailK arg9 harg9 x7 k) (tailS arg11 harg11 x9 k) (arg14.view.readCov (two256q (qrows (rdX arg2 harg2 x0) 0) (qrows (rdX arg2 harg2 x0) 1)) R0q.toLoadRect)) (fun k => tsc1 (tmask (BitVec.ofNat 32 (k / 4)) (BitVec.ofNat 32 (256 * (k % 4))) (rdLen xt0 (k / 4))) (tailK arg9 harg9 x7 k) (tailS arg11 harg11 x9 k) (arg14.view.readCov (two256q (qrows (rdX arg2 harg2 x0) 0) (qrows (rdX arg2 harg2 x0) 1)) R1q.toLoadRect)) (fill128 k0_pay15) 8) := by
  unfold kernelRun0_A; dsimp only
  rfl

end Cert.KernelIdeal.Gen

end
-- ==== Proof.Val.CaseA.lean ====
/- The first point. -/
module

public import proofs.«01_k».proof.Proof.Val.Inv
public import proofs.«01_k».proof.Proof.KI.EqA
public import proofs.«01_k».proof.Proof.KI.EqAs
public import proofs.«01_k».proof.Proof.KI.EqAm

@[expose] public section

set_option maxRecDepth 16384

noncomputable section

namespace Cert.KernelIdeal.Gen

open Idealize.ShloMosaic Idealize.ShloMosaic.TcCoe Idealize.ShloMosaic.Tactic
open Cert.Attn Finset

theorem caseA  (c : Dev nD) (i : grid0.Coords) (arg2 : Memref sig .tc .vmem S2x32x128 .bf16) (harg2 : arg2.IsWhole) (arg3 : Memref sig .tc .vmem S2x4x128 .bf16) (harg3 : arg3.IsWhole) (arg4 : Memref sig .tc .vmem S2x4x128 .bf16) (harg4 : arg4.IsWhole) (arg5 : Memref sig .tc .vmem S16384x128 .fp8e4m3) (harg5 : arg5.IsWhole) (arg6 : Memref sig .tc .vmem S16384x128 .fp8e4m3) (harg6 : arg6.IsWhole) (arg7 : Memref sig .tc .vmem S4x4096 .f32) (harg7 : arg7.IsWhole) (arg8 : Memref sig .tc .vmem S4x4096 .f32) (harg8 : arg8.IsWhole) (arg9 : Memref sig .tc .vmem S2x1024x4x128 .fp8e4m3) (harg9 : arg9.IsWhole) (arg10 : Memref sig .tc .vmem S2x1024x4x128 .fp8e4m3) (harg10 : arg10.IsWhole) (arg11 : Memref sig .tc .vmem S2x4x1024 .f32) (harg11 : arg11.IsWhole) (arg12 : Memref sig .tc .vmem S2x4x1024 .f32) (harg12 : arg12.IsWhole) (arg13 : Memref sig .tc .vmem S2x32x128 .bf16) (harg13 : arg13.IsWhole) (arg14 : Memref sig .tc .vmem S2x32x256 .bf16) (harg14 : arg14.IsWhole) (arg15 : Memref sig .tc .vmem S2x32x133120 .f32) (harg15 : arg15.IsWhole) (arg16 : Memref sig .tc .vmem S2x32x128 .f32) (harg16 : arg16.IsWhole) (arg17 : Memref sig .tc .vmem S2x32x128 .f32) (harg17 : arg17.IsWhole) (arg18 : Memref sig .tc .vmem S2x32x256 .f32) (harg18 : arg18.IsWhole) (hc0 : cond0_0 i) (hc1 : cond0_1 i) (hc2 : ¬cond0_2 i) (hc3 : ¬cond0_3 i) (hc4 : ¬cond0_4 i) (x0 : Vec Ideal S2x32x128 .bf16) (x1 : Vec Ideal S2x4x128 .bf16) (x2 : Vec Ideal S2x4x128 .bf16) (x3 : Vec Ideal S16384x128 .fp8e4m3) (x4 : Vec Ideal S16384x128 .fp8e4m3) (x5 : Vec Ideal S4x4096 .f32) (x6 : Vec Ideal S4x4096 .f32) (x7 : Vec Ideal S2x1024x4x128 .fp8e4m3) (x8 : Vec Ideal S2x1024x4x128 .fp8e4m3) (x9 : Vec Ideal S2x4x1024 .f32) (x10 : Vec Ideal S2x4x1024 .f32) (xt0 : TbBuf0 (F := Ideal) c tbM0_0) (X : In) (n : ℕ) (hn : n = 0) (B : Blocks (c := c) X n x0 x1 x2 x3 x4 x5 x6 x7 x8 x9 x10 xt0) (hi : (i 0).val = n)
    (f0 f1 f2 d a) (L0) (e0 : L0 = (two256q (qrows (rdX arg2 harg2 x0) 0) (qrows (rdX arg2 harg2 x0) 1))) (L1) (e1 : L1 = sPieces i hc1 (fun k => sc0 (tileK arg5 harg5 x3 k) (tileS arg7 harg7 x5 k) (arg14.view.readCov (two256q (qrows (rdX arg2 harg2 x0) 0) (qrows (rdX arg2 harg2 x0) 1)) R0q.toLoadRect)) (fun k => sc1 (tileK arg5 harg5 x3 k) (tileS arg7 harg7 x5 k) (arg14.view.readCov (two256q (qrows (rdX arg2 harg2 x0) 0) (qrows (rdX arg2 harg2 x0) 1)) R1q.toLoadRect)) (tPieces (fun k => tsc0 (tmask (BitVec.ofNat 32 (k / 4)) (BitVec.ofNat 32 (256 * (k % 4))) (rdLen xt0 (k / 4))) (tailK arg9 harg9 x7 k) (tailS arg11 harg11 x9 k) (arg14.view.readCov (two256q (qrows (rdX arg2 harg2 x0) 0) (qrows (rdX arg2 harg2 x0) 1)) R0q.toLoadRect)) (fun k => tsc1 (tmask (BitVec.ofNat 32 (k / 4)) (BitVec.ofNat 32 (256 * (k % 4))) (rdLen xt0 (k / 4))) (tailK arg9 harg9 x7 k) (tailS arg11 harg11 x9 k) (arg14.view.readCov (two256q (qrows (rdX arg2 harg2 x0) 0) (qrows (rdX arg2 harg2 x0) 1)) R1q.toLoadRect)) 8) 16) (L2) (e2 : L2 = two128 (up128 (mchain (dn128 (arg16.view.readCov (mPieces arg16.view (fun k => tsc0 (tmask (BitVec.ofNat 32 (k / 4)) (BitVec.ofNat 32 (256 * (k % 4))) (rdLen xt0 (k / 4))) (tailK arg9 harg9 x7 k) (tailS arg11 harg11 x9 k) (arg14.view.readCov (two256q (qrows (rdX arg2 harg2 x0) 0) (qrows (rdX arg2 harg2 x0) 1)) R0q.toLoadRect)) (fun k => tsc1 (tmask (BitVec.ofNat 32 (k / 4)) (BitVec.ofNat 32 (256 * (k % 4))) (rdLen xt0 (k / 4))) (tailK arg9 harg9 x7 k) (tailS arg11 harg11 x9 k) (arg14.view.readCov (two256q (qrows (rdX arg2 harg2 x0) 0) (qrows (rdX arg2 harg2 x0) 1)) R1q.toLoadRect)) (fill128 k0_pay15) 8) R0l.toLoadRect)) (fun k => sc0 (tileK arg5 harg5 x3 k) (tileS arg7 harg7 x5 k) (arg14.view.readCov (two256q (qrows (rdX arg2 harg2 x0) 0) (qrows (rdX arg2 harg2 x0) 1)) R0q.toLoadRect)) 16)) (up128 (mchain (dn128 (arg16.view.readCov (mPieces arg16.view (fun k => tsc0 (tmask (BitVec.ofNat 32 (k / 4)) (BitVec.ofNat 32 (256 * (k % 4))) (rdLen xt0 (k / 4))) (tailK arg9 harg9 x7 k) (tailS arg11 harg11 x9 k) (arg14.view.readCov (two256q (qrows (rdX arg2 harg2 x0) 0) (qrows (rdX arg2 harg2 x0) 1)) R0q.toLoadRect)) (fun k => tsc1 (tmask (BitVec.ofNat 32 (k / 4)) (BitVec.ofNat 32 (256 * (k % 4))) (rdLen xt0 (k / 4))) (tailK arg9 harg9 x7 k) (tailS arg11 harg11 x9 k) (arg14.view.readCov (two256q (qrows (rdX arg2 harg2 x0) 0) (qrows (rdX arg2 harg2 x0) 1)) R1q.toLoadRect)) (fill128 k0_pay15) 8) R1l.toLoadRect)) (fun k => sc1 (tileK arg5 harg5 x3 k) (tileS arg7 harg7 x5 k) (arg14.view.readCov (two256q (qrows (rdX arg2 harg2 x0) 0) (qrows (rdX arg2 harg2 x0) 1)) R1q.toLoadRect)) 16)) (mPieces arg16.view (fun k => tsc0 (tmask (BitVec.ofNat 32 (k / 4)) (BitVec.ofNat 32 (256 * (k % 4))) (rdLen xt0 (k / 4))) (tailK arg9 harg9 x7 k) (tailS arg11 harg11 x9 k) (arg14.view.readCov (two256q (qrows (rdX arg2 harg2 x0) 0) (qrows (rdX arg2 harg2 x0) 1)) R0q.toLoadRect)) (fun k => tsc1 (tmask (BitVec.ofNat 32 (k / 4)) (BitVec.ofNat 32 (256 * (k % 4))) (rdLen xt0 (k / 4))) (tailK arg9 harg9 x7 k) (tailS arg11 harg11 x9 k) (arg14.view.readCov (two256q (qrows (rdX arg2 harg2 x0) 0) (qrows (rdX arg2 harg2 x0) 1)) R1q.toLoadRect)) (fill128 k0_pay15) 8)) :
    Inv X (n + 1) (arg14.view.read (Elt Ideal) (arg14.view.writes (Elt Ideal) f0 L0)) (arg15.view.read (Elt Ideal) (arg15.view.writes (Elt Ideal) f1 L1)) (arg16.view.read (Elt Ideal) (arg16.view.writes (Elt Ideal) f2 L2)) d a := by
  subst hn e0 e1 e2
  simp only [back0_q, back1_q, backM0, backM1, fill128_0, fill128_1]
  have hq0 : IsQ X 0 (qrows (rdX arg2 harg2 x0) 0) := fun r d => rdX_ok B arg2 harg2 0 r d
  have hq1 : IsQ X 1 (qrows (rdX arg2 harg2 x0) 1) := fun r d => rdX_ok B arg2 harg2 1 r d
  refine ⟨fun _ => ⟨?_, ?_, ?_⟩, fun h => absurd h (by omega)⟩
  · intro p r l
    exact read_two256q _ f0 _ _ (fun p r l => qrow X p r l) (fun r l => hq0 r l) (fun r l => hq1 r l) p r l
  · intro p r j hj
    have hlt := j.isLt
    refine read_sPieces _ _ (G := score X) i hc1 _ _ _ 16 le_rfl (fun k hk r x => ?_) (fun k hk r x => ?_) p r j fun hnot =>
      read_tPieces _ _ (G := score X) _ _ 8 le_rfl (fun k hk r x => ?_) (fun k hk r x => ?_) p r j (by omega)
    · rw [hi]; exact sc0_ok B (by omega) arg5 harg5 arg7 harg7 _ hq0 k hk r x
    · rw [hi]; exact sc1_ok B (by omega) arg5 harg5 arg7 harg7 _ hq1 k hk r x
    · exact tsc0_ok B arg9 harg9 arg11 harg11 _ hq0 k hk r x
    · exact tsc1_ok B arg9 harg9 arg11 harg11 _ hq1 k hk r x
  · intro p r l
    refine read_two128 _ f2 _ _ _ (fun p r l => mx X (0 + 1) p r l) (fun r l => ?_) (fun r l => ?_) p r l
    · refine m_first X 0 _ _ _ r l ?_ (fun k hk x => ?_) fun k hk x => ?_
      · exact named_neg _
      · exact tsc0_ok B arg9 harg9 arg11 harg11 _ hq0 k hk r x
      · exact (sc0_ok B (by omega) arg5 harg5 arg7 harg7 _ hq0 k hk r x).trans (congrArg (score X 0 r.val) (by omega))
    · refine m_first X 1 _ _ _ r l ?_ (fun k hk x => ?_) fun k hk x => ?_
      · exact named_neg _
      · exact tsc1_ok B arg9 harg9 arg11 harg11 _ hq1 k hk r x
      · exact (sc1_ok B (by omega) arg5 harg5 arg7 harg7 _ hq1 k hk r x).trans (congrArg (score X 1 r.val) (by omega))

end Cert.KernelIdeal.Gen

end
-- ==== Proof.KI.RunB.lean ====
module

public import proofs.«01_k».proof.Proof.KI.RunA

@[expose] public section

-- membership in a rectangle of large extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1204000 in
/-- What the body's stores leave in each output's staging memref, as pieces (last first) IN CASE B (`scf.if` 0 not taken, `scf.if` 1 taken, `scf.if` 2 not taken, `scf.if` 3 not taken, `scf.if` 4 not taken: points 1, 2, … 31: 31 of 64), WITH the
    proof that on whole staging memrefs — the inputs' at their contents, the outputs it leaves idle (11: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which the symbolic execution steps through — each `scf.if` decided by the case's hypotheses `hc·`; the pieces are
    the witness that run finds (assigned when `iexact` hands the buffer to the continuation). -/
noncomputable def kernelRun0_B (c : Dev nD) (i : grid0.Coords) (arg2 : Memref sig .tc .vmem S2x32x128 .bf16) (harg2 : arg2.IsWhole) (arg3 : Memref sig .tc .vmem S2x4x128 .bf16) (harg3 : arg3.IsWhole) (arg4 : Memref sig .tc .vmem S2x4x128 .bf16) (harg4 : arg4.IsWhole) (arg5 : Memref sig .tc .vmem S16384x128 .fp8e4m3) (harg5 : arg5.IsWhole) (arg6 : Memref sig .tc .vmem S16384x128 .fp8e4m3) (harg6 : arg6.IsWhole) (arg7 : Memref sig .tc .vmem S4x4096 .f32) (harg7 : arg7.IsWhole) (arg8 : Memref sig .tc .vmem S4x4096 .f32) (harg8 : arg8.IsWhole) (arg9 : Memref sig .tc .vmem S2x1024x4x128 .fp8e4m3) (harg9 : arg9.IsWhole) (arg10 : Memref sig .tc .vmem S2x1024x4x128 .fp8e4m3) (harg10 : arg10.IsWhole) (arg11 : Memref sig .tc .vmem S2x4x1024 .f32) (harg11 : arg11.IsWhole) (arg12 : Memref sig .tc .vmem S2x4x1024 .f32) (harg12 : arg12.IsWhole) (arg13 : Memref sig .tc .vmem S2x32x128 .bf16) (harg13 : arg13.IsWhole) (arg14 : Memref sig .tc .vmem S2x32x256 .bf16) (harg14 : arg14.IsWhole) (arg15 : Memref sig .tc .vmem S2x32x133120 .f32) (harg15 : arg15.IsWhole) (arg16 : Memref sig .tc .vmem S2x32x128 .f32) (harg16 : arg16.IsWhole) (arg17 : Memref sig .tc .vmem S2x32x128 .f32) (harg17 : arg17.IsWhole) (arg18 : Memref sig .tc .vmem S2x32x256 .f32) (harg18 : arg18.IsWhole) (hc0 : ¬cond0_0 i) (hc1 : cond0_1 i) (hc2 : ¬cond0_2 i) (hc3 : ¬cond0_3 i) (hc4 : ¬cond0_4 i)
    (x0 : Vec F S2x32x128 .bf16) (x1 : Vec F S2x4x128 .bf16) (x2 : Vec F S2x4x128 .bf16) (x3 : Vec F S16384x128 .fp8e4m3) (x4 : Vec F S16384x128 .fp8e4m3) (x5 : Vec F S4x4096 .f32) (x6 : Vec F S4x4096 .f32) (x7 : Vec F S2x1024x4x128 .fp8e4m3) (x8 : Vec F S2x1024x4x128 .fp8e4m3) (x9 : Vec F S2x4x1024 .f32) (x10 : Vec F S2x4x1024 .f32) (xt0 : TbBuf0 (F := F) c tbM0_0) (xs0 : Vec F S2x32x256 .bf16) (xs2 : Vec F S2x32x128 .f32) (xs3 : Vec F S2x32x128 .f32) (xs4 : Vec F S2x32x256 .f32) :
    Σ' (L11 : List (View.Piece (Elt F) S2x32x128 .bf16)), Σ' (LS0 : List (View.Piece (Elt F) S2x32x256 .bf16)), Σ' (LS1 : List (View.Piece (Elt F) S2x32x133120 .f32)), Σ' (LS2 : List (View.Piece (Elt F) S2x32x128 .f32)), Σ' (LS3 : List (View.Piece (Elt F) S2x32x128 .f32)), { LS4 : List (View.Piece (Elt F) S2x32x256 .f32) //
      ∀ (xi11 : Vec F S2x32x128 .bf16) (xs1 : Vec F S2x32x133120 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare xi11 ∗ owns (c : Thread nD τ) arg14 fullShare xs0 ∗ owns (c : Thread nD τ) arg15 fullShare xs1 ∗ owns (c : Thread nD τ) arg16 fullShare xs2 ∗ owns (c : Thread nD τ) arg17 fullShare xs3 ∗ owns (c : Thread nD τ) arg18 fullShare xs4 ∗ tbPt0 c tbM0_0 xt0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare xi11 ∗ owns (c : Thread nD τ) arg14 fullShare xs0 ∗ (arg15.view.loc (c : Thread nD τ) ↦[arg15.view.set]{fullShare} arg15.view.writes (Elt F) (harg15.unread xs1) LS1) ∗ (∃ f, arg16.view.loc (c : Thread nD τ) ↦[arg16.view.set]{fullShare} arg16.view.writes (Elt F) f LS2) ∗ owns (c : Thread nD τ) arg17 fullShare xs3 ∗ owns (c : Thread nD τ) arg18 fullShare xs4 ∗ tbPt0 c tbM0_0 xt0) -∗ K ⟨⟩))
          ⊢ wp frame (wpE (defs₀ (F := F)) Variants.none c none) E (cc0_cascade_decode i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨[], [], ?_, ?_, [], [], fun xi11 xs1 E K => ?run⟩
  case run =>
    simp only [cc0_cascade_decode_eq_skeleton]; unfold cc0_cascade_decode_skel
    simp only [k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%fs0, %hfs0, HS0⟩, ⟨%fs1, %hfs1, HS1⟩, ⟨%fs2, %hfs2, HS2⟩, ⟨%fs3, %hfs3, HS3⟩, ⟨%fs4, %hfs4, HS4⟩, HT0, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hfs0; obtain rfl := harg15.eq_unread hfs1; obtain rfl := harg16.eq_unread hfs2; obtain rfl := harg17.eq_unread hfs3; obtain rfl := harg18.eq_unread hfs4
    sl_exec (disch := first | sl_exact hc0 | sl_exact hc1 | sl_exact hc2 | sl_exact hc3 | sl_exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [HS0]
    · iexists _; isplitr; · ipureintro; exact harg14.read_unread _
      iexact HS0
    isplitl [HS1]; · iexact HS1
    isplitl [HS2]; · iexists _; iexact HS2
    isplitl [HS3]
    · iexists _; isplitr; · ipureintro; exact harg17.read_unread _
      iexact HS3
    isplitl [HS4]
    · iexists _; isplitr; · ipureintro; exact harg18.read_unread _
      iexact HS4
    iexact HT0

end Cert.KernelIdeal.Gen

end
-- ==== Proof.KI.EqB.lean ====
/- What the stores of a point of case B leave, as functions of the arrays the point starts from. -/
module

public import proofs.«01_k».proof.Proof.KI.RunB
public import proofs.«01_k».proof.Proof.KI.Model

@[expose] public section

set_option maxRecDepth 16384

noncomputable section

namespace Cert.KernelIdeal.Gen

open Idealize.ShloMosaic Idealize.ShloMosaic.TcCoe Idealize.ShloMosaic.Tactic

variable {F : FTy → Type} [FloatOps F] [Named F]

theorem runB_s (c : Dev nD) (i : grid0.Coords) (arg2 : Memref sig .tc .vmem S2x32x128 .bf16) (harg2 : arg2.IsWhole) (arg3 : Memref sig .tc .vmem S2x4x128 .bf16) (harg3 : arg3.IsWhole) (arg4 : Memref sig .tc .vmem S2x4x128 .bf16) (harg4 : arg4.IsWhole) (arg5 : Memref sig .tc .vmem S16384x128 .fp8e4m3) (harg5 : arg5.IsWhole) (arg6 : Memref sig .tc .vmem S16384x128 .fp8e4m3) (harg6 : arg6.IsWhole) (arg7 : Memref sig .tc .vmem S4x4096 .f32) (harg7 : arg7.IsWhole) (arg8 : Memref sig .tc .vmem S4x4096 .f32) (harg8 : arg8.IsWhole) (arg9 : Memref sig .tc .vmem S2x1024x4x128 .fp8e4m3) (harg9 : arg9.IsWhole) (arg10 : Memref sig .tc .vmem S2x1024x4x128 .fp8e4m3) (harg10 : arg10.IsWhole) (arg11 : Memref sig .tc .vmem S2x4x1024 .f32) (harg11 : arg11.IsWhole) (arg12 : Memref sig .tc .vmem S2x4x1024 .f32) (harg12 : arg12.IsWhole) (arg13 : Memref sig .tc .vmem S2x32x128 .bf16) (harg13 : arg13.IsWhole) (arg14 : Memref sig .tc .vmem S2x32x256 .bf16) (harg14 : arg14.IsWhole) (arg15 : Memref sig .tc .vmem S2x32x133120 .f32) (harg15 : arg15.IsWhole) (arg16 : Memref sig .tc .vmem S2x32x128 .f32) (harg16 : arg16.IsWhole) (arg17 : Memref sig .tc .vmem S2x32x128 .f32) (harg17 : arg17.IsWhole) (arg18 : Memref sig .tc .vmem S2x32x256 .f32) (harg18 : arg18.IsWhole) (hc0 : ¬cond0_0 i) (hc1 : cond0_1 i) (hc2 : ¬cond0_2 i) (hc3 : ¬cond0_3 i) (hc4 : ¬cond0_4 i)
    (x0 : Vec F S2x32x128 .bf16) (x1 : Vec F S2x4x128 .bf16) (x2 : Vec F S2x4x128 .bf16) (x3 : Vec F S16384x128 .fp8e4m3) (x4 : Vec F S16384x128 .fp8e4m3) (x5 : Vec F S4x4096 .f32) (x6 : Vec F S4x4096 .f32) (x7 : Vec F S2x1024x4x128 .fp8e4m3) (x8 : Vec F S2x1024x4x128 .fp8e4m3) (x9 : Vec F S2x4x1024 .f32) (x10 : Vec F S2x4x1024 .f32) (xt0 : TbBuf0 (F := F) c tbM0_0) (xs0 : Vec F S2x32x256 .bf16) (xs2 : Vec F S2x32x128 .f32) (xs3 : Vec F S2x32x128 .f32) (xs4 : Vec F S2x32x256 .f32)  :
    (kernelRun0_B (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc4 x0 x1 x2 x3 x4 x5 x6 x7 x8 x9 x10 xt0 xs0 xs2 xs3 xs4).2.2.1 = sPieces i hc1 (fun k => sc0 (tileK arg5 harg5 x3 k) (tileS arg7 harg7 x5 k) (rdQ0 arg14 harg14 xs0)) (fun k => sc1 (tileK arg5 harg5 x3 k) (tileS arg7 harg7 x5 k) (rdQ1 arg14 harg14 xs0)) [] 16 := by
  unfold kernelRun0_B; dsimp only
  rfl

theorem runB_m (c : Dev nD) (i : grid0.Coords) (arg2 : Memref sig .tc .vmem S2x32x128 .bf16) (harg2 : arg2.IsWhole) (arg3 : Memref sig .tc .vmem S2x4x128 .bf16) (harg3 : arg3.IsWhole) (arg4 : Memref sig .tc .vmem S2x4x128 .bf16) (harg4 : arg4.IsWhole) (arg5 : Memref sig .tc .vmem S16384x128 .fp8e4m3) (harg5 : arg5.IsWhole) (arg6 : Memref sig .tc .vmem S16384x128 .fp8e4m3) (harg6 : arg6.IsWhole) (arg7 : Memref sig .tc .vmem S4x4096 .f32) (harg7 : arg7.IsWhole) (arg8 : Memref sig .tc .vmem S4x4096 .f32) (harg8 : arg8.IsWhole) (arg9 : Memref sig .tc .vmem S2x1024x4x128 .fp8e4m3) (harg9 : arg9.IsWhole) (arg10 : Memref sig .tc .vmem S2x1024x4x128 .fp8e4m3) (harg10 : arg10.IsWhole) (arg11 : Memref sig .tc .vmem S2x4x1024 .f32) (harg11 : arg11.IsWhole) (arg12 : Memref sig .tc .vmem S2x4x1024 .f32) (harg12 : arg12.IsWhole) (arg13 : Memref sig .tc .vmem S2x32x128 .bf16) (harg13 : arg13.IsWhole) (arg14 : Memref sig .tc .vmem S2x32x256 .bf16) (harg14 : arg14.IsWhole) (arg15 : Memref sig .tc .vmem S2x32x133120 .f32) (harg15 : arg15.IsWhole) (arg16 : Memref sig .tc .vmem S2x32x128 .f32) (harg16 : arg16.IsWhole) (arg17 : Memref sig .tc .vmem S2x32x128 .f32) (harg17 : arg17.IsWhole) (arg18 : Memref sig .tc .vmem S2x32x256 .f32) (harg18 : arg18.IsWhole) (hc0 : ¬cond0_0 i) (hc1 : cond0_1 i) (hc2 : ¬cond0_2 i) (hc3 : ¬cond0_3 i) (hc4 : ¬cond0_4 i)
    (x0 : Vec F S2x32x128 .bf16) (x1 : Vec F S2x4x128 .bf16) (x2 : Vec F S2x4x128 .bf16) (x3 : Vec F S16384x128 .fp8e4m3) (x4 : Vec F S16384x128 .fp8e4m3) (x5 : Vec F S4x4096 .f32) (x6 : Vec F S4x4096 .f32) (x7 : Vec F S2x1024x4x128 .fp8e4m3) (x8 : Vec F S2x1024x4x128 .fp8e4m3) (x9 : Vec F S2x4x1024 .f32) (x10 : Vec F S2x4x1024 .f32) (xt0 : TbBuf0 (F := F) c tbM0_0) (xs0 : Vec F S2x32x256 .bf16) (xs2 : Vec F S2x32x128 .f32) (xs3 : Vec F S2x32x128 .f32) (xs4 : Vec F S2x32x256 .f32)  :
    (kernelRun0_B (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc4 x0 x1 x2 x3 x4 x5 x6 x7 x8 x9 x10 xt0 xs0 xs2 xs3 xs4).2.2.2.1 = two128 (up128 (mchain (dn128 (rdL0 arg16 harg16 xs2)) (fun k => sc0 (tileK arg5 harg5 x3 k) (tileS arg7 harg7 x5 k) (rdQ0 arg14 harg14 xs0)) 16)) (up128 (mchain (dn128 (rdL1 arg16 harg16 xs2)) (fun k => sc1 (tileK arg5 harg5 x3 k) (tileS arg7 harg7 x5 k) (rdQ1 arg14 harg14 xs0)) 16)) [] := by
  unfold kernelRun0_B; dsimp only
  rfl

end Cert.KernelIdeal.Gen

end
-- ==== Proof.Val.CaseB.lean ====
/- One block of scores. -/
module

public import proofs.«01_k».proof.Proof.Val.Inv
public import proofs.«01_k».proof.Proof.KI.EqB

@[expose] public section

set_option maxRecDepth 16384

noncomputable section

namespace Cert.KernelIdeal.Gen

open Idealize.ShloMosaic Idealize.ShloMosaic.TcCoe Idealize.ShloMosaic.Tactic
open Cert.Attn Finset

theorem caseB (c : Dev nD) (i : grid0.Coords) (arg2 : Memref sig .tc .vmem S2x32x128 .bf16) (harg2 : arg2.IsWhole) (arg3 : Memref sig .tc .vmem S2x4x128 .bf16) (harg3 : arg3.IsWhole) (arg4 : Memref sig .tc .vmem S2x4x128 .bf16) (harg4 : arg4.IsWhole) (arg5 : Memref sig .tc .vmem S16384x128 .fp8e4m3) (harg5 : arg5.IsWhole) (arg6 : Memref sig .tc .vmem S16384x128 .fp8e4m3) (harg6 : arg6.IsWhole) (arg7 : Memref sig .tc .vmem S4x4096 .f32) (harg7 : arg7.IsWhole) (arg8 : Memref sig .tc .vmem S4x4096 .f32) (harg8 : arg8.IsWhole) (arg9 : Memref sig .tc .vmem S2x1024x4x128 .fp8e4m3) (harg9 : arg9.IsWhole) (arg10 : Memref sig .tc .vmem S2x1024x4x128 .fp8e4m3) (harg10 : arg10.IsWhole) (arg11 : Memref sig .tc .vmem S2x4x1024 .f32) (harg11 : arg11.IsWhole) (arg12 : Memref sig .tc .vmem S2x4x1024 .f32) (harg12 : arg12.IsWhole) (arg13 : Memref sig .tc .vmem S2x32x128 .bf16) (harg13 : arg13.IsWhole) (arg14 : Memref sig .tc .vmem S2x32x256 .bf16) (harg14 : arg14.IsWhole) (arg15 : Memref sig .tc .vmem S2x32x133120 .f32) (harg15 : arg15.IsWhole) (arg16 : Memref sig .tc .vmem S2x32x128 .f32) (harg16 : arg16.IsWhole) (arg17 : Memref sig .tc .vmem S2x32x128 .f32) (harg17 : arg17.IsWhole) (arg18 : Memref sig .tc .vmem S2x32x256 .f32) (harg18 : arg18.IsWhole) (hc0 : ¬cond0_0 i) (hc1 : cond0_1 i) (hc2 : ¬cond0_2 i) (hc3 : ¬cond0_3 i) (hc4 : ¬cond0_4 i) (x0 : Vec Ideal S2x32x128 .bf16) (x1 : Vec Ideal S2x4x128 .bf16) (x2 : Vec Ideal S2x4x128 .bf16) (x3 : Vec Ideal S16384x128 .fp8e4m3) (x4 : Vec Ideal S16384x128 .fp8e4m3) (x5 : Vec Ideal S4x4096 .f32) (x6 : Vec Ideal S4x4096 .f32) (x7 : Vec Ideal S2x1024x4x128 .fp8e4m3) (x8 : Vec Ideal S2x1024x4x128 .fp8e4m3) (x9 : Vec Ideal S2x4x1024 .f32) (x10 : Vec Ideal S2x4x1024 .f32) (xt0 : TbBuf0 (F := Ideal) c tbM0_0) (xs0 : Vec Ideal S2x32x256 .bf16) (xs2 : Vec Ideal S2x32x128 .f32) (xs3 : Vec Ideal S2x32x128 .f32) (xs4 : Vec Ideal S2x32x256 .f32) (X : In) (n : ℕ) (B : Blocks (c := c) X n x0 x1 x2 x3 x4 x5 x6 x7 x8 x9 x10 xt0) (hi : (i 0).val = n) (hn : 1 ≤ n) (hn' : n < 32) (xs1 : Vec Ideal S2x32x133120 .f32)
    (h : Inv X n xs0 xs1 xs2 xs3 xs4) (f2) (L1) (e1 : L1 = sPieces i hc1 (fun k => sc0 (tileK arg5 harg5 x3 k) (tileS arg7 harg7 x5 k) (rdQ0 arg14 harg14 xs0)) (fun k => sc1 (tileK arg5 harg5 x3 k) (tileS arg7 harg7 x5 k) (rdQ1 arg14 harg14 xs0)) [] 16) (L2) (e2 : L2 = two128 (up128 (mchain (dn128 (rdL0 arg16 harg16 xs2)) (fun k => sc0 (tileK arg5 harg5 x3 k) (tileS arg7 harg7 x5 k) (rdQ0 arg14 harg14 xs0)) 16)) (up128 (mchain (dn128 (rdL1 arg16 harg16 xs2)) (fun k => sc1 (tileK arg5 harg5 x3 k) (tileS arg7 harg7 x5 k) (rdQ1 arg14 harg14 xs0)) 16)) []) :
    Inv X (n + 1) xs0 (arg15.view.read (Elt Ideal) (arg15.view.writes (Elt Ideal) (harg15.unread xs1) L1)) (arg16.view.read (Elt Ideal) (arg16.view.writes (Elt Ideal) f2 L2)) xs3 xs4 := by
  obtain ⟨hQ, hS, hM⟩ := h.1 ⟨hn, by omega⟩
  subst e1 e2
  have hq0 : IsQ X 0 (rdQ0 arg14 harg14 xs0) := fun r d => by rw [rdQ0_at]; exact hQ 0 r d
  have hq1 : IsQ X 1 (rdQ1 arg14 harg14 xs0) := fun r d => by rw [rdQ1_at]; exact hQ 1 r d
  refine ⟨fun _ => ⟨hQ, ?_, ?_⟩, fun h => absurd h (by omega)⟩
  · intro p r j hj
    refine read_sPieces _ _ (G := score X) i hc1 _ _ _ 16 le_rfl (fun k hk r x => ?_) (fun k hk r x => ?_) p r j fun hnot => ?_
    · rw [hi]; exact sc0_ok B hn' arg5 harg5 arg7 harg7 _ hq0 k hk r x
    · rw [hi]; exact sc1_ok B hn' arg5 harg5 arg7 harg7 _ hq1 k hk r x
    · show arg15.view.read (Elt Ideal) (harg15.unread xs1) _ = _
      rw [harg15.read_unread]
      exact hS p r j (by omega)
  · intro p r l
    refine read_two128 _ f2 _ _ _ (fun p r l => mx X (n + 1) p r l) (fun r l => ?_) (fun r l => ?_) p r l
    · refine m_step X 0 n _ _ r l ?_ fun k hk x => ?_
      · rw [rdL0_at]; exact hM 0 r l
      · exact sc0_ok B hn' arg5 harg5 arg7 harg7 _ hq0 k hk r x
    · refine m_step X 1 n _ _ r l ?_ fun k hk x => ?_
      · rw [rdL1_at]; exact hM 1 r l
      · exact sc1_ok B hn' arg5 harg5 arg7 harg7 _ hq1 k hk r x

end Cert.KernelIdeal.Gen

end
-- ==== Proof.KI.RunC.lean ====
module

public import proofs.«01_k».proof.Proof.KI.RunB

@[expose] public section

-- membership in a rectangle of large extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1772000 in
/-- What the body's stores leave in each output's staging memref, as pieces (last first) IN CASE C (`scf.if` 0 not taken, `scf.if` 1 not taken, `scf.if` 2 taken, `scf.if` 3 taken, `scf.if` 4 not taken: points 32), WITH the
    proof that on whole staging memrefs — the inputs' at their contents, the outputs it leaves idle (11: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which the symbolic execution steps through — each `scf.if` decided by the case's hypotheses `hc·`; the pieces are
    the witness that run finds (assigned when `iexact` hands the buffer to the continuation). -/
noncomputable def kernelRun0_C (c : Dev nD) (i : grid0.Coords) (arg2 : Memref sig .tc .vmem S2x32x128 .bf16) (harg2 : arg2.IsWhole) (arg3 : Memref sig .tc .vmem S2x4x128 .bf16) (harg3 : arg3.IsWhole) (arg4 : Memref sig .tc .vmem S2x4x128 .bf16) (harg4 : arg4.IsWhole) (arg5 : Memref sig .tc .vmem S16384x128 .fp8e4m3) (harg5 : arg5.IsWhole) (arg6 : Memref sig .tc .vmem S16384x128 .fp8e4m3) (harg6 : arg6.IsWhole) (arg7 : Memref sig .tc .vmem S4x4096 .f32) (harg7 : arg7.IsWhole) (arg8 : Memref sig .tc .vmem S4x4096 .f32) (harg8 : arg8.IsWhole) (arg9 : Memref sig .tc .vmem S2x1024x4x128 .fp8e4m3) (harg9 : arg9.IsWhole) (arg10 : Memref sig .tc .vmem S2x1024x4x128 .fp8e4m3) (harg10 : arg10.IsWhole) (arg11 : Memref sig .tc .vmem S2x4x1024 .f32) (harg11 : arg11.IsWhole) (arg12 : Memref sig .tc .vmem S2x4x1024 .f32) (harg12 : arg12.IsWhole) (arg13 : Memref sig .tc .vmem S2x32x128 .bf16) (harg13 : arg13.IsWhole) (arg14 : Memref sig .tc .vmem S2x32x256 .bf16) (harg14 : arg14.IsWhole) (arg15 : Memref sig .tc .vmem S2x32x133120 .f32) (harg15 : arg15.IsWhole) (arg16 : Memref sig .tc .vmem S2x32x128 .f32) (harg16 : arg16.IsWhole) (arg17 : Memref sig .tc .vmem S2x32x128 .f32) (harg17 : arg17.IsWhole) (arg18 : Memref sig .tc .vmem S2x32x256 .f32) (harg18 : arg18.IsWhole) (hc0 : ¬cond0_0 i) (hc1 : ¬cond0_1 i) (hc2 : cond0_2 i) (hc3 : cond0_3 i) (hc4 : ¬cond0_4 i)
    (x0 : Vec F S2x32x128 .bf16) (x1 : Vec F S2x4x128 .bf16) (x2 : Vec F S2x4x128 .bf16) (x3 : Vec F S16384x128 .fp8e4m3) (x4 : Vec F S16384x128 .fp8e4m3) (x5 : Vec F S4x4096 .f32) (x6 : Vec F S4x4096 .f32) (x7 : Vec F S2x1024x4x128 .fp8e4m3) (x8 : Vec F S2x1024x4x128 .fp8e4m3) (x9 : Vec F S2x4x1024 .f32) (x10 : Vec F S2x4x1024 .f32) (xt0 : TbBuf0 (F := F) c tbM0_0) (xs0 : Vec F S2x32x256 .bf16) (xs1 : Vec F S2x32x133120 .f32) (xs2 : Vec F S2x32x128 .f32) :
    Σ' (L11 : List (View.Piece (Elt F) S2x32x128 .bf16)), Σ' (LS0 : List (View.Piece (Elt F) S2x32x256 .bf16)), Σ' (LS1 : List (View.Piece (Elt F) S2x32x133120 .f32)), Σ' (LS2 : List (View.Piece (Elt F) S2x32x128 .f32)), Σ' (LS3 : List (View.Piece (Elt F) S2x32x128 .f32)), { LS4 : List (View.Piece (Elt F) S2x32x256 .f32) //
      ∀ (xi11 : Vec F S2x32x128 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare xi11 ∗ owns (c : Thread nD τ) arg14 fullShare xs0 ∗ owns (c : Thread nD τ) arg15 fullShare xs1 ∗ owns (c : Thread nD τ) arg16 fullShare xs2 ∗ (∃ d, owns (c : Thread nD τ) arg17 fullShare d) ∗ (∃ d, owns (c : Thread nD τ) arg18 fullShare d) ∗ tbPt0 c tbM0_0 xt0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare xi11 ∗ owns (c : Thread nD τ) arg14 fullShare xs0 ∗ owns (c : Thread nD τ) arg15 fullShare xs1 ∗ (∃ f, arg16.view.loc (c : Thread nD τ) ↦[arg16.view.set]{fullShare} arg16.view.writes (Elt F) f LS2) ∗ (∃ f, arg17.view.loc (c : Thread nD τ) ↦[arg17.view.set]{fullShare} arg17.view.writes (Elt F) f LS3) ∗ (∃ f, arg18.view.loc (c : Thread nD τ) ↦[arg18.view.set]{fullShare} arg18.view.writes (Elt F) f LS4) ∗ tbPt0 c tbM0_0 xt0) -∗ K ⟨⟩))
          ⊢ wp frame (wpE (defs₀ (F := F)) Variants.none c none) E (cc0_cascade_decode i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨[], [], [], ?_, ?_, ?_, fun xi11 E K => ?run⟩
  case run =>
    simp only [cc0_cascade_decode_eq_skeleton]; unfold cc0_cascade_decode_skel
    simp only [k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part73_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%fs0, %hfs0, HS0⟩, ⟨%fs1, %hfs1, HS1⟩, ⟨%fs2, %hfs2, HS2⟩, ⟨%ds3, %fs3, -, HS3⟩, ⟨%ds4, %fs4, -, HS4⟩, HT0, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hfs0; obtain rfl := harg15.eq_unread hfs1; obtain rfl := harg16.eq_unread hfs2
    sl_exec (disch := first | sl_exact hc0 | sl_exact hc1 | sl_exact hc2 | sl_exact hc3 | sl_exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [HS0]
    · iexists _; isplitr; · ipureintro; exact harg14.read_unread _
      iexact HS0
    isplitl [HS1]
    · iexists _; isplitr; · ipureintro; exact harg15.read_unread _
      iexact HS1
    isplitl [HS2]; · iexists _; iexact HS2
    isplitl [HS3]; · iexists _; iexact HS3
    isplitl [HS4]; · iexists _; iexact HS4
    iexact HT0

end Cert.KernelIdeal.Gen

end
-- ==== Proof.KI.EqC.lean ====
/- What the stores of the point that starts the weighted sums leave, as functions of the arrays it reads. -/
module

public import proofs.«01_k».proof.Proof.KI.RunC
public import proofs.«01_k».proof.Proof.KI.Model2

@[expose] public section

set_option maxRecDepth 16384

noncomputable section

namespace Cert.KernelIdeal.Gen

open Idealize.ShloMosaic Idealize.ShloMosaic.TcCoe Idealize.ShloMosaic.Tactic

variable {F : FTy → Type} [FloatOps F] [Named F]

theorem runC_m  (c : Dev nD) (i : grid0.Coords) (arg2 : Memref sig .tc .vmem S2x32x128 .bf16) (harg2 : arg2.IsWhole) (arg3 : Memref sig .tc .vmem S2x4x128 .bf16) (harg3 : arg3.IsWhole) (arg4 : Memref sig .tc .vmem S2x4x128 .bf16) (harg4 : arg4.IsWhole) (arg5 : Memref sig .tc .vmem S16384x128 .fp8e4m3) (harg5 : arg5.IsWhole) (arg6 : Memref sig .tc .vmem S16384x128 .fp8e4m3) (harg6 : arg6.IsWhole) (arg7 : Memref sig .tc .vmem S4x4096 .f32) (harg7 : arg7.IsWhole) (arg8 : Memref sig .tc .vmem S4x4096 .f32) (harg8 : arg8.IsWhole) (arg9 : Memref sig .tc .vmem S2x1024x4x128 .fp8e4m3) (harg9 : arg9.IsWhole) (arg10 : Memref sig .tc .vmem S2x1024x4x128 .fp8e4m3) (harg10 : arg10.IsWhole) (arg11 : Memref sig .tc .vmem S2x4x1024 .f32) (harg11 : arg11.IsWhole) (arg12 : Memref sig .tc .vmem S2x4x1024 .f32) (harg12 : arg12.IsWhole) (arg13 : Memref sig .tc .vmem S2x32x128 .bf16) (harg13 : arg13.IsWhole) (arg14 : Memref sig .tc .vmem S2x32x256 .bf16) (harg14 : arg14.IsWhole) (arg15 : Memref sig .tc .vmem S2x32x133120 .f32) (harg15 : arg15.IsWhole) (arg16 : Memref sig .tc .vmem S2x32x128 .f32) (harg16 : arg16.IsWhole) (arg17 : Memref sig .tc .vmem S2x32x128 .f32) (harg17 : arg17.IsWhole) (arg18 : Memref sig .tc .vmem S2x32x256 .f32) (harg18 : arg18.IsWhole) (hc0 : ¬cond0_0 i) (hc1 : ¬cond0_1 i) (hc2 : cond0_2 i) (hc3 : cond0_3 i) (hc4 : ¬cond0_4 i)
    (x0 : Vec F S2x32x128 .bf16) (x1 : Vec F S2x4x128 .bf16) (x2 : Vec F S2x4x128 .bf16) (x3 : Vec F S16384x128 .fp8e4m3) (x4 : Vec F S16384x128 .fp8e4m3) (x5 : Vec F S4x4096 .f32) (x6 : Vec F S4x4096 .f32) (x7 : Vec F S2x1024x4x128 .fp8e4m3) (x8 : Vec F S2x1024x4x128 .fp8e4m3) (x9 : Vec F S2x4x1024 .f32) (x10 : Vec F S2x4x1024 .f32) (xt0 : TbBuf0 (F := F) c tbM0_0) (xs0 : Vec F S2x32x256 .bf16) (xs1 : Vec F S2x32x133120 .f32) (xs2 : Vec F S2x32x128 .f32) : (kernelRun0_C (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc4 x0 x1 x2 x3 x4 x5 x6 x7 x8 x9 x10 xt0 xs0 xs1 xs2).2.2.2.1 = (two128 (mnew (rdN arg3 harg3 x1) 0 (rdQ0 arg14 harg14 xs0) (rdL0 arg16 harg16 xs2)) (mnew (rdN arg3 harg3 x1) 1 (rdQ1 arg14 harg14 xs0) (rdL1 arg16 harg16 xs2)) []) := by
  unfold kernelRun0_C; dsimp only
  rfl

theorem runC_den  (c : Dev nD) (i : grid0.Coords) (arg2 : Memref sig .tc .vmem S2x32x128 .bf16) (harg2 : arg2.IsWhole) (arg3 : Memref sig .tc .vmem S2x4x128 .bf16) (harg3 : arg3.IsWhole) (arg4 : Memref sig .tc .vmem S2x4x128 .bf16) (harg4 : arg4.IsWhole) (arg5 : Memref sig .tc .vmem S16384x128 .fp8e4m3) (harg5 : arg5.IsWhole) (arg6 : Memref sig .tc .vmem S16384x128 .fp8e4m3) (harg6 : arg6.IsWhole) (arg7 : Memref sig .tc .vmem S4x4096 .f32) (harg7 : arg7.IsWhole) (arg8 : Memref sig .tc .vmem S4x4096 .f32) (harg8 : arg8.IsWhole) (arg9 : Memref sig .tc .vmem S2x1024x4x128 .fp8e4m3) (harg9 : arg9.IsWhole) (arg10 : Memref sig .tc .vmem S2x1024x4x128 .fp8e4m3) (harg10 : arg10.IsWhole) (arg11 : Memref sig .tc .vmem S2x4x1024 .f32) (harg11 : arg11.IsWhole) (arg12 : Memref sig .tc .vmem S2x4x1024 .f32) (harg12 : arg12.IsWhole) (arg13 : Memref sig .tc .vmem S2x32x128 .bf16) (harg13 : arg13.IsWhole) (arg14 : Memref sig .tc .vmem S2x32x256 .bf16) (harg14 : arg14.IsWhole) (arg15 : Memref sig .tc .vmem S2x32x133120 .f32) (harg15 : arg15.IsWhole) (arg16 : Memref sig .tc .vmem S2x32x128 .f32) (harg16 : arg16.IsWhole) (arg17 : Memref sig .tc .vmem S2x32x128 .f32) (harg17 : arg17.IsWhole) (arg18 : Memref sig .tc .vmem S2x32x256 .f32) (harg18 : arg18.IsWhole) (hc0 : ¬cond0_0 i) (hc1 : ¬cond0_1 i) (hc2 : cond0_2 i) (hc3 : cond0_3 i) (hc4 : ¬cond0_4 i)
    (x0 : Vec F S2x32x128 .bf16) (x1 : Vec F S2x4x128 .bf16) (x2 : Vec F S2x4x128 .bf16) (x3 : Vec F S16384x128 .fp8e4m3) (x4 : Vec F S16384x128 .fp8e4m3) (x5 : Vec F S4x4096 .f32) (x6 : Vec F S4x4096 .f32) (x7 : Vec F S2x1024x4x128 .fp8e4m3) (x8 : Vec F S2x1024x4x128 .fp8e4m3) (x9 : Vec F S2x4x1024 .f32) (x10 : Vec F S2x4x1024 .f32) (xt0 : TbBuf0 (F := F) c tbM0_0) (xs0 : Vec F S2x32x256 .bf16) (xs1 : Vec F S2x32x133120 .f32) (xs2 : Vec F S2x32x128 .f32) : (kernelRun0_C (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc4 x0 x1 x2 x3 x4 x5 x6 x7 x8 x9 x10 xt0 xs0 xs1 xs2).2.2.2.2.1 = (fun L => two128 (up128 (dchain (dn128 (arg17.view.readCov L R0l.toLoadRect)) (fun k => expT (rdS0 i hc3 arg15 harg15 xs1 k) (arg16.view.readCov (two128 (mnew (rdN arg3 harg3 x1) 0 (rdQ0 arg14 harg14 xs0) (rdL0 arg16 harg16 xs2)) (mnew (rdN arg3 harg3 x1) 1 (rdQ1 arg14 harg14 xs0) (rdL1 arg16 harg16 xs2)) []) R0l.toLoadRect)) 16)) (up128 (dchain (dn128 (arg17.view.readCov L R1l.toLoadRect)) (fun k => expT (rdS1 i hc3 arg15 harg15 xs1 k) (arg16.view.readCov (two128 (mnew (rdN arg3 harg3 x1) 0 (rdQ0 arg14 harg14 xs0) (rdL0 arg16 harg16 xs2)) (mnew (rdN arg3 harg3 x1) 1 (rdQ1 arg14 harg14 xs0) (rdL1 arg16 harg16 xs2)) []) R1l.toLoadRect)) 16)) L) ((fun L => two128 (up128 (dchain (dn128 (arg17.view.readCov L R0l.toLoadRect)) (fun j => expT (rdT arg15 harg15 xs1 0 (4 * 1 + j)) (arg16.view.readCov (two128 (mnew (rdN arg3 harg3 x1) 0 (rdQ0 arg14 harg14 xs0) (rdL0 arg16 harg16 xs2)) (mnew (rdN arg3 harg3 x1) 1 (rdQ1 arg14 harg14 xs0) (rdL1 arg16 harg16 xs2)) []) R0l.toLoadRect)) 4)) (up128 (dchain (dn128 (arg17.view.readCov L R1l.toLoadRect)) (fun j => expT (rdT arg15 harg15 xs1 1 (4 * 1 + j)) (arg16.view.readCov (two128 (mnew (rdN arg3 harg3 x1) 0 (rdQ0 arg14 harg14 xs0) (rdL0 arg16 harg16 xs2)) (mnew (rdN arg3 harg3 x1) 1 (rdQ1 arg14 harg14 xs0) (rdL1 arg16 harg16 xs2)) []) R1l.toLoadRect)) 4)) L) ((fun L => two128 (up128 (dchain (dn128 (arg17.view.readCov L R0l.toLoadRect)) (fun j => expT (rdT arg15 harg15 xs1 0 (4 * 0 + j)) (arg16.view.readCov (two128 (mnew (rdN arg3 harg3 x1) 0 (rdQ0 arg14 harg14 xs0) (rdL0 arg16 harg16 xs2)) (mnew (rdN arg3 harg3 x1) 1 (rdQ1 arg14 harg14 xs0) (rdL1 arg16 harg16 xs2)) []) R0l.toLoadRect)) 4)) (up128 (dchain (dn128 (arg17.view.readCov L R1l.toLoadRect)) (fun j => expT (rdT arg15 harg15 xs1 1 (4 * 0 + j)) (arg16.view.readCov (two128 (mnew (rdN arg3 harg3 x1) 0 (rdQ0 arg14 harg14 xs0) (rdL0 arg16 harg16 xs2)) (mnew (rdN arg3 harg3 x1) 1 (rdQ1 arg14 harg14 xs0) (rdL1 arg16 harg16 xs2)) []) R1l.toLoadRect)) 4)) L) (two128 (dnew (rdN arg3 harg3 x1) 0 (rdQ0 arg14 harg14 xs0) (rdL0 arg16 harg16 xs2)) (dnew (rdN arg3 harg3 x1) 1 (rdQ1 arg14 harg14 xs0) (rdL1 arg16 harg16 xs2)) []))) := by
  unfold kernelRun0_C; dsimp only
  rfl

end Cert.KernelIdeal.Gen

end
-- ==== Proof.KI.EqCa.lean ====
/- What the stores of the point that starts the weighted sums leave, as functions of the arrays it reads. -/
module

public import proofs.«01_k».proof.Proof.KI.RunC
public import proofs.«01_k».proof.Proof.KI.Model2

@[expose] public section

set_option maxRecDepth 16384

noncomputable section

namespace Cert.KernelIdeal.Gen

open Idealize.ShloMosaic Idealize.ShloMosaic.TcCoe Idealize.ShloMosaic.Tactic

variable {F : FTy → Type} [FloatOps F] [Named F]

theorem runC_acc2  (c : Dev nD) (i : grid0.Coords) (arg2 : Memref sig .tc .vmem S2x32x128 .bf16) (harg2 : arg2.IsWhole) (arg3 : Memref sig .tc .vmem S2x4x128 .bf16) (harg3 : arg3.IsWhole) (arg4 : Memref sig .tc .vmem S2x4x128 .bf16) (harg4 : arg4.IsWhole) (arg5 : Memref sig .tc .vmem S16384x128 .fp8e4m3) (harg5 : arg5.IsWhole) (arg6 : Memref sig .tc .vmem S16384x128 .fp8e4m3) (harg6 : arg6.IsWhole) (arg7 : Memref sig .tc .vmem S4x4096 .f32) (harg7 : arg7.IsWhole) (arg8 : Memref sig .tc .vmem S4x4096 .f32) (harg8 : arg8.IsWhole) (arg9 : Memref sig .tc .vmem S2x1024x4x128 .fp8e4m3) (harg9 : arg9.IsWhole) (arg10 : Memref sig .tc .vmem S2x1024x4x128 .fp8e4m3) (harg10 : arg10.IsWhole) (arg11 : Memref sig .tc .vmem S2x4x1024 .f32) (harg11 : arg11.IsWhole) (arg12 : Memref sig .tc .vmem S2x4x1024 .f32) (harg12 : arg12.IsWhole) (arg13 : Memref sig .tc .vmem S2x32x128 .bf16) (harg13 : arg13.IsWhole) (arg14 : Memref sig .tc .vmem S2x32x256 .bf16) (harg14 : arg14.IsWhole) (arg15 : Memref sig .tc .vmem S2x32x133120 .f32) (harg15 : arg15.IsWhole) (arg16 : Memref sig .tc .vmem S2x32x128 .f32) (harg16 : arg16.IsWhole) (arg17 : Memref sig .tc .vmem S2x32x128 .f32) (harg17 : arg17.IsWhole) (arg18 : Memref sig .tc .vmem S2x32x256 .f32) (harg18 : arg18.IsWhole) (hc0 : ¬cond0_0 i) (hc1 : ¬cond0_1 i) (hc2 : cond0_2 i) (hc3 : cond0_3 i) (hc4 : ¬cond0_4 i)
    (x0 : Vec F S2x32x128 .bf16) (x1 : Vec F S2x4x128 .bf16) (x2 : Vec F S2x4x128 .bf16) (x3 : Vec F S16384x128 .fp8e4m3) (x4 : Vec F S16384x128 .fp8e4m3) (x5 : Vec F S4x4096 .f32) (x6 : Vec F S4x4096 .f32) (x7 : Vec F S2x1024x4x128 .fp8e4m3) (x8 : Vec F S2x1024x4x128 .fp8e4m3) (x9 : Vec F S2x4x1024 .f32) (x10 : Vec F S2x4x1024 .f32) (xt0 : TbBuf0 (F := F) c tbM0_0) (xs0 : Vec F S2x32x256 .bf16) (xs1 : Vec F S2x32x133120 .f32) (xs2 : Vec F S2x32x128 .f32) : kernelRun0_C.sl.HS4_2 (F := F) c arg3 harg3 arg4 harg4 arg14 harg14 arg16 harg16 x1 x2 xs0 xs2 = (two256 (anew (rdN arg3 harg3 x1) (rdN arg4 harg4 x2) 0 (rdQ0 arg14 harg14 xs0) (rdL0 arg16 harg16 xs2)) (anew (rdN arg3 harg3 x1) (rdN arg4 harg4 x2) 1 (rdQ1 arg14 harg14 xs0) (rdL1 arg16 harg16 xs2)) []) := rfl

theorem runC_acc4  (c : Dev nD) (i : grid0.Coords) (arg2 : Memref sig .tc .vmem S2x32x128 .bf16) (harg2 : arg2.IsWhole) (arg3 : Memref sig .tc .vmem S2x4x128 .bf16) (harg3 : arg3.IsWhole) (arg4 : Memref sig .tc .vmem S2x4x128 .bf16) (harg4 : arg4.IsWhole) (arg5 : Memref sig .tc .vmem S16384x128 .fp8e4m3) (harg5 : arg5.IsWhole) (arg6 : Memref sig .tc .vmem S16384x128 .fp8e4m3) (harg6 : arg6.IsWhole) (arg7 : Memref sig .tc .vmem S4x4096 .f32) (harg7 : arg7.IsWhole) (arg8 : Memref sig .tc .vmem S4x4096 .f32) (harg8 : arg8.IsWhole) (arg9 : Memref sig .tc .vmem S2x1024x4x128 .fp8e4m3) (harg9 : arg9.IsWhole) (arg10 : Memref sig .tc .vmem S2x1024x4x128 .fp8e4m3) (harg10 : arg10.IsWhole) (arg11 : Memref sig .tc .vmem S2x4x1024 .f32) (harg11 : arg11.IsWhole) (arg12 : Memref sig .tc .vmem S2x4x1024 .f32) (harg12 : arg12.IsWhole) (arg13 : Memref sig .tc .vmem S2x32x128 .bf16) (harg13 : arg13.IsWhole) (arg14 : Memref sig .tc .vmem S2x32x256 .bf16) (harg14 : arg14.IsWhole) (arg15 : Memref sig .tc .vmem S2x32x133120 .f32) (harg15 : arg15.IsWhole) (arg16 : Memref sig .tc .vmem S2x32x128 .f32) (harg16 : arg16.IsWhole) (arg17 : Memref sig .tc .vmem S2x32x128 .f32) (harg17 : arg17.IsWhole) (arg18 : Memref sig .tc .vmem S2x32x256 .f32) (harg18 : arg18.IsWhole) (hc0 : ¬cond0_0 i) (hc1 : ¬cond0_1 i) (hc2 : cond0_2 i) (hc3 : cond0_3 i) (hc4 : ¬cond0_4 i)
    (x0 : Vec F S2x32x128 .bf16) (x1 : Vec F S2x4x128 .bf16) (x2 : Vec F S2x4x128 .bf16) (x3 : Vec F S16384x128 .fp8e4m3) (x4 : Vec F S16384x128 .fp8e4m3) (x5 : Vec F S4x4096 .f32) (x6 : Vec F S4x4096 .f32) (x7 : Vec F S2x1024x4x128 .fp8e4m3) (x8 : Vec F S2x1024x4x128 .fp8e4m3) (x9 : Vec F S2x4x1024 .f32) (x10 : Vec F S2x4x1024 .f32) (xt0 : TbBuf0 (F := F) c tbM0_0) (xs0 : Vec F S2x32x256 .bf16) (xs1 : Vec F S2x32x133120 .f32) (xs2 : Vec F S2x32x128 .f32) : kernelRun0_C.sl.HS4_4 (F := F) c arg3 harg3 arg4 harg4 arg10 harg10 arg12 harg12 arg14 harg14 arg15 harg15 arg16 harg16 arg18 x1 x2 x8 x10 xs0 xs1 xs2 = (step256 arg18.view (fun d => accT d (fun j => wt0 (rdT arg15 harg15 xs1 0 (4 * 0 + j)) (arg16.view.readCov (two128 (mnew (rdN arg3 harg3 x1) 0 (rdQ0 arg14 harg14 xs0) (rdL0 arg16 harg16 xs2)) (mnew (rdN arg3 harg3 x1) 1 (rdQ1 arg14 harg14 xs0) (rdL1 arg16 harg16 xs2)) []) R0l.toLoadRect) (tailVS arg12 harg12 x10 0 j)) (fun j => tvp0 (tailV arg10 harg10 x8 0 j))) (fun d => accT d (fun j => wt1 (rdT arg15 harg15 xs1 1 (4 * 0 + j)) (arg16.view.readCov (two128 (mnew (rdN arg3 harg3 x1) 0 (rdQ0 arg14 harg14 xs0) (rdL0 arg16 harg16 xs2)) (mnew (rdN arg3 harg3 x1) 1 (rdQ1 arg14 harg14 xs0) (rdL1 arg16 harg16 xs2)) []) R1l.toLoadRect) (tailVS arg12 harg12 x10 0 j)) (fun j => tvp1 (tailV arg10 harg10 x8 0 j))) (kernelRun0_C.sl.HS4_2 (F := F) c arg3 harg3 arg4 harg4 arg14 harg14 arg16 harg16 x1 x2 xs0 xs2)) := rfl

theorem runC_acc6  (c : Dev nD) (i : grid0.Coords) (arg2 : Memref sig .tc .vmem S2x32x128 .bf16) (harg2 : arg2.IsWhole) (arg3 : Memref sig .tc .vmem S2x4x128 .bf16) (harg3 : arg3.IsWhole) (arg4 : Memref sig .tc .vmem S2x4x128 .bf16) (harg4 : arg4.IsWhole) (arg5 : Memref sig .tc .vmem S16384x128 .fp8e4m3) (harg5 : arg5.IsWhole) (arg6 : Memref sig .tc .vmem S16384x128 .fp8e4m3) (harg6 : arg6.IsWhole) (arg7 : Memref sig .tc .vmem S4x4096 .f32) (harg7 : arg7.IsWhole) (arg8 : Memref sig .tc .vmem S4x4096 .f32) (harg8 : arg8.IsWhole) (arg9 : Memref sig .tc .vmem S2x1024x4x128 .fp8e4m3) (harg9 : arg9.IsWhole) (arg10 : Memref sig .tc .vmem S2x1024x4x128 .fp8e4m3) (harg10 : arg10.IsWhole) (arg11 : Memref sig .tc .vmem S2x4x1024 .f32) (harg11 : arg11.IsWhole) (arg12 : Memref sig .tc .vmem S2x4x1024 .f32) (harg12 : arg12.IsWhole) (arg13 : Memref sig .tc .vmem S2x32x128 .bf16) (harg13 : arg13.IsWhole) (arg14 : Memref sig .tc .vmem S2x32x256 .bf16) (harg14 : arg14.IsWhole) (arg15 : Memref sig .tc .vmem S2x32x133120 .f32) (harg15 : arg15.IsWhole) (arg16 : Memref sig .tc .vmem S2x32x128 .f32) (harg16 : arg16.IsWhole) (arg17 : Memref sig .tc .vmem S2x32x128 .f32) (harg17 : arg17.IsWhole) (arg18 : Memref sig .tc .vmem S2x32x256 .f32) (harg18 : arg18.IsWhole) (hc0 : ¬cond0_0 i) (hc1 : ¬cond0_1 i) (hc2 : cond0_2 i) (hc3 : cond0_3 i) (hc4 : ¬cond0_4 i)
    (x0 : Vec F S2x32x128 .bf16) (x1 : Vec F S2x4x128 .bf16) (x2 : Vec F S2x4x128 .bf16) (x3 : Vec F S16384x128 .fp8e4m3) (x4 : Vec F S16384x128 .fp8e4m3) (x5 : Vec F S4x4096 .f32) (x6 : Vec F S4x4096 .f32) (x7 : Vec F S2x1024x4x128 .fp8e4m3) (x8 : Vec F S2x1024x4x128 .fp8e4m3) (x9 : Vec F S2x4x1024 .f32) (x10 : Vec F S2x4x1024 .f32) (xt0 : TbBuf0 (F := F) c tbM0_0) (xs0 : Vec F S2x32x256 .bf16) (xs1 : Vec F S2x32x133120 .f32) (xs2 : Vec F S2x32x128 .f32) : kernelRun0_C.sl.HS4_6 (F := F) c arg3 harg3 arg4 harg4 arg10 harg10 arg12 harg12 arg14 harg14 arg15 harg15 arg16 harg16 arg18 x1 x2 x8 x10 xs0 xs1 xs2 = (step256 arg18.view (fun d => accT d (fun j => wt0 (rdT arg15 harg15 xs1 0 (4 * 1 + j)) (arg16.view.readCov (two128 (mnew (rdN arg3 harg3 x1) 0 (rdQ0 arg14 harg14 xs0) (rdL0 arg16 harg16 xs2)) (mnew (rdN arg3 harg3 x1) 1 (rdQ1 arg14 harg14 xs0) (rdL1 arg16 harg16 xs2)) []) R0l.toLoadRect) (tailVS arg12 harg12 x10 1 j)) (fun j => tvp0 (tailV arg10 harg10 x8 1 j))) (fun d => accT d (fun j => wt1 (rdT arg15 harg15 xs1 1 (4 * 1 + j)) (arg16.view.readCov (two128 (mnew (rdN arg3 harg3 x1) 0 (rdQ0 arg14 harg14 xs0) (rdL0 arg16 harg16 xs2)) (mnew (rdN arg3 harg3 x1) 1 (rdQ1 arg14 harg14 xs0) (rdL1 arg16 harg16 xs2)) []) R1l.toLoadRect) (tailVS arg12 harg12 x10 1 j)) (fun j => tvp1 (tailV arg10 harg10 x8 1 j))) (kernelRun0_C.sl.HS4_4 (F := F) c arg3 harg3 arg4 harg4 arg10 harg10 arg12 harg12 arg14 harg14 arg15 harg15 arg16 harg16 arg18 x1 x2 x8 x10 xs0 xs1 xs2)) := rfl

theorem runC_acc8  (c : Dev nD) (i : grid0.Coords) (arg2 : Memref sig .tc .vmem S2x32x128 .bf16) (harg2 : arg2.IsWhole) (arg3 : Memref sig .tc .vmem S2x4x128 .bf16) (harg3 : arg3.IsWhole) (arg4 : Memref sig .tc .vmem S2x4x128 .bf16) (harg4 : arg4.IsWhole) (arg5 : Memref sig .tc .vmem S16384x128 .fp8e4m3) (harg5 : arg5.IsWhole) (arg6 : Memref sig .tc .vmem S16384x128 .fp8e4m3) (harg6 : arg6.IsWhole) (arg7 : Memref sig .tc .vmem S4x4096 .f32) (harg7 : arg7.IsWhole) (arg8 : Memref sig .tc .vmem S4x4096 .f32) (harg8 : arg8.IsWhole) (arg9 : Memref sig .tc .vmem S2x1024x4x128 .fp8e4m3) (harg9 : arg9.IsWhole) (arg10 : Memref sig .tc .vmem S2x1024x4x128 .fp8e4m3) (harg10 : arg10.IsWhole) (arg11 : Memref sig .tc .vmem S2x4x1024 .f32) (harg11 : arg11.IsWhole) (arg12 : Memref sig .tc .vmem S2x4x1024 .f32) (harg12 : arg12.IsWhole) (arg13 : Memref sig .tc .vmem S2x32x128 .bf16) (harg13 : arg13.IsWhole) (arg14 : Memref sig .tc .vmem S2x32x256 .bf16) (harg14 : arg14.IsWhole) (arg15 : Memref sig .tc .vmem S2x32x133120 .f32) (harg15 : arg15.IsWhole) (arg16 : Memref sig .tc .vmem S2x32x128 .f32) (harg16 : arg16.IsWhole) (arg17 : Memref sig .tc .vmem S2x32x128 .f32) (harg17 : arg17.IsWhole) (arg18 : Memref sig .tc .vmem S2x32x256 .f32) (harg18 : arg18.IsWhole) (hc0 : ¬cond0_0 i) (hc1 : ¬cond0_1 i) (hc2 : cond0_2 i) (hc3 : cond0_3 i) (hc4 : ¬cond0_4 i)
    (x0 : Vec F S2x32x128 .bf16) (x1 : Vec F S2x4x128 .bf16) (x2 : Vec F S2x4x128 .bf16) (x3 : Vec F S16384x128 .fp8e4m3) (x4 : Vec F S16384x128 .fp8e4m3) (x5 : Vec F S4x4096 .f32) (x6 : Vec F S4x4096 .f32) (x7 : Vec F S2x1024x4x128 .fp8e4m3) (x8 : Vec F S2x1024x4x128 .fp8e4m3) (x9 : Vec F S2x4x1024 .f32) (x10 : Vec F S2x4x1024 .f32) (xt0 : TbBuf0 (F := F) c tbM0_0) (xs0 : Vec F S2x32x256 .bf16) (xs1 : Vec F S2x32x133120 .f32) (xs2 : Vec F S2x32x128 .f32) : (kernelRun0_C (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc4 x0 x1 x2 x3 x4 x5 x6 x7 x8 x9 x10 xt0 xs0 xs1 xs2).2.2.2.2.2.1 = (step256 arg18.view (fun d => accB d (fun k => wt0 (rdS0 i hc3 arg15 harg15 xs1 k) (arg16.view.readCov (two128 (mnew (rdN arg3 harg3 x1) 0 (rdQ0 arg14 harg14 xs0) (rdL0 arg16 harg16 xs2)) (mnew (rdN arg3 harg3 x1) 1 (rdQ1 arg14 harg14 xs0) (rdL1 arg16 harg16 xs2)) []) R0l.toLoadRect) (tileS arg8 harg8 x6 k)) (fun k => vp0 (tileK arg6 harg6 x4 k))) (fun d => accB d (fun k => wt1 (rdS1 i hc3 arg15 harg15 xs1 k) (arg16.view.readCov (two128 (mnew (rdN arg3 harg3 x1) 0 (rdQ0 arg14 harg14 xs0) (rdL0 arg16 harg16 xs2)) (mnew (rdN arg3 harg3 x1) 1 (rdQ1 arg14 harg14 xs0) (rdL1 arg16 harg16 xs2)) []) R1l.toLoadRect) (tileS arg8 harg8 x6 k)) (fun k => vp1 (tileK arg6 harg6 x4 k))) (kernelRun0_C.sl.HS4_6 (F := F) c arg3 harg3 arg4 harg4 arg10 harg10 arg12 harg12 arg14 harg14 arg15 harg15 arg16 harg16 arg18 x1 x2 x8 x10 xs0 xs1 xs2)) := by
  unfold kernelRun0_C; dsimp only
  rfl

theorem runC_acc  (c : Dev nD) (i : grid0.Coords) (arg2 : Memref sig .tc .vmem S2x32x128 .bf16) (harg2 : arg2.IsWhole) (arg3 : Memref sig .tc .vmem S2x4x128 .bf16) (harg3 : arg3.IsWhole) (arg4 : Memref sig .tc .vmem S2x4x128 .bf16) (harg4 : arg4.IsWhole) (arg5 : Memref sig .tc .vmem S16384x128 .fp8e4m3) (harg5 : arg5.IsWhole) (arg6 : Memref sig .tc .vmem S16384x128 .fp8e4m3) (harg6 : arg6.IsWhole) (arg7 : Memref sig .tc .vmem S4x4096 .f32) (harg7 : arg7.IsWhole) (arg8 : Memref sig .tc .vmem S4x4096 .f32) (harg8 : arg8.IsWhole) (arg9 : Memref sig .tc .vmem S2x1024x4x128 .fp8e4m3) (harg9 : arg9.IsWhole) (arg10 : Memref sig .tc .vmem S2x1024x4x128 .fp8e4m3) (harg10 : arg10.IsWhole) (arg11 : Memref sig .tc .vmem S2x4x1024 .f32) (harg11 : arg11.IsWhole) (arg12 : Memref sig .tc .vmem S2x4x1024 .f32) (harg12 : arg12.IsWhole) (arg13 : Memref sig .tc .vmem S2x32x128 .bf16) (harg13 : arg13.IsWhole) (arg14 : Memref sig .tc .vmem S2x32x256 .bf16) (harg14 : arg14.IsWhole) (arg15 : Memref sig .tc .vmem S2x32x133120 .f32) (harg15 : arg15.IsWhole) (arg16 : Memref sig .tc .vmem S2x32x128 .f32) (harg16 : arg16.IsWhole) (arg17 : Memref sig .tc .vmem S2x32x128 .f32) (harg17 : arg17.IsWhole) (arg18 : Memref sig .tc .vmem S2x32x256 .f32) (harg18 : arg18.IsWhole) (hc0 : ¬cond0_0 i) (hc1 : ¬cond0_1 i) (hc2 : cond0_2 i) (hc3 : cond0_3 i) (hc4 : ¬cond0_4 i)
    (x0 : Vec F S2x32x128 .bf16) (x1 : Vec F S2x4x128 .bf16) (x2 : Vec F S2x4x128 .bf16) (x3 : Vec F S16384x128 .fp8e4m3) (x4 : Vec F S16384x128 .fp8e4m3) (x5 : Vec F S4x4096 .f32) (x6 : Vec F S4x4096 .f32) (x7 : Vec F S2x1024x4x128 .fp8e4m3) (x8 : Vec F S2x1024x4x128 .fp8e4m3) (x9 : Vec F S2x4x1024 .f32) (x10 : Vec F S2x4x1024 .f32) (xt0 : TbBuf0 (F := F) c tbM0_0) (xs0 : Vec F S2x32x256 .bf16) (xs1 : Vec F S2x32x133120 .f32) (xs2 : Vec F S2x32x128 .f32) : (kernelRun0_C (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc4 x0 x1 x2 x3 x4 x5 x6 x7 x8 x9 x10 xt0 xs0 xs1 xs2).2.2.2.2.2.1 = (step256 arg18.view (fun d => accB d (fun k => wt0 (rdS0 i hc3 arg15 harg15 xs1 k) (arg16.view.readCov (two128 (mnew (rdN arg3 harg3 x1) 0 (rdQ0 arg14 harg14 xs0) (rdL0 arg16 harg16 xs2)) (mnew (rdN arg3 harg3 x1) 1 (rdQ1 arg14 harg14 xs0) (rdL1 arg16 harg16 xs2)) []) R0l.toLoadRect) (tileS arg8 harg8 x6 k)) (fun k => vp0 (tileK arg6 harg6 x4 k))) (fun d => accB d (fun k => wt1 (rdS1 i hc3 arg15 harg15 xs1 k) (arg16.view.readCov (two128 (mnew (rdN arg3 harg3 x1) 0 (rdQ0 arg14 harg14 xs0) (rdL0 arg16 harg16 xs2)) (mnew (rdN arg3 harg3 x1) 1 (rdQ1 arg14 harg14 xs0) (rdL1 arg16 harg16 xs2)) []) R1l.toLoadRect) (tileS arg8 harg8 x6 k)) (fun k => vp1 (tileK arg6 harg6 x4 k))) (step256 arg18.view (fun d => accT d (fun j => wt0 (rdT arg15 harg15 xs1 0 (4 * 1 + j)) (arg16.view.readCov (two128 (mnew (rdN arg3 harg3 x1) 0 (rdQ0 arg14 harg14 xs0) (rdL0 arg16 harg16 xs2)) (mnew (rdN arg3 harg3 x1) 1 (rdQ1 arg14 harg14 xs0) (rdL1 arg16 harg16 xs2)) []) R0l.toLoadRect) (tailVS arg12 harg12 x10 1 j)) (fun j => tvp0 (tailV arg10 harg10 x8 1 j))) (fun d => accT d (fun j => wt1 (rdT arg15 harg15 xs1 1 (4 * 1 + j)) (arg16.view.readCov (two128 (mnew (rdN arg3 harg3 x1) 0 (rdQ0 arg14 harg14 xs0) (rdL0 arg16 harg16 xs2)) (mnew (rdN arg3 harg3 x1) 1 (rdQ1 arg14 harg14 xs0) (rdL1 arg16 harg16 xs2)) []) R1l.toLoadRect) (tailVS arg12 harg12 x10 1 j)) (fun j => tvp1 (tailV arg10 harg10 x8 1 j))) (step256 arg18.view (fun d => accT d (fun j => wt0 (rdT arg15 harg15 xs1 0 (4 * 0 + j)) (arg16.view.readCov (two128 (mnew (rdN arg3 harg3 x1) 0 (rdQ0 arg14 harg14 xs0) (rdL0 arg16 harg16 xs2)) (mnew (rdN arg3 harg3 x1) 1 (rdQ1 arg14 harg14 xs0) (rdL1 arg16 harg16 xs2)) []) R0l.toLoadRect) (tailVS arg12 harg12 x10 0 j)) (fun j => tvp0 (tailV arg10 harg10 x8 0 j))) (fun d => accT d (fun j => wt1 (rdT arg15 harg15 xs1 1 (4 * 0 + j)) (arg16.view.readCov (two128 (mnew (rdN arg3 harg3 x1) 0 (rdQ0 arg14 harg14 xs0) (rdL0 arg16 harg16 xs2)) (mnew (rdN arg3 harg3 x1) 1 (rdQ1 arg14 harg14 xs0) (rdL1 arg16 harg16 xs2)) []) R1l.toLoadRect) (tailVS arg12 harg12 x10 0 j)) (fun j => tvp1 (tailV arg10 harg10 x8 0 j))) (two256 (anew (rdN arg3 harg3 x1) (rdN arg4 harg4 x2) 0 (rdQ0 arg14 harg14 xs0) (rdL0 arg16 harg16 xs2)) (anew (rdN arg3 harg3 x1) (rdN arg4 harg4 x2) 1 (rdQ1 arg14 harg14 xs0) (rdL1 arg16 harg16 xs2)) [])))) := by
  rw [runC_acc8, runC_acc6 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc4 x0 x1 x2 x3 x4 x5 x6 x7 x8 x9 x10 xt0 xs0 xs1 xs2, runC_acc4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc4 x0 x1 x2 x3 x4 x5 x6 x7 x8 x9 x10 xt0 xs0 xs1 xs2, runC_acc2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc4 x0 x1 x2 x3 x4 x5 x6 x7 x8 x9 x10 xt0 xs0 xs1 xs2]

end Cert.KernelIdeal.Gen

end
-- ==== Proof.Val.CaseC.lean ====
/- The point of the new token, of the tails and of the first block of the weighted sum. -/
module

public import proofs.«01_k».proof.Proof.Val.Inv
public import proofs.«01_k».proof.Proof.KI.EqC
public import proofs.«01_k».proof.Proof.KI.EqCa

@[expose] public section

set_option maxRecDepth 16384

noncomputable section

namespace Cert.KernelIdeal.Gen

open Idealize.ShloMosaic Idealize.ShloMosaic.TcCoe Idealize.ShloMosaic.Tactic
open Cert.Attn Finset

theorem caseC  (c : Dev nD) (i : grid0.Coords) (arg2 : Memref sig .tc .vmem S2x32x128 .bf16) (harg2 : arg2.IsWhole) (arg3 : Memref sig .tc .vmem S2x4x128 .bf16) (harg3 : arg3.IsWhole) (arg4 : Memref sig .tc .vmem S2x4x128 .bf16) (harg4 : arg4.IsWhole) (arg5 : Memref sig .tc .vmem S16384x128 .fp8e4m3) (harg5 : arg5.IsWhole) (arg6 : Memref sig .tc .vmem S16384x128 .fp8e4m3) (harg6 : arg6.IsWhole) (arg7 : Memref sig .tc .vmem S4x4096 .f32) (harg7 : arg7.IsWhole) (arg8 : Memref sig .tc .vmem S4x4096 .f32) (harg8 : arg8.IsWhole) (arg9 : Memref sig .tc .vmem S2x1024x4x128 .fp8e4m3) (harg9 : arg9.IsWhole) (arg10 : Memref sig .tc .vmem S2x1024x4x128 .fp8e4m3) (harg10 : arg10.IsWhole) (arg11 : Memref sig .tc .vmem S2x4x1024 .f32) (harg11 : arg11.IsWhole) (arg12 : Memref sig .tc .vmem S2x4x1024 .f32) (harg12 : arg12.IsWhole) (arg13 : Memref sig .tc .vmem S2x32x128 .bf16) (harg13 : arg13.IsWhole) (arg14 : Memref sig .tc .vmem S2x32x256 .bf16) (harg14 : arg14.IsWhole) (arg15 : Memref sig .tc .vmem S2x32x133120 .f32) (harg15 : arg15.IsWhole) (arg16 : Memref sig .tc .vmem S2x32x128 .f32) (harg16 : arg16.IsWhole) (arg17 : Memref sig .tc .vmem S2x32x128 .f32) (harg17 : arg17.IsWhole) (arg18 : Memref sig .tc .vmem S2x32x256 .f32) (harg18 : arg18.IsWhole) (hc0 : ¬cond0_0 i) (hc1 : ¬cond0_1 i) (hc2 : cond0_2 i) (hc3 : cond0_3 i) (hc4 : ¬cond0_4 i) (x0 : Vec Ideal S2x32x128 .bf16) (x1 : Vec Ideal S2x4x128 .bf16) (x2 : Vec Ideal S2x4x128 .bf16) (x3 : Vec Ideal S16384x128 .fp8e4m3) (x4 : Vec Ideal S16384x128 .fp8e4m3) (x5 : Vec Ideal S4x4096 .f32) (x6 : Vec Ideal S4x4096 .f32) (x7 : Vec Ideal S2x1024x4x128 .fp8e4m3) (x8 : Vec Ideal S2x1024x4x128 .fp8e4m3) (x9 : Vec Ideal S2x4x1024 .f32) (x10 : Vec Ideal S2x4x1024 .f32) (xt0 : TbBuf0 (F := Ideal) c tbM0_0) (xs0 : Vec Ideal S2x32x256 .bf16) (xs1 : Vec Ideal S2x32x133120 .f32) (xs2 : Vec Ideal S2x32x128 .f32) (X : In) (B : Blocks (c := c) X 32 x0 x1 x2 x3 x4 x5 x6 x7 x8 x9 x10 xt0) (hi : (i 0).val = 32)
    (d a) (h : Inv X 32 xs0 xs1 xs2 d a) (f2 f3 f4) (L2) (e2 : L2 = (two128 (mnew (rdN arg3 harg3 x1) 0 (rdQ0 arg14 harg14 xs0) (rdL0 arg16 harg16 xs2)) (mnew (rdN arg3 harg3 x1) 1 (rdQ1 arg14 harg14 xs0) (rdL1 arg16 harg16 xs2)) [])) (L3) (e3 : L3 = (fun L => two128 (up128 (dchain (dn128 (arg17.view.readCov L R0l.toLoadRect)) (fun k => expT (rdS0 i hc3 arg15 harg15 xs1 k) (arg16.view.readCov (two128 (mnew (rdN arg3 harg3 x1) 0 (rdQ0 arg14 harg14 xs0) (rdL0 arg16 harg16 xs2)) (mnew (rdN arg3 harg3 x1) 1 (rdQ1 arg14 harg14 xs0) (rdL1 arg16 harg16 xs2)) []) R0l.toLoadRect)) 16)) (up128 (dchain (dn128 (arg17.view.readCov L R1l.toLoadRect)) (fun k => expT (rdS1 i hc3 arg15 harg15 xs1 k) (arg16.view.readCov (two128 (mnew (rdN arg3 harg3 x1) 0 (rdQ0 arg14 harg14 xs0) (rdL0 arg16 harg16 xs2)) (mnew (rdN arg3 harg3 x1) 1 (rdQ1 arg14 harg14 xs0) (rdL1 arg16 harg16 xs2)) []) R1l.toLoadRect)) 16)) L) ((fun L => two128 (up128 (dchain (dn128 (arg17.view.readCov L R0l.toLoadRect)) (fun j => expT (rdT arg15 harg15 xs1 0 (4 * 1 + j)) (arg16.view.readCov (two128 (mnew (rdN arg3 harg3 x1) 0 (rdQ0 arg14 harg14 xs0) (rdL0 arg16 harg16 xs2)) (mnew (rdN arg3 harg3 x1) 1 (rdQ1 arg14 harg14 xs0) (rdL1 arg16 harg16 xs2)) []) R0l.toLoadRect)) 4)) (up128 (dchain (dn128 (arg17.view.readCov L R1l.toLoadRect)) (fun j => expT (rdT arg15 harg15 xs1 1 (4 * 1 + j)) (arg16.view.readCov (two128 (mnew (rdN arg3 harg3 x1) 0 (rdQ0 arg14 harg14 xs0) (rdL0 arg16 harg16 xs2)) (mnew (rdN arg3 harg3 x1) 1 (rdQ1 arg14 harg14 xs0) (rdL1 arg16 harg16 xs2)) []) R1l.toLoadRect)) 4)) L) ((fun L => two128 (up128 (dchain (dn128 (arg17.view.readCov L R0l.toLoadRect)) (fun j => expT (rdT arg15 harg15 xs1 0 (4 * 0 + j)) (arg16.view.readCov (two128 (mnew (rdN arg3 harg3 x1) 0 (rdQ0 arg14 harg14 xs0) (rdL0 arg16 harg16 xs2)) (mnew (rdN arg3 harg3 x1) 1 (rdQ1 arg14 harg14 xs0) (rdL1 arg16 harg16 xs2)) []) R0l.toLoadRect)) 4)) (up128 (dchain (dn128 (arg17.view.readCov L R1l.toLoadRect)) (fun j => expT (rdT arg15 harg15 xs1 1 (4 * 0 + j)) (arg16.view.readCov (two128 (mnew (rdN arg3 harg3 x1) 0 (rdQ0 arg14 harg14 xs0) (rdL0 arg16 harg16 xs2)) (mnew (rdN arg3 harg3 x1) 1 (rdQ1 arg14 harg14 xs0) (rdL1 arg16 harg16 xs2)) []) R1l.toLoadRect)) 4)) L) (two128 (dnew (rdN arg3 harg3 x1) 0 (rdQ0 arg14 harg14 xs0) (rdL0 arg16 harg16 xs2)) (dnew (rdN arg3 harg3 x1) 1 (rdQ1 arg14 harg14 xs0) (rdL1 arg16 harg16 xs2)) [])))) (L4) (e4 : L4 = (step256 arg18.view (fun d => accB d (fun k => wt0 (rdS0 i hc3 arg15 harg15 xs1 k) (arg16.view.readCov (two128 (mnew (rdN arg3 harg3 x1) 0 (rdQ0 arg14 harg14 xs0) (rdL0 arg16 harg16 xs2)) (mnew (rdN arg3 harg3 x1) 1 (rdQ1 arg14 harg14 xs0) (rdL1 arg16 harg16 xs2)) []) R0l.toLoadRect) (tileS arg8 harg8 x6 k)) (fun k => vp0 (tileK arg6 harg6 x4 k))) (fun d => accB d (fun k => wt1 (rdS1 i hc3 arg15 harg15 xs1 k) (arg16.view.readCov (two128 (mnew (rdN arg3 harg3 x1) 0 (rdQ0 arg14 harg14 xs0) (rdL0 arg16 harg16 xs2)) (mnew (rdN arg3 harg3 x1) 1 (rdQ1 arg14 harg14 xs0) (rdL1 arg16 harg16 xs2)) []) R1l.toLoadRect) (tileS arg8 harg8 x6 k)) (fun k => vp1 (tileK arg6 harg6 x4 k))) (step256 arg18.view (fun d => accT d (fun j => wt0 (rdT arg15 harg15 xs1 0 (4 * 1 + j)) (arg16.view.readCov (two128 (mnew (rdN arg3 harg3 x1) 0 (rdQ0 arg14 harg14 xs0) (rdL0 arg16 harg16 xs2)) (mnew (rdN arg3 harg3 x1) 1 (rdQ1 arg14 harg14 xs0) (rdL1 arg16 harg16 xs2)) []) R0l.toLoadRect) (tailVS arg12 harg12 x10 1 j)) (fun j => tvp0 (tailV arg10 harg10 x8 1 j))) (fun d => accT d (fun j => wt1 (rdT arg15 harg15 xs1 1 (4 * 1 + j)) (arg16.view.readCov (two128 (mnew (rdN arg3 harg3 x1) 0 (rdQ0 arg14 harg14 xs0) (rdL0 arg16 harg16 xs2)) (mnew (rdN arg3 harg3 x1) 1 (rdQ1 arg14 harg14 xs0) (rdL1 arg16 harg16 xs2)) []) R1l.toLoadRect) (tailVS arg12 harg12 x10 1 j)) (fun j => tvp1 (tailV arg10 harg10 x8 1 j))) (step256 arg18.view (fun d => accT d (fun j => wt0 (rdT arg15 harg15 xs1 0 (4 * 0 + j)) (arg16.view.readCov (two128 (mnew (rdN arg3 harg3 x1) 0 (rdQ0 arg14 harg14 xs0) (rdL0 arg16 harg16 xs2)) (mnew (rdN arg3 harg3 x1) 1 (rdQ1 arg14 harg14 xs0) (rdL1 arg16 harg16 xs2)) []) R0l.toLoadRect) (tailVS arg12 harg12 x10 0 j)) (fun j => tvp0 (tailV arg10 harg10 x8 0 j))) (fun d => accT d (fun j => wt1 (rdT arg15 harg15 xs1 1 (4 * 0 + j)) (arg16.view.readCov (two128 (mnew (rdN arg3 harg3 x1) 0 (rdQ0 arg14 harg14 xs0) (rdL0 arg16 harg16 xs2)) (mnew (rdN arg3 harg3 x1) 1 (rdQ1 arg14 harg14 xs0) (rdL1 arg16 harg16 xs2)) []) R1l.toLoadRect) (tailVS arg12 harg12 x10 0 j)) (fun j => tvp1 (tailV arg10 harg10 x8 0 j))) (two256 (anew (rdN arg3 harg3 x1) (rdN arg4 harg4 x2) 0 (rdQ0 arg14 harg14 xs0) (rdL0 arg16 harg16 xs2)) (anew (rdN arg3 harg3 x1) (rdN arg4 harg4 x2) 1 (rdQ1 arg14 harg14 xs0) (rdL1 arg16 harg16 xs2)) []))))) :
    Inv X (32 + 1) xs0 xs1 (arg16.view.read (Elt Ideal) (arg16.view.writes (Elt Ideal) f2 L2)) (arg17.view.read (Elt Ideal) (arg17.view.writes (Elt Ideal) f3 L3))
      (arg18.view.read (Elt Ideal) (arg18.view.writes (Elt Ideal) f4 L4)) := by
  obtain ⟨hQ, hS, hM⟩ := h.1 ⟨by omega, le_rfl⟩
  subst e2 e3 e4
  simp only [step256_eq, back0_128, back1_128, back0_256, back1_256]
  have hs0 : ∀ k < 16, ∀ (r : Fin 32) (x : Fin 256), rdS0 i hc3 arg15 harg15 xs1 k (ix3 0 r x) = score X 0 r.val (4096 * (32 - 32) + 256 * k + x.val) := fun k hk r x => by
    rw [rdS0_at i hc3 (by omega) arg15 harg15 xs1 k hk r x (by omega)]
    refine (hS 0 r _ (Or.inr ?_)).trans ?_
    · dsimp only; omega
    · show score X 0 r.val (4096 * ((i 0).val - 32) + 256 * k + x.val) = _
      rw [hi]
  have hs1 : ∀ k < 16, ∀ (r : Fin 32) (x : Fin 256), rdS1 i hc3 arg15 harg15 xs1 k (ix3 0 r x) = score X 1 r.val (4096 * (32 - 32) + 256 * k + x.val) := fun k hk r x => by
    rw [rdS1_at i hc3 (by omega) arg15 harg15 xs1 k hk r x (by omega)]
    refine (hS 1 r _ (Or.inr ?_)).trans ?_
    · dsimp only; omega
    · show score X 1 r.val (4096 * ((i 0).val - 32) + 256 * k + x.val) = _
      rw [hi]
  have ht0 : ∀ b < 2, ∀ k < 4, ∀ (r : Fin 32) (x : Fin 256), rdT arg15 harg15 xs1 0 (4 * b + k) (ix3 0 r x) = score X 0 r.val (131072 + (1024 * b + (256 * k + x.val))) := fun b hb k hk r x => by
    refine (rdT_at arg15 harg15 xs1 0 (4 * b + k) (by omega) r x).trans ?_
    refine (hS 0 r _ (Or.inl ?_)).trans ?_
    · dsimp only; omega
    · exact congrArg (score X 0 r.val) (by dsimp only; omega)
  have ht1 : ∀ b < 2, ∀ k < 4, ∀ (r : Fin 32) (x : Fin 256), rdT arg15 harg15 xs1 1 (4 * b + k) (ix3 0 r x) = score X 1 r.val (131072 + (1024 * b + (256 * k + x.val))) := fun b hb k hk r x => by
    refine (rdT_at arg15 harg15 xs1 1 (4 * b + k) (by omega) r x).trans ?_
    refine (hS 1 r _ (Or.inl ?_)).trans ?_
    · dsimp only; omega
    · exact congrArg (score X 1 r.val) (by dsimp only; omega)
  have hq0 : IsQ X 0 (rdQ0 arg14 harg14 xs0) := fun r d => by rw [rdQ0_at]; exact hQ 0 r d
  have hm0 : ∀ (r : Fin 32) (l : Fin 128), mnew (rdN arg3 harg3 x1) 0 (rdQ0 arg14 harg14 xs0) (rdL0 arg16 harg16 xs2) (ix3 0 r l) = rowMax X 0 r.val := fun r l => by
    rw [mnew_at X _ 0 _ _ hq0 (rdKn_ok B arg3 harg3) r l]
    simp only [rdL0_at]
    refine (congrArg (· ⊔ scoreN X 0 r.val) (Finset.sup_congr rfl fun l _ => hM 0 r l)).trans ?_
    exact mx_sup X 0 r.val
  have hq1 : IsQ X 1 (rdQ1 arg14 harg14 xs0) := fun r d => by rw [rdQ1_at]; exact hQ 1 r d
  have hm1 : ∀ (r : Fin 32) (l : Fin 128), mnew (rdN arg3 harg3 x1) 1 (rdQ1 arg14 harg14 xs0) (rdL1 arg16 harg16 xs2) (ix3 0 r l) = rowMax X 1 r.val := fun r l => by
    rw [mnew_at X _ 1 _ _ hq1 (rdKn_ok B arg3 harg3) r l]
    simp only [rdL1_at]
    refine (congrArg (· ⊔ scoreN X 1 r.val) (Finset.sup_congr rfl fun l _ => hM 1 r l)).trans ?_
    exact mx_sup X 1 r.val
  refine ⟨fun h => absurd h (by omega), fun _ => ⟨hQ, hS, ?_, ?_, ?_⟩⟩
  · intro p r l
    exact read_two128 _ f2 _ _ _ (fun p r l => rowMax X p r) (fun r l => hm0 r l) (fun r l => hm1 r l) p r l
  · intro p r l
    refine read_two128 _ f3 _ _ _ (fun p r l => denAt X 1 p r l) (fun r l => ?_) (fun r l => ?_) p r l
    · refine d_first X 0 _ _ _ _ r l ?_ (fun k hk x => ?_) (fun k hk x => ?_) fun k hk x => ?_
      · rw [dnew_at, snew_at X _ 0 _ hq0 (rdKn_ok B arg3 harg3), hm0]; rfl
      · refine (expT_at _ _ r _ (hm0 r) x).trans ?_
        rw [ht0 0 (by omega) k hk]; rfl
      · refine (expT_at _ _ r _ (hm0 r) x).trans ?_
        rw [ht0 1 (by omega) k hk]; rfl
      · refine (expT_at _ _ r _ (hm0 r) x).trans ?_
        rw [hs0 k hk]; exact congrArg (wt X 0 r.val) (by omega)
    · refine d_first X 1 _ _ _ _ r l ?_ (fun k hk x => ?_) (fun k hk x => ?_) fun k hk x => ?_
      · rw [dnew_at, snew_at X _ 1 _ hq1 (rdKn_ok B arg3 harg3), hm1]; rfl
      · refine (expT_at _ _ r _ (hm1 r) x).trans ?_
        rw [ht1 0 (by omega) k hk]; rfl
      · refine (expT_at _ _ r _ (hm1 r) x).trans ?_
        rw [ht1 1 (by omega) k hk]; rfl
      · refine (expT_at _ _ r _ (hm1 r) x).trans ?_
        rw [hs1 k hk]; exact congrArg (wt X 1 r.val) (by omega)
  · intro p r l
    refine read_two256 _ f4 _ _ _ (fun p r l => accAt X 1 p r l) (fun r l => ?_) (fun r l => ?_) p r l
    · refine a_first X 0 _ _ _ _ _ _ _ r l ?_ (fun k hk x => ?_) (fun k hk x => ?_) (fun k hk x => ?_) (fun k hk x => ?_) (fun k hk x => ?_) fun k hk x => ?_
      · rw [anew_at X _ _ 0 _ _ (rdVn_ok B arg4 harg4), snew_at X _ 0 _ hq0 (rdKn_ok B arg3 harg3), hm0]; rfl
      · exact twt0_ok B arg12 harg12 0 k (by omega) hk _ _ r x (hm0 r) (ht0 0 (by omega) k hk r x)
      · exact tvp0_ok B arg10 harg10 0 k (by omega) hk x l
      · exact twt0_ok B arg12 harg12 1 k (by omega) hk _ _ r x (hm0 r) (ht0 1 (by omega) k hk r x)
      · exact tvp0_ok B arg10 harg10 1 k (by omega) hk x l
      · refine (wt0_ok B (by omega) (by omega) arg8 harg8 k hk _ _ r x (hm0 r) (hs0 k hk r x)).trans ?_
        exact congrArg (fun j => wt X 0 r.val j * vscale X 0 r.val j) (by omega)
      · exact (vp0_ok B (by omega) (by omega) arg6 harg6 k hk x l).trans (congrArg (value X 0 l.val) (by omega))
    · refine a_first X 1 _ _ _ _ _ _ _ r l ?_ (fun k hk x => ?_) (fun k hk x => ?_) (fun k hk x => ?_) (fun k hk x => ?_) (fun k hk x => ?_) fun k hk x => ?_
      · rw [anew_at X _ _ 1 _ _ (rdVn_ok B arg4 harg4), snew_at X _ 1 _ hq1 (rdKn_ok B arg3 harg3), hm1]; rfl
      · exact twt1_ok B arg12 harg12 0 k (by omega) hk _ _ r x (hm1 r) (ht1 0 (by omega) k hk r x)
      · exact tvp1_ok B arg10 harg10 0 k (by omega) hk x l
      · exact twt1_ok B arg12 harg12 1 k (by omega) hk _ _ r x (hm1 r) (ht1 1 (by omega) k hk r x)
      · exact tvp1_ok B arg10 harg10 1 k (by omega) hk x l
      · refine (wt1_ok B (by omega) (by omega) arg8 harg8 k hk _ _ r x (hm1 r) (hs1 k hk r x)).trans ?_
        exact congrArg (fun j => wt X 1 r.val j * vscale X 1 r.val j) (by omega)
      · exact (vp1_ok B (by omega) (by omega) arg6 harg6 k hk x l).trans (congrArg (value X 1 l.val) (by omega))

end Cert.KernelIdeal.Gen

end
-- ==== Proof.KI.RunD.lean ====
module

public import proofs.«01_k».proof.Proof.KI.RunC

@[expose] public section

-- membership in a rectangle of large extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1600000 in
/-- What the body's stores leave in each output's staging memref, as pieces (last first) IN CASE D (`scf.if` 0 not taken, `scf.if` 1 not taken, `scf.if` 2 not taken, `scf.if` 3 taken, `scf.if` 4 not taken: points 33, 34, … 62: 30 of 64), WITH the
    proof that on whole staging memrefs — the inputs' at their contents, the outputs it leaves idle (11: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which the symbolic execution steps through — each `scf.if` decided by the case's hypotheses `hc·`; the pieces are
    the witness that run finds (assigned when `iexact` hands the buffer to the continuation). -/
noncomputable def kernelRun0_D (c : Dev nD) (i : grid0.Coords) (arg2 : Memref sig .tc .vmem S2x32x128 .bf16) (harg2 : arg2.IsWhole) (arg3 : Memref sig .tc .vmem S2x4x128 .bf16) (harg3 : arg3.IsWhole) (arg4 : Memref sig .tc .vmem S2x4x128 .bf16) (harg4 : arg4.IsWhole) (arg5 : Memref sig .tc .vmem S16384x128 .fp8e4m3) (harg5 : arg5.IsWhole) (arg6 : Memref sig .tc .vmem S16384x128 .fp8e4m3) (harg6 : arg6.IsWhole) (arg7 : Memref sig .tc .vmem S4x4096 .f32) (harg7 : arg7.IsWhole) (arg8 : Memref sig .tc .vmem S4x4096 .f32) (harg8 : arg8.IsWhole) (arg9 : Memref sig .tc .vmem S2x1024x4x128 .fp8e4m3) (harg9 : arg9.IsWhole) (arg10 : Memref sig .tc .vmem S2x1024x4x128 .fp8e4m3) (harg10 : arg10.IsWhole) (arg11 : Memref sig .tc .vmem S2x4x1024 .f32) (harg11 : arg11.IsWhole) (arg12 : Memref sig .tc .vmem S2x4x1024 .f32) (harg12 : arg12.IsWhole) (arg13 : Memref sig .tc .vmem S2x32x128 .bf16) (harg13 : arg13.IsWhole) (arg14 : Memref sig .tc .vmem S2x32x256 .bf16) (harg14 : arg14.IsWhole) (arg15 : Memref sig .tc .vmem S2x32x133120 .f32) (harg15 : arg15.IsWhole) (arg16 : Memref sig .tc .vmem S2x32x128 .f32) (harg16 : arg16.IsWhole) (arg17 : Memref sig .tc .vmem S2x32x128 .f32) (harg17 : arg17.IsWhole) (arg18 : Memref sig .tc .vmem S2x32x256 .f32) (harg18 : arg18.IsWhole) (hc0 : ¬cond0_0 i) (hc1 : ¬cond0_1 i) (hc2 : ¬cond0_2 i) (hc3 : cond0_3 i) (hc4 : ¬cond0_4 i)
    (x0 : Vec F S2x32x128 .bf16) (x1 : Vec F S2x4x128 .bf16) (x2 : Vec F S2x4x128 .bf16) (x3 : Vec F S16384x128 .fp8e4m3) (x4 : Vec F S16384x128 .fp8e4m3) (x5 : Vec F S4x4096 .f32) (x6 : Vec F S4x4096 .f32) (x7 : Vec F S2x1024x4x128 .fp8e4m3) (x8 : Vec F S2x1024x4x128 .fp8e4m3) (x9 : Vec F S2x4x1024 .f32) (x10 : Vec F S2x4x1024 .f32) (xt0 : TbBuf0 (F := F) c tbM0_0) (xs0 : Vec F S2x32x256 .bf16) (xs1 : Vec F S2x32x133120 .f32) (xs2 : Vec F S2x32x128 .f32) (xs3 : Vec F S2x32x128 .f32) (xs4 : Vec F S2x32x256 .f32) :
    Σ' (L11 : List (View.Piece (Elt F) S2x32x128 .bf16)), Σ' (LS0 : List (View.Piece (Elt F) S2x32x256 .bf16)), Σ' (LS1 : List (View.Piece (Elt F) S2x32x133120 .f32)), Σ' (LS2 : List (View.Piece (Elt F) S2x32x128 .f32)), Σ' (LS3 : List (View.Piece (Elt F) S2x32x128 .f32)), { LS4 : List (View.Piece (Elt F) S2x32x256 .f32) //
      ∀ (xi11 : Vec F S2x32x128 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare xi11 ∗ owns (c : Thread nD τ) arg14 fullShare xs0 ∗ owns (c : Thread nD τ) arg15 fullShare xs1 ∗ owns (c : Thread nD τ) arg16 fullShare xs2 ∗ owns (c : Thread nD τ) arg17 fullShare xs3 ∗ owns (c : Thread nD τ) arg18 fullShare xs4 ∗ tbPt0 c tbM0_0 xt0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare xi11 ∗ owns (c : Thread nD τ) arg14 fullShare xs0 ∗ owns (c : Thread nD τ) arg15 fullShare xs1 ∗ owns (c : Thread nD τ) arg16 fullShare xs2 ∗ (∃ f, arg17.view.loc (c : Thread nD τ) ↦[arg17.view.set]{fullShare} arg17.view.writes (Elt F) f LS3) ∗ (∃ f, arg18.view.loc (c : Thread nD τ) ↦[arg18.view.set]{fullShare} arg18.view.writes (Elt F) f LS4) ∗ tbPt0 c tbM0_0 xt0) -∗ K ⟨⟩))
          ⊢ wp frame (wpE (defs₀ (F := F)) Variants.none c none) E (cc0_cascade_decode i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨[], [], [], [], ?_, ?_, fun xi11 E K => ?run⟩
  case run =>
    simp only [cc0_cascade_decode_eq_skeleton]; unfold cc0_cascade_decode_skel
    simp only [k0_part73_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%fs0, %hfs0, HS0⟩, ⟨%fs1, %hfs1, HS1⟩, ⟨%fs2, %hfs2, HS2⟩, ⟨%fs3, %hfs3, HS3⟩, ⟨%fs4, %hfs4, HS4⟩, HT0, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hfs0; obtain rfl := harg15.eq_unread hfs1; obtain rfl := harg16.eq_unread hfs2; obtain rfl := harg17.eq_unread hfs3; obtain rfl := harg18.eq_unread hfs4
    sl_exec (disch := first | sl_exact hc0 | sl_exact hc1 | sl_exact hc2 | sl_exact hc3 | sl_exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [HS0]
    · iexists _; isplitr; · ipureintro; exact harg14.read_unread _
      iexact HS0
    isplitl [HS1]
    · iexists _; isplitr; · ipureintro; exact harg15.read_unread _
      iexact HS1
    isplitl [HS2]
    · iexists _; isplitr; · ipureintro; exact harg16.read_unread _
      iexact HS2
    isplitl [HS3]; · iexists _; iexact HS3
    isplitl [HS4]; · iexists _; iexact HS4
    iexact HT0

end Cert.KernelIdeal.Gen

end
-- ==== Proof.KI.EqD.lean ====
/- What the stores of a point of case D leave, as functions of the arrays the point starts from. -/
module

public import proofs.«01_k».proof.Proof.KI.RunD
public import proofs.«01_k».proof.Proof.KI.Model

@[expose] public section

set_option maxRecDepth 16384

noncomputable section

namespace Cert.KernelIdeal.Gen

open Idealize.ShloMosaic Idealize.ShloMosaic.TcCoe Idealize.ShloMosaic.Tactic

variable {F : FTy → Type} [FloatOps F] [Named F]

theorem runD_den (c : Dev nD) (i : grid0.Coords) (arg2 : Memref sig .tc .vmem S2x32x128 .bf16) (harg2 : arg2.IsWhole) (arg3 : Memref sig .tc .vmem S2x4x128 .bf16) (harg3 : arg3.IsWhole) (arg4 : Memref sig .tc .vmem S2x4x128 .bf16) (harg4 : arg4.IsWhole) (arg5 : Memref sig .tc .vmem S16384x128 .fp8e4m3) (harg5 : arg5.IsWhole) (arg6 : Memref sig .tc .vmem S16384x128 .fp8e4m3) (harg6 : arg6.IsWhole) (arg7 : Memref sig .tc .vmem S4x4096 .f32) (harg7 : arg7.IsWhole) (arg8 : Memref sig .tc .vmem S4x4096 .f32) (harg8 : arg8.IsWhole) (arg9 : Memref sig .tc .vmem S2x1024x4x128 .fp8e4m3) (harg9 : arg9.IsWhole) (arg10 : Memref sig .tc .vmem S2x1024x4x128 .fp8e4m3) (harg10 : arg10.IsWhole) (arg11 : Memref sig .tc .vmem S2x4x1024 .f32) (harg11 : arg11.IsWhole) (arg12 : Memref sig .tc .vmem S2x4x1024 .f32) (harg12 : arg12.IsWhole) (arg13 : Memref sig .tc .vmem S2x32x128 .bf16) (harg13 : arg13.IsWhole) (arg14 : Memref sig .tc .vmem S2x32x256 .bf16) (harg14 : arg14.IsWhole) (arg15 : Memref sig .tc .vmem S2x32x133120 .f32) (harg15 : arg15.IsWhole) (arg16 : Memref sig .tc .vmem S2x32x128 .f32) (harg16 : arg16.IsWhole) (arg17 : Memref sig .tc .vmem S2x32x128 .f32) (harg17 : arg17.IsWhole) (arg18 : Memref sig .tc .vmem S2x32x256 .f32) (harg18 : arg18.IsWhole) (hc0 : ¬cond0_0 i) (hc1 : ¬cond0_1 i) (hc2 : ¬cond0_2 i) (hc3 : cond0_3 i) (hc4 : ¬cond0_4 i)
    (x0 : Vec F S2x32x128 .bf16) (x1 : Vec F S2x4x128 .bf16) (x2 : Vec F S2x4x128 .bf16) (x3 : Vec F S16384x128 .fp8e4m3) (x4 : Vec F S16384x128 .fp8e4m3) (x5 : Vec F S4x4096 .f32) (x6 : Vec F S4x4096 .f32) (x7 : Vec F S2x1024x4x128 .fp8e4m3) (x8 : Vec F S2x1024x4x128 .fp8e4m3) (x9 : Vec F S2x4x1024 .f32) (x10 : Vec F S2x4x1024 .f32) (xt0 : TbBuf0 (F := F) c tbM0_0) (xs0 : Vec F S2x32x256 .bf16) (xs1 : Vec F S2x32x133120 .f32) (xs2 : Vec F S2x32x128 .f32) (xs3 : Vec F S2x32x128 .f32) (xs4 : Vec F S2x32x256 .f32)  :
    (kernelRun0_D (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc4 x0 x1 x2 x3 x4 x5 x6 x7 x8 x9 x10 xt0 xs0 xs1 xs2 xs3 xs4).2.2.2.2.1 = two128 (up128 (dchain (dn128 (rdL0 arg17 harg17 xs3)) (fun k => expT (rdS0 i hc3 arg15 harg15 xs1 k) (rdL0 arg16 harg16 xs2)) 16)) (up128 (dchain (dn128 (rdL1 arg17 harg17 xs3)) (fun k => expT (rdS1 i hc3 arg15 harg15 xs1 k) (rdL1 arg16 harg16 xs2)) 16)) [] := by
  unfold kernelRun0_D; dsimp only
  rfl

theorem runD_acc (c : Dev nD) (i : grid0.Coords) (arg2 : Memref sig .tc .vmem S2x32x128 .bf16) (harg2 : arg2.IsWhole) (arg3 : Memref sig .tc .vmem S2x4x128 .bf16) (harg3 : arg3.IsWhole) (arg4 : Memref sig .tc .vmem S2x4x128 .bf16) (harg4 : arg4.IsWhole) (arg5 : Memref sig .tc .vmem S16384x128 .fp8e4m3) (harg5 : arg5.IsWhole) (arg6 : Memref sig .tc .vmem S16384x128 .fp8e4m3) (harg6 : arg6.IsWhole) (arg7 : Memref sig .tc .vmem S4x4096 .f32) (harg7 : arg7.IsWhole) (arg8 : Memref sig .tc .vmem S4x4096 .f32) (harg8 : arg8.IsWhole) (arg9 : Memref sig .tc .vmem S2x1024x4x128 .fp8e4m3) (harg9 : arg9.IsWhole) (arg10 : Memref sig .tc .vmem S2x1024x4x128 .fp8e4m3) (harg10 : arg10.IsWhole) (arg11 : Memref sig .tc .vmem S2x4x1024 .f32) (harg11 : arg11.IsWhole) (arg12 : Memref sig .tc .vmem S2x4x1024 .f32) (harg12 : arg12.IsWhole) (arg13 : Memref sig .tc .vmem S2x32x128 .bf16) (harg13 : arg13.IsWhole) (arg14 : Memref sig .tc .vmem S2x32x256 .bf16) (harg14 : arg14.IsWhole) (arg15 : Memref sig .tc .vmem S2x32x133120 .f32) (harg15 : arg15.IsWhole) (arg16 : Memref sig .tc .vmem S2x32x128 .f32) (harg16 : arg16.IsWhole) (arg17 : Memref sig .tc .vmem S2x32x128 .f32) (harg17 : arg17.IsWhole) (arg18 : Memref sig .tc .vmem S2x32x256 .f32) (harg18 : arg18.IsWhole) (hc0 : ¬cond0_0 i) (hc1 : ¬cond0_1 i) (hc2 : ¬cond0_2 i) (hc3 : cond0_3 i) (hc4 : ¬cond0_4 i)
    (x0 : Vec F S2x32x128 .bf16) (x1 : Vec F S2x4x128 .bf16) (x2 : Vec F S2x4x128 .bf16) (x3 : Vec F S16384x128 .fp8e4m3) (x4 : Vec F S16384x128 .fp8e4m3) (x5 : Vec F S4x4096 .f32) (x6 : Vec F S4x4096 .f32) (x7 : Vec F S2x1024x4x128 .fp8e4m3) (x8 : Vec F S2x1024x4x128 .fp8e4m3) (x9 : Vec F S2x4x1024 .f32) (x10 : Vec F S2x4x1024 .f32) (xt0 : TbBuf0 (F := F) c tbM0_0) (xs0 : Vec F S2x32x256 .bf16) (xs1 : Vec F S2x32x133120 .f32) (xs2 : Vec F S2x32x128 .f32) (xs3 : Vec F S2x32x128 .f32) (xs4 : Vec F S2x32x256 .f32)  :
    (kernelRun0_D (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc4 x0 x1 x2 x3 x4 x5 x6 x7 x8 x9 x10 xt0 xs0 xs1 xs2 xs3 xs4).2.2.2.2.2.1 = two256 (accB (rdA0 arg18 harg18 xs4) (fun k => wt0 (rdS0 i hc3 arg15 harg15 xs1 k) (rdL0 arg16 harg16 xs2) (tileS arg8 harg8 x6 k)) (fun k => vp0 (tileK arg6 harg6 x4 k))) (accB (rdA1 arg18 harg18 xs4) (fun k => wt1 (rdS1 i hc3 arg15 harg15 xs1 k) (rdL1 arg16 harg16 xs2) (tileS arg8 harg8 x6 k)) (fun k => vp1 (tileK arg6 harg6 x4 k))) [] := by
  unfold kernelRun0_D; dsimp only
  rfl

end Cert.KernelIdeal.Gen

end
-- ==== Proof.Val.CaseD.lean ====
/- One block of the weighted sum. -/
module

public import proofs.«01_k».proof.Proof.Val.Inv
public import proofs.«01_k».proof.Proof.KI.EqD

@[expose] public section

set_option maxRecDepth 16384

noncomputable section

namespace Cert.KernelIdeal.Gen

open Idealize.ShloMosaic Idealize.ShloMosaic.TcCoe Idealize.ShloMosaic.Tactic
open Cert.Attn Finset

theorem caseD (c : Dev nD) (i : grid0.Coords) (arg2 : Memref sig .tc .vmem S2x32x128 .bf16) (harg2 : arg2.IsWhole) (arg3 : Memref sig .tc .vmem S2x4x128 .bf16) (harg3 : arg3.IsWhole) (arg4 : Memref sig .tc .vmem S2x4x128 .bf16) (harg4 : arg4.IsWhole) (arg5 : Memref sig .tc .vmem S16384x128 .fp8e4m3) (harg5 : arg5.IsWhole) (arg6 : Memref sig .tc .vmem S16384x128 .fp8e4m3) (harg6 : arg6.IsWhole) (arg7 : Memref sig .tc .vmem S4x4096 .f32) (harg7 : arg7.IsWhole) (arg8 : Memref sig .tc .vmem S4x4096 .f32) (harg8 : arg8.IsWhole) (arg9 : Memref sig .tc .vmem S2x1024x4x128 .fp8e4m3) (harg9 : arg9.IsWhole) (arg10 : Memref sig .tc .vmem S2x1024x4x128 .fp8e4m3) (harg10 : arg10.IsWhole) (arg11 : Memref sig .tc .vmem S2x4x1024 .f32) (harg11 : arg11.IsWhole) (arg12 : Memref sig .tc .vmem S2x4x1024 .f32) (harg12 : arg12.IsWhole) (arg13 : Memref sig .tc .vmem S2x32x128 .bf16) (harg13 : arg13.IsWhole) (arg14 : Memref sig .tc .vmem S2x32x256 .bf16) (harg14 : arg14.IsWhole) (arg15 : Memref sig .tc .vmem S2x32x133120 .f32) (harg15 : arg15.IsWhole) (arg16 : Memref sig .tc .vmem S2x32x128 .f32) (harg16 : arg16.IsWhole) (arg17 : Memref sig .tc .vmem S2x32x128 .f32) (harg17 : arg17.IsWhole) (arg18 : Memref sig .tc .vmem S2x32x256 .f32) (harg18 : arg18.IsWhole) (hc0 : ¬cond0_0 i) (hc1 : ¬cond0_1 i) (hc2 : ¬cond0_2 i) (hc3 : cond0_3 i) (hc4 : ¬cond0_4 i) (x0 : Vec Ideal S2x32x128 .bf16) (x1 : Vec Ideal S2x4x128 .bf16) (x2 : Vec Ideal S2x4x128 .bf16) (x3 : Vec Ideal S16384x128 .fp8e4m3) (x4 : Vec Ideal S16384x128 .fp8e4m3) (x5 : Vec Ideal S4x4096 .f32) (x6 : Vec Ideal S4x4096 .f32) (x7 : Vec Ideal S2x1024x4x128 .fp8e4m3) (x8 : Vec Ideal S2x1024x4x128 .fp8e4m3) (x9 : Vec Ideal S2x4x1024 .f32) (x10 : Vec Ideal S2x4x1024 .f32) (xt0 : TbBuf0 (F := Ideal) c tbM0_0) (xs0 : Vec Ideal S2x32x256 .bf16) (xs1 : Vec Ideal S2x32x133120 .f32) (xs2 : Vec Ideal S2x32x128 .f32) (xs3 : Vec Ideal S2x32x128 .f32) (xs4 : Vec Ideal S2x32x256 .f32) (X : In) (n : ℕ) (B : Blocks (c := c) X n x0 x1 x2 x3 x4 x5 x6 x7 x8 x9 x10 xt0) (hi : (i 0).val = n) (hn : 32 < n) (hn' : n < 64)
    (h : Inv X n xs0 xs1 xs2 xs3 xs4) (f3 f4) (L3) (e3 : L3 = two128 (up128 (dchain (dn128 (rdL0 arg17 harg17 xs3)) (fun k => expT (rdS0 i hc3 arg15 harg15 xs1 k) (rdL0 arg16 harg16 xs2)) 16)) (up128 (dchain (dn128 (rdL1 arg17 harg17 xs3)) (fun k => expT (rdS1 i hc3 arg15 harg15 xs1 k) (rdL1 arg16 harg16 xs2)) 16)) []) (L4) (e4 : L4 = two256 (accB (rdA0 arg18 harg18 xs4) (fun k => wt0 (rdS0 i hc3 arg15 harg15 xs1 k) (rdL0 arg16 harg16 xs2) (tileS arg8 harg8 x6 k)) (fun k => vp0 (tileK arg6 harg6 x4 k))) (accB (rdA1 arg18 harg18 xs4) (fun k => wt1 (rdS1 i hc3 arg15 harg15 xs1 k) (rdL1 arg16 harg16 xs2) (tileS arg8 harg8 x6 k)) (fun k => vp1 (tileK arg6 harg6 x4 k))) []) :
    Inv X (n + 1) xs0 xs1 xs2 (arg17.view.read (Elt Ideal) (arg17.view.writes (Elt Ideal) f3 L3))
      (arg18.view.read (Elt Ideal) (arg18.view.writes (Elt Ideal) f4 L4)) := by
  obtain ⟨hQ, hS, hM, hD, hA⟩ := h.2 hn
  subst e3 e4
  have hs0 : ∀ k < 16, ∀ (r : Fin 32) (x : Fin 256), rdS0 i hc3 arg15 harg15 xs1 k (ix3 0 r x) = score X 0 r.val (4096 * (n - 32) + 256 * k + x.val) := fun k hk r x => by
    rw [rdS0_at i hc3 (by omega) arg15 harg15 xs1 k hk r x (by omega)]
    refine (hS 0 r _ (Or.inr ?_)).trans ?_
    · dsimp only; omega
    · show score X 0 r.val (4096 * ((i 0).val - 32) + 256 * k + x.val) = _
      rw [hi]
  have hs1 : ∀ k < 16, ∀ (r : Fin 32) (x : Fin 256), rdS1 i hc3 arg15 harg15 xs1 k (ix3 0 r x) = score X 1 r.val (4096 * (n - 32) + 256 * k + x.val) := fun k hk r x => by
    rw [rdS1_at i hc3 (by omega) arg15 harg15 xs1 k hk r x (by omega)]
    refine (hS 1 r _ (Or.inr ?_)).trans ?_
    · dsimp only; omega
    · show score X 1 r.val (4096 * ((i 0).val - 32) + 256 * k + x.val) = _
      rw [hi]
  have hm0 : ∀ (r : Fin 32) (l : Fin 128), rdL0 arg16 harg16 xs2 (ix3 0 r l) = rowMax X 0 r.val := fun r l => by
    rw [rdL0_at]; exact hM 0 r l
  have hm1 : ∀ (r : Fin 32) (l : Fin 128), rdL1 arg16 harg16 xs2 (ix3 0 r l) = rowMax X 1 r.val := fun r l => by
    rw [rdL1_at]; exact hM 1 r l
  refine ⟨fun h => absurd h (by omega), fun _ => ⟨hQ, hS, hM, ?_, ?_⟩⟩
  · intro p r l
    rw [show n + 1 - 32 = n - 32 + 1 from by omega]
    refine read_two128 _ f3 _ _ _ (fun p r l => denAt X (n - 32 + 1) p r l) (fun r l => ?_) (fun r l => ?_) p r l
    · refine d_step X 0 (n - 32) _ _ r l ?_ fun k hk x => ?_
      · rw [rdL0_at]; exact hD 0 r l
      · refine (expT_at _ _ r _ (hm0 r) x).trans ?_
        rw [hs0 k hk]; rfl
    · refine d_step X 1 (n - 32) _ _ r l ?_ fun k hk x => ?_
      · rw [rdL1_at]; exact hD 1 r l
      · refine (expT_at _ _ r _ (hm1 r) x).trans ?_
        rw [hs1 k hk]; rfl
  · intro p r l
    rw [show n + 1 - 32 = n - 32 + 1 from by omega]
    refine read_two256 _ f4 _ _ _ (fun p r l => accAt X (n - 32 + 1) p r l) (fun r l => ?_) (fun r l => ?_) p r l
    · refine a_step X 0 (n - 32) _ _ _ r l ?_ (fun k hk x => ?_) fun k hk x => ?_
      · rw [rdA0_at]; exact hA 0 r l
      · exact wt0_ok B (by omega) hn' arg8 harg8 k hk _ _ r x (hm0 r) (hs0 k hk r x)
      · exact vp0_ok B (by omega) hn' arg6 harg6 k hk x l
    · refine a_step X 1 (n - 32) _ _ _ r l ?_ (fun k hk x => ?_) fun k hk x => ?_
      · rw [rdA1_at]; exact hA 1 r l
      · exact wt1_ok B (by omega) hn' arg8 harg8 k hk _ _ r x (hm1 r) (hs1 k hk r x)
      · exact vp1_ok B (by omega) hn' arg6 harg6 k hk x l

end Cert.KernelIdeal.Gen

end
-- ==== Proof.KI.RunE.lean ====
module

public import proofs.«01_k».proof.Proof.KI.RunD

@[expose] public section

-- membership in a rectangle of large extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 4000000 in
/-- What the body's stores leave in each output's staging memref, as pieces (last first) IN CASE E (`scf.if` 0 not taken, `scf.if` 1 not taken, `scf.if` 2 not taken, `scf.if` 3 taken, `scf.if` 4 taken: points 63), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which the symbolic execution steps through — each `scf.if` decided by the case's hypotheses `hc·`; the pieces are
    the witness that run finds (assigned when `iexact` hands the buffer to the continuation). -/
noncomputable def kernelRun0_E (c : Dev nD) (i : grid0.Coords) (arg2 : Memref sig .tc .vmem S2x32x128 .bf16) (harg2 : arg2.IsWhole) (arg3 : Memref sig .tc .vmem S2x4x128 .bf16) (harg3 : arg3.IsWhole) (arg4 : Memref sig .tc .vmem S2x4x128 .bf16) (harg4 : arg4.IsWhole) (arg5 : Memref sig .tc .vmem S16384x128 .fp8e4m3) (harg5 : arg5.IsWhole) (arg6 : Memref sig .tc .vmem S16384x128 .fp8e4m3) (harg6 : arg6.IsWhole) (arg7 : Memref sig .tc .vmem S4x4096 .f32) (harg7 : arg7.IsWhole) (arg8 : Memref sig .tc .vmem S4x4096 .f32) (harg8 : arg8.IsWhole) (arg9 : Memref sig .tc .vmem S2x1024x4x128 .fp8e4m3) (harg9 : arg9.IsWhole) (arg10 : Memref sig .tc .vmem S2x1024x4x128 .fp8e4m3) (harg10 : arg10.IsWhole) (arg11 : Memref sig .tc .vmem S2x4x1024 .f32) (harg11 : arg11.IsWhole) (arg12 : Memref sig .tc .vmem S2x4x1024 .f32) (harg12 : arg12.IsWhole) (arg13 : Memref sig .tc .vmem S2x32x128 .bf16) (harg13 : arg13.IsWhole) (arg14 : Memref sig .tc .vmem S2x32x256 .bf16) (harg14 : arg14.IsWhole) (arg15 : Memref sig .tc .vmem S2x32x133120 .f32) (harg15 : arg15.IsWhole) (arg16 : Memref sig .tc .vmem S2x32x128 .f32) (harg16 : arg16.IsWhole) (arg17 : Memref sig .tc .vmem S2x32x128 .f32) (harg17 : arg17.IsWhole) (arg18 : Memref sig .tc .vmem S2x32x256 .f32) (harg18 : arg18.IsWhole) (hc0 : ¬cond0_0 i) (hc1 : ¬cond0_1 i) (hc2 : ¬cond0_2 i) (hc3 : cond0_3 i) (hc4 : cond0_4 i)
    (x0 : Vec F S2x32x128 .bf16) (x1 : Vec F S2x4x128 .bf16) (x2 : Vec F S2x4x128 .bf16) (x3 : Vec F S16384x128 .fp8e4m3) (x4 : Vec F S16384x128 .fp8e4m3) (x5 : Vec F S4x4096 .f32) (x6 : Vec F S4x4096 .f32) (x7 : Vec F S2x1024x4x128 .fp8e4m3) (x8 : Vec F S2x1024x4x128 .fp8e4m3) (x9 : Vec F S2x4x1024 .f32) (x10 : Vec F S2x4x1024 .f32) (xt0 : TbBuf0 (F := F) c tbM0_0) (xs0 : Vec F S2x32x256 .bf16) (xs1 : Vec F S2x32x133120 .f32) (xs2 : Vec F S2x32x128 .f32) (xs3 : Vec F S2x32x128 .f32) (xs4 : Vec F S2x32x256 .f32) :
    Σ' (L11 : List (View.Piece (Elt F) S2x32x128 .bf16)), Σ' (LS0 : List (View.Piece (Elt F) S2x32x256 .bf16)), Σ' (LS1 : List (View.Piece (Elt F) S2x32x133120 .f32)), Σ' (LS2 : List (View.Piece (Elt F) S2x32x128 .f32)), Σ' (LS3 : List (View.Piece (Elt F) S2x32x128 .f32)), { LS4 : List (View.Piece (Elt F) S2x32x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ owns (c : Thread nD τ) arg14 fullShare xs0 ∗ owns (c : Thread nD τ) arg15 fullShare xs1 ∗ owns (c : Thread nD τ) arg16 fullShare xs2 ∗ owns (c : Thread nD τ) arg17 fullShare xs3 ∗ owns (c : Thread nD τ) arg18 fullShare xs4 ∗ tbPt0 c tbM0_0 xt0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ f, arg13.view.loc (c : Thread nD τ) ↦[arg13.view.set]{fullShare} arg13.view.writes (Elt F) f L11) ∗ owns (c : Thread nD τ) arg14 fullShare xs0 ∗ owns (c : Thread nD τ) arg15 fullShare xs1 ∗ owns (c : Thread nD τ) arg16 fullShare xs2 ∗ (∃ f, arg17.view.loc (c : Thread nD τ) ↦[arg17.view.set]{fullShare} arg17.view.writes (Elt F) f LS3) ∗ (∃ f, arg18.view.loc (c : Thread nD τ) ↦[arg18.view.set]{fullShare} arg18.view.writes (Elt F) f LS4) ∗ tbPt0 c tbM0_0 xt0) -∗ K ⟨⟩))
          ⊢ wp frame (wpE (defs₀ (F := F)) Variants.none c none) E (cc0_cascade_decode i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, [], [], [], ?_, ?_, fun E K => ?run⟩
  case run =>
    simp only [cc0_cascade_decode_eq_skeleton]; unfold cc0_cascade_decode_skel
    rw [k0_part74_eq_skeleton, k0_part75_eq_skeleton]
    simp only [k0_part73_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%fs0, %hfs0, HS0⟩, ⟨%fs1, %hfs1, HS1⟩, ⟨%fs2, %hfs2, HS2⟩, ⟨%fs3, %hfs3, HS3⟩, ⟨%fs4, %hfs4, HS4⟩, HT0, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg14.eq_unread hfs0; obtain rfl := harg15.eq_unread hfs1; obtain rfl := harg16.eq_unread hfs2; obtain rfl := harg17.eq_unread hfs3; obtain rfl := harg18.eq_unread hfs4
    sl_exec (disch := first | sl_exact hc0 | sl_exact hc1 | sl_exact hc2 | sl_exact hc3 | sl_exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]; · iexists _; iexact H11
    isplitl [HS0]
    · iexists _; isplitr; · ipureintro; exact harg14.read_unread _
      iexact HS0
    isplitl [HS1]
    · iexists _; isplitr; · ipureintro; exact harg15.read_unread _
      iexact HS1
    isplitl [HS2]
    · iexists _; isplitr; · ipureintro; exact harg16.read_unread _
      iexact HS2
    isplitl [HS3]; · iexists _; iexact HS3
    isplitl [HS4]; · iexists _; iexact HS4
    iexact HT0

end Cert.KernelIdeal.Gen

end
-- ==== Proof.KI.EqE.lean ====
/- What the stores of the last point leave, as functions of the arrays it reads. -/
module

public import proofs.«01_k».proof.Proof.KI.RunE
public import proofs.«01_k».proof.Proof.KI.Model2

@[expose] public section

set_option maxRecDepth 16384

noncomputable section

namespace Cert.KernelIdeal.Gen

open Idealize.ShloMosaic Idealize.ShloMosaic.TcCoe Idealize.ShloMosaic.Tactic

variable {F : FTy → Type} [FloatOps F] [Named F]

theorem runE_den  (c : Dev nD) (i : grid0.Coords) (arg2 : Memref sig .tc .vmem S2x32x128 .bf16) (harg2 : arg2.IsWhole) (arg3 : Memref sig .tc .vmem S2x4x128 .bf16) (harg3 : arg3.IsWhole) (arg4 : Memref sig .tc .vmem S2x4x128 .bf16) (harg4 : arg4.IsWhole) (arg5 : Memref sig .tc .vmem S16384x128 .fp8e4m3) (harg5 : arg5.IsWhole) (arg6 : Memref sig .tc .vmem S16384x128 .fp8e4m3) (harg6 : arg6.IsWhole) (arg7 : Memref sig .tc .vmem S4x4096 .f32) (harg7 : arg7.IsWhole) (arg8 : Memref sig .tc .vmem S4x4096 .f32) (harg8 : arg8.IsWhole) (arg9 : Memref sig .tc .vmem S2x1024x4x128 .fp8e4m3) (harg9 : arg9.IsWhole) (arg10 : Memref sig .tc .vmem S2x1024x4x128 .fp8e4m3) (harg10 : arg10.IsWhole) (arg11 : Memref sig .tc .vmem S2x4x1024 .f32) (harg11 : arg11.IsWhole) (arg12 : Memref sig .tc .vmem S2x4x1024 .f32) (harg12 : arg12.IsWhole) (arg13 : Memref sig .tc .vmem S2x32x128 .bf16) (harg13 : arg13.IsWhole) (arg14 : Memref sig .tc .vmem S2x32x256 .bf16) (harg14 : arg14.IsWhole) (arg15 : Memref sig .tc .vmem S2x32x133120 .f32) (harg15 : arg15.IsWhole) (arg16 : Memref sig .tc .vmem S2x32x128 .f32) (harg16 : arg16.IsWhole) (arg17 : Memref sig .tc .vmem S2x32x128 .f32) (harg17 : arg17.IsWhole) (arg18 : Memref sig .tc .vmem S2x32x256 .f32) (harg18 : arg18.IsWhole) (hc0 : ¬cond0_0 i) (hc1 : ¬cond0_1 i) (hc2 : ¬cond0_2 i) (hc3 : cond0_3 i) (hc4 : cond0_4 i)
    (x0 : Vec F S2x32x128 .bf16) (x1 : Vec F S2x4x128 .bf16) (x2 : Vec F S2x4x128 .bf16) (x3 : Vec F S16384x128 .fp8e4m3) (x4 : Vec F S16384x128 .fp8e4m3) (x5 : Vec F S4x4096 .f32) (x6 : Vec F S4x4096 .f32) (x7 : Vec F S2x1024x4x128 .fp8e4m3) (x8 : Vec F S2x1024x4x128 .fp8e4m3) (x9 : Vec F S2x4x1024 .f32) (x10 : Vec F S2x4x1024 .f32) (xt0 : TbBuf0 (F := F) c tbM0_0) (xs0 : Vec F S2x32x256 .bf16) (xs1 : Vec F S2x32x133120 .f32) (xs2 : Vec F S2x32x128 .f32) (xs3 : Vec F S2x32x128 .f32) (xs4 : Vec F S2x32x256 .f32) : (kernelRun0_E (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc4 x0 x1 x2 x3 x4 x5 x6 x7 x8 x9 x10 xt0 xs0 xs1 xs2 xs3 xs4).2.2.2.2.1 = two128 (up128 (dchain (dn128 (rdL0 arg17 harg17 xs3)) (fun k => expT (rdS0 i hc3 arg15 harg15 xs1 k) (rdL0 arg16 harg16 xs2)) 16)) (up128 (dchain (dn128 (rdL1 arg17 harg17 xs3)) (fun k => expT (rdS1 i hc3 arg15 harg15 xs1 k) (rdL1 arg16 harg16 xs2)) 16)) [] := by
  unfold kernelRun0_E; dsimp only
  rfl

theorem runE_acc  (c : Dev nD) (i : grid0.Coords) (arg2 : Memref sig .tc .vmem S2x32x128 .bf16) (harg2 : arg2.IsWhole) (arg3 : Memref sig .tc .vmem S2x4x128 .bf16) (harg3 : arg3.IsWhole) (arg4 : Memref sig .tc .vmem S2x4x128 .bf16) (harg4 : arg4.IsWhole) (arg5 : Memref sig .tc .vmem S16384x128 .fp8e4m3) (harg5 : arg5.IsWhole) (arg6 : Memref sig .tc .vmem S16384x128 .fp8e4m3) (harg6 : arg6.IsWhole) (arg7 : Memref sig .tc .vmem S4x4096 .f32) (harg7 : arg7.IsWhole) (arg8 : Memref sig .tc .vmem S4x4096 .f32) (harg8 : arg8.IsWhole) (arg9 : Memref sig .tc .vmem S2x1024x4x128 .fp8e4m3) (harg9 : arg9.IsWhole) (arg10 : Memref sig .tc .vmem S2x1024x4x128 .fp8e4m3) (harg10 : arg10.IsWhole) (arg11 : Memref sig .tc .vmem S2x4x1024 .f32) (harg11 : arg11.IsWhole) (arg12 : Memref sig .tc .vmem S2x4x1024 .f32) (harg12 : arg12.IsWhole) (arg13 : Memref sig .tc .vmem S2x32x128 .bf16) (harg13 : arg13.IsWhole) (arg14 : Memref sig .tc .vmem S2x32x256 .bf16) (harg14 : arg14.IsWhole) (arg15 : Memref sig .tc .vmem S2x32x133120 .f32) (harg15 : arg15.IsWhole) (arg16 : Memref sig .tc .vmem S2x32x128 .f32) (harg16 : arg16.IsWhole) (arg17 : Memref sig .tc .vmem S2x32x128 .f32) (harg17 : arg17.IsWhole) (arg18 : Memref sig .tc .vmem S2x32x256 .f32) (harg18 : arg18.IsWhole) (hc0 : ¬cond0_0 i) (hc1 : ¬cond0_1 i) (hc2 : ¬cond0_2 i) (hc3 : cond0_3 i) (hc4 : cond0_4 i)
    (x0 : Vec F S2x32x128 .bf16) (x1 : Vec F S2x4x128 .bf16) (x2 : Vec F S2x4x128 .bf16) (x3 : Vec F S16384x128 .fp8e4m3) (x4 : Vec F S16384x128 .fp8e4m3) (x5 : Vec F S4x4096 .f32) (x6 : Vec F S4x4096 .f32) (x7 : Vec F S2x1024x4x128 .fp8e4m3) (x8 : Vec F S2x1024x4x128 .fp8e4m3) (x9 : Vec F S2x4x1024 .f32) (x10 : Vec F S2x4x1024 .f32) (xt0 : TbBuf0 (F := F) c tbM0_0) (xs0 : Vec F S2x32x256 .bf16) (xs1 : Vec F S2x32x133120 .f32) (xs2 : Vec F S2x32x128 .f32) (xs3 : Vec F S2x32x128 .f32) (xs4 : Vec F S2x32x256 .f32) : (kernelRun0_E (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc4 x0 x1 x2 x3 x4 x5 x6 x7 x8 x9 x10 xt0 xs0 xs1 xs2 xs3 xs4).2.2.2.2.2.1 = two256 (accB (rdA0 arg18 harg18 xs4) (fun k => wt0 (rdS0 i hc3 arg15 harg15 xs1 k) (rdL0 arg16 harg16 xs2) (tileS arg8 harg8 x6 k)) (fun k => vp0 (tileK arg6 harg6 x4 k))) (accB (rdA1 arg18 harg18 xs4) (fun k => wt1 (rdS1 i hc3 arg15 harg15 xs1 k) (rdL1 arg16 harg16 xs2) (tileS arg8 harg8 x6 k)) (fun k => vp1 (tileK arg6 harg6 x4 k))) [] := by
  unfold kernelRun0_E; dsimp only
  rfl

end Cert.KernelIdeal.Gen

end
-- ==== Proof.Val.CaseE.lean ====
/- One block of the weighted sum. -/
module

public import proofs.«01_k».proof.Proof.Val.Inv
public import proofs.«01_k».proof.Proof.KI.EqE

@[expose] public section

set_option maxRecDepth 16384

noncomputable section

namespace Cert.KernelIdeal.Gen

open Idealize.ShloMosaic Idealize.ShloMosaic.TcCoe Idealize.ShloMosaic.Tactic
open Cert.Attn Finset

theorem caseE  (c : Dev nD) (i : grid0.Coords) (arg2 : Memref sig .tc .vmem S2x32x128 .bf16) (harg2 : arg2.IsWhole) (arg3 : Memref sig .tc .vmem S2x4x128 .bf16) (harg3 : arg3.IsWhole) (arg4 : Memref sig .tc .vmem S2x4x128 .bf16) (harg4 : arg4.IsWhole) (arg5 : Memref sig .tc .vmem S16384x128 .fp8e4m3) (harg5 : arg5.IsWhole) (arg6 : Memref sig .tc .vmem S16384x128 .fp8e4m3) (harg6 : arg6.IsWhole) (arg7 : Memref sig .tc .vmem S4x4096 .f32) (harg7 : arg7.IsWhole) (arg8 : Memref sig .tc .vmem S4x4096 .f32) (harg8 : arg8.IsWhole) (arg9 : Memref sig .tc .vmem S2x1024x4x128 .fp8e4m3) (harg9 : arg9.IsWhole) (arg10 : Memref sig .tc .vmem S2x1024x4x128 .fp8e4m3) (harg10 : arg10.IsWhole) (arg11 : Memref sig .tc .vmem S2x4x1024 .f32) (harg11 : arg11.IsWhole) (arg12 : Memref sig .tc .vmem S2x4x1024 .f32) (harg12 : arg12.IsWhole) (arg13 : Memref sig .tc .vmem S2x32x128 .bf16) (harg13 : arg13.IsWhole) (arg14 : Memref sig .tc .vmem S2x32x256 .bf16) (harg14 : arg14.IsWhole) (arg15 : Memref sig .tc .vmem S2x32x133120 .f32) (harg15 : arg15.IsWhole) (arg16 : Memref sig .tc .vmem S2x32x128 .f32) (harg16 : arg16.IsWhole) (arg17 : Memref sig .tc .vmem S2x32x128 .f32) (harg17 : arg17.IsWhole) (arg18 : Memref sig .tc .vmem S2x32x256 .f32) (harg18 : arg18.IsWhole) (hc0 : ¬cond0_0 i) (hc1 : ¬cond0_1 i) (hc2 : ¬cond0_2 i) (hc3 : cond0_3 i) (hc4 : cond0_4 i) (x0 : Vec Ideal S2x32x128 .bf16) (x1 : Vec Ideal S2x4x128 .bf16) (x2 : Vec Ideal S2x4x128 .bf16) (x3 : Vec Ideal S16384x128 .fp8e4m3) (x4 : Vec Ideal S16384x128 .fp8e4m3) (x5 : Vec Ideal S4x4096 .f32) (x6 : Vec Ideal S4x4096 .f32) (x7 : Vec Ideal S2x1024x4x128 .fp8e4m3) (x8 : Vec Ideal S2x1024x4x128 .fp8e4m3) (x9 : Vec Ideal S2x4x1024 .f32) (x10 : Vec Ideal S2x4x1024 .f32) (xt0 : TbBuf0 (F := Ideal) c tbM0_0) (xs0 : Vec Ideal S2x32x256 .bf16) (xs1 : Vec Ideal S2x32x133120 .f32) (xs2 : Vec Ideal S2x32x128 .f32) (xs3 : Vec Ideal S2x32x128 .f32) (xs4 : Vec Ideal S2x32x256 .f32) (X : In) (n : ℕ) (B : Blocks (c := c) X n x0 x1 x2 x3 x4 x5 x6 x7 x8 x9 x10 xt0) (hi : (i 0).val = n) (hn : 32 < n) (hn' : n < 64)
    (h : Inv X n xs0 xs1 xs2 xs3 xs4) (f3 f4) (L3) (e3 : L3 = two128 (up128 (dchain (dn128 (rdL0 arg17 harg17 xs3)) (fun k => expT (rdS0 i hc3 arg15 harg15 xs1 k) (rdL0 arg16 harg16 xs2)) 16)) (up128 (dchain (dn128 (rdL1 arg17 harg17 xs3)) (fun k => expT (rdS1 i hc3 arg15 harg15 xs1 k) (rdL1 arg16 harg16 xs2)) 16)) []) (L4) (e4 : L4 = two256 (accB (rdA0 arg18 harg18 xs4) (fun k => wt0 (rdS0 i hc3 arg15 harg15 xs1 k) (rdL0 arg16 harg16 xs2) (tileS arg8 harg8 x6 k)) (fun k => vp0 (tileK arg6 harg6 x4 k))) (accB (rdA1 arg18 harg18 xs4) (fun k => wt1 (rdS1 i hc3 arg15 harg15 xs1 k) (rdL1 arg16 harg16 xs2) (tileS arg8 harg8 x6 k)) (fun k => vp1 (tileK arg6 harg6 x4 k))) []) :
    Inv X (n + 1) xs0 xs1 xs2 (arg17.view.read (Elt Ideal) (arg17.view.writes (Elt Ideal) f3 L3))
      (arg18.view.read (Elt Ideal) (arg18.view.writes (Elt Ideal) f4 L4)) := by
  obtain ⟨hQ, hS, hM, hD, hA⟩ := h.2 hn
  subst e3 e4
  have hs0 : ∀ k < 16, ∀ (r : Fin 32) (x : Fin 256), rdS0 i hc3 arg15 harg15 xs1 k (ix3 0 r x) = score X 0 r.val (4096 * (n - 32) + 256 * k + x.val) := fun k hk r x => by
    rw [rdS0_at i hc3 (by omega) arg15 harg15 xs1 k hk r x (by omega)]
    refine (hS 0 r _ (Or.inr ?_)).trans ?_
    · dsimp only; omega
    · show score X 0 r.val (4096 * ((i 0).val - 32) + 256 * k + x.val) = _
      rw [hi]
  have hs1 : ∀ k < 16, ∀ (r : Fin 32) (x : Fin 256), rdS1 i hc3 arg15 harg15 xs1 k (ix3 0 r x) = score X 1 r.val (4096 * (n - 32) + 256 * k + x.val) := fun k hk r x => by
    rw [rdS1_at i hc3 (by omega) arg15 harg15 xs1 k hk r x (by omega)]
    refine (hS 1 r _ (Or.inr ?_)).trans ?_
    · dsimp only; omega
    · show score X 1 r.val (4096 * ((i 0).val - 32) + 256 * k + x.val) = _
      rw [hi]
  have hm0 : ∀ (r : Fin 32) (l : Fin 128), rdL0 arg16 harg16 xs2 (ix3 0 r l) = rowMax X 0 r.val := fun r l => by
    rw [rdL0_at]; exact hM 0 r l
  have hm1 : ∀ (r : Fin 32) (l : Fin 128), rdL1 arg16 harg16 xs2 (ix3 0 r l) = rowMax X 1 r.val := fun r l => by
    rw [rdL1_at]; exact hM 1 r l
  refine ⟨fun h => absurd h (by omega), fun _ => ⟨hQ, hS, hM, ?_, ?_⟩⟩
  · intro p r l
    rw [show n + 1 - 32 = n - 32 + 1 from by omega]
    refine read_two128 _ f3 _ _ _ (fun p r l => denAt X (n - 32 + 1) p r l) (fun r l => ?_) (fun r l => ?_) p r l
    · refine d_step X 0 (n - 32) _ _ r l ?_ fun k hk x => ?_
      · rw [rdL0_at]; exact hD 0 r l
      · refine (expT_at _ _ r _ (hm0 r) x).trans ?_
        rw [hs0 k hk]; rfl
    · refine d_step X 1 (n - 32) _ _ r l ?_ fun k hk x => ?_
      · rw [rdL1_at]; exact hD 1 r l
      · refine (expT_at _ _ r _ (hm1 r) x).trans ?_
        rw [hs1 k hk]; rfl
  · intro p r l
    rw [show n + 1 - 32 = n - 32 + 1 from by omega]
    refine read_two256 _ f4 _ _ _ (fun p r l => accAt X (n - 32 + 1) p r l) (fun r l => ?_) (fun r l => ?_) p r l
    · refine a_step X 0 (n - 32) _ _ _ r l ?_ (fun k hk x => ?_) fun k hk x => ?_
      · rw [rdA0_at]; exact hA 0 r l
      · exact wt0_ok B (by omega) hn' arg8 harg8 k hk _ _ r x (hm0 r) (hs0 k hk r x)
      · exact vp0_ok B (by omega) hn' arg6 harg6 k hk x l
    · refine a_step X 1 (n - 32) _ _ _ r l ?_ (fun k hk x => ?_) fun k hk x => ?_
      · rw [rdA1_at]; exact hA 1 r l
      · exact wt1_ok B (by omega) hn' arg8 harg8 k hk _ _ r x (hm1 r) (hs1 k hk r x)
      · exact vp1_ok B (by omega) hn' arg6 harg6 k hk x l

end Cert.KernelIdeal.Gen

end
-- ==== Proof.Val.Input.lean ====
/- The inputs of the mathematics, read off the twelve argument arrays. -/
module

public import proofs.«01_k».proof.Proof.Val.Math
public import Idealize.ShloMosaic.Lib.Pipeline.ValueKit

@[expose] public section

noncomputable section

namespace Cert.Attn

open Idealize.ShloMosaic Idealize.ShloMosaic.TcCoe Idealize.ShloMosaic.Tactic

/-- The inputs: an array at the coordinates, each taken modulo its axis. -/
def inOf (a0 : (⟨4, ![2, 1, 32, 128]⟩ : Shape).Idx → EReal) (a1 a2 : (⟨4, ![2, 1, 4, 128]⟩ : Shape).Idx → EReal) (a3 a4 : (⟨3, ![131072, 4, 128]⟩ : Shape).Idx → EReal)
    (a5 a6 : (⟨2, ![131072, 4]⟩ : Shape).Idx → EReal) (a7 a8 : (⟨4, ![2, 1024, 4, 128]⟩ : Shape).Idx → EReal) (a9 a10 : (⟨3, ![2, 1024, 4]⟩ : Shape).Idx → EReal)
    (a11 : (⟨1, ![2]⟩ : Shape).Idx → BitVec 32) : In where
  q b h d := a0 (ix4 (Fin.ofNat 2 b) 0 (Fin.ofNat 32 h) (Fin.ofNat 128 d))
  kn b g d := a1 (ix4 (Fin.ofNat 2 b) 0 (Fin.ofNat 4 g) (Fin.ofNat 128 d))
  vn b g d := a2 (ix4 (Fin.ofNat 2 b) 0 (Fin.ofNat 4 g) (Fin.ofNat 128 d))
  kp j g d := a3 (ix3 (Fin.ofNat 131072 j) (Fin.ofNat 4 g) (Fin.ofNat 128 d))
  vp j g d := a4 (ix3 (Fin.ofNat 131072 j) (Fin.ofNat 4 g) (Fin.ofNat 128 d))
  kps j g := a5 (ix2 (Fin.ofNat 131072 j) (Fin.ofNat 4 g))
  vps j g := a6 (ix2 (Fin.ofNat 131072 j) (Fin.ofNat 4 g))
  kt b t g d := a7 (ix4 (Fin.ofNat 2 b) (Fin.ofNat 1024 t) (Fin.ofNat 4 g) (Fin.ofNat 128 d))
  vt b t g d := a8 (ix4 (Fin.ofNat 2 b) (Fin.ofNat 1024 t) (Fin.ofNat 4 g) (Fin.ofNat 128 d))
  kts b t g := a9 (ix3 (Fin.ofNat 2 b) (Fin.ofNat 1024 t) (Fin.ofNat 4 g))
  vts b t g := a10 (ix3 (Fin.ofNat 2 b) (Fin.ofNat 1024 t) (Fin.ofNat 4 g))
  len b := (a11 (ix1 (Fin.ofNat 2 b))).toInt

theorem ofNat_val {n : ℕ} [NeZero n] (a : Fin n) : Fin.ofNat n a.val = a := Fin.ext (Nat.mod_eq_of_lt a.isLt)
theorem ofNat_eq {n : ℕ} [NeZero n] (x : ℕ) (h : x < n) : Fin.ofNat n x = ⟨x, h⟩ := Fin.ext (Nat.mod_eq_of_lt h)

end Cert.Attn

end
-- ==== Proof.KI.Frame.lean ====
/- The launch of the kernel, point by point: what the five scratch arrays are known to hold before each grid point, the body
   at each point by the five runs (RunA … RunE), and the run of the whole program with its result named. -/
module

public import proofs.«01_k».proof.Proof.KI.RunE
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- Case A's run at point `t`, on the point's own buffers and blocks. -/
abbrev runA (hO : Ok m) (c : Dev nD) (t : Fin (cfgM m hO).N) (hc0 : cond0_0 (grid0.coords t)) (hc1 : cond0_1 (grid0.coords t)) (hc2 : ¬cond0_2 (grid0.coords t)) (hc3 : ¬cond0_3 (grid0.coords t)) (hc4 : ¬cond0_4 (grid0.coords t))  :=
  kernelRun0_A (F := F) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) scM0_0 (Memref.isWhole_whole _) scM0_1 (Memref.isWhole_whole _) scM0_2 (Memref.isWhole_whole _) scM0_3 (Memref.isWhole_whole _) scM0_4 (Memref.isWhole_whole _) hc0 hc1 hc2 hc3 hc4 (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (tbl m 0)

/-- Case B's run at point `t`, on the point's own buffers and blocks. -/
abbrev runB (hO : Ok m) (c : Dev nD) (t : Fin (cfgM m hO).N) (hc0 : ¬cond0_0 (grid0.coords t)) (hc1 : cond0_1 (grid0.coords t)) (hc2 : ¬cond0_2 (grid0.coords t)) (hc3 : ¬cond0_3 (grid0.coords t)) (hc4 : ¬cond0_4 (grid0.coords t)) (xs0 : Vec F S2x32x256 .bf16) (xs2 : Vec F S2x32x128 .f32) (xs3 : Vec F S2x32x128 .f32) (xs4 : Vec F S2x32x256 .f32) :=
  kernelRun0_B (F := F) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) scM0_0 (Memref.isWhole_whole _) scM0_1 (Memref.isWhole_whole _) scM0_2 (Memref.isWhole_whole _) scM0_3 (Memref.isWhole_whole _) scM0_4 (Memref.isWhole_whole _) hc0 hc1 hc2 hc3 hc4 (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (tbl m 0) xs0 xs2 xs3 xs4

/-- Case C's run at point `t`, on the point's own buffers and blocks. -/
abbrev runC (hO : Ok m) (c : Dev nD) (t : Fin (cfgM m hO).N) (hc0 : ¬cond0_0 (grid0.coords t)) (hc1 : ¬cond0_1 (grid0.coords t)) (hc2 : cond0_2 (grid0.coords t)) (hc3 : cond0_3 (grid0.coords t)) (hc4 : ¬cond0_4 (grid0.coords t)) (xs0 : Vec F S2x32x256 .bf16) (xs1 : Vec F S2x32x133120 .f32) (xs2 : Vec F S2x32x128 .f32) :=
  kernelRun0_C (F := F) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) scM0_0 (Memref.isWhole_whole _) scM0_1 (Memref.isWhole_whole _) scM0_2 (Memref.isWhole_whole _) scM0_3 (Memref.isWhole_whole _) scM0_4 (Memref.isWhole_whole _) hc0 hc1 hc2 hc3 hc4 (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (tbl m 0) xs0 xs1 xs2

/-- Case D's run at point `t`, on the point's own buffers and blocks. -/
abbrev runD (hO : Ok m) (c : Dev nD) (t : Fin (cfgM m hO).N) (hc0 : ¬cond0_0 (grid0.coords t)) (hc1 : ¬cond0_1 (grid0.coords t)) (hc2 : ¬cond0_2 (grid0.coords t)) (hc3 : cond0_3 (grid0.coords t)) (hc4 : ¬cond0_4 (grid0.coords t)) (xs0 : Vec F S2x32x256 .bf16) (xs1 : Vec F S2x32x133120 .f32) (xs2 : Vec F S2x32x128 .f32) (xs3 : Vec F S2x32x128 .f32) (xs4 : Vec F S2x32x256 .f32) :=
  kernelRun0_D (F := F) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) scM0_0 (Memref.isWhole_whole _) scM0_1 (Memref.isWhole_whole _) scM0_2 (Memref.isWhole_whole _) scM0_3 (Memref.isWhole_whole _) scM0_4 (Memref.isWhole_whole _) hc0 hc1 hc2 hc3 hc4 (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (tbl m 0) xs0 xs1 xs2 xs3 xs4

/-- Case E's run at point `t`, on the point's own buffers and blocks. -/
abbrev runE (hO : Ok m) (c : Dev nD) (t : Fin (cfgM m hO).N) (hc0 : ¬cond0_0 (grid0.coords t)) (hc1 : ¬cond0_1 (grid0.coords t)) (hc2 : ¬cond0_2 (grid0.coords t)) (hc3 : cond0_3 (grid0.coords t)) (hc4 : cond0_4 (grid0.coords t)) (xs0 : Vec F S2x32x256 .bf16) (xs1 : Vec F S2x32x133120 .f32) (xs2 : Vec F S2x32x128 .f32) (xs3 : Vec F S2x32x128 .f32) (xs4 : Vec F S2x32x256 .f32) :=
  kernelRun0_E (F := F) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) scM0_0 (Memref.isWhole_whole _) scM0_1 (Memref.isWhole_whole _) scM0_2 (Memref.isWhole_whole _) scM0_3 (Memref.isWhole_whole _) scM0_4 (Memref.isWhole_whole _) hc0 hc1 hc2 hc3 hc4 (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (tbl m 0) xs0 xs1 xs2 xs3 xs4

/-- A statement about the contents of the five scratch arrays before each point. -/
abbrev Claim5 (F : FTy → Type) [FloatOps F] := Dev nD → ℕ → Vec F S2x32x256 .bf16 → Vec F S2x32x133120 .f32 → Vec F S2x32x128 .f32 → Vec F S2x32x128 .f32 → Vec F S2x32x256 .f32 → Prop

/-- The statement `I` survives every point: the first point establishes it from nothing, each later point carries it from its
    number to the next, whatever lay under the pieces its stores write; and the last point leaves `o` in the result's buffer. -/
structure Steps (hO : Ok m) (I : Claim5 F) (o : Dev nD → Vec F S2x32x128 .bf16) : Prop where
  a : ∀ (c : Dev nD) (t : Fin (cfgM m hO).N) (hc0 : cond0_0 (grid0.coords t)) (hc1 : cond0_1 (grid0.coords t)) (hc2 : ¬cond0_2 (grid0.coords t)) (hc3 : ¬cond0_3 (grid0.coords t)) (hc4 : ¬cond0_4 (grid0.coords t)) (xs1 : Vec F S2x32x133120 .f32) f0 f2 f3 f4,
    I c (t.val + 1) (VS0_0.read (Elt F) (VS0_0.writes (Elt F) f0 (runA m hO c t hc0 hc1 hc2 hc3 hc4).2.1)) (VS0_1.read (Elt F) (VS0_1.writes (Elt F) ((Memref.isWhole_whole (κ := .tc) _ : scM0_1.IsWhole).unread xs1) (runA m hO c t hc0 hc1 hc2 hc3 hc4).2.2.1)) (VS0_2.read (Elt F) (VS0_2.writes (Elt F) f2 (runA m hO c t hc0 hc1 hc2 hc3 hc4).2.2.2.1)) (VS0_3.read (Elt F) (VS0_3.writes (Elt F) f3 (runA m hO c t hc0 hc1 hc2 hc3 hc4).2.2.2.2.1)) (VS0_4.read (Elt F) (VS0_4.writes (Elt F) f4 (runA m hO c t hc0 hc1 hc2 hc3 hc4).2.2.2.2.2.1))
  b : ∀ (c : Dev nD) (t : Fin (cfgM m hO).N) (hc0 : ¬cond0_0 (grid0.coords t)) (hc1 : cond0_1 (grid0.coords t)) (hc2 : ¬cond0_2 (grid0.coords t)) (hc3 : ¬cond0_3 (grid0.coords t)) (hc4 : ¬cond0_4 (grid0.coords t)) (xs0 : Vec F S2x32x256 .bf16) (xs1 : Vec F S2x32x133120 .f32) (xs2 : Vec F S2x32x128 .f32) (xs3 : Vec F S2x32x128 .f32) (xs4 : Vec F S2x32x256 .f32) f2, I c t.val xs0 xs1 xs2 xs3 xs4 →
    I c (t.val + 1) xs0 (VS0_1.read (Elt F) (VS0_1.writes (Elt F) ((Memref.isWhole_whole (κ := .tc) _ : scM0_1.IsWhole).unread xs1) (runB m hO c t hc0 hc1 hc2 hc3 hc4 xs0 xs2 xs3 xs4).2.2.1)) (VS0_2.read (Elt F) (VS0_2.writes (Elt F) f2 (runB m hO c t hc0 hc1 hc2 hc3 hc4 xs0 xs2 xs3 xs4).2.2.2.1)) xs3 xs4
  c : ∀ (c : Dev nD) (t : Fin (cfgM m hO).N) (hc0 : ¬cond0_0 (grid0.coords t)) (hc1 : ¬cond0_1 (grid0.coords t)) (hc2 : cond0_2 (grid0.coords t)) (hc3 : cond0_3 (grid0.coords t)) (hc4 : ¬cond0_4 (grid0.coords t)) (xs0 : Vec F S2x32x256 .bf16) (xs1 : Vec F S2x32x133120 .f32) (xs2 : Vec F S2x32x128 .f32) (xs3 : Vec F S2x32x128 .f32) (xs4 : Vec F S2x32x256 .f32) f2 f3 f4, I c t.val xs0 xs1 xs2 xs3 xs4 →
    I c (t.val + 1) xs0 xs1 (VS0_2.read (Elt F) (VS0_2.writes (Elt F) f2 (runC m hO c t hc0 hc1 hc2 hc3 hc4 xs0 xs1 xs2).2.2.2.1)) (VS0_3.read (Elt F) (VS0_3.writes (Elt F) f3 (runC m hO c t hc0 hc1 hc2 hc3 hc4 xs0 xs1 xs2).2.2.2.2.1)) (VS0_4.read (Elt F) (VS0_4.writes (Elt F) f4 (runC m hO c t hc0 hc1 hc2 hc3 hc4 xs0 xs1 xs2).2.2.2.2.2.1))
  d : ∀ (c : Dev nD) (t : Fin (cfgM m hO).N) (hc0 : ¬cond0_0 (grid0.coords t)) (hc1 : ¬cond0_1 (grid0.coords t)) (hc2 : ¬cond0_2 (grid0.coords t)) (hc3 : cond0_3 (grid0.coords t)) (hc4 : ¬cond0_4 (grid0.coords t)) (xs0 : Vec F S2x32x256 .bf16) (xs1 : Vec F S2x32x133120 .f32) (xs2 : Vec F S2x32x128 .f32) (xs3 : Vec F S2x32x128 .f32) (xs4 : Vec F S2x32x256 .f32) f3 f4, I c t.val xs0 xs1 xs2 xs3 xs4 →
    I c (t.val + 1) xs0 xs1 xs2 (VS0_3.read (Elt F) (VS0_3.writes (Elt F) f3 (runD m hO c t hc0 hc1 hc2 hc3 hc4 xs0 xs1 xs2 xs3 xs4).2.2.2.2.1)) (VS0_4.read (Elt F) (VS0_4.writes (Elt F) f4 (runD m hO c t hc0 hc1 hc2 hc3 hc4 xs0 xs1 xs2 xs3 xs4).2.2.2.2.2.1))
  e : ∀ (c : Dev nD) (t : Fin (cfgM m hO).N) (hc0 : ¬cond0_0 (grid0.coords t)) (hc1 : ¬cond0_1 (grid0.coords t)) (hc2 : ¬cond0_2 (grid0.coords t)) (hc3 : cond0_3 (grid0.coords t)) (hc4 : cond0_4 (grid0.coords t)) (xs0 : Vec F S2x32x256 .bf16) (xs1 : Vec F S2x32x133120 .f32) (xs2 : Vec F S2x32x128 .f32) (xs3 : Vec F S2x32x128 .f32) (xs4 : Vec F S2x32x256 .f32) f3 f4, I c t.val xs0 xs1 xs2 xs3 xs4 →
    I c (t.val + 1) xs0 xs1 xs2 (VS0_3.read (Elt F) (VS0_3.writes (Elt F) f3 (runE m hO c t hc0 hc1 hc2 hc3 hc4 xs0 xs1 xs2 xs3 xs4).2.2.2.2.1)) (VS0_4.read (Elt F) (VS0_4.writes (Elt F) f4 (runE m hO c t hc0 hc1 hc2 hc3 hc4 xs0 xs1 xs2 xs3 xs4).2.2.2.2.2.1))
  out : ∀ (c : Dev nD) (t : Fin (cfgM m hO).N) (hc0 : ¬cond0_0 (grid0.coords t)) (hc1 : ¬cond0_1 (grid0.coords t)) (hc2 : ¬cond0_2 (grid0.coords t)) (hc3 : cond0_3 (grid0.coords t)) (hc4 : cond0_4 (grid0.coords t)) (xs0 : Vec F S2x32x256 .bf16) (xs1 : Vec F S2x32x133120 .f32) (xs2 : Vec F S2x32x128 .f32) (xs3 : Vec F S2x32x128 .f32) (xs4 : Vec F S2x32x256 .f32) f, I c t.val xs0 xs1 xs2 xs3 xs4 →
    (ms0_11 m hO t).view.read (Elt F) ((ms0_11 m hO t).view.writes (Elt F) f (runE m hO c t hc0 hc1 hc2 hc3 hc4 xs0 xs1 xs2 xs3 xs4).1) = o c

variable (I : Claim5 F) (o : Dev nD → Vec F S2x32x128 .bf16)

/-- What holds before point `n`: the scratch arrays at contents of which `I` is true. -/
def Phi (c : Dev nD) (n : ℕ) : sProp 𝕄 :=
  iprop(((∃ d0 d1 d2 d3 d4, ⌜I c n d0 d1 d2 d3 d4⌝ ∗ owns (c : Thread nD τ) scM0_0 fullShare d0 ∗ owns (c : Thread nD τ) scM0_1 fullShare d1 ∗ owns (c : Thread nD τ) scM0_2 fullShare d2 ∗ owns (c : Thread nD τ) scM0_3 fullShare d3 ∗ owns (c : Thread nD τ) scM0_4 fullShare d4) ∗ (∃ r, prngReg c r)) ∗ tbPt0 c tbM0_0 (tbl m 0))

/-- The proof data of the one pipeline on core `c`. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, _⟩ => iblk m hO c 8 t
    | ⟨9, _⟩ => iblk m hO c 9 t
    | ⟨10, _⟩ => iblk m hO c 10 t
    | ⟨11, _⟩ => o c
  Φ t := Phi m I c t.val
  q _ := fullShare
  owed _ := 0

theorem A_eq (hO : Ok m) (c : Dev nD) (w : Fin (cfgM m hO).W) : (dats m I o hO 0 c).A w = V m c (Pipeline.arrRef spec0 w) := by
  dsimp only [dats]

theorem after0_0 (hO : Ok m) (c : Dev nD) (t : Fin (cfgM m hO).N) : (dats m I o hO 0 c).after 0 t = iblk m hO c 0 t := by dsimp only [dats]; try rfl
theorem after0_1 (hO : Ok m) (c : Dev nD) (t : Fin (cfgM m hO).N) : (dats m I o hO 0 c).after 1 t = iblk m hO c 1 t := by dsimp only [dats]; try rfl
theorem after0_2 (hO : Ok m) (c : Dev nD) (t : Fin (cfgM m hO).N) : (dats m I o hO 0 c).after 2 t = iblk m hO c 2 t := by dsimp only [dats]; try rfl
theorem after0_3 (hO : Ok m) (c : Dev nD) (t : Fin (cfgM m hO).N) : (dats m I o hO 0 c).after 3 t = iblk m hO c 3 t := by dsimp only [dats]; try rfl
theorem after0_4 (hO : Ok m) (c : Dev nD) (t : Fin (cfgM m hO).N) : (dats m I o hO 0 c).after 4 t = iblk m hO c 4 t := by dsimp only [dats]; try rfl
theorem after0_5 (hO : Ok m) (c : Dev nD) (t : Fin (cfgM m hO).N) : (dats m I o hO 0 c).after 5 t = iblk m hO c 5 t := by dsimp only [dats]; try rfl
theorem after0_6 (hO : Ok m) (c : Dev nD) (t : Fin (cfgM m hO).N) : (dats m I o hO 0 c).after 6 t = iblk m hO c 6 t := by dsimp only [dats]; try rfl
theorem after0_7 (hO : Ok m) (c : Dev nD) (t : Fin (cfgM m hO).N) : (dats m I o hO 0 c).after 7 t = iblk m hO c 7 t := by dsimp only [dats]; try rfl
theorem after0_8 (hO : Ok m) (c : Dev nD) (t : Fin (cfgM m hO).N) : (dats m I o hO 0 c).after 8 t = iblk m hO c 8 t := by dsimp only [dats]; try rfl
theorem after0_9 (hO : Ok m) (c : Dev nD) (t : Fin (cfgM m hO).N) : (dats m I o hO 0 c).after 9 t = iblk m hO c 9 t := by dsimp only [dats]; try rfl
theorem after0_10 (hO : Ok m) (c : Dev nD) (t : Fin (cfgM m hO).N) : (dats m I o hO 0 c).after 10 t = iblk m hO c 10 t := by dsimp only [dats]; try rfl
theorem after0_11 (hO : Ok m) (c : Dev nD) (t : Fin (cfgM m hO).N) : (dats m I o hO 0 c).after 11 t = o c := by dsimp only [dats]; try rfl

theorem before0_0 (hO : Ok m) (c : Dev nD) (t : Fin (cfgM m hO).N) (d) : (dats m I o hO 0 c).before 0 t d = iblk m hO c 0 t :=
  before0_0_of m hO (dats m I o hO 0 c) (A_eq m I o hO c 0) (after0_0 m I o hO c) t d
theorem before0_1 (hO : Ok m) (c : Dev nD) (t : Fin (cfgM m hO).N) (d) : (dats m I o hO 0 c).before 1 t d = iblk m hO c 1 t :=
  before0_1_of m hO (dats m I o hO 0 c) (A_eq m I o hO c 1) (after0_1 m I o hO c) t d
theorem before0_2 (hO : Ok m) (c : Dev nD) (t : Fin (cfgM m hO).N) (d) : (dats m I o hO 0 c).before 2 t d = iblk m hO c 2 t :=
  before0_2_of m hO (dats m I o hO 0 c) (A_eq m I o hO c 2) (after0_2 m I o hO c) t d
theorem before0_3 (hO : Ok m) (c : Dev nD) (t : Fin (cfgM m hO).N) (d) : (dats m I o hO 0 c).before 3 t d = iblk m hO c 3 t :=
  before0_3_of m hO (dats m I o hO 0 c) (A_eq m I o hO c 3) (after0_3 m I o hO c) t d
theorem before0_4 (hO : Ok m) (c : Dev nD) (t : Fin (cfgM m hO).N) (d) : (dats m I o hO 0 c).before 4 t d = iblk m hO c 4 t :=
  before0_4_of m hO (dats m I o hO 0 c) (A_eq m I o hO c 4) (after0_4 m I o hO c) t d
theorem before0_5 (hO : Ok m) (c : Dev nD) (t : Fin (cfgM m hO).N) (d) : (dats m I o hO 0 c).before 5 t d = iblk m hO c 5 t :=
  before0_5_of m hO (dats m I o hO 0 c) (A_eq m I o hO c 5) (after0_5 m I o hO c) t d
theorem before0_6 (hO : Ok m) (c : Dev nD) (t : Fin (cfgM m hO).N) (d) : (dats m I o hO 0 c).before 6 t d = iblk m hO c 6 t :=
  before0_6_of m hO (dats m I o hO 0 c) (A_eq m I o hO c 6) (after0_6 m I o hO c) t d
theorem before0_7 (hO : Ok m) (c : Dev nD) (t : Fin (cfgM m hO).N) (d) : (dats m I o hO 0 c).before 7 t d = iblk m hO c 7 t :=
  before0_7_of m hO (dats m I o hO 0 c) (A_eq m I o hO c 7) (after0_7 m I o hO c) t d
theorem before0_8 (hO : Ok m) (c : Dev nD) (t : Fin (cfgM m hO).N) (d) : (dats m I o hO 0 c).before 8 t d = iblk m hO c 8 t :=
  before0_8_of m hO (dats m I o hO 0 c) (A_eq m I o hO c 8) (after0_8 m I o hO c) t d
theorem before0_9 (hO : Ok m) (c : Dev nD) (t : Fin (cfgM m hO).N) (d) : (dats m I o hO 0 c).before 9 t d = iblk m hO c 9 t :=
  before0_9_of m hO (dats m I o hO 0 c) (A_eq m I o hO c 9) (after0_9 m I o hO c) t d
theorem before0_10 (hO : Ok m) (c : Dev nD) (t : Fin (cfgM m hO).N) (d) : (dats m I o hO 0 c).before 10 t d = iblk m hO c 10 t :=
  before0_10_of m hO (dats m I o hO 0 c) (A_eq m I o hO c 10) (after0_10 m I o hO c) t d

theorem leaves0_0 (hO : Ok m) (c : Dev nD) (t : Fin (cfgM m hO).N) : (dats m I o hO 0 c).leavesExact 0 t = owns (c : Thread nD τ) (ms0_0 m hO t) fullShare (iblk m hO c 0 t) := by
  rw [show (dats m I o hO 0 c).leavesExact 0 t = owns (c : Thread nD τ) (ms0_0 m hO t) fullShare ((dats m I o hO 0 c).after 0 t) from by
    unfold Dat.leavesExact; rw [liveAt0_0 m hO t]; try rfl, after0_0]
theorem leaves0_1 (hO : Ok m) (c : Dev nD) (t : Fin (cfgM m hO).N) : (dats m I o hO 0 c).leavesExact 1 t = owns (c : Thread nD τ) (ms0_1 m hO t) fullShare (iblk m hO c 1 t) := by
  rw [show (dats m I o hO 0 c).leavesExact 1 t = owns (c : Thread nD τ) (ms0_1 m hO t) fullShare ((dats m I o hO 0 c).after 1 t) from by
    unfold Dat.leavesExact; rw [liveAt0_1 m hO t]; try rfl, after0_1]
theorem leaves0_2 (hO : Ok m) (c : Dev nD) (t : Fin (cfgM m hO).N) : (dats m I o hO 0 c).leavesExact 2 t = owns (c : Thread nD τ) (ms0_2 m hO t) fullShare (iblk m hO c 2 t) := by
  rw [show (dats m I o hO 0 c).leavesExact 2 t = owns (c : Thread nD τ) (ms0_2 m hO t) fullShare ((dats m I o hO 0 c).after 2 t) from by
    unfold Dat.leavesExact; rw [liveAt0_2 m hO t]; try rfl, after0_2]
theorem leaves0_3 (hO : Ok m) (c : Dev nD) (t : Fin (cfgM m hO).N) : (dats m I o hO 0 c).leavesExact 3 t = owns (c : Thread nD τ) (ms0_3 m hO t) fullShare (iblk m hO c 3 t) := by
  rw [show (dats m I o hO 0 c).leavesExact 3 t = owns (c : Thread nD τ) (ms0_3 m hO t) fullShare ((dats m I o hO 0 c).after 3 t) from by
    unfold Dat.leavesExact; rw [liveAt0_3 m hO t]; try rfl, after0_3]
theorem leaves0_4 (hO : Ok m) (c : Dev nD) (t : Fin (cfgM m hO).N) : (dats m I o hO 0 c).leavesExact 4 t = owns (c : Thread nD τ) (ms0_4 m hO t) fullShare (iblk m hO c 4 t) := by
  rw [show (dats m I o hO 0 c).leavesExact 4 t = owns (c : Thread nD τ) (ms0_4 m hO t) fullShare ((dats m I o hO 0 c).after 4 t) from by
    unfold Dat.leavesExact; rw [liveAt0_4 m hO t]; try rfl, after0_4]
theorem leaves0_5 (hO : Ok m) (c : Dev nD) (t : Fin (cfgM m hO).N) : (dats m I o hO 0 c).leavesExact 5 t = owns (c : Thread nD τ) (ms0_5 m hO t) fullShare (iblk m hO c 5 t) := by
  rw [show (dats m I o hO 0 c).leavesExact 5 t = owns (c : Thread nD τ) (ms0_5 m hO t) fullShare ((dats m I o hO 0 c).after 5 t) from by
    unfold Dat.leavesExact; rw [liveAt0_5 m hO t]; try rfl, after0_5]
theorem leaves0_6 (hO : Ok m) (c : Dev nD) (t : Fin (cfgM m hO).N) : (dats m I o hO 0 c).leavesExact 6 t = owns (c : Thread nD τ) (ms0_6 m hO t) fullShare (iblk m hO c 6 t) := by
  rw [show (dats m I o hO 0 c).leavesExact 6 t = owns (c : Thread nD τ) (ms0_6 m hO t) fullShare ((dats m I o hO 0 c).after 6 t) from by
    unfold Dat.leavesExact; rw [liveAt0_6 m hO t]; try rfl, after0_6]
theorem leaves0_7 (hO : Ok m) (c : Dev nD) (t : Fin (cfgM m hO).N) : (dats m I o hO 0 c).leavesExact 7 t = owns (c : Thread nD τ) (ms0_7 m hO t) fullShare (iblk m hO c 7 t) := by
  rw [show (dats m I o hO 0 c).leavesExact 7 t = owns (c : Thread nD τ) (ms0_7 m hO t) fullShare ((dats m I o hO 0 c).after 7 t) from by
    unfold Dat.leavesExact; rw [liveAt0_7 m hO t]; try rfl, after0_7]
theorem leaves0_8 (hO : Ok m) (c : Dev nD) (t : Fin (cfgM m hO).N) : (dats m I o hO 0 c).leavesExact 8 t = owns (c : Thread nD τ) (ms0_8 m hO t) fullShare (iblk m hO c 8 t) := by
  rw [show (dats m I o hO 0 c).leavesExact 8 t = owns (c : Thread nD τ) (ms0_8 m hO t) fullShare ((dats m I o hO 0 c).after 8 t) from by
    unfold Dat.leavesExact; rw [liveAt0_8 m hO t]; try rfl, after0_8]
theorem leaves0_9 (hO : Ok m) (c : Dev nD) (t : Fin (cfgM m hO).N) : (dats m I o hO 0 c).leavesExact 9 t = owns (c : Thread nD τ) (ms0_9 m hO t) fullShare (iblk m hO c 9 t) := by
  rw [show (dats m I o hO 0 c).leavesExact 9 t = owns (c : Thread nD τ) (ms0_9 m hO t) fullShare ((dats m I o hO 0 c).after 9 t) from by
    unfold Dat.leavesExact; rw [liveAt0_9 m hO t]; try rfl, after0_9]
theorem leaves0_10 (hO : Ok m) (c : Dev nD) (t : Fin (cfgM m hO).N) : (dats m I o hO 0 c).leavesExact 10 t = owns (c : Thread nD τ) (ms0_10 m hO t) fullShare (iblk m hO c 10 t) := by
  rw [show (dats m I o hO 0 c).leavesExact 10 t = owns (c : Thread nD τ) (ms0_10 m hO t) fullShare ((dats m I o hO 0 c).after 10 t) from by
    unfold Dat.leavesExact; rw [liveAt0_10 m hO t]; try rfl, after0_10]

/-- What the body is called with at point `t`, -/
def bodyPre (hO : Ok m) (c : Dev nD) (t : Fin (cfgM m hO).N) : sProp 𝕄 :=
  iprop((dats m I o hO 0 c).Φ t.castSucc ∗ (dats m I o hO 0 c).owesAt () t.castSucc
    ∗ (∃ d, owns (c : Thread nD τ) (ms0_0 m hO t) fullShare ((dats m I o hO 0 c).before 0 t d))
    ∗ (∃ d, owns (c : Thread nD τ) (ms0_1 m hO t) fullShare ((dats m I o hO 0 c).before 1 t d))
    ∗ (∃ d, owns (c : Thread nD τ) (ms0_2 m hO t) fullShare ((dats m I o hO 0 c).before 2 t d))
    ∗ (∃ d, owns (c : Thread nD τ) (ms0_3 m hO t) fullShare ((dats m I o hO 0 c).before 3 t d))
    ∗ (∃ d, owns (c : Thread nD τ) (ms0_4 m hO t) fullShare ((dats m I o hO 0 c).before 4 t d))
    ∗ (∃ d, owns (c : Thread nD τ) (ms0_5 m hO t) fullShare ((dats m I o hO 0 c).before 5 t d))
    ∗ (∃ d, owns (c : Thread nD τ) (ms0_6 m hO t) fullShare ((dats m I o hO 0 c).before 6 t d))
    ∗ (∃ d, owns (c : Thread nD τ) (ms0_7 m hO t) fullShare ((dats m I o hO 0 c).before 7 t d))
    ∗ (∃ d, owns (c : Thread nD τ) (ms0_8 m hO t) fullShare ((dats m I o hO 0 c).before 8 t d))
    ∗ (∃ d, owns (c : Thread nD τ) (ms0_9 m hO t) fullShare ((dats m I o hO 0 c).before 9 t d))
    ∗ (∃ d, owns (c : Thread nD τ) (ms0_10 m hO t) fullShare ((dats m I o hO 0 c).before 10 t d))
    ∗ (∃ d, owns (c : Thread nD τ) (ms0_11 m hO t) fullShare ((dats m I o hO 0 c).before 11 t d)))

/-- and what it returns. -/
def bodyPost (hO : Ok m) (c : Dev nD) (t : Fin (cfgM m hO).N) : sProp 𝕄 :=
  iprop((dats m I o hO 0 c).Φ t.succ ∗ (dats m I o hO 0 c).owesAt () t.succ
    ∗ (dats m I o hO 0 c).leavesExact 0 t
    ∗ (dats m I o hO 0 c).leavesExact 1 t
    ∗ (dats m I o hO 0 c).leavesExact 2 t
    ∗ (dats m I o hO 0 c).leavesExact 3 t
    ∗ (dats m I o hO 0 c).leavesExact 4 t
    ∗ (dats m I o hO 0 c).leavesExact 5 t
    ∗ (dats m I o hO 0 c).leavesExact 6 t
    ∗ (dats m I o hO 0 c).leavesExact 7 t
    ∗ (dats m I o hO 0 c).leavesExact 8 t
    ∗ (dats m I o hO 0 c).leavesExact 9 t
    ∗ (dats m I o hO 0 c).leavesExact 10 t
    ∗ (dats m I o hO 0 c).leavesExact 11 t)

set_option maxHeartbeats 8000000 in
/-- The body at a point of case A. -/
theorem sound_bodyA (hO : Ok m) (hS : Steps m hO I o) (c : Dev nD) (t : Fin (cfgM m hO).N) (hc0 : cond0_0 (grid0.coords t)) (hc1 : cond0_1 (grid0.coords t)) (hc2 : ¬cond0_2 (grid0.coords t)) (hc3 : ¬cond0_3 (grid0.coords t)) (hc4 : ¬cond0_4 (grid0.coords t)) :
    bodyPre m I o hO c t ⊢ wp frame (wpE (defs₀ (F := F)) Variants.none c none) Set.univ (bodyAt0 (adm m hO) t) (fun _ => bodyPost m I o hO c t) := by
  unfold bodyPre bodyPost bodyAt0
  simp only [before0_0, before0_1, before0_2, before0_3, before0_4, before0_5, before0_6, before0_7, before0_8, before0_9, before0_10]
  rw [leaves0_0 m I o hO c t, leaves0_1 m I o hO c t, leaves0_2 m I o hO c t, leaves0_3 m I o hO c t, leaves0_4 m I o hO c t, leaves0_5 m I o hO c t, leaves0_6 m I o hO c t, leaves0_7 m I o hO c t, leaves0_8 m I o hO c t, leaves0_9 m I o hO c t, leaves0_10 m I o hO c t]
  rw [show (dats m I o hO 0 c).owesAt () t.succ = (dats m I o hO 0 c).owesAt () t.castSucc from rfl]
  rw [show (dats m I o hO 0 c).Φ t.succ = Phi m I c (t.val + 1) from rfl, show (dats m I o hO 0 c).Φ t.castSucc = Phi m I c t.val from rfl]
  unfold Phi
  rw [Dat.leavesExact_idle (dats m I o hO 0 c) 11 t (idleAt0_11_A m hO t hc0 hc1 hc2 hc3 hc4) (noFlush0_11_A m hO t hc0 hc1 hc2 hc3 hc4)]
  iintro ⟨⟨⟨⟨%d0, %d1, %d2, %d3, %d4, %hI, HS0, HS1, HS2, HS3, HS4⟩, Hg⟩, HT0⟩, Ho, ⟨%e0, H0⟩, ⟨%e1, H1⟩, ⟨%e2, H2⟩, ⟨%e3, H3⟩, ⟨%e4, H4⟩, ⟨%e5, H5⟩, ⟨%e6, H6⟩, ⟨%e7, H7⟩, ⟨%e8, H8⟩, ⟨%e9, H9⟩, ⟨%e10, H10⟩, ⟨%e11, H11⟩⟩
  iapply ((runA m hO c t hc0 hc1 hc2 hc3 hc4 ).2.2.2.2.2.2 _ d1 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [HS0]; · iexists _; iexact HS0
  isplitl [HS1]; · iexact HS1
  isplitl [HS2]; · iexists _; iexact HS2
  isplitl [HS3]; · iexists _; iexact HS3
  isplitl [HS4]; · iexists _; iexact HS4
  isplitl [HT0]; · iexact HT0
  iintro ⟨H0, H1, H2, H3, H4, H5, H6, H7, H8, H9, H10, H11, ⟨%g0, HS0⟩, HS1, ⟨%g2, HS2⟩, ⟨%g3, HS3⟩, ⟨%g4, HS4⟩, HT0⟩
  isplitl [HS0 HS1 HS2 HS3 HS4 Hg HT0]
  · isplitr [HT0]
    · isplitr [Hg]
      · iexists _, _, _, _, _
        isplitr; · ipureintro; exact hS.a c t hc0 hc1 hc2 hc3 hc4 d1 g0 g2 g3 g4
        isplitl [HS0]
        · unfold owns; iexists _; isplitr
          swap; · iexact HS0
          ipureintro; rfl
        isplitl [HS1]
        · unfold owns; iexists _; isplitr
          swap; · iexact HS1
          ipureintro; rfl
        isplitl [HS2]
        · unfold owns; iexists _; isplitr
          swap; · iexact HS2
          ipureintro; rfl
        isplitl [HS3]
        · unfold owns; iexists _; isplitr
          swap; · iexact HS3
          ipureintro; rfl
        unfold owns; iexists _; isplitr
        swap; · iexact HS4
        ipureintro; rfl
      iexact Hg
    iexact HT0
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexists _; iexact H11

set_option maxHeartbeats 8000000 in
/-- The body at a point of case B. -/
theorem sound_bodyB (hO : Ok m) (hS : Steps m hO I o) (c : Dev nD) (t : Fin (cfgM m hO).N) (hc0 : ¬cond0_0 (grid0.coords t)) (hc1 : cond0_1 (grid0.coords t)) (hc2 : ¬cond0_2 (grid0.coords t)) (hc3 : ¬cond0_3 (grid0.coords t)) (hc4 : ¬cond0_4 (grid0.coords t)) :
    bodyPre m I o hO c t ⊢ wp frame (wpE (defs₀ (F := F)) Variants.none c none) Set.univ (bodyAt0 (adm m hO) t) (fun _ => bodyPost m I o hO c t) := by
  unfold bodyPre bodyPost bodyAt0
  simp only [before0_0, before0_1, before0_2, before0_3, before0_4, before0_5, before0_6, before0_7, before0_8, before0_9, before0_10]
  rw [leaves0_0 m I o hO c t, leaves0_1 m I o hO c t, leaves0_2 m I o hO c t, leaves0_3 m I o hO c t, leaves0_4 m I o hO c t, leaves0_5 m I o hO c t, leaves0_6 m I o hO c t, leaves0_7 m I o hO c t, leaves0_8 m I o hO c t, leaves0_9 m I o hO c t, leaves0_10 m I o hO c t]
  rw [show (dats m I o hO 0 c).owesAt () t.succ = (dats m I o hO 0 c).owesAt () t.castSucc from rfl]
  rw [show (dats m I o hO 0 c).Φ t.succ = Phi m I c (t.val + 1) from rfl, show (dats m I o hO 0 c).Φ t.castSucc = Phi m I c t.val from rfl]
  unfold Phi
  rw [Dat.leavesExact_idle (dats m I o hO 0 c) 11 t (idleAt0_11_B m hO t hc0 hc1 hc2 hc3 hc4) (noFlush0_11_B m hO t hc0 hc1 hc2 hc3 hc4)]
  iintro ⟨⟨⟨⟨%d0, %d1, %d2, %d3, %d4, %hI, HS0, HS1, HS2, HS3, HS4⟩, Hg⟩, HT0⟩, Ho, ⟨%e0, H0⟩, ⟨%e1, H1⟩, ⟨%e2, H2⟩, ⟨%e3, H3⟩, ⟨%e4, H4⟩, ⟨%e5, H5⟩, ⟨%e6, H6⟩, ⟨%e7, H7⟩, ⟨%e8, H8⟩, ⟨%e9, H9⟩, ⟨%e10, H10⟩, ⟨%e11, H11⟩⟩
  iapply ((runB m hO c t hc0 hc1 hc2 hc3 hc4 d0 d2 d3 d4).2.2.2.2.2.2 _ d1 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [HS0]; · iexact HS0
  isplitl [HS1]; · iexact HS1
  isplitl [HS2]; · iexact HS2
  isplitl [HS3]; · iexact HS3
  isplitl [HS4]; · iexact HS4
  isplitl [HT0]; · iexact HT0
  iintro ⟨H0, H1, H2, H3, H4, H5, H6, H7, H8, H9, H10, H11, HS0, HS1, ⟨%g2, HS2⟩, HS3, HS4, HT0⟩
  isplitl [HS0 HS1 HS2 HS3 HS4 Hg HT0]
  · isplitr [HT0]
    · isplitr [Hg]
      · iexists _, _, _, _, _
        isplitr; · ipureintro; exact hS.b c t hc0 hc1 hc2 hc3 hc4 d0 d1 d2 d3 d4 g2 hI
        isplitl [HS0]; · iexact HS0
        isplitl [HS1]
        · unfold owns; iexists _; isplitr
          swap; · iexact HS1
          ipureintro; rfl
        isplitl [HS2]
        · unfold owns; iexists _; isplitr
          swap; · iexact HS2
          ipureintro; rfl
        isplitl [HS3]; · iexact HS3
        iexact HS4
      iexact Hg
    iexact HT0
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexists _; iexact H11

set_option maxHeartbeats 8000000 in
/-- The body at a point of case C. -/
theorem sound_bodyC (hO : Ok m) (hS : Steps m hO I o) (c : Dev nD) (t : Fin (cfgM m hO).N) (hc0 : ¬cond0_0 (grid0.coords t)) (hc1 : ¬cond0_1 (grid0.coords t)) (hc2 : cond0_2 (grid0.coords t)) (hc3 : cond0_3 (grid0.coords t)) (hc4 : ¬cond0_4 (grid0.coords t)) :
    bodyPre m I o hO c t ⊢ wp frame (wpE (defs₀ (F := F)) Variants.none c none) Set.univ (bodyAt0 (adm m hO) t) (fun _ => bodyPost m I o hO c t) := by
  unfold bodyPre bodyPost bodyAt0
  simp only [before0_0, before0_1, before0_2, before0_3, before0_4, before0_5, before0_6, before0_7, before0_8, before0_9, before0_10]
  rw [leaves0_0 m I o hO c t, leaves0_1 m I o hO c t, leaves0_2 m I o hO c t, leaves0_3 m I o hO c t, leaves0_4 m I o hO c t, leaves0_5 m I o hO c t, leaves0_6 m I o hO c t, leaves0_7 m I o hO c t, leaves0_8 m I o hO c t, leaves0_9 m I o hO c t, leaves0_10 m I o hO c t]
  rw [show (dats m I o hO 0 c).owesAt () t.succ = (dats m I o hO 0 c).owesAt () t.castSucc from rfl]
  rw [show (dats m I o hO 0 c).Φ t.succ = Phi m I c (t.val + 1) from rfl, show (dats m I o hO 0 c).Φ t.castSucc = Phi m I c t.val from rfl]
  unfold Phi
  rw [Dat.leavesExact_idle (dats m I o hO 0 c) 11 t (idleAt0_11_C m hO t hc0 hc1 hc2 hc3 hc4) (noFlush0_11_C m hO t hc0 hc1 hc2 hc3 hc4)]
  iintro ⟨⟨⟨⟨%d0, %d1, %d2, %d3, %d4, %hI, HS0, HS1, HS2, HS3, HS4⟩, Hg⟩, HT0⟩, Ho, ⟨%e0, H0⟩, ⟨%e1, H1⟩, ⟨%e2, H2⟩, ⟨%e3, H3⟩, ⟨%e4, H4⟩, ⟨%e5, H5⟩, ⟨%e6, H6⟩, ⟨%e7, H7⟩, ⟨%e8, H8⟩, ⟨%e9, H9⟩, ⟨%e10, H10⟩, ⟨%e11, H11⟩⟩
  iapply ((runC m hO c t hc0 hc1 hc2 hc3 hc4 d0 d1 d2).2.2.2.2.2.2 _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [HS0]; · iexact HS0
  isplitl [HS1]; · iexact HS1
  isplitl [HS2]; · iexact HS2
  isplitl [HS3]; · iexists _; iexact HS3
  isplitl [HS4]; · iexists _; iexact HS4
  isplitl [HT0]; · iexact HT0
  iintro ⟨H0, H1, H2, H3, H4, H5, H6, H7, H8, H9, H10, H11, HS0, HS1, ⟨%g2, HS2⟩, ⟨%g3, HS3⟩, ⟨%g4, HS4⟩, HT0⟩
  isplitl [HS0 HS1 HS2 HS3 HS4 Hg HT0]
  · isplitr [HT0]
    · isplitr [Hg]
      · iexists _, _, _, _, _
        isplitr; · ipureintro; exact hS.c c t hc0 hc1 hc2 hc3 hc4 d0 d1 d2 d3 d4 g2 g3 g4 hI
        isplitl [HS0]; · iexact HS0
        isplitl [HS1]; · iexact HS1
        isplitl [HS2]
        · unfold owns; iexists _; isplitr
          swap; · iexact HS2
          ipureintro; rfl
        isplitl [HS3]
        · unfold owns; iexists _; isplitr
          swap; · iexact HS3
          ipureintro; rfl
        unfold owns; iexists _; isplitr
        swap; · iexact HS4
        ipureintro; rfl
      iexact Hg
    iexact HT0
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexists _; iexact H11

set_option maxHeartbeats 8000000 in
/-- The body at a point of case D. -/
theorem sound_bodyD (hO : Ok m) (hS : Steps m hO I o) (c : Dev nD) (t : Fin (cfgM m hO).N) (hc0 : ¬cond0_0 (grid0.coords t)) (hc1 : ¬cond0_1 (grid0.coords t)) (hc2 : ¬cond0_2 (grid0.coords t)) (hc3 : cond0_3 (grid0.coords t)) (hc4 : ¬cond0_4 (grid0.coords t)) :
    bodyPre m I o hO c t ⊢ wp frame (wpE (defs₀ (F := F)) Variants.none c none) Set.univ (bodyAt0 (adm m hO) t) (fun _ => bodyPost m I o hO c t) := by
  unfold bodyPre bodyPost bodyAt0
  simp only [before0_0, before0_1, before0_2, before0_3, before0_4, before0_5, before0_6, before0_7, before0_8, before0_9, before0_10]
  rw [leaves0_0 m I o hO c t, leaves0_1 m I o hO c t, leaves0_2 m I o hO c t, leaves0_3 m I o hO c t, leaves0_4 m I o hO c t, leaves0_5 m I o hO c t, leaves0_6 m I o hO c t, leaves0_7 m I o hO c t, leaves0_8 m I o hO c t, leaves0_9 m I o hO c t, leaves0_10 m I o hO c t]
  rw [show (dats m I o hO 0 c).owesAt () t.succ = (dats m I o hO 0 c).owesAt () t.castSucc from rfl]
  rw [show (dats m I o hO 0 c).Φ t.succ = Phi m I c (t.val + 1) from rfl, show (dats m I o hO 0 c).Φ t.castSucc = Phi m I c t.val from rfl]
  unfold Phi
  rw [Dat.leavesExact_idle (dats m I o hO 0 c) 11 t (idleAt0_11_D m hO t hc0 hc1 hc2 hc3 hc4) (noFlush0_11_D m hO t hc0 hc1 hc2 hc3 hc4)]
  iintro ⟨⟨⟨⟨%d0, %d1, %d2, %d3, %d4, %hI, HS0, HS1, HS2, HS3, HS4⟩, Hg⟩, HT0⟩, Ho, ⟨%e0, H0⟩, ⟨%e1, H1⟩, ⟨%e2, H2⟩, ⟨%e3, H3⟩, ⟨%e4, H4⟩, ⟨%e5, H5⟩, ⟨%e6, H6⟩, ⟨%e7, H7⟩, ⟨%e8, H8⟩, ⟨%e9, H9⟩, ⟨%e10, H10⟩, ⟨%e11, H11⟩⟩
  iapply ((runD m hO c t hc0 hc1 hc2 hc3 hc4 d0 d1 d2 d3 d4).2.2.2.2.2.2 _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [HS0]; · iexact HS0
  isplitl [HS1]; · iexact HS1
  isplitl [HS2]; · iexact HS2
  isplitl [HS3]; · iexact HS3
  isplitl [HS4]; · iexact HS4
  isplitl [HT0]; · iexact HT0
  iintro ⟨H0, H1, H2, H3, H4, H5, H6, H7, H8, H9, H10, H11, HS0, HS1, HS2, ⟨%g3, HS3⟩, ⟨%g4, HS4⟩, HT0⟩
  isplitl [HS0 HS1 HS2 HS3 HS4 Hg HT0]
  · isplitr [HT0]
    · isplitr [Hg]
      · iexists _, _, _, _, _
        isplitr; · ipureintro; exact hS.d c t hc0 hc1 hc2 hc3 hc4 d0 d1 d2 d3 d4 g3 g4 hI
        isplitl [HS0]; · iexact HS0
        isplitl [HS1]; · iexact HS1
        isplitl [HS2]; · iexact HS2
        isplitl [HS3]
        · unfold owns; iexists _; isplitr
          swap; · iexact HS3
          ipureintro; rfl
        unfold owns; iexists _; isplitr
        swap; · iexact HS4
        ipureintro; rfl
      iexact Hg
    iexact HT0
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexists _; iexact H11

set_option maxHeartbeats 8000000 in
/-- The body at a point of case E. -/
theorem sound_bodyE (hO : Ok m) (hS : Steps m hO I o) (c : Dev nD) (t : Fin (cfgM m hO).N) (hc0 : ¬cond0_0 (grid0.coords t)) (hc1 : ¬cond0_1 (grid0.coords t)) (hc2 : ¬cond0_2 (grid0.coords t)) (hc3 : cond0_3 (grid0.coords t)) (hc4 : cond0_4 (grid0.coords t)) :
    bodyPre m I o hO c t ⊢ wp frame (wpE (defs₀ (F := F)) Variants.none c none) Set.univ (bodyAt0 (adm m hO) t) (fun _ => bodyPost m I o hO c t) := by
  unfold bodyPre bodyPost bodyAt0
  simp only [before0_0, before0_1, before0_2, before0_3, before0_4, before0_5, before0_6, before0_7, before0_8, before0_9, before0_10]
  rw [leaves0_0 m I o hO c t, leaves0_1 m I o hO c t, leaves0_2 m I o hO c t, leaves0_3 m I o hO c t, leaves0_4 m I o hO c t, leaves0_5 m I o hO c t, leaves0_6 m I o hO c t, leaves0_7 m I o hO c t, leaves0_8 m I o hO c t, leaves0_9 m I o hO c t, leaves0_10 m I o hO c t]
  rw [show (dats m I o hO 0 c).owesAt () t.succ = (dats m I o hO 0 c).owesAt () t.castSucc from rfl]
  rw [show (dats m I o hO 0 c).Φ t.succ = Phi m I c (t.val + 1) from rfl, show (dats m I o hO 0 c).Φ t.castSucc = Phi m I c t.val from rfl]
  unfold Phi
  rw [show (dats m I o hO 0 c).leavesExact 11 t = owns (c : Thread nD τ) (ms0_11 m hO t) fullShare ((dats m I o hO 0 c).after 11 t) from by
    unfold Dat.leavesExact; rw [liveAt0_11_E m hO t hc0 hc1 hc2 hc3 hc4]; try rfl, after0_11]
  iintro ⟨⟨⟨⟨%d0, %d1, %d2, %d3, %d4, %hI, HS0, HS1, HS2, HS3, HS4⟩, Hg⟩, HT0⟩, Ho, ⟨%e0, H0⟩, ⟨%e1, H1⟩, ⟨%e2, H2⟩, ⟨%e3, H3⟩, ⟨%e4, H4⟩, ⟨%e5, H5⟩, ⟨%e6, H6⟩, ⟨%e7, H7⟩, ⟨%e8, H8⟩, ⟨%e9, H9⟩, ⟨%e10, H10⟩, ⟨%e11, H11⟩⟩
  iapply ((runE m hO c t hc0 hc1 hc2 hc3 hc4 d0 d1 d2 d3 d4).2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [HS0]; · iexact HS0
  isplitl [HS1]; · iexact HS1
  isplitl [HS2]; · iexact HS2
  isplitl [HS3]; · iexact HS3
  isplitl [HS4]; · iexact HS4
  isplitl [HT0]; · iexact HT0
  iintro ⟨H0, H1, H2, H3, H4, H5, H6, H7, H8, H9, H10, ⟨%g11, H11⟩, HS0, HS1, HS2, ⟨%g3, HS3⟩, ⟨%g4, HS4⟩, HT0⟩
  isplitl [HS0 HS1 HS2 HS3 HS4 Hg HT0]
  · isplitr [HT0]
    · isplitr [Hg]
      · iexists _, _, _, _, _
        isplitr; · ipureintro; exact hS.e c t hc0 hc1 hc2 hc3 hc4 d0 d1 d2 d3 d4 g3 g4 hI
        isplitl [HS0]; · iexact HS0
        isplitl [HS1]; · iexact HS1
        isplitl [HS2]; · iexact HS2
        isplitl [HS3]
        · unfold owns; iexists _; isplitr
          swap; · iexact HS3
          ipureintro; rfl
        unfold owns; iexists _; isplitr
        swap; · iexact HS4
        ipureintro; rfl
      iexact Hg
    iexact HT0
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  unfold owns; iexists _; isplitr
  swap; · iexact H11
  ipureintro; exact hS.out c t hc0 hc1 hc2 hc3 hc4 d0 d1 d2 d3 d4 g11 hI

/-- The body at any point: the five cases. -/
theorem sound_body (hO : Ok m) (hS : Steps m hO I o) (c : Dev nD) (t : Fin (cfgM m hO).N) :
    bodyPre m I o hO c t ⊢ wp frame (wpE (defs₀ (F := F)) Variants.none c none) Set.univ (bodyAt0 (adm m hO) t) (fun _ => bodyPost m I o hO c t) := by
  have hN : t.val < 64 := lt_of_lt_of_eq t.isLt (show (cfgM m hO).N = 64 from N_0)
  by_cases h0 : t.val % 64 = 0
  · have h1 : t.val < 32 := by omega
    have h2 : ¬t.val % 64 = 32 := by omega
    have h3 : ¬32 ≤ t.val := by omega
    have h4 : ¬t.val % 64 = 63 := by omega
    exact sound_bodyA m I o hO hS c t ((hcond0_0 t).mpr h0) ((hcond0_1 t).mpr h1) (fun h => h2 ((hcond0_2 t).mp h)) (fun h => h3 ((hcond0_3 t).mp h)) (fun h => h4 ((hcond0_4 t).mp h))
  · by_cases h1 : t.val < 32
    · have h2 : ¬t.val % 64 = 32 := by omega
      have h3 : ¬32 ≤ t.val := by omega
      have h4 : ¬t.val % 64 = 63 := by omega
      exact sound_bodyB m I o hO hS c t (fun h => h0 ((hcond0_0 t).mp h)) ((hcond0_1 t).mpr h1) (fun h => h2 ((hcond0_2 t).mp h)) (fun h => h3 ((hcond0_3 t).mp h)) (fun h => h4 ((hcond0_4 t).mp h))
    · have h3 : 32 ≤ t.val := by omega
      by_cases h2 : t.val % 64 = 32
      · have h4 : ¬t.val % 64 = 63 := by omega
        exact sound_bodyC m I o hO hS c t (fun h => h0 ((hcond0_0 t).mp h)) (fun h => h1 ((hcond0_1 t).mp h)) ((hcond0_2 t).mpr h2) ((hcond0_3 t).mpr h3) (fun h => h4 ((hcond0_4 t).mp h))
      · by_cases h4 : t.val % 64 = 63
        · exact sound_bodyE m I o hO hS c t (fun h => h0 ((hcond0_0 t).mp h)) (fun h => h1 ((hcond0_1 t).mp h)) (fun h => h2 ((hcond0_2 t).mp h)) ((hcond0_3 t).mpr h3) ((hcond0_4 t).mpr h4)
        · exact sound_bodyD m I o hO hS c t (fun h => h0 ((hcond0_0 t).mp h)) (fun h => h1 ((hcond0_1 t).mp h)) (fun h => h2 ((hcond0_2 t).mp h)) ((hcond0_3 t).mpr h3) (fun h => h4 ((hcond0_4 t).mp h))

theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The body's triple in the pipeline's own terms. -/
theorem body_obligation (hO : Ok m) (hS : Steps m hO I o) (c : Dev nD) : BodyObligation (dats (F := F) m I o hO 0 c) (defs₀ (F := F)) Variants.none () Set.univ := fun t => by
  rw [bigSep_W0, bigSep_W0, defs₀_row m hO]
  exact triple_restated (sound_body m I o hO hS c t) rfl .rfl fun _ => .rfl

/-- What the launch hands over is what holds before the first point. -/
theorem hin (hO : Ok m) (h0 : ∀ c d0 d1 d2 d3 d4, I c 0 d0 d1 d2 d3 d4) (c : Dev nD) : iprop(Pipeline.ΦA spec0 c ∗ Pipeline.ΦT pre0 (tbl m) c) ⊢ (dats m I o hO 0 c).Φ 0 := by
  rw [show (dats m I o hO 0 c).Φ 0 = Phi m I c 0 from rfl, PhiA0_eq, PhiT0_eq]
  unfold Phi
  iintro ⟨⟨⟨⟨%d0, HS0⟩, ⟨%d1, HS1⟩, ⟨%d2, HS2⟩, ⟨%d3, HS3⟩, ⟨%d4, HS4⟩⟩, Hg⟩, HT⟩
  isplitr [HT]
  · isplitr [Hg]
    · iexists d0, d1, d2, d3, d4
      isplitr; · ipureintro; exact h0 c d0 d1 d2 d3 d4
      isplitl [HS0]; · iexact HS0
      isplitl [HS1]; · iexact HS1
      isplitl [HS2]; · iexact HS2
      isplitl [HS3]; · iexact HS3
      iexact HS4
    iexact Hg
  iexact HT

/-- After the last point the scratch arrays are given back. -/
theorem hout (hO : Ok m) (c : Dev nD) : (dats m I o hO 0 c).Φ (Fin.last (cfgM m hO).N) ⊢ Pipeline.ΦA spec0 c := by
  rw [show (dats m I o hO 0 c).Φ (Fin.last (cfgM m hO).N) = Phi m I c (Fin.last (cfgM m hO).N).val from rfl, PhiA0_eq]
  unfold Phi
  iintro ⟨⟨⟨%d0, %d1, %d2, %d3, %d4, -, HS0, HS1, HS2, HS3, HS4⟩, Hg⟩, -⟩
  isplitr [Hg]
  · isplitl [HS0]
    · iexists _; iexact HS0
    isplitl [HS1]
    · iexists _; iexact HS1
    isplitl [HS2]
    · iexists _; iexact HS2
    isplitl [HS3]
    · iexists _; iexact HS3
    iexists _; iexact HS4
  iexact Hg

set_option backward.isDefEq.respectTransparency.types false in
/-- The whole program ends, with every counter at zero, the arguments unchanged and the result array as the proof data says. -/
theorem run_main (hO : Ok m) (hS : Steps m hO I o) (h0 : ∀ c d0 d1 d2 d3 d4, I c 0 d0 d1 d2 d3 d4) : θ_run defs (onTc (τ := τ) (main (F := F))) (s₀ m ρ) (fun r => (Pipeline.FramePost (Pipeline.pin pcfgs fun _ => adm m hO) (dats m I o hO) 0 (V m)) r ∧ r.2.sem = fun _ => 0) :=
  Pipeline.θ_run_frameP_track (Q' := _) pcfgs (fun _ => adm m hO) (dats m I o hO) (0 : Fin 1) launch0 defs₀ Variants.none m ρ main
    (hbody := fun c => (body_obligation m I o hO hS c).loose) (hshare := fun c => (dats m I o hO 0 c).share_full fun _ => rfl)
    (howed := fun _ _ => rfl) (V := V m) (hmain := hmain m Variants.none) (hA := A_eq m I o hO) (hpf := V_pre m) (hin := hin m I o hO h0) (hout := hout m I o hO)

end Cert.KernelIdeal.Gen

end
-- ==== Proof.Val.Blocks.lean ====
/- The blocks that the kernel's points read, as entries of the argument arrays. -/
module

public import proofs.«01_k».proof.Proof.Val.Tiles
public import proofs.«01_k».proof.Proof.Val.Input
public import proofs.«01_k».proof.Proof.KI.Frame
public import Idealize.ShloMosaic.Lib.Pipeline.ValueKit

@[expose] public section

set_option maxRecDepth 16384

noncomputable section

namespace Cert.KernelIdeal.Gen

open Idealize.ShloMosaic Idealize.ShloMosaic.TcCoe Idealize.ShloMosaic.Tactic
open Cert.Attn Finset

theorem ax {x v n k r : ℕ} (h : x = v) (e : v * n + k = r) : x * n + k = r := by rw [h, e]

variable (m : (ℓ : Loc nD τ sig) → Buf (Elt Ideal) ℓ)

theorem idx0 (hO : Ok m) (t : Fin (cfgM m hO).N) : (((cfgM m hO).win 0).index t : Fin 3 → ℕ) = ![0, 0, 0] :=
  (by decide +kernel : ∀ t : Fin grid0.N, cc0_transform_0 (grid0.coords t) = ![0, 0, 0]) t
theorem blk0 (hO : Ok m) (c : Dev nD) (t : Fin (cfgM m hO).N) (b : Fin 2) (h : Fin 32) (d : Fin 128) :
    iblk m hO c 0 t (ix3 b h d) = m ((c : Thread nD τ).loc main_arg0) (ix4 b 0 h d) := by
  have e : iblk m hO c 0 t (ix3 b h d) = V m c main_v4 (ix3 b h d) := by
    blk_ext [iblk]
    · exact ax (congrFun (idx0 m hO t) (0 : Fin 3)) (by simp)
    · exact ax (congrFun (idx0 m hO t) (1 : Fin 3)) (by simp)
    · exact ax (congrFun (idx0 m hO t) (2 : Fin 3)) (by simp)
  rw [e]
  entry_read
  pointwise []
theorem idx1 (hO : Ok m) (t : Fin (cfgM m hO).N) : (((cfgM m hO).win 1).index t : Fin 3 → ℕ) = ![0, 0, 0] :=
  (by decide +kernel : ∀ t : Fin grid0.N, cc0_transform_1 (grid0.coords t) = ![0, 0, 0]) t
theorem blk1 (hO : Ok m) (c : Dev nD) (t : Fin (cfgM m hO).N) (b : Fin 2) (h : Fin 4) (d : Fin 128) :
    iblk m hO c 1 t (ix3 b h d) = m ((c : Thread nD τ).loc main_arg1) (ix4 b 0 h d) := by
  have e : iblk m hO c 1 t (ix3 b h d) = V m c main_v5 (ix3 b h d) := by
    blk_ext [iblk]
    · exact ax (congrFun (idx1 m hO t) (0 : Fin 3)) (by simp)
    · exact ax (congrFun (idx1 m hO t) (1 : Fin 3)) (by simp)
    · exact ax (congrFun (idx1 m hO t) (2 : Fin 3)) (by simp)
  rw [e]
  entry_read
  pointwise []
theorem idx2 (hO : Ok m) (t : Fin (cfgM m hO).N) : (((cfgM m hO).win 2).index t : Fin 3 → ℕ) = ![0, 0, 0] :=
  (by decide +kernel : ∀ t : Fin grid0.N, cc0_transform_2 (grid0.coords t) = ![0, 0, 0]) t
theorem blk2 (hO : Ok m) (c : Dev nD) (t : Fin (cfgM m hO).N) (b : Fin 2) (h : Fin 4) (d : Fin 128) :
    iblk m hO c 2 t (ix3 b h d) = m ((c : Thread nD τ).loc main_arg2) (ix4 b 0 h d) := by
  have e : iblk m hO c 2 t (ix3 b h d) = V m c main_v6 (ix3 b h d) := by
    blk_ext [iblk]
    · exact ax (congrFun (idx2 m hO t) (0 : Fin 3)) (by simp)
    · exact ax (congrFun (idx2 m hO t) (1 : Fin 3)) (by simp)
    · exact ax (congrFun (idx2 m hO t) (2 : Fin 3)) (by simp)
  rw [e]
  entry_read
  pointwise []
theorem idx7 (hO : Ok m) (t : Fin (cfgM m hO).N) : (((cfgM m hO).win 7).index t : Fin 4 → ℕ) = ![0, 0, 0, 0] :=
  (by decide +kernel : ∀ t : Fin grid0.N, cc0_transform_7 (grid0.coords t) = ![0, 0, 0, 0]) t
theorem blk7 (hO : Ok m) (c : Dev nD) (t : Fin (cfgM m hO).N) (b : Fin 2) (h : Fin 1024) (g : Fin 4) (d : Fin 128) :
    iblk m hO c 7 t (ix4 b h g d) = m ((c : Thread nD τ).loc main_arg7) (ix4 b h g d) := by
  have e : iblk m hO c 7 t (ix4 b h g d) = V m c main_arg7 (ix4 b h g d) := by
    blk_ext [iblk]
    · exact ax (congrFun (idx7 m hO t) (0 : Fin 4)) (by simp)
    · exact ax (congrFun (idx7 m hO t) (1 : Fin 4)) (by simp)
    · exact ax (congrFun (idx7 m hO t) (2 : Fin 4)) (by simp)
    · exact ax (congrFun (idx7 m hO t) (3 : Fin 4)) (by simp)
  rw [e]
  entry_read
  rfl
theorem idx8 (hO : Ok m) (t : Fin (cfgM m hO).N) : (((cfgM m hO).win 8).index t : Fin 4 → ℕ) = ![0, 0, 0, 0] :=
  (by decide +kernel : ∀ t : Fin grid0.N, cc0_transform_8 (grid0.coords t) = ![0, 0, 0, 0]) t
theorem blk8 (hO : Ok m) (c : Dev nD) (t : Fin (cfgM m hO).N) (b : Fin 2) (h : Fin 1024) (g : Fin 4) (d : Fin 128) :
    iblk m hO c 8 t (ix4 b h g d) = m ((c : Thread nD τ).loc main_arg8) (ix4 b h g d) := by
  have e : iblk m hO c 8 t (ix4 b h g d) = V m c main_arg8 (ix4 b h g d) := by
    blk_ext [iblk]
    · exact ax (congrFun (idx8 m hO t) (0 : Fin 4)) (by simp)
    · exact ax (congrFun (idx8 m hO t) (1 : Fin 4)) (by simp)
    · exact ax (congrFun (idx8 m hO t) (2 : Fin 4)) (by simp)
    · exact ax (congrFun (idx8 m hO t) (3 : Fin 4)) (by simp)
  rw [e]
  entry_read
  rfl
theorem idx9 (hO : Ok m) (t : Fin (cfgM m hO).N) : (((cfgM m hO).win 9).index t : Fin 3 → ℕ) = ![0, 0, 0] :=
  (by decide +kernel : ∀ t : Fin grid0.N, cc0_transform_9 (grid0.coords t) = ![0, 0, 0]) t
theorem blk9 (hO : Ok m) (c : Dev nD) (t : Fin (cfgM m hO).N) (b : Fin 2) (g : Fin 4) (h : Fin 1024) :
    iblk m hO c 9 t (ix3 b g h) = m ((c : Thread nD τ).loc main_arg9) (ix3 b h g) := by
  have e : iblk m hO c 9 t (ix3 b g h) = V m c main_v2 (ix3 b g h) := by
    blk_ext [iblk]
    · exact ax (congrFun (idx9 m hO t) (0 : Fin 3)) (by simp)
    · exact ax (congrFun (idx9 m hO t) (1 : Fin 3)) (by simp)
    · exact ax (congrFun (idx9 m hO t) (2 : Fin 3)) (by simp)
  rw [e]
  entry_read
  pointwise []
theorem idx10 (hO : Ok m) (t : Fin (cfgM m hO).N) : (((cfgM m hO).win 10).index t : Fin 3 → ℕ) = ![0, 0, 0] :=
  (by decide +kernel : ∀ t : Fin grid0.N, cc0_transform_10 (grid0.coords t) = ![0, 0, 0]) t
theorem blk10 (hO : Ok m) (c : Dev nD) (t : Fin (cfgM m hO).N) (b : Fin 2) (g : Fin 4) (h : Fin 1024) :
    iblk m hO c 10 t (ix3 b g h) = m ((c : Thread nD τ).loc main_arg10) (ix3 b h g) := by
  have e : iblk m hO c 10 t (ix3 b g h) = V m c main_v3 (ix3 b g h) := by
    blk_ext [iblk]
    · exact ax (congrFun (idx10 m hO t) (0 : Fin 3)) (by simp)
    · exact ax (congrFun (idx10 m hO t) (1 : Fin 3)) (by simp)
    · exact ax (congrFun (idx10 m hO t) (2 : Fin 3)) (by simp)
  rw [e]
  entry_read
  pointwise []
theorem idx3 (hO : Ok m) (t : Fin (cfgM m hO).N) : (((cfgM m hO).win 3).index t : Fin 2 → ℕ) = ![if t.val < 32 then t.val else 31, 0] :=
  (by decide +kernel : ∀ t : Fin grid0.N, cc0_transform_3 (grid0.coords t) = ![if t.val < 32 then t.val else 31, 0]) t
theorem blk3 (hO : Ok m) (c : Dev nD) (t : Fin (cfgM m hO).N) (hN : t.val < 64) (ht : t.val < 32) (a : Fin 16384) (d : Fin 128) :
    iblk m hO c 3 t (ix2 a d) = m ((c : Thread nD τ).loc main_arg3) (ix3 ⟨4096 * t.val + a.val / 4, by omega⟩ ⟨a.val % 4, by omega⟩ d) := by
  have e : iblk m hO c 3 t (ix2 a d) = V m c main_v0 (ix2 ⟨16384 * t.val + a.val, by omega⟩ d) := by
    blk_ext [iblk]
    · exact ax ((congrFun (idx3 m hO t) (0 : Fin 2)).trans (if_pos ht)) (by omega)
    · exact ax (congrFun (idx3 m hO t) (1 : Fin 2)) (by simp)
  rw [e]
  entry_read
  pointwise []
  blk_ext []
theorem idx4 (hO : Ok m) (t : Fin (cfgM m hO).N) : (((cfgM m hO).win 4).index t : Fin 2 → ℕ) = ![if t.val < 32 then 0 else t.val - 32, 0] :=
  (by decide +kernel : ∀ t : Fin grid0.N, cc0_transform_4 (grid0.coords t) = ![if t.val < 32 then 0 else t.val - 32, 0]) t
theorem blk4 (hO : Ok m) (c : Dev nD) (t : Fin (cfgM m hO).N) (hN : t.val < 64) (ht : 32 ≤ t.val) (a : Fin 16384) (d : Fin 128) :
    iblk m hO c 4 t (ix2 a d) = m ((c : Thread nD τ).loc main_arg4) (ix3 ⟨4096 * (t.val - 32) + a.val / 4, by omega⟩ ⟨a.val % 4, by omega⟩ d) := by
  have e : iblk m hO c 4 t (ix2 a d) = V m c main_v1 (ix2 ⟨16384 * (t.val - 32) + a.val, by omega⟩ d) := by
    blk_ext [iblk]
    · exact ax ((congrFun (idx4 m hO t) (0 : Fin 2)).trans (if_neg (by omega))) (by omega)
    · exact ax (congrFun (idx4 m hO t) (1 : Fin 2)) (by simp)
  rw [e]
  entry_read
  pointwise []
  blk_ext []
theorem idx5 (hO : Ok m) (t : Fin (cfgM m hO).N) : (((cfgM m hO).win 5).index t : Fin 2 → ℕ) = ![0, if t.val < 32 then t.val else 31] :=
  (by decide +kernel : ∀ t : Fin grid0.N, cc0_transform_5 (grid0.coords t) = ![0, if t.val < 32 then t.val else 31]) t
theorem blk5 (hO : Ok m) (c : Dev nD) (t : Fin (cfgM m hO).N) (hN : t.val < 64) (ht : t.val < 32) (g : Fin 4) (x : Fin 4096) :
    iblk m hO c 5 t (ix2 g x) = m ((c : Thread nD τ).loc main_arg5) (ix2 ⟨4096 * t.val + x.val, by omega⟩ g) := by
  have e : iblk m hO c 5 t (ix2 g x) = V m c main_v7 (ix2 g ⟨4096 * t.val + x.val, by omega⟩) := by
    blk_ext [iblk]
    · exact ax (congrFun (idx5 m hO t) (0 : Fin 2)) (by simp)
    · exact ax ((congrFun (idx5 m hO t) (1 : Fin 2)).trans (if_pos ht)) (by omega)
  rw [e]
  entry_read
  pointwise []
theorem idx6 (hO : Ok m) (t : Fin (cfgM m hO).N) : (((cfgM m hO).win 6).index t : Fin 2 → ℕ) = ![0, if t.val < 32 then 0 else t.val - 32] :=
  (by decide +kernel : ∀ t : Fin grid0.N, cc0_transform_6 (grid0.coords t) = ![0, if t.val < 32 then 0 else t.val - 32]) t
theorem blk6 (hO : Ok m) (c : Dev nD) (t : Fin (cfgM m hO).N) (hN : t.val < 64) (ht : 32 ≤ t.val) (g : Fin 4) (x : Fin 4096) :
    iblk m hO c 6 t (ix2 g x) = m ((c : Thread nD τ).loc main_arg6) (ix2 ⟨4096 * (t.val - 32) + x.val, by omega⟩ g) := by
  have e : iblk m hO c 6 t (ix2 g x) = V m c main_v8 (ix2 g ⟨4096 * (t.val - 32) + x.val, by omega⟩) := by
    blk_ext [iblk]
    · exact ax (congrFun (idx6 m hO t) (0 : Fin 2)) (by simp)
    · exact ax ((congrFun (idx6 m hO t) (1 : Fin 2)).trans (if_neg (by omega))) (by omega)
  rw [e]
  entry_read
  pointwise []

/-- The inputs that the memory holds. -/
def inM (c : Dev nD) : In :=
  inOf (m ((c : Thread nD τ).loc main_arg0)) (m ((c : Thread nD τ).loc main_arg1)) (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7)) (m ((c : Thread nD τ).loc main_arg8)) (m ((c : Thread nD τ).loc main_arg9))
    (m ((c : Thread nD τ).loc main_arg10)) (m ((c : Thread nD τ).loc main_arg11))

theorem rdLen_at {c : Dev nD} (xt : TbBuf0 (F := Ideal) c tbM0_0) (b : ℕ) : rdLen (F := Ideal) xt b = xt (ix1 (Fin.ofNat 2 b)) := by
  unfold rdLen
  rw [View.readAt_eq_ld]
  refine View.ld_unit_apply_of _ _ _ _ _ (ix1 (Fin.ofNat 2 b)) fun a => ?_
  fin_cases a
  show b % 2 = b % 2 + 0; rfl

theorem len_ok (c : Dev nD) (b : ℕ) (hb : b < 2) : (rdLen (F := Ideal) (c := c) (tbl m 0) b).toInt = (inM m c).len b := by
  obtain rfl : c = 0 := Subsingleton.elim _ _
  have e : V m 0 main_arg11 (ix1 (Fin.ofNat 2 b)) = m (((0 : Dev nD) : Thread nD τ).loc main_arg11) (ix1 (Fin.ofNat 2 b)) := by
    entry_read
    rfl
  exact (congrArg BitVec.toInt (rdLen_at (c := 0) (tbl m 0) b)).trans (congrArg BitVec.toInt e)

theorem blocks_ok (hO : Ok m) (c : Dev nD) (t : Fin (cfgM m hO).N) :
    Blocks (c := c) (inM m c) t.val (iblk m hO c 0 t) (iblk m hO c 1 t) (iblk m hO c 2 t) (iblk m hO c 3 t) (iblk m hO c 4 t) (iblk m hO c 5 t) (iblk m hO c 6 t) (iblk m hO c 7 t) (iblk m hO c 8 t)
      (iblk m hO c 9 t) (iblk m hO c 10 t) (tbl m 0) := by
  have hN : t.val < 64 := t.isLt
  constructor
  · intro b h d; rw [blk0]; simp only [inM, inOf, ofNat_val]
  · intro b g h hh; funext d; simp only [inM, inOf]; congr 2; exact Fin.ext (show (8 * (g % 4) + h) % 32 = (8 * g + h) % 32 by omega)
  · intro b g d; rw [blk1]; simp only [inM, inOf, ofNat_val]
  · intro b g; funext d; simp only [inM, inOf]; congr 2; exact Fin.ext (show g % 4 % 4 = g % 4 by omega)
  · intro b g d; rw [blk2]; simp only [inM, inOf, ofNat_val]
  · intro b g; funext d; simp only [inM, inOf]; congr 2; exact Fin.ext (show g % 4 % 4 = g % 4 by omega)
  · intro h a d; rw [blk3 m hO c t hN h]; simp only [inM, inOf, ofNat_val]; rw [ofNat_eq (n := 131072) _ (by omega), ofNat_eq (n := 4) _ (by omega)]
  · intro h g x; rw [blk5 m hO c t hN h]; simp only [inM, inOf, ofNat_val]; rw [ofNat_eq (n := 131072) _ (by omega)]
  · intro h a d; rw [blk4 m hO c t hN h]; simp only [inM, inOf, ofNat_val]; rw [ofNat_eq (n := 131072) _ (by omega), ofNat_eq (n := 4) _ (by omega)]
  · intro h g x; rw [blk6 m hO c t hN h]; simp only [inM, inOf, ofNat_val]; rw [ofNat_eq (n := 131072) _ (by omega)]
  · intro b t' g d; rw [blk7]; simp only [inM, inOf, ofNat_val]
  · intro b t' g d; rw [blk8]; simp only [inM, inOf, ofNat_val]
  · intro b g t'; rw [blk9]; simp only [inM, inOf, ofNat_val]
  · intro b g t'; rw [blk10]; simp only [inM, inOf, ofNat_val]
  · exact fun b hb => len_ok m c b hb

end Cert.KernelIdeal.Gen

end
-- ==== Proof.Val.Steps.lean ====
/- The statement about the scratch arrays survives every point. -/
module

public import proofs.«01_k».proof.Proof.Val.CaseA
public import proofs.«01_k».proof.Proof.Val.CaseB
public import proofs.«01_k».proof.Proof.Val.CaseC
public import proofs.«01_k».proof.Proof.Val.CaseD
public import proofs.«01_k».proof.Proof.Val.CaseE
public import proofs.«01_k».proof.Proof.Val.Blocks

@[expose] public section

set_option maxRecDepth 16384

noncomputable section

namespace Cert.KernelIdeal.Gen

open Idealize.ShloMosaic Idealize.ShloMosaic.TcCoe Idealize.ShloMosaic.Tactic
open Cert.Attn Finset

variable (m : (ℓ : Loc nD τ sig) → Buf (Elt Ideal) ℓ)

/-- What holds before point `n` on core `c`. -/
def InvM : Claim5 Ideal := fun c n q s mm d a => Inv (inM m c) n q s mm d a

theorem coord (t : Fin grid0.N) : (grid0.coords t 0).val = t.val := by
  have h : t.val < 64 := t.isLt
  have e : (grid0.coords t 0).val = t.val / 1 % 64 := Pipeline.Grid.coords_val t 0 (by decide) rfl
  omega

set_option maxHeartbeats 2000000 in
theorem step_a (hO : Ok m) (c : Dev nD) (t : Fin (cfgM m hO).N) (hc0 : cond0_0 (grid0.coords t)) (hc1 : cond0_1 (grid0.coords t)) (hc2 : ¬cond0_2 (grid0.coords t)) (hc3 : ¬cond0_3 (grid0.coords t)) (hc4 : ¬cond0_4 (grid0.coords t)) (xs1 : Vec Ideal S2x32x133120 .f32) (f0 f2 f3 f4) :
    InvM m c (t.val + 1) (VS0_0.read (Elt Ideal) (VS0_0.writes (Elt Ideal) f0 (runA m hO c t hc0 hc1 hc2 hc3 hc4).2.1)) (VS0_1.read (Elt Ideal) (VS0_1.writes (Elt Ideal) ((Memref.isWhole_whole (κ := .tc) _ : scM0_1.IsWhole).unread xs1) (runA m hO c t hc0 hc1 hc2 hc3 hc4).2.2.1)) (VS0_2.read (Elt Ideal) (VS0_2.writes (Elt Ideal) f2 (runA m hO c t hc0 hc1 hc2 hc3 hc4).2.2.2.1)) (VS0_3.read (Elt Ideal) (VS0_3.writes (Elt Ideal) f3 (runA m hO c t hc0 hc1 hc2 hc3 hc4).2.2.2.2.1)) (VS0_4.read (Elt Ideal) (VS0_4.writes (Elt Ideal) f4 (runA m hO c t hc0 hc1 hc2 hc3 hc4).2.2.2.2.2.1)) := by
  have hN : t.val < 64 := t.isLt
  have ht : t.val = 0 := by have := (hcond0_0 t).mp hc0; omega
  exact caseA c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) scM0_0 (Memref.isWhole_whole _) scM0_1 (Memref.isWhole_whole _) scM0_2 (Memref.isWhole_whole _) scM0_3 (Memref.isWhole_whole _) scM0_4 (Memref.isWhole_whole _) hc0 hc1 hc2 hc3 hc4 (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (tbl m 0) (inM m c) t.val ht (blocks_ok m hO c t) (coord t) f0 ((Memref.isWhole_whole (κ := .tc) _ : scM0_1.IsWhole).unread xs1) f2 _ _ _ (runA_q c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) scM0_0 (Memref.isWhole_whole _) scM0_1 (Memref.isWhole_whole _) scM0_2 (Memref.isWhole_whole _) scM0_3 (Memref.isWhole_whole _) scM0_4 (Memref.isWhole_whole _) hc0 hc1 hc2 hc3 hc4 (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (tbl m 0)) _ (runA_s c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) scM0_0 (Memref.isWhole_whole _) scM0_1 (Memref.isWhole_whole _) scM0_2 (Memref.isWhole_whole _) scM0_3 (Memref.isWhole_whole _) scM0_4 (Memref.isWhole_whole _) hc0 hc1 hc2 hc3 hc4 (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (tbl m 0)) _ (runA_m c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) scM0_0 (Memref.isWhole_whole _) scM0_1 (Memref.isWhole_whole _) scM0_2 (Memref.isWhole_whole _) scM0_3 (Memref.isWhole_whole _) scM0_4 (Memref.isWhole_whole _) hc0 hc1 hc2 hc3 hc4 (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (tbl m 0))

theorem step_b (hO : Ok m) (c : Dev nD) (t : Fin (cfgM m hO).N) (hc0 : ¬cond0_0 (grid0.coords t)) (hc1 : cond0_1 (grid0.coords t)) (hc2 : ¬cond0_2 (grid0.coords t)) (hc3 : ¬cond0_3 (grid0.coords t)) (hc4 : ¬cond0_4 (grid0.coords t)) (xs0 : Vec Ideal S2x32x256 .bf16) (xs1 : Vec Ideal S2x32x133120 .f32) (xs2 : Vec Ideal S2x32x128 .f32) (xs3 : Vec Ideal S2x32x128 .f32) (xs4 : Vec Ideal S2x32x256 .f32) (f2) (h : InvM m c t.val xs0 xs1 xs2 xs3 xs4) :
    InvM m c (t.val + 1) xs0 (VS0_1.read (Elt Ideal) (VS0_1.writes (Elt Ideal) ((Memref.isWhole_whole (κ := .tc) _ : scM0_1.IsWhole).unread xs1) (runB m hO c t hc0 hc1 hc2 hc3 hc4 xs0 xs2 xs3 xs4).2.2.1)) (VS0_2.read (Elt Ideal) (VS0_2.writes (Elt Ideal) f2 (runB m hO c t hc0 hc1 hc2 hc3 hc4 xs0 xs2 xs3 xs4).2.2.2.1)) xs3 xs4 := by
  have h0 : ¬t.val % 64 = 0 := fun e => hc0 ((hcond0_0 t).mpr e)
  have h1 : t.val < 32 := (hcond0_1 t).mp hc1
  exact caseB c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) scM0_0 (Memref.isWhole_whole _) scM0_1 (Memref.isWhole_whole _) scM0_2 (Memref.isWhole_whole _) scM0_3 (Memref.isWhole_whole _) scM0_4 (Memref.isWhole_whole _) hc0 hc1 hc2 hc3 hc4 (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (tbl m 0) xs0 xs2 xs3 xs4 (inM m c) t.val (blocks_ok m hO c t) (coord t) (by omega) h1 xs1 h _ _ (runB_s c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) scM0_0 (Memref.isWhole_whole _) scM0_1 (Memref.isWhole_whole _) scM0_2 (Memref.isWhole_whole _) scM0_3 (Memref.isWhole_whole _) scM0_4 (Memref.isWhole_whole _) hc0 hc1 hc2 hc3 hc4 (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (tbl m 0) xs0 xs2 xs3 xs4) _ (runB_m c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) scM0_0 (Memref.isWhole_whole _) scM0_1 (Memref.isWhole_whole _) scM0_2 (Memref.isWhole_whole _) scM0_3 (Memref.isWhole_whole _) scM0_4 (Memref.isWhole_whole _) hc0 hc1 hc2 hc3 hc4 (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (tbl m 0) xs0 xs2 xs3 xs4)

theorem step_c (hO : Ok m) (c : Dev nD) (t : Fin (cfgM m hO).N) (hc0 : ¬cond0_0 (grid0.coords t)) (hc1 : ¬cond0_1 (grid0.coords t)) (hc2 : cond0_2 (grid0.coords t)) (hc3 : cond0_3 (grid0.coords t)) (hc4 : ¬cond0_4 (grid0.coords t)) (xs0 : Vec Ideal S2x32x256 .bf16) (xs1 : Vec Ideal S2x32x133120 .f32) (xs2 : Vec Ideal S2x32x128 .f32) (xs3 : Vec Ideal S2x32x128 .f32) (xs4 : Vec Ideal S2x32x256 .f32) (f2 f3 f4) (h : InvM m c t.val xs0 xs1 xs2 xs3 xs4) :
    InvM m c (t.val + 1) xs0 xs1 (VS0_2.read (Elt Ideal) (VS0_2.writes (Elt Ideal) f2 (runC m hO c t hc0 hc1 hc2 hc3 hc4 xs0 xs1 xs2).2.2.2.1)) (VS0_3.read (Elt Ideal) (VS0_3.writes (Elt Ideal) f3 (runC m hO c t hc0 hc1 hc2 hc3 hc4 xs0 xs1 xs2).2.2.2.2.1)) (VS0_4.read (Elt Ideal) (VS0_4.writes (Elt Ideal) f4 (runC m hO c t hc0 hc1 hc2 hc3 hc4 xs0 xs1 xs2).2.2.2.2.2.1)) := by
  have hN : t.val < 64 := t.isLt
  have ht : t.val = 32 := by have := (hcond0_2 t).mp hc2; omega
  have hB := blocks_ok m hO c t
  rw [ht] at hB h ⊢
  exact caseC c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) scM0_0 (Memref.isWhole_whole _) scM0_1 (Memref.isWhole_whole _) scM0_2 (Memref.isWhole_whole _) scM0_3 (Memref.isWhole_whole _) scM0_4 (Memref.isWhole_whole _) hc0 hc1 hc2 hc3 hc4 (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (tbl m 0) xs0 xs1 xs2 (inM m c) hB ((coord t).trans ht) xs3 xs4 h _ _ _ _ (runC_m c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) scM0_0 (Memref.isWhole_whole _) scM0_1 (Memref.isWhole_whole _) scM0_2 (Memref.isWhole_whole _) scM0_3 (Memref.isWhole_whole _) scM0_4 (Memref.isWhole_whole _) hc0 hc1 hc2 hc3 hc4 (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (tbl m 0) xs0 xs1 xs2) _ (runC_den c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) scM0_0 (Memref.isWhole_whole _) scM0_1 (Memref.isWhole_whole _) scM0_2 (Memref.isWhole_whole _) scM0_3 (Memref.isWhole_whole _) scM0_4 (Memref.isWhole_whole _) hc0 hc1 hc2 hc3 hc4 (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (tbl m 0) xs0 xs1 xs2) _ (runC_acc c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) scM0_0 (Memref.isWhole_whole _) scM0_1 (Memref.isWhole_whole _) scM0_2 (Memref.isWhole_whole _) scM0_3 (Memref.isWhole_whole _) scM0_4 (Memref.isWhole_whole _) hc0 hc1 hc2 hc3 hc4 (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (tbl m 0) xs0 xs1 xs2)

theorem step_d (hO : Ok m) (c : Dev nD) (t : Fin (cfgM m hO).N) (hc0 : ¬cond0_0 (grid0.coords t)) (hc1 : ¬cond0_1 (grid0.coords t)) (hc2 : ¬cond0_2 (grid0.coords t)) (hc3 : cond0_3 (grid0.coords t)) (hc4 : ¬cond0_4 (grid0.coords t)) (xs0 : Vec Ideal S2x32x256 .bf16) (xs1 : Vec Ideal S2x32x133120 .f32) (xs2 : Vec Ideal S2x32x128 .f32) (xs3 : Vec Ideal S2x32x128 .f32) (xs4 : Vec Ideal S2x32x256 .f32) (f3 f4) (h : InvM m c t.val xs0 xs1 xs2 xs3 xs4) :
    InvM m c (t.val + 1) xs0 xs1 xs2 (VS0_3.read (Elt Ideal) (VS0_3.writes (Elt Ideal) f3 (runD m hO c t hc0 hc1 hc2 hc3 hc4 xs0 xs1 xs2 xs3 xs4).2.2.2.2.1)) (VS0_4.read (Elt Ideal) (VS0_4.writes (Elt Ideal) f4 (runD m hO c t hc0 hc1 hc2 hc3 hc4 xs0 xs1 xs2 xs3 xs4).2.2.2.2.2.1)) := by
  have hN : t.val < 64 := t.isLt
  have h2 : ¬t.val % 64 = 32 := fun e => hc2 ((hcond0_2 t).mpr e)
  have h3 : 32 ≤ t.val := (hcond0_3 t).mp hc3
  exact caseD c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) scM0_0 (Memref.isWhole_whole _) scM0_1 (Memref.isWhole_whole _) scM0_2 (Memref.isWhole_whole _) scM0_3 (Memref.isWhole_whole _) scM0_4 (Memref.isWhole_whole _) hc0 hc1 hc2 hc3 hc4 (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (tbl m 0) xs0 xs1 xs2 xs3 xs4 (inM m c) t.val (blocks_ok m hO c t) (coord t) (by omega) hN h _ _ _ (runD_den c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) scM0_0 (Memref.isWhole_whole _) scM0_1 (Memref.isWhole_whole _) scM0_2 (Memref.isWhole_whole _) scM0_3 (Memref.isWhole_whole _) scM0_4 (Memref.isWhole_whole _) hc0 hc1 hc2 hc3 hc4 (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (tbl m 0) xs0 xs1 xs2 xs3 xs4) _ (runD_acc c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) scM0_0 (Memref.isWhole_whole _) scM0_1 (Memref.isWhole_whole _) scM0_2 (Memref.isWhole_whole _) scM0_3 (Memref.isWhole_whole _) scM0_4 (Memref.isWhole_whole _) hc0 hc1 hc2 hc3 hc4 (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (tbl m 0) xs0 xs1 xs2 xs3 xs4)

theorem step_e (hO : Ok m) (c : Dev nD) (t : Fin (cfgM m hO).N) (hc0 : ¬cond0_0 (grid0.coords t)) (hc1 : ¬cond0_1 (grid0.coords t)) (hc2 : ¬cond0_2 (grid0.coords t)) (hc3 : cond0_3 (grid0.coords t)) (hc4 : cond0_4 (grid0.coords t)) (xs0 : Vec Ideal S2x32x256 .bf16) (xs1 : Vec Ideal S2x32x133120 .f32) (xs2 : Vec Ideal S2x32x128 .f32) (xs3 : Vec Ideal S2x32x128 .f32) (xs4 : Vec Ideal S2x32x256 .f32) (f3 f4) (h : InvM m c t.val xs0 xs1 xs2 xs3 xs4) :
    InvM m c (t.val + 1) xs0 xs1 xs2 (VS0_3.read (Elt Ideal) (VS0_3.writes (Elt Ideal) f3 (runE m hO c t hc0 hc1 hc2 hc3 hc4 xs0 xs1 xs2 xs3 xs4).2.2.2.2.1)) (VS0_4.read (Elt Ideal) (VS0_4.writes (Elt Ideal) f4 (runE m hO c t hc0 hc1 hc2 hc3 hc4 xs0 xs1 xs2 xs3 xs4).2.2.2.2.2.1)) := by
  have hN : t.val < 64 := t.isLt
  have h2 : ¬t.val % 64 = 32 := fun e => hc2 ((hcond0_2 t).mpr e)
  have h3 : 32 ≤ t.val := (hcond0_3 t).mp hc3
  exact caseE c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) scM0_0 (Memref.isWhole_whole _) scM0_1 (Memref.isWhole_whole _) scM0_2 (Memref.isWhole_whole _) scM0_3 (Memref.isWhole_whole _) scM0_4 (Memref.isWhole_whole _) hc0 hc1 hc2 hc3 hc4 (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (tbl m 0) xs0 xs1 xs2 xs3 xs4 (inM m c) t.val (blocks_ok m hO c t) (coord t) (by omega) hN h _ _ _ (runE_den c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) scM0_0 (Memref.isWhole_whole _) scM0_1 (Memref.isWhole_whole _) scM0_2 (Memref.isWhole_whole _) scM0_3 (Memref.isWhole_whole _) scM0_4 (Memref.isWhole_whole _) hc0 hc1 hc2 hc3 hc4 (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (tbl m 0) xs0 xs1 xs2 xs3 xs4) _ (runE_acc c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) scM0_0 (Memref.isWhole_whole _) scM0_1 (Memref.isWhole_whole _) scM0_2 (Memref.isWhole_whole _) scM0_3 (Memref.isWhole_whole _) scM0_4 (Memref.isWhole_whole _) hc0 hc1 hc2 hc3 hc4 (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (tbl m 0) xs0 xs1 xs2 xs3 xs4)

end Cert.KernelIdeal.Gen

end
-- ==== Proof.KI.EqEo.lean ====
/- What the stores of the last point leave, as functions of the arrays it reads. -/
module

public import proofs.«01_k».proof.Proof.KI.RunE
public import proofs.«01_k».proof.Proof.KI.Model2

@[expose] public section

set_option maxRecDepth 16384

noncomputable section

namespace Cert.KernelIdeal.Gen

open Idealize.ShloMosaic Idealize.ShloMosaic.TcCoe Idealize.ShloMosaic.Tactic

variable {F : FTy → Type} [FloatOps F] [Named F]

theorem runE_out  (c : Dev nD) (i : grid0.Coords) (arg2 : Memref sig .tc .vmem S2x32x128 .bf16) (harg2 : arg2.IsWhole) (arg3 : Memref sig .tc .vmem S2x4x128 .bf16) (harg3 : arg3.IsWhole) (arg4 : Memref sig .tc .vmem S2x4x128 .bf16) (harg4 : arg4.IsWhole) (arg5 : Memref sig .tc .vmem S16384x128 .fp8e4m3) (harg5 : arg5.IsWhole) (arg6 : Memref sig .tc .vmem S16384x128 .fp8e4m3) (harg6 : arg6.IsWhole) (arg7 : Memref sig .tc .vmem S4x4096 .f32) (harg7 : arg7.IsWhole) (arg8 : Memref sig .tc .vmem S4x4096 .f32) (harg8 : arg8.IsWhole) (arg9 : Memref sig .tc .vmem S2x1024x4x128 .fp8e4m3) (harg9 : arg9.IsWhole) (arg10 : Memref sig .tc .vmem S2x1024x4x128 .fp8e4m3) (harg10 : arg10.IsWhole) (arg11 : Memref sig .tc .vmem S2x4x1024 .f32) (harg11 : arg11.IsWhole) (arg12 : Memref sig .tc .vmem S2x4x1024 .f32) (harg12 : arg12.IsWhole) (arg13 : Memref sig .tc .vmem S2x32x128 .bf16) (harg13 : arg13.IsWhole) (arg14 : Memref sig .tc .vmem S2x32x256 .bf16) (harg14 : arg14.IsWhole) (arg15 : Memref sig .tc .vmem S2x32x133120 .f32) (harg15 : arg15.IsWhole) (arg16 : Memref sig .tc .vmem S2x32x128 .f32) (harg16 : arg16.IsWhole) (arg17 : Memref sig .tc .vmem S2x32x128 .f32) (harg17 : arg17.IsWhole) (arg18 : Memref sig .tc .vmem S2x32x256 .f32) (harg18 : arg18.IsWhole) (hc0 : ¬cond0_0 i) (hc1 : ¬cond0_1 i) (hc2 : ¬cond0_2 i) (hc3 : cond0_3 i) (hc4 : cond0_4 i)
    (x0 : Vec F S2x32x128 .bf16) (x1 : Vec F S2x4x128 .bf16) (x2 : Vec F S2x4x128 .bf16) (x3 : Vec F S16384x128 .fp8e4m3) (x4 : Vec F S16384x128 .fp8e4m3) (x5 : Vec F S4x4096 .f32) (x6 : Vec F S4x4096 .f32) (x7 : Vec F S2x1024x4x128 .fp8e4m3) (x8 : Vec F S2x1024x4x128 .fp8e4m3) (x9 : Vec F S2x4x1024 .f32) (x10 : Vec F S2x4x1024 .f32) (xt0 : TbBuf0 (F := F) c tbM0_0) (xs0 : Vec F S2x32x256 .bf16) (xs1 : Vec F S2x32x133120 .f32) (xs2 : Vec F S2x32x128 .f32) (xs3 : Vec F S2x32x128 .f32) (xs4 : Vec F S2x32x256 .f32) : (kernelRun0_E (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc4 x0 x1 x2 x3 x4 x5 x6 x7 x8 x9 x10 xt0 xs0 xs1 xs2 xs3 xs4).1 = [⟨Rect.unit (s := S2x32x128) ![1, 24, 0] S1x8x128.size inb_S2x32x128_S1x8x128_1_24_0, k0_pay595 (arg17.view.readCov (two128 (up128 (dchain (dn128 (rdL0 arg17 harg17 xs3)) (fun k => expT (rdS0 i hc3 arg15 harg15 xs1 k) (rdL0 arg16 harg16 xs2)) 16)) (up128 (dchain (dn128 (rdL1 arg17 harg17 xs3)) (fun k => expT (rdS1 i hc3 arg15 harg15 xs1 k) (rdL1 arg16 harg16 xs2)) 16)) []) R1l.toLoadRect) (arg18.view.readCov (two256 (accB (rdA0 arg18 harg18 xs4) (fun k => wt0 (rdS0 i hc3 arg15 harg15 xs1 k) (rdL0 arg16 harg16 xs2) (tileS arg8 harg8 x6 k)) (fun k => vp0 (tileK arg6 harg6 x4 k))) (accB (rdA1 arg18 harg18 xs4) (fun k => wt1 (rdS1 i hc3 arg15 harg15 xs1 k) (rdL1 arg16 harg16 xs2) (tileS arg8 harg8 x6 k)) (fun k => vp1 (tileK arg6 harg6 x4 k))) []) (Rect.unit (s := S2x32x256) ![1, 16, 128] S1x16x128.size inb_S2x32x256_S1x16x128_1_16_128).toLoadRect)⟩, ⟨Rect.unit (s := S2x32x128) ![0, 24, 0] S1x8x128.size inb_S2x32x128_S1x8x128_0_24_0, k0_pay594 (arg17.view.readCov (two128 (up128 (dchain (dn128 (rdL0 arg17 harg17 xs3)) (fun k => expT (rdS0 i hc3 arg15 harg15 xs1 k) (rdL0 arg16 harg16 xs2)) 16)) (up128 (dchain (dn128 (rdL1 arg17 harg17 xs3)) (fun k => expT (rdS1 i hc3 arg15 harg15 xs1 k) (rdL1 arg16 harg16 xs2)) 16)) []) R1l.toLoadRect) (arg18.view.readCov (two256 (accB (rdA0 arg18 harg18 xs4) (fun k => wt0 (rdS0 i hc3 arg15 harg15 xs1 k) (rdL0 arg16 harg16 xs2) (tileS arg8 harg8 x6 k)) (fun k => vp0 (tileK arg6 harg6 x4 k))) (accB (rdA1 arg18 harg18 xs4) (fun k => wt1 (rdS1 i hc3 arg15 harg15 xs1 k) (rdL1 arg16 harg16 xs2) (tileS arg8 harg8 x6 k)) (fun k => vp1 (tileK arg6 harg6 x4 k))) []) (Rect.unit (s := S2x32x256) ![1, 16, 128] S1x16x128.size inb_S2x32x256_S1x16x128_1_16_128).toLoadRect)⟩, ⟨Rect.unit (s := S2x32x128) ![1, 16, 0] S1x8x128.size inb_S2x32x128_S1x8x128_1_16_0, k0_pay592 (arg17.view.readCov (two128 (up128 (dchain (dn128 (rdL0 arg17 harg17 xs3)) (fun k => expT (rdS0 i hc3 arg15 harg15 xs1 k) (rdL0 arg16 harg16 xs2)) 16)) (up128 (dchain (dn128 (rdL1 arg17 harg17 xs3)) (fun k => expT (rdS1 i hc3 arg15 harg15 xs1 k) (rdL1 arg16 harg16 xs2)) 16)) []) R1l.toLoadRect) (arg18.view.readCov (two256 (accB (rdA0 arg18 harg18 xs4) (fun k => wt0 (rdS0 i hc3 arg15 harg15 xs1 k) (rdL0 arg16 harg16 xs2) (tileS arg8 harg8 x6 k)) (fun k => vp0 (tileK arg6 harg6 x4 k))) (accB (rdA1 arg18 harg18 xs4) (fun k => wt1 (rdS1 i hc3 arg15 harg15 xs1 k) (rdL1 arg16 harg16 xs2) (tileS arg8 harg8 x6 k)) (fun k => vp1 (tileK arg6 harg6 x4 k))) []) (Rect.unit (s := S2x32x256) ![1, 0, 0] S1x16x128.size inb_S2x32x256_S1x16x128_1_0_0).toLoadRect)⟩, ⟨Rect.unit (s := S2x32x128) ![0, 16, 0] S1x8x128.size inb_S2x32x128_S1x8x128_0_16_0, k0_pay591 (arg17.view.readCov (two128 (up128 (dchain (dn128 (rdL0 arg17 harg17 xs3)) (fun k => expT (rdS0 i hc3 arg15 harg15 xs1 k) (rdL0 arg16 harg16 xs2)) 16)) (up128 (dchain (dn128 (rdL1 arg17 harg17 xs3)) (fun k => expT (rdS1 i hc3 arg15 harg15 xs1 k) (rdL1 arg16 harg16 xs2)) 16)) []) R1l.toLoadRect) (arg18.view.readCov (two256 (accB (rdA0 arg18 harg18 xs4) (fun k => wt0 (rdS0 i hc3 arg15 harg15 xs1 k) (rdL0 arg16 harg16 xs2) (tileS arg8 harg8 x6 k)) (fun k => vp0 (tileK arg6 harg6 x4 k))) (accB (rdA1 arg18 harg18 xs4) (fun k => wt1 (rdS1 i hc3 arg15 harg15 xs1 k) (rdL1 arg16 harg16 xs2) (tileS arg8 harg8 x6 k)) (fun k => vp1 (tileK arg6 harg6 x4 k))) []) (Rect.unit (s := S2x32x256) ![1, 0, 0] S1x16x128.size inb_S2x32x256_S1x16x128_1_0_0).toLoadRect)⟩, ⟨Rect.unit (s := S2x32x128) ![1, 8, 0] S1x8x128.size inb_S2x32x128_S1x8x128_1_8_0, k0_pay588 (arg17.view.readCov (two128 (up128 (dchain (dn128 (rdL0 arg17 harg17 xs3)) (fun k => expT (rdS0 i hc3 arg15 harg15 xs1 k) (rdL0 arg16 harg16 xs2)) 16)) (up128 (dchain (dn128 (rdL1 arg17 harg17 xs3)) (fun k => expT (rdS1 i hc3 arg15 harg15 xs1 k) (rdL1 arg16 harg16 xs2)) 16)) []) R0l.toLoadRect) (arg18.view.readCov (two256 (accB (rdA0 arg18 harg18 xs4) (fun k => wt0 (rdS0 i hc3 arg15 harg15 xs1 k) (rdL0 arg16 harg16 xs2) (tileS arg8 harg8 x6 k)) (fun k => vp0 (tileK arg6 harg6 x4 k))) (accB (rdA1 arg18 harg18 xs4) (fun k => wt1 (rdS1 i hc3 arg15 harg15 xs1 k) (rdL1 arg16 harg16 xs2) (tileS arg8 harg8 x6 k)) (fun k => vp1 (tileK arg6 harg6 x4 k))) []) (Rect.unit (s := S2x32x256) ![0, 16, 128] S1x16x128.size inb_S2x32x256_S1x16x128_0_16_128).toLoadRect)⟩, ⟨Rect.unit (s := S2x32x128) ![0, 8, 0] S1x8x128.size inb_S2x32x128_S1x8x128_0_8_0, k0_pay587 (arg17.view.readCov (two128 (up128 (dchain (dn128 (rdL0 arg17 harg17 xs3)) (fun k => expT (rdS0 i hc3 arg15 harg15 xs1 k) (rdL0 arg16 harg16 xs2)) 16)) (up128 (dchain (dn128 (rdL1 arg17 harg17 xs3)) (fun k => expT (rdS1 i hc3 arg15 harg15 xs1 k) (rdL1 arg16 harg16 xs2)) 16)) []) R0l.toLoadRect) (arg18.view.readCov (two256 (accB (rdA0 arg18 harg18 xs4) (fun k => wt0 (rdS0 i hc3 arg15 harg15 xs1 k) (rdL0 arg16 harg16 xs2) (tileS arg8 harg8 x6 k)) (fun k => vp0 (tileK arg6 harg6 x4 k))) (accB (rdA1 arg18 harg18 xs4) (fun k => wt1 (rdS1 i hc3 arg15 harg15 xs1 k) (rdL1 arg16 harg16 xs2) (tileS arg8 harg8 x6 k)) (fun k => vp1 (tileK arg6 harg6 x4 k))) []) (Rect.unit (s := S2x32x256) ![0, 16, 128] S1x16x128.size inb_S2x32x256_S1x16x128_0_16_128).toLoadRect)⟩, ⟨Rect.unit (s := S2x32x128) ![1, 0, 0] S1x8x128.size inb_S2x32x128_S1x8x128_1_0_0, k0_pay585 (arg17.view.readCov (two128 (up128 (dchain (dn128 (rdL0 arg17 harg17 xs3)) (fun k => expT (rdS0 i hc3 arg15 harg15 xs1 k) (rdL0 arg16 harg16 xs2)) 16)) (up128 (dchain (dn128 (rdL1 arg17 harg17 xs3)) (fun k => expT (rdS1 i hc3 arg15 harg15 xs1 k) (rdL1 arg16 harg16 xs2)) 16)) []) R0l.toLoadRect) (arg18.view.readCov (two256 (accB (rdA0 arg18 harg18 xs4) (fun k => wt0 (rdS0 i hc3 arg15 harg15 xs1 k) (rdL0 arg16 harg16 xs2) (tileS arg8 harg8 x6 k)) (fun k => vp0 (tileK arg6 harg6 x4 k))) (accB (rdA1 arg18 harg18 xs4) (fun k => wt1 (rdS1 i hc3 arg15 harg15 xs1 k) (rdL1 arg16 harg16 xs2) (tileS arg8 harg8 x6 k)) (fun k => vp1 (tileK arg6 harg6 x4 k))) []) (Rect.unit (s := S2x32x256) ![0, 0, 0] S1x16x128.size inb_S2x32x256_S1x16x128_0_0_0).toLoadRect)⟩, ⟨Rect.unit (s := S2x32x128) ![0, 0, 0] S1x8x128.size inb_S2x32x128_S1x8x128_0_0_0, k0_pay584 (arg17.view.readCov (two128 (up128 (dchain (dn128 (rdL0 arg17 harg17 xs3)) (fun k => expT (rdS0 i hc3 arg15 harg15 xs1 k) (rdL0 arg16 harg16 xs2)) 16)) (up128 (dchain (dn128 (rdL1 arg17 harg17 xs3)) (fun k => expT (rdS1 i hc3 arg15 harg15 xs1 k) (rdL1 arg16 harg16 xs2)) 16)) []) R0l.toLoadRect) (arg18.view.readCov (two256 (accB (rdA0 arg18 harg18 xs4) (fun k => wt0 (rdS0 i hc3 arg15 harg15 xs1 k) (rdL0 arg16 harg16 xs2) (tileS arg8 harg8 x6 k)) (fun k => vp0 (tileK arg6 harg6 x4 k))) (accB (rdA1 arg18 harg18 xs4) (fun k => wt1 (rdS1 i hc3 arg15 harg15 xs1 k) (rdL1 arg16 harg16 xs2) (tileS arg8 harg8 x6 k)) (fun k => vp1 (tileK arg6 harg6 x4 k))) []) (Rect.unit (s := S2x32x256) ![0, 0, 0] S1x16x128.size inb_S2x32x256_S1x16x128_0_0_0).toLoadRect)⟩] := by
  unfold kernelRun0_E; dsimp only
  rfl

end Cert.KernelIdeal.Gen

end
-- ==== Proof.Val.Out.lean ====
/- The last point writes the result. -/
module

public import proofs.«01_k».proof.Proof.Val.Inv
public import Idealize.ShloMosaic.Lib.Pipeline.ReadBack
public import proofs.«01_k».proof.Proof.KI.EqEo

@[expose] public section

set_option maxRecDepth 16384

noncomputable section

namespace Cert.KernelIdeal.Gen

open Idealize.ShloMosaic Idealize.ShloMosaic.TcCoe Idealize.ShloMosaic.Tactic
open Cert.Attn Finset

theorem pay584_at (D : Vec Ideal S1x32x128 .f32) (A : Vec Ideal S1x16x128 .f32) (r : Fin 8) (d : Fin 128) :
    k0_pay584 D A (ix3 0 r d) = Ideal.div (A (ix3 0 ⟨0 + r.val, by omega⟩ d)) (∑ l : Fin 128, D (ix3 0 ⟨0 + r.val, by omega⟩ l)) := by
  pointwise [k0_pay584, k0_pay583, k0_pay582]
theorem pay585_at (D : Vec Ideal S1x32x128 .f32) (A : Vec Ideal S1x16x128 .f32) (r : Fin 8) (d : Fin 128) :
    k0_pay585 D A (ix3 0 r d) = Ideal.div (A (ix3 0 ⟨8 + r.val, by omega⟩ d)) (∑ l : Fin 128, D (ix3 0 ⟨8 + r.val, by omega⟩ l)) := by
  pointwise [k0_pay585, k0_pay583, k0_pay582]
theorem pay587_at (D : Vec Ideal S1x32x128 .f32) (A : Vec Ideal S1x16x128 .f32) (r : Fin 8) (d : Fin 128) :
    k0_pay587 D A (ix3 0 r d) = Ideal.div (A (ix3 0 ⟨0 + r.val, by omega⟩ d)) (∑ l : Fin 128, D (ix3 0 ⟨16 + r.val, by omega⟩ l)) := by
  pointwise [k0_pay587, k0_pay586, k0_pay582]
theorem pay588_at (D : Vec Ideal S1x32x128 .f32) (A : Vec Ideal S1x16x128 .f32) (r : Fin 8) (d : Fin 128) :
    k0_pay588 D A (ix3 0 r d) = Ideal.div (A (ix3 0 ⟨8 + r.val, by omega⟩ d)) (∑ l : Fin 128, D (ix3 0 ⟨24 + r.val, by omega⟩ l)) := by
  pointwise [k0_pay588, k0_pay586, k0_pay582]
  refine congrArg _ (Finset.sum_congr rfl fun l _ => congrArg (fun x => D (ix3 0 x l)) (Fin.ext ?_))
  show 16 + (8 + r.val) = 24 + r.val
  omega
theorem pay591_at (D : Vec Ideal S1x32x128 .f32) (A : Vec Ideal S1x16x128 .f32) (r : Fin 8) (d : Fin 128) :
    k0_pay591 D A (ix3 0 r d) = Ideal.div (A (ix3 0 ⟨0 + r.val, by omega⟩ d)) (∑ l : Fin 128, D (ix3 0 ⟨0 + r.val, by omega⟩ l)) := by
  pointwise [k0_pay591, k0_pay590, k0_pay589]
theorem pay592_at (D : Vec Ideal S1x32x128 .f32) (A : Vec Ideal S1x16x128 .f32) (r : Fin 8) (d : Fin 128) :
    k0_pay592 D A (ix3 0 r d) = Ideal.div (A (ix3 0 ⟨8 + r.val, by omega⟩ d)) (∑ l : Fin 128, D (ix3 0 ⟨8 + r.val, by omega⟩ l)) := by
  pointwise [k0_pay592, k0_pay590, k0_pay589]
theorem pay594_at (D : Vec Ideal S1x32x128 .f32) (A : Vec Ideal S1x16x128 .f32) (r : Fin 8) (d : Fin 128) :
    k0_pay594 D A (ix3 0 r d) = Ideal.div (A (ix3 0 ⟨0 + r.val, by omega⟩ d)) (∑ l : Fin 128, D (ix3 0 ⟨16 + r.val, by omega⟩ l)) := by
  pointwise [k0_pay594, k0_pay593, k0_pay589]
theorem pay595_at (D : Vec Ideal S1x32x128 .f32) (A : Vec Ideal S1x16x128 .f32) (r : Fin 8) (d : Fin 128) :
    k0_pay595 D A (ix3 0 r d) = Ideal.div (A (ix3 0 ⟨8 + r.val, by omega⟩ d)) (∑ l : Fin 128, D (ix3 0 ⟨24 + r.val, by omega⟩ l)) := by
  pointwise [k0_pay595, k0_pay593, k0_pay589]
  refine congrArg _ (Finset.sum_congr rfl fun l _ => congrArg (fun x => D (ix3 0 x l)) (Fin.ext ?_))
  show 16 + (8 + r.val) = 24 + r.val
  omega

/-- The kernel's result. -/
def outK (X : In) : S2x32x128.Idx → EReal := fun j => rout X (j 0).val (j 1).val (j 2).val

section
variable {sp : Space} (X : In) (v17 : View sig .tc sp S2x32x128 .f32) (v18 : View sig .tc sp S2x32x256 .f32) (v13 : View sig .tc sp S2x32x128 .bf16)
  (D0 D1 : FVec Ideal S1x32x128 .f32) (A0 A1 : FVec Ideal S1x32x256 .f32)
  (hD0 : ∀ (r : Fin 32) (l : Fin 128), D0 (ix3 0 r l) = denAt X 32 0 r.val l.val) (hD1 : ∀ (r : Fin 32) (l : Fin 128), D1 (ix3 0 r l) = denAt X 32 1 r.val l.val)
  (hA0 : ∀ (r : Fin 32) (l : Fin 256), A0 (ix3 0 r l) = accAt X 32 0 r.val l.val) (hA1 : ∀ (r : Fin 32) (l : Fin 256), A1 (ix3 0 r l) = accAt X 32 1 r.val l.val)

include hA0 hA1 in
theorem accR (p o e : ℕ) (hp : p < 2) (ho : o + 16 ≤ 32) (he : e + 128 ≤ 256) (h) (r : Fin 16) (d : Fin 128) :
    v18.readCov (two256 A0 A1 []) (Rect.unit (s := S2x32x256) ![p, o, e] S1x16x128.size h).toLoadRect (ix3 0 r d) = accAt X 32 p (o + r.val) (e + d.val) := by
  have e : (Rect.unit (s := S2x32x256) ![p, o, e] S1x16x128.size h).toLoadRect.idx (ix3 0 r d) = ix3 ⟨p, hp⟩ ⟨o + r.val, by omega⟩ ⟨e + d.val, by omega⟩ := by
    funext a
    fin_cases a
    · exact Fin.ext (Rect.idx_unit_val (s := S2x32x256) ![p, o, e] S1x16x128.size h (ix3 0 r d) 0)
    · exact Fin.ext (Rect.idx_unit_val (s := S2x32x256) ![p, o, e] S1x16x128.size h (ix3 0 r d) 1)
    · exact Fin.ext (Rect.idx_unit_val (s := S2x32x256) ![p, o, e] S1x16x128.size h (ix3 0 r d) 2)
  exact (congrArg (v18.read (Elt Ideal) (v18.writes (Elt Ideal) v18.junk (two256 A0 A1 []))) e).trans
    (read_two256 v18 _ A0 A1 [] (fun p r l => accAt X 32 p r l) hA0 hA1 _ _ _)

theorem pay_ok (p b h : ℕ) (hb : b < 2) (hh : h < 2) (D : Vec Ideal S1x32x128 .f32) (A : Vec Ideal S1x16x128 .f32) (v : FVec Ideal S1x8x128 .bf16)
    (hD : ∀ (r : Fin 32) (l : Fin 128), D (ix3 0 r l) = denAt X 32 p r.val l.val)
    (hA : ∀ (r : Fin 16) (d : Fin 128), A (ix3 0 r d) = accAt X 32 p (16 * h + r.val) (128 * h + d.val))
    (q R : ℕ) (hq : q = 8 * b) (hR : R = 16 * h + 8 * b) (hq' : ∀ r : Fin 8, q + r.val < 16) (hR' : ∀ r : Fin 8, R + r.val < 32)
    (hv : ∀ (r : Fin 8) (d : Fin 128), v (ix3 0 r d) = Ideal.div (A (ix3 0 ⟨q + r.val, hq' r⟩ d)) (∑ l : Fin 128, D (ix3 0 ⟨R + r.val, hR' r⟩ l)))
    (r : Fin 8) (d : Fin 128) : v (ix3 0 r d) = rout X b (8 * (2 * p + h) + r.val) d.val := by
  have hr := r.isLt
  rw [hv, hA]
  simp only [hD]
  have k := kout_eq X p (R + r.val) (hR' r) d.val d.isLt
  have e1 : (R + r.val) / 16 = h := by omega
  have e2 : bat (R + r.val) = b := by unfold bat; omega
  have e3 : head p (R + r.val) = 8 * (2 * p + h) + r.val := by unfold head grp; omega
  rw [e1, e2, e3] at k
  rw [← k]
  unfold kout
  rw [Finset.sum_range, show 16 * h + (q + r.val) = R + r.val from by omega]

theorem outK_of (j : S2x32x128.Idx) (x : S1x8x128.Idx) (b g : ℕ) (v : FVec Ideal S1x8x128 .bf16) (hv : ∀ (r : Fin 8) (d : Fin 128), v (ix3 0 r d) = rout X b (8 * g + r.val) d.val)
    (x0 : (x 0).val < 1) (h0 : (j 0).val = b) (h1 : (j 1).val = 8 * g + (x 1).val) (h2 : (j 2).val = (x 2).val) : v x = outK X j := by
  unfold outK
  rw [h0, h1, h2]
  have e : x = ix3 0 (x 1) (x 2) := by
    funext a; fin_cases a
    · exact Fin.ext (by show (x 0).val = 0; omega)
    · rfl
    · rfl
  rw [e]
  exact hv (x 1) (x 2)

include hD0 hD1 hA0 hA1 in
theorem out_core (f) : v13.read (Elt Ideal) (v13.writes (Elt Ideal) f [⟨Rect.unit (s := S2x32x128) ![1, 24, 0] S1x8x128.size inb_S2x32x128_S1x8x128_1_24_0, k0_pay595 (v17.readCov (two128 D0 D1 []) R1l.toLoadRect) (v18.readCov (two256 A0 A1 []) (Rect.unit (s := S2x32x256) ![1, 16, 128] S1x16x128.size inb_S2x32x256_S1x16x128_1_16_128).toLoadRect)⟩, ⟨Rect.unit (s := S2x32x128) ![0, 24, 0] S1x8x128.size inb_S2x32x128_S1x8x128_0_24_0, k0_pay594 (v17.readCov (two128 D0 D1 []) R1l.toLoadRect) (v18.readCov (two256 A0 A1 []) (Rect.unit (s := S2x32x256) ![1, 16, 128] S1x16x128.size inb_S2x32x256_S1x16x128_1_16_128).toLoadRect)⟩, ⟨Rect.unit (s := S2x32x128) ![1, 16, 0] S1x8x128.size inb_S2x32x128_S1x8x128_1_16_0, k0_pay592 (v17.readCov (two128 D0 D1 []) R1l.toLoadRect) (v18.readCov (two256 A0 A1 []) (Rect.unit (s := S2x32x256) ![1, 0, 0] S1x16x128.size inb_S2x32x256_S1x16x128_1_0_0).toLoadRect)⟩, ⟨Rect.unit (s := S2x32x128) ![0, 16, 0] S1x8x128.size inb_S2x32x128_S1x8x128_0_16_0, k0_pay591 (v17.readCov (two128 D0 D1 []) R1l.toLoadRect) (v18.readCov (two256 A0 A1 []) (Rect.unit (s := S2x32x256) ![1, 0, 0] S1x16x128.size inb_S2x32x256_S1x16x128_1_0_0).toLoadRect)⟩, ⟨Rect.unit (s := S2x32x128) ![1, 8, 0] S1x8x128.size inb_S2x32x128_S1x8x128_1_8_0, k0_pay588 (v17.readCov (two128 D0 D1 []) R0l.toLoadRect) (v18.readCov (two256 A0 A1 []) (Rect.unit (s := S2x32x256) ![0, 16, 128] S1x16x128.size inb_S2x32x256_S1x16x128_0_16_128).toLoadRect)⟩, ⟨Rect.unit (s := S2x32x128) ![0, 8, 0] S1x8x128.size inb_S2x32x128_S1x8x128_0_8_0, k0_pay587 (v17.readCov (two128 D0 D1 []) R0l.toLoadRect) (v18.readCov (two256 A0 A1 []) (Rect.unit (s := S2x32x256) ![0, 16, 128] S1x16x128.size inb_S2x32x256_S1x16x128_0_16_128).toLoadRect)⟩, ⟨Rect.unit (s := S2x32x128) ![1, 0, 0] S1x8x128.size inb_S2x32x128_S1x8x128_1_0_0, k0_pay585 (v17.readCov (two128 D0 D1 []) R0l.toLoadRect) (v18.readCov (two256 A0 A1 []) (Rect.unit (s := S2x32x256) ![0, 0, 0] S1x16x128.size inb_S2x32x256_S1x16x128_0_0_0).toLoadRect)⟩, ⟨Rect.unit (s := S2x32x128) ![0, 0, 0] S1x8x128.size inb_S2x32x128_S1x8x128_0_0_0, k0_pay584 (v17.readCov (two128 D0 D1 []) R0l.toLoadRect) (v18.readCov (two256 A0 A1 []) (Rect.unit (s := S2x32x256) ![0, 0, 0] S1x16x128.size inb_S2x32x256_S1x16x128_0_0_0).toLoadRect)⟩]) = outK X := by
  refine (View.read_writes_eq_canon _ _ _ ?_).trans ?_
  · exact View.cover_of_tiledL _ S1x8x128.size (by rfl)
  funext j
  canon_tiles x h
  · refine outK_of X j x 1 3 _ (fun r d => pay_ok X 1 1 1 (by omega) (by omega) _ _ _ (fun r l => by rw [back1_128]; exact hD1 r l) (fun r d => accR X v18 A0 A1 hA0 hA1 1 16 128 (by omega) (by omega) (by omega) _ r d) 8 24 rfl rfl (fun r => by omega) (fun r => by omega) (pay595_at _ _) r d) ?_ ?_ ?_ ?_ <;> omega
  · refine outK_of X j x 0 3 _ (fun r d => pay_ok X 1 0 1 (by omega) (by omega) _ _ _ (fun r l => by rw [back1_128]; exact hD1 r l) (fun r d => accR X v18 A0 A1 hA0 hA1 1 16 128 (by omega) (by omega) (by omega) _ r d) 0 16 rfl rfl (fun r => by omega) (fun r => by omega) (pay594_at _ _) r d) ?_ ?_ ?_ ?_ <;> omega
  · refine outK_of X j x 1 2 _ (fun r d => pay_ok X 1 1 0 (by omega) (by omega) _ _ _ (fun r l => by rw [back1_128]; exact hD1 r l) (fun r d => accR X v18 A0 A1 hA0 hA1 1 0 0 (by omega) (by omega) (by omega) _ r d) 8 8 rfl rfl (fun r => by omega) (fun r => by omega) (pay592_at _ _) r d) ?_ ?_ ?_ ?_ <;> omega
  · refine outK_of X j x 0 2 _ (fun r d => pay_ok X 1 0 0 (by omega) (by omega) _ _ _ (fun r l => by rw [back1_128]; exact hD1 r l) (fun r d => accR X v18 A0 A1 hA0 hA1 1 0 0 (by omega) (by omega) (by omega) _ r d) 0 0 rfl rfl (fun r => by omega) (fun r => by omega) (pay591_at _ _) r d) ?_ ?_ ?_ ?_ <;> omega
  · refine outK_of X j x 1 1 _ (fun r d => pay_ok X 0 1 1 (by omega) (by omega) _ _ _ (fun r l => by rw [back0_128]; exact hD0 r l) (fun r d => accR X v18 A0 A1 hA0 hA1 0 16 128 (by omega) (by omega) (by omega) _ r d) 8 24 rfl rfl (fun r => by omega) (fun r => by omega) (pay588_at _ _) r d) ?_ ?_ ?_ ?_ <;> omega
  · refine outK_of X j x 0 1 _ (fun r d => pay_ok X 0 0 1 (by omega) (by omega) _ _ _ (fun r l => by rw [back0_128]; exact hD0 r l) (fun r d => accR X v18 A0 A1 hA0 hA1 0 16 128 (by omega) (by omega) (by omega) _ r d) 0 16 rfl rfl (fun r => by omega) (fun r => by omega) (pay587_at _ _) r d) ?_ ?_ ?_ ?_ <;> omega
  · refine outK_of X j x 1 0 _ (fun r d => pay_ok X 0 1 0 (by omega) (by omega) _ _ _ (fun r l => by rw [back0_128]; exact hD0 r l) (fun r d => accR X v18 A0 A1 hA0 hA1 0 0 0 (by omega) (by omega) (by omega) _ r d) 8 8 rfl rfl (fun r => by omega) (fun r => by omega) (pay585_at _ _) r d) ?_ ?_ ?_ ?_ <;> omega
  · refine outK_of X j x 0 0 _ (fun r d => pay_ok X 0 0 0 (by omega) (by omega) _ _ _ (fun r l => by rw [back0_128]; exact hD0 r l) (fun r d => accR X v18 A0 A1 hA0 hA1 0 0 0 (by omega) (by omega) (by omega) _ r d) 0 0 rfl rfl (fun r => by omega) (fun r => by omega) (pay584_at _ _) r d) ?_ ?_ ?_ ?_ <;> omega
end

theorem caseOut  (c : Dev nD) (i : grid0.Coords) (arg2 : Memref sig .tc .vmem S2x32x128 .bf16) (harg2 : arg2.IsWhole) (arg3 : Memref sig .tc .vmem S2x4x128 .bf16) (harg3 : arg3.IsWhole) (arg4 : Memref sig .tc .vmem S2x4x128 .bf16) (harg4 : arg4.IsWhole) (arg5 : Memref sig .tc .vmem S16384x128 .fp8e4m3) (harg5 : arg5.IsWhole) (arg6 : Memref sig .tc .vmem S16384x128 .fp8e4m3) (harg6 : arg6.IsWhole) (arg7 : Memref sig .tc .vmem S4x4096 .f32) (harg7 : arg7.IsWhole) (arg8 : Memref sig .tc .vmem S4x4096 .f32) (harg8 : arg8.IsWhole) (arg9 : Memref sig .tc .vmem S2x1024x4x128 .fp8e4m3) (harg9 : arg9.IsWhole) (arg10 : Memref sig .tc .vmem S2x1024x4x128 .fp8e4m3) (harg10 : arg10.IsWhole) (arg11 : Memref sig .tc .vmem S2x4x1024 .f32) (harg11 : arg11.IsWhole) (arg12 : Memref sig .tc .vmem S2x4x1024 .f32) (harg12 : arg12.IsWhole) (arg13 : Memref sig .tc .vmem S2x32x128 .bf16) (harg13 : arg13.IsWhole) (arg14 : Memref sig .tc .vmem S2x32x256 .bf16) (harg14 : arg14.IsWhole) (arg15 : Memref sig .tc .vmem S2x32x133120 .f32) (harg15 : arg15.IsWhole) (arg16 : Memref sig .tc .vmem S2x32x128 .f32) (harg16 : arg16.IsWhole) (arg17 : Memref sig .tc .vmem S2x32x128 .f32) (harg17 : arg17.IsWhole) (arg18 : Memref sig .tc .vmem S2x32x256 .f32) (harg18 : arg18.IsWhole) (hc0 : ¬cond0_0 i) (hc1 : ¬cond0_1 i) (hc2 : ¬cond0_2 i) (hc3 : cond0_3 i) (hc4 : cond0_4 i) (x0 : Vec Ideal S2x32x128 .bf16) (x1 : Vec Ideal S2x4x128 .bf16) (x2 : Vec Ideal S2x4x128 .bf16) (x3 : Vec Ideal S16384x128 .fp8e4m3) (x4 : Vec Ideal S16384x128 .fp8e4m3) (x5 : Vec Ideal S4x4096 .f32) (x6 : Vec Ideal S4x4096 .f32) (x7 : Vec Ideal S2x1024x4x128 .fp8e4m3) (x8 : Vec Ideal S2x1024x4x128 .fp8e4m3) (x9 : Vec Ideal S2x4x1024 .f32) (x10 : Vec Ideal S2x4x1024 .f32) (xt0 : TbBuf0 (F := Ideal) c tbM0_0) (xs0 : Vec Ideal S2x32x256 .bf16) (xs1 : Vec Ideal S2x32x133120 .f32) (xs2 : Vec Ideal S2x32x128 .f32) (xs3 : Vec Ideal S2x32x128 .f32) (xs4 : Vec Ideal S2x32x256 .f32) (X : In) (n : ℕ) (B : Blocks (c := c) X n x0 x1 x2 x3 x4 x5 x6 x7 x8 x9 x10 xt0) (hi : (i 0).val = n) (h63 : n = 63) (hn : 32 < n) (hn' : n < 64)
    (h : Inv X n xs0 xs1 xs2 xs3 xs4) (f) (L) (eL : L = [⟨Rect.unit (s := S2x32x128) ![1, 24, 0] S1x8x128.size inb_S2x32x128_S1x8x128_1_24_0, k0_pay595 (arg17.view.readCov (two128 (up128 (dchain (dn128 (rdL0 arg17 harg17 xs3)) (fun k => expT (rdS0 i hc3 arg15 harg15 xs1 k) (rdL0 arg16 harg16 xs2)) 16)) (up128 (dchain (dn128 (rdL1 arg17 harg17 xs3)) (fun k => expT (rdS1 i hc3 arg15 harg15 xs1 k) (rdL1 arg16 harg16 xs2)) 16)) []) R1l.toLoadRect) (arg18.view.readCov (two256 (accB (rdA0 arg18 harg18 xs4) (fun k => wt0 (rdS0 i hc3 arg15 harg15 xs1 k) (rdL0 arg16 harg16 xs2) (tileS arg8 harg8 x6 k)) (fun k => vp0 (tileK arg6 harg6 x4 k))) (accB (rdA1 arg18 harg18 xs4) (fun k => wt1 (rdS1 i hc3 arg15 harg15 xs1 k) (rdL1 arg16 harg16 xs2) (tileS arg8 harg8 x6 k)) (fun k => vp1 (tileK arg6 harg6 x4 k))) []) (Rect.unit (s := S2x32x256) ![1, 16, 128] S1x16x128.size inb_S2x32x256_S1x16x128_1_16_128).toLoadRect)⟩, ⟨Rect.unit (s := S2x32x128) ![0, 24, 0] S1x8x128.size inb_S2x32x128_S1x8x128_0_24_0, k0_pay594 (arg17.view.readCov (two128 (up128 (dchain (dn128 (rdL0 arg17 harg17 xs3)) (fun k => expT (rdS0 i hc3 arg15 harg15 xs1 k) (rdL0 arg16 harg16 xs2)) 16)) (up128 (dchain (dn128 (rdL1 arg17 harg17 xs3)) (fun k => expT (rdS1 i hc3 arg15 harg15 xs1 k) (rdL1 arg16 harg16 xs2)) 16)) []) R1l.toLoadRect) (arg18.view.readCov (two256 (accB (rdA0 arg18 harg18 xs4) (fun k => wt0 (rdS0 i hc3 arg15 harg15 xs1 k) (rdL0 arg16 harg16 xs2) (tileS arg8 harg8 x6 k)) (fun k => vp0 (tileK arg6 harg6 x4 k))) (accB (rdA1 arg18 harg18 xs4) (fun k => wt1 (rdS1 i hc3 arg15 harg15 xs1 k) (rdL1 arg16 harg16 xs2) (tileS arg8 harg8 x6 k)) (fun k => vp1 (tileK arg6 harg6 x4 k))) []) (Rect.unit (s := S2x32x256) ![1, 16, 128] S1x16x128.size inb_S2x32x256_S1x16x128_1_16_128).toLoadRect)⟩, ⟨Rect.unit (s := S2x32x128) ![1, 16, 0] S1x8x128.size inb_S2x32x128_S1x8x128_1_16_0, k0_pay592 (arg17.view.readCov (two128 (up128 (dchain (dn128 (rdL0 arg17 harg17 xs3)) (fun k => expT (rdS0 i hc3 arg15 harg15 xs1 k) (rdL0 arg16 harg16 xs2)) 16)) (up128 (dchain (dn128 (rdL1 arg17 harg17 xs3)) (fun k => expT (rdS1 i hc3 arg15 harg15 xs1 k) (rdL1 arg16 harg16 xs2)) 16)) []) R1l.toLoadRect) (arg18.view.readCov (two256 (accB (rdA0 arg18 harg18 xs4) (fun k => wt0 (rdS0 i hc3 arg15 harg15 xs1 k) (rdL0 arg16 harg16 xs2) (tileS arg8 harg8 x6 k)) (fun k => vp0 (tileK arg6 harg6 x4 k))) (accB (rdA1 arg18 harg18 xs4) (fun k => wt1 (rdS1 i hc3 arg15 harg15 xs1 k) (rdL1 arg16 harg16 xs2) (tileS arg8 harg8 x6 k)) (fun k => vp1 (tileK arg6 harg6 x4 k))) []) (Rect.unit (s := S2x32x256) ![1, 0, 0] S1x16x128.size inb_S2x32x256_S1x16x128_1_0_0).toLoadRect)⟩, ⟨Rect.unit (s := S2x32x128) ![0, 16, 0] S1x8x128.size inb_S2x32x128_S1x8x128_0_16_0, k0_pay591 (arg17.view.readCov (two128 (up128 (dchain (dn128 (rdL0 arg17 harg17 xs3)) (fun k => expT (rdS0 i hc3 arg15 harg15 xs1 k) (rdL0 arg16 harg16 xs2)) 16)) (up128 (dchain (dn128 (rdL1 arg17 harg17 xs3)) (fun k => expT (rdS1 i hc3 arg15 harg15 xs1 k) (rdL1 arg16 harg16 xs2)) 16)) []) R1l.toLoadRect) (arg18.view.readCov (two256 (accB (rdA0 arg18 harg18 xs4) (fun k => wt0 (rdS0 i hc3 arg15 harg15 xs1 k) (rdL0 arg16 harg16 xs2) (tileS arg8 harg8 x6 k)) (fun k => vp0 (tileK arg6 harg6 x4 k))) (accB (rdA1 arg18 harg18 xs4) (fun k => wt1 (rdS1 i hc3 arg15 harg15 xs1 k) (rdL1 arg16 harg16 xs2) (tileS arg8 harg8 x6 k)) (fun k => vp1 (tileK arg6 harg6 x4 k))) []) (Rect.unit (s := S2x32x256) ![1, 0, 0] S1x16x128.size inb_S2x32x256_S1x16x128_1_0_0).toLoadRect)⟩, ⟨Rect.unit (s := S2x32x128) ![1, 8, 0] S1x8x128.size inb_S2x32x128_S1x8x128_1_8_0, k0_pay588 (arg17.view.readCov (two128 (up128 (dchain (dn128 (rdL0 arg17 harg17 xs3)) (fun k => expT (rdS0 i hc3 arg15 harg15 xs1 k) (rdL0 arg16 harg16 xs2)) 16)) (up128 (dchain (dn128 (rdL1 arg17 harg17 xs3)) (fun k => expT (rdS1 i hc3 arg15 harg15 xs1 k) (rdL1 arg16 harg16 xs2)) 16)) []) R0l.toLoadRect) (arg18.view.readCov (two256 (accB (rdA0 arg18 harg18 xs4) (fun k => wt0 (rdS0 i hc3 arg15 harg15 xs1 k) (rdL0 arg16 harg16 xs2) (tileS arg8 harg8 x6 k)) (fun k => vp0 (tileK arg6 harg6 x4 k))) (accB (rdA1 arg18 harg18 xs4) (fun k => wt1 (rdS1 i hc3 arg15 harg15 xs1 k) (rdL1 arg16 harg16 xs2) (tileS arg8 harg8 x6 k)) (fun k => vp1 (tileK arg6 harg6 x4 k))) []) (Rect.unit (s := S2x32x256) ![0, 16, 128] S1x16x128.size inb_S2x32x256_S1x16x128_0_16_128).toLoadRect)⟩, ⟨Rect.unit (s := S2x32x128) ![0, 8, 0] S1x8x128.size inb_S2x32x128_S1x8x128_0_8_0, k0_pay587 (arg17.view.readCov (two128 (up128 (dchain (dn128 (rdL0 arg17 harg17 xs3)) (fun k => expT (rdS0 i hc3 arg15 harg15 xs1 k) (rdL0 arg16 harg16 xs2)) 16)) (up128 (dchain (dn128 (rdL1 arg17 harg17 xs3)) (fun k => expT (rdS1 i hc3 arg15 harg15 xs1 k) (rdL1 arg16 harg16 xs2)) 16)) []) R0l.toLoadRect) (arg18.view.readCov (two256 (accB (rdA0 arg18 harg18 xs4) (fun k => wt0 (rdS0 i hc3 arg15 harg15 xs1 k) (rdL0 arg16 harg16 xs2) (tileS arg8 harg8 x6 k)) (fun k => vp0 (tileK arg6 harg6 x4 k))) (accB (rdA1 arg18 harg18 xs4) (fun k => wt1 (rdS1 i hc3 arg15 harg15 xs1 k) (rdL1 arg16 harg16 xs2) (tileS arg8 harg8 x6 k)) (fun k => vp1 (tileK arg6 harg6 x4 k))) []) (Rect.unit (s := S2x32x256) ![0, 16, 128] S1x16x128.size inb_S2x32x256_S1x16x128_0_16_128).toLoadRect)⟩, ⟨Rect.unit (s := S2x32x128) ![1, 0, 0] S1x8x128.size inb_S2x32x128_S1x8x128_1_0_0, k0_pay585 (arg17.view.readCov (two128 (up128 (dchain (dn128 (rdL0 arg17 harg17 xs3)) (fun k => expT (rdS0 i hc3 arg15 harg15 xs1 k) (rdL0 arg16 harg16 xs2)) 16)) (up128 (dchain (dn128 (rdL1 arg17 harg17 xs3)) (fun k => expT (rdS1 i hc3 arg15 harg15 xs1 k) (rdL1 arg16 harg16 xs2)) 16)) []) R0l.toLoadRect) (arg18.view.readCov (two256 (accB (rdA0 arg18 harg18 xs4) (fun k => wt0 (rdS0 i hc3 arg15 harg15 xs1 k) (rdL0 arg16 harg16 xs2) (tileS arg8 harg8 x6 k)) (fun k => vp0 (tileK arg6 harg6 x4 k))) (accB (rdA1 arg18 harg18 xs4) (fun k => wt1 (rdS1 i hc3 arg15 harg15 xs1 k) (rdL1 arg16 harg16 xs2) (tileS arg8 harg8 x6 k)) (fun k => vp1 (tileK arg6 harg6 x4 k))) []) (Rect.unit (s := S2x32x256) ![0, 0, 0] S1x16x128.size inb_S2x32x256_S1x16x128_0_0_0).toLoadRect)⟩, ⟨Rect.unit (s := S2x32x128) ![0, 0, 0] S1x8x128.size inb_S2x32x128_S1x8x128_0_0_0, k0_pay584 (arg17.view.readCov (two128 (up128 (dchain (dn128 (rdL0 arg17 harg17 xs3)) (fun k => expT (rdS0 i hc3 arg15 harg15 xs1 k) (rdL0 arg16 harg16 xs2)) 16)) (up128 (dchain (dn128 (rdL1 arg17 harg17 xs3)) (fun k => expT (rdS1 i hc3 arg15 harg15 xs1 k) (rdL1 arg16 harg16 xs2)) 16)) []) R0l.toLoadRect) (arg18.view.readCov (two256 (accB (rdA0 arg18 harg18 xs4) (fun k => wt0 (rdS0 i hc3 arg15 harg15 xs1 k) (rdL0 arg16 harg16 xs2) (tileS arg8 harg8 x6 k)) (fun k => vp0 (tileK arg6 harg6 x4 k))) (accB (rdA1 arg18 harg18 xs4) (fun k => wt1 (rdS1 i hc3 arg15 harg15 xs1 k) (rdL1 arg16 harg16 xs2) (tileS arg8 harg8 x6 k)) (fun k => vp1 (tileK arg6 harg6 x4 k))) []) (Rect.unit (s := S2x32x256) ![0, 0, 0] S1x16x128.size inb_S2x32x256_S1x16x128_0_0_0).toLoadRect)⟩]) :
    arg13.view.read (Elt Ideal) (arg13.view.writes (Elt Ideal) f L) = outK X := by
  obtain ⟨hQ, hS, hM, hD, hA⟩ := h.2 hn
  subst eL
  have hs0 : ∀ k < 16, ∀ (r : Fin 32) (x : Fin 256), rdS0 i hc3 arg15 harg15 xs1 k (ix3 0 r x) = score X 0 r.val (4096 * (n - 32) + 256 * k + x.val) := fun k hk r x => by
    rw [rdS0_at i hc3 (by omega) arg15 harg15 xs1 k hk r x (by omega)]
    refine (hS 0 r _ (Or.inr ?_)).trans ?_
    · dsimp only; omega
    · show score X 0 r.val (4096 * ((i 0).val - 32) + 256 * k + x.val) = _
      rw [hi]
  have hs1 : ∀ k < 16, ∀ (r : Fin 32) (x : Fin 256), rdS1 i hc3 arg15 harg15 xs1 k (ix3 0 r x) = score X 1 r.val (4096 * (n - 32) + 256 * k + x.val) := fun k hk r x => by
    rw [rdS1_at i hc3 (by omega) arg15 harg15 xs1 k hk r x (by omega)]
    refine (hS 1 r _ (Or.inr ?_)).trans ?_
    · dsimp only; omega
    · show score X 1 r.val (4096 * ((i 0).val - 32) + 256 * k + x.val) = _
      rw [hi]
  have hm0 : ∀ (r : Fin 32) (l : Fin 128), rdL0 arg16 harg16 xs2 (ix3 0 r l) = rowMax X 0 r.val := fun r l => by
    rw [rdL0_at]; exact hM 0 r l
  have hm1 : ∀ (r : Fin 32) (l : Fin 128), rdL1 arg16 harg16 xs2 (ix3 0 r l) = rowMax X 1 r.val := fun r l => by
    rw [rdL1_at]; exact hM 1 r l
  have e32 : n - 32 + 1 = 32 := by omega
  refine out_core X arg17.view arg18.view arg13.view _ _ _ _ (fun r l => ?_) (fun r l => ?_) (fun r l => ?_) (fun r l => ?_) f
  · refine (d_step X 0 (n - 32) _ _ r l ?_ fun k hk x => ?_).trans (by rw [e32])
    · rw [rdL0_at]; exact hD 0 r l
    · refine (expT_at _ _ r _ (hm0 r) x).trans ?_
      rw [hs0 k hk]; rfl
  · refine (d_step X 1 (n - 32) _ _ r l ?_ fun k hk x => ?_).trans (by rw [e32])
    · rw [rdL1_at]; exact hD 1 r l
    · refine (expT_at _ _ r _ (hm1 r) x).trans ?_
      rw [hs1 k hk]; rfl
  · refine (a_step X 0 (n - 32) _ _ _ r l ?_ (fun k hk x => ?_) fun k hk x => ?_).trans (by rw [e32])
    · rw [rdA0_at]; exact hA 0 r l
    · exact wt0_ok B (by omega) hn' arg8 harg8 k hk _ _ r x (hm0 r) (hs0 k hk r x)
    · exact vp0_ok B (by omega) hn' arg6 harg6 k hk x l
  · refine (a_step X 1 (n - 32) _ _ _ r l ?_ (fun k hk x => ?_) fun k hk x => ?_).trans (by rw [e32])
    · rw [rdA1_at]; exact hA 1 r l
    · exact wt1_ok B (by omega) hn' arg8 harg8 k hk _ _ r x (hm1 r) (hs1 k hk r x)
    · exact vp1_ok B (by omega) hn' arg6 harg6 k hk x l

end Cert.KernelIdeal.Gen

end
-- ==== Proof.Val.Whole.lean ====
/- The whole kernel: what its result array holds at the end of a run, the argument arrays unchanged. -/
module

public import proofs.«01_k».proof.Proof.Val.Steps
public import proofs.«01_k».proof.Proof.Val.Out
public import Idealize.ShloMosaic.Lib.Pipeline.Value

@[expose] public section

set_option maxRecDepth 16384

noncomputable section

namespace Cert.KernelIdeal.Gen

open Idealize.ShloMosaic Idealize.ShloMosaic.TcCoe Idealize.ShloMosaic.Tactic Idealize.SL.Sem
open Idealize.ShloMosaic.Pipeline
open Cert.Attn Finset

variable (m : (ℓ : Loc nD τ sig) → Buf (Elt Ideal) ℓ) (ρ : Dev nD → PrngReg)

theorem step_out (hO : Ok m) (c : Dev nD) (t : Fin (cfgM m hO).N) (hc0 : ¬cond0_0 (grid0.coords t)) (hc1 : ¬cond0_1 (grid0.coords t)) (hc2 : ¬cond0_2 (grid0.coords t)) (hc3 : cond0_3 (grid0.coords t)) (hc4 : cond0_4 (grid0.coords t)) (xs0 : Vec Ideal S2x32x256 .bf16) (xs1 : Vec Ideal S2x32x133120 .f32) (xs2 : Vec Ideal S2x32x128 .f32) (xs3 : Vec Ideal S2x32x128 .f32) (xs4 : Vec Ideal S2x32x256 .f32) (f) (h : InvM m c t.val xs0 xs1 xs2 xs3 xs4) :
    (ms0_11 m hO t).view.read (Elt Ideal) ((ms0_11 m hO t).view.writes (Elt Ideal) f (runE m hO c t hc0 hc1 hc2 hc3 hc4 xs0 xs1 xs2 xs3 xs4).1) = outK (inM m c) := by
  have hN : t.val < 64 := t.isLt
  have h63 : t.val = 63 := by have := (hcond0_4 t).mp hc4; omega
  exact caseOut c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) scM0_0 (Memref.isWhole_whole _) scM0_1 (Memref.isWhole_whole _) scM0_2 (Memref.isWhole_whole _) scM0_3 (Memref.isWhole_whole _) scM0_4 (Memref.isWhole_whole _) hc0 hc1 hc2 hc3 hc4 (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (tbl m 0) xs0 xs1 xs2 xs3 xs4 (inM m c) t.val (blocks_ok m hO c t) (coord t) h63 (by omega) hN h _ _ (runE_out c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) scM0_0 (Memref.isWhole_whole _) scM0_1 (Memref.isWhole_whole _) scM0_2 (Memref.isWhole_whole _) scM0_3 (Memref.isWhole_whole _) scM0_4 (Memref.isWhole_whole _) hc0 hc1 hc2 hc3 hc4 (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (tbl m 0) xs0 xs1 xs2 xs3 xs4)

theorem steps (hO : Ok m) : Steps m hO (InvM m) (fun c => outK (inM m c)) :=
  ⟨step_a m hO, step_b m hO, step_c m hO, step_d m hO, step_e m hO, step_out m hO⟩

theorem whole (hO : Ok m) : ((cfgM m hO).win 11).WholeAt (⟨63, by decide⟩ : Fin grid0.N) :=
  ⟨(by decide +kernel : Pipeline.Window.flushOf grid0 true cc0_transform_11 ⟨63, by decide⟩ = true),
    (by decide +kernel : ∀ t : Fin grid0.N, Pipeline.Window.flushOf grid0 true cc0_transform_11 t = true → t = ⟨63, by decide⟩),
    fun a => by fin_cases a <;> exact ⟨rfl, rfl⟩⟩

theorem out_arr (I : Claim5 Ideal) (o : Dev nD → Vec Ideal S2x32x128 .bf16) (hO : Ok m) (c : Dev nD) :
    (dats m I o hO 0 c).arrAt 11 (cfgM m hO).N = o c := by
  refine (dats m I o hO 0 c).arrAt_eq_of_after_last 11 (⟨63, by decide⟩ : Fin grid0.N) (whole m hO) _ (fun j => ?_) (Memref.isWhole_whole _)
  rw [after0_11]
  exact (cast_eq _ _).trans (congrArg (o c) rfl)

theorem start (c : Dev nD) (d0 d1 d2 d3 d4) : InvM m c 0 d0 d1 d2 d3 d4 :=
  ⟨fun h => absurd h (by omega), fun h => absurd h (by omega)⟩

theorem value (hO : Ok m) : θ_run defs (onTc (τ := τ) (main (F := Ideal))) ⟨m, fun _ => 0, ρ⟩ (fun r => (∀ c : Dev nD,
      r.2.mem ((c.tc : Thread nD τ).loc main_v9) = outK (inM m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) ∧ r.2.sem = fun _ => 0) :=
  (θ_run defs _ _).mono (fun r hr => ⟨fun c => ⟨((hr.1 c).1 11).trans (out_arr m (InvM m) (fun c => outK (inM m c)) hO c),
      ((hr.1 c).2 main_arg0 (by decide : main_arg0 ∈ Pipeline.restRefs sig spec0)).trans (V_main_arg0 m c),
      ((hr.1 c).2 main_arg1 (by decide : main_arg1 ∈ Pipeline.restRefs sig spec0)).trans (V_main_arg1 m c),
      ((hr.1 c).2 main_arg2 (by decide : main_arg2 ∈ Pipeline.restRefs sig spec0)).trans (V_main_arg2 m c),
      ((hr.1 c).2 main_arg3 (by decide : main_arg3 ∈ Pipeline.restRefs sig spec0)).trans (V_main_arg3 m c),
      ((hr.1 c).2 main_arg4 (by decide : main_arg4 ∈ Pipeline.restRefs sig spec0)).trans (V_main_arg4 m c),
      ((hr.1 c).2 main_arg5 (by decide : main_arg5 ∈ Pipeline.restRefs sig spec0)).trans (V_main_arg5 m c),
      ((hr.1 c).2 main_arg6 (by decide : main_arg6 ∈ Pipeline.restRefs sig spec0)).trans (V_main_arg6 m c),
      (((hr.1 c).1 7).trans ((dats m (InvM m) (fun c => outK (inM m c)) hO 0 c).arrAt_in 7 rfl _)).trans ((A_eq m (InvM m) (fun c => outK (inM m c)) hO c 7).trans (V_main_arg7 m c)),
      (((hr.1 c).1 8).trans ((dats m (InvM m) (fun c => outK (inM m c)) hO 0 c).arrAt_in 8 rfl _)).trans ((A_eq m (InvM m) (fun c => outK (inM m c)) hO c 8).trans (V_main_arg8 m c)),
      ((hr.1 c).2 main_arg9 (by decide : main_arg9 ∈ Pipeline.restRefs sig spec0)).trans (V_main_arg9 m c),
      ((hr.1 c).2 main_arg10 (by decide : main_arg10 ∈ Pipeline.restRefs sig spec0)).trans (V_main_arg10 m c),
      ((hr.1 c).2 main_arg11 (by decide : main_arg11 ∈ Pipeline.restRefs sig spec0)).trans (V_main_arg11 m c)⟩, hr.2⟩)
    (run_main m ρ (InvM m) (fun c => outK (inM m c)) hO (steps m hO) (fun c => start m c))

end Cert.KernelIdeal.Gen

end
-- ==== Proof.Val.Ref.lean ====
/- The reference's result at an index: each of its eight stores computes one batch's and one group's rows. -/
module

public import proofs.«01_k».proof.Proof.Gen.ReferenceIdeal.Value
public import proofs.«01_k».proof.Proof.Val.Input
public import Idealize.ShloMosaic.Lib.Pipeline.ValueKit
public import Idealize.ShloMosaic.Lib.Pipeline.ReadBack

@[expose] public section

set_option maxRecDepth 16384

noncomputable section

namespace Cert.ReferenceIdeal.Gen

open Idealize.ShloMosaic Idealize.ShloMosaic.TcCoe Idealize.ShloMosaic.Tactic
open Cert.Attn Finset

theorem named_ss (b : BitVec 32) : Named.named (F := Ideal) κ "score_scale" (φ := .f32) b = scoreScale := rfl
theorem ninf : Ideal.ofBits FTy.f32 4286578688#32 = (⊥ : EReal) := by simp [Ideal.ofBits, Ideal.ieee]
theorem fold_max {ι : Type} (A : Finset ι) (f : ι → EReal) (z : EReal) : Finset.fold max z f A = z ⊔ A.sup f := by
  classical
  induction A using Finset.induction_on with
  | empty => simp
  | insert a s ha ih => rw [Finset.fold_insert ha, ih, Finset.sup_insert]; exact sup_left_comm _ _ _
theorem sup_fin (f : ℕ → EReal) (n : ℕ) : (Finset.univ.sup fun l : Fin n => f l.val) = (range n).sup f := by
  apply le_antisymm
  · exact Finset.sup_le fun l _ => Finset.le_sup (f := f) (Finset.mem_range.mpr l.isLt)
  · exact Finset.sup_le fun j hj => Finset.le_sup (f := fun l : Fin n => f l.val) (Finset.mem_univ (⟨j, Finset.mem_range.mp hj⟩ : Fin n))

/-- What one store writes, from the reads that it makes. -/
def rpiece (q : Vec Ideal S1x8x128 .bf16) (kp : Vec Ideal S131072x128 .fp8e4m3) (kps : Vec Ideal S1x131072 .f32) (kt : Vec Ideal S1x1024x128 .fp8e4m3) (kts : Vec Ideal S1x1x1024 .f32)
    (len : BitVec 32) (kn : Vec Ideal S1x1x128 .bf16) (vps : Vec Ideal S1x131072 .f32) (vts : Vec Ideal S1x1x1024 .f32) (vp : Vec Ideal S131072x128 .fp8e4m3)
    (vt : Vec Ideal S1x1024x128 .fp8e4m3) (vn : Vec Ideal S1x1x128 .bf16) : FVec Ideal S1x8x128 .bf16 :=
  k0_pay14 (k0_pay11 (k0_pay3 q kp kps) (k0_pay4 q kt kts len) (k0_pay5 q kn) (Named.named κ "score_scale" 0x3DB504F3#32))
    (k0_pay12 (k0_pay3 q kp kps) (k0_pay4 q kt kts len) (k0_pay5 q kn) (Named.named κ "score_scale" 0x3DB504F3#32) vps vts vp vt)
    (k0_pay13 (k0_pay3 q kp kps) (k0_pay4 q kt kts len) (k0_pay5 q kn) (Named.named κ "score_scale" 0x3DB504F3#32)) vn

section
variable (X : In) (b g : ℕ) {q : Vec Ideal S1x8x128 .bf16} {kp : Vec Ideal S131072x128 .fp8e4m3} {kps : Vec Ideal S1x131072 .f32} {kt : Vec Ideal S1x1024x128 .fp8e4m3} {kts : Vec Ideal S1x1x1024 .f32}
    {len : BitVec 32} {kn : Vec Ideal S1x1x128 .bf16} {vps : Vec Ideal S1x131072 .f32} {vts : Vec Ideal S1x1x1024 .f32} {vp : Vec Ideal S131072x128 .fp8e4m3}
    {vt : Vec Ideal S1x1024x128 .fp8e4m3} {vn : Vec Ideal S1x1x128 .bf16}

theorem rs_at (hq : ∀ (r : Fin 8) (d : Fin 128), q (ix3 0 r d) = X.q b (8 * g + r.val) d.val) (hk : ∀ (j : Fin 131072) (d : Fin 128), kp (ix2 j d) = X.kp j.val g d.val)
    (hs : ∀ j : Fin 131072, kps (ix2 0 j) = X.kps j.val g) (r : Fin 8) (j : Fin 131072) : k0_pay3 q kp kps (ix2 r j) = rsp X b (8 * g + r.val) j.val := by
  pointwise [k0_pay3, k0_pay2]
  simp only [hq, hk, hs, named_ss]
  unfold rsp
  rw [show (8 * g + r.val) / 8 = g from by omega, Finset.sum_range]
theorem rt_at (hq : ∀ (r : Fin 8) (d : Fin 128), q (ix3 0 r d) = X.q b (8 * g + r.val) d.val) (hk : ∀ (j : Fin 1024) (d : Fin 128), kt (ix3 0 j d) = X.kt b j.val g d.val)
    (hs : ∀ j : Fin 1024, kts (ix3 0 0 j) = X.kts b j.val g) (hl : len.toInt = X.len b) (r : Fin 8) (j : Fin 1024) : k0_pay4 q kt kts len (ix2 r j) = rst X b (8 * g + r.val) j.val := by
  have e : k0_pay4 q kt kts len (ix2 r j) = Scalar.select (IntOp.cmpi .slt (BitVec.ofNat 32 j.val) len) ((∑ d : Fin 128, q (ix3 0 r d) * kt (ix3 0 j d)) * kts (ix3 0 0 j) * scoreScale) (Ideal.ofBits FTy.f32 4286578688#32) := by
    pointwise [k0_pay4, k0_pay2]
    simp only [named_ss]
  rw [e]
  simp only [hq, hk, hs, ninf]
  rw [show IntOp.cmpi .slt (BitVec.ofNat 32 j.val) len = if (j.val : ℤ) < X.len b then 1#1 else 0#1 from ?_]
  · unfold rst
    rw [show (8 * g + r.val) / 8 = g from by omega, Finset.sum_range]
    split <;> rfl
  · rw [← hl]
    have h2 : (BitVec.ofNat 32 j.val).toInt = (j.val : ℤ) := by
      have hj := j.isLt
      rw [BitVec.toInt_eq_toNat_of_lt] <;> rw [BitVec.toNat_ofNat, Nat.mod_eq_of_lt (by omega)] <;> omega
    rw [WordCmp.cmpi_slt_eq, h2]
    by_cases c : (j.val : ℤ) < len.toInt
    all_goals simp only [c, decide_true, decide_false, if_true, if_false]
    all_goals rfl
theorem rn_at (hq : ∀ (r : Fin 8) (d : Fin 128), q (ix3 0 r d) = X.q b (8 * g + r.val) d.val) (hk : ∀ d : Fin 128, kn (ix3 0 0 d) = X.kn b g d.val) (r : Fin 8) :
    k0_pay6 (k0_pay5 q kn) (Named.named κ "score_scale" 0x3DB504F3#32) (ix2 r 0) = rsn X b (8 * g + r.val) := by
  pointwise [k0_pay6, k0_pay5, k0_pay2]
  simp only [hq, hk, named_ss]
  unfold rsn
  rw [show (8 * g + r.val) / 8 = g from by omega, Finset.sum_range]

section
variable (v11 : FVec Ideal S8x131072 .f32) (v27 : FVec Ideal S8x1024 .f32) (v35 : FVec Ideal S8x1 .f32) (cs : EReal) (h : ℕ) (r : Fin 8)
    (h1 : ∀ j : Fin 131072, v11 (ix2 r j) = rsp X b h j.val) (h2 : ∀ j : Fin 1024, v27 (ix2 r j) = rst X b h j.val) (h3 : k0_pay6 (F := Ideal) v35 cs (ix2 r 0) = rsn X b h)
include h1 h2 h3

theorem rmax_at : k0_pay7 (F := Ideal) v11 v27 v35 cs (ix2 r 0) = rmax X b h := by
  have e : k0_pay7 (F := Ideal) v11 v27 v35 cs (ix2 r 0) = max (max (Finset.fold max (Ideal.ofBits FTy.f32 4286578688#32) (fun j : Fin 131072 => v11 (ix2 r j)) Finset.univ)
      (Finset.fold max (Ideal.ofBits FTy.f32 4286578688#32) (fun j : Fin 1024 => v27 (ix2 r j)) Finset.univ)) (k0_pay6 (F := Ideal) v35 cs (ix2 r 0)) := by
    pointwise [k0_pay7]
  rw [e, fold_max, fold_max, ninf, bot_sup_eq, bot_sup_eq, h3]
  simp only [h1, h2]
  rw [sup_fin (rsp X b h) 131072, sup_fin (rst X b h) 1024]
  rfl
theorem e1_at (j : Fin 131072) : k0_pay8 (F := Ideal) v11 v27 v35 cs (ix2 r j) = Ideal.exp (rsp X b h j.val - rmax X b h) := by
  have e : k0_pay8 (F := Ideal) v11 v27 v35 cs (ix2 r j) = Ideal.exp (v11 (ix2 r j) - k0_pay7 (F := Ideal) v11 v27 v35 cs (ix2 r 0)) := by
    pointwise [k0_pay8]
  rw [e, h1, rmax_at X b v11 v27 v35 cs h r h1 h2 h3]
theorem e2_at (j : Fin 1024) : k0_pay9 (F := Ideal) v11 v27 v35 cs (ix2 r j) = Ideal.exp (rst X b h j.val - rmax X b h) := by
  have e : k0_pay9 (F := Ideal) v11 v27 v35 cs (ix2 r j) = Ideal.exp (v27 (ix2 r j) - k0_pay7 (F := Ideal) v11 v27 v35 cs (ix2 r 0)) := by
    pointwise [k0_pay9]
  rw [e, h2, rmax_at X b v11 v27 v35 cs h r h1 h2 h3]
theorem e3_at : k0_pay10 (F := Ideal) v11 v27 v35 cs (ix2 r 0) = Ideal.exp (rsn X b h - rmax X b h) := by
  have e : k0_pay10 (F := Ideal) v11 v27 v35 cs (ix2 r 0) = Ideal.exp (k0_pay6 (F := Ideal) v35 cs (ix2 r 0) - k0_pay7 (F := Ideal) v11 v27 v35 cs (ix2 r 0)) := by
    pointwise [k0_pay10]
  rw [e, h3, rmax_at X b v11 v27 v35 cs h r h1 h2 h3]
theorem rden_at : k0_pay11 (F := Ideal) v11 v27 v35 cs (ix2 r 0) = rden X b h := by
  have e : k0_pay11 (F := Ideal) v11 v27 v35 cs (ix2 r 0) = ((∑ j : Fin 131072, k0_pay8 (F := Ideal) v11 v27 v35 cs (ix2 r j)) + ∑ j : Fin 1024, k0_pay9 (F := Ideal) v11 v27 v35 cs (ix2 r j))
      + k0_pay10 (F := Ideal) v11 v27 v35 cs (ix2 r 0) := by
    pointwise [k0_pay11]
  rw [e, e3_at X b v11 v27 v35 cs h r h1 h2 h3]
  simp only [e1_at X b v11 v27 v35 cs h r h1 h2 h3, e2_at X b v11 v27 v35 cs h r h1 h2 h3]
  unfold rden
  rw [Finset.sum_range, Finset.sum_range]
theorem rout_at (hg : h / 8 = g) (hvps : ∀ j : Fin 131072, vps (ix2 0 j) = X.vps j.val g) (hvts : ∀ j : Fin 1024, vts (ix3 0 0 j) = X.vts b j.val g)
    (hvp : ∀ (j : Fin 131072) (d : Fin 128), vp (ix2 j d) = X.vp j.val g d.val) (hvt : ∀ (j : Fin 1024) (d : Fin 128), vt (ix3 0 j d) = X.vt b j.val g d.val)
    (hvn : ∀ d : Fin 128, vn (ix3 0 0 d) = X.vn b g d.val) (d : Fin 128) :
    k0_pay14 (F := Ideal) (k0_pay11 v11 v27 v35 cs) (k0_pay12 v11 v27 v35 cs vps vts vp vt) (k0_pay13 v11 v27 v35 cs) vn (ix3 0 r d) = rout X b h d.val := by
  have e : k0_pay14 (F := Ideal) (k0_pay11 v11 v27 v35 cs) (k0_pay12 v11 v27 v35 cs vps vts vp vt) (k0_pay13 v11 v27 v35 cs) vn (ix3 0 r d)
      = Ideal.div (((∑ j : Fin 131072, k0_pay8 (F := Ideal) v11 v27 v35 cs (ix2 r j) * vps (ix2 0 j) * vp (ix2 j d)) + ∑ j : Fin 1024, k0_pay9 (F := Ideal) v11 v27 v35 cs (ix2 r j) * vts (ix3 0 0 j) * vt (ix3 0 j d))
        + k0_pay10 (F := Ideal) v11 v27 v35 cs (ix2 r 0) * vn (ix3 0 0 d)) (k0_pay11 (F := Ideal) v11 v27 v35 cs (ix2 r 0)) := by
    pointwise [k0_pay14, k0_pay12, k0_pay13]
  rw [e, e3_at X b v11 v27 v35 cs h r h1 h2 h3, rden_at X b v11 v27 v35 cs h r h1 h2 h3, hvn]
  simp only [e1_at X b v11 v27 v35 cs h r h1 h2 h3, e2_at X b v11 v27 v35 cs h r h1 h2 h3, hvps, hvts, hvp, hvt]
  unfold rout rnum
  rw [hg, Finset.sum_range, Finset.sum_range]
end
end

end Cert.ReferenceIdeal.Gen

end
-- ==== Proof.Val.RefBlk.lean ====
/- The reference's result: its eight stores together are the attention. -/
module

public import proofs.«01_k».proof.Proof.Val.Ref

@[expose] public section

set_option maxRecDepth 16384

noncomputable section

namespace Cert.ReferenceIdeal.Gen

open Idealize.ShloMosaic Idealize.ShloMosaic.TcCoe Idealize.ShloMosaic.Tactic
open Cert.Attn Finset

variable (m : (ℓ : Loc nD τ sig) → Buf (Elt Ideal) ℓ)

theorem ax0 {x n k : ℕ} (h : x = 0) : x * n + k = k := by rw [h, Nat.zero_mul, Nat.zero_add]

/-- The inputs that the memory holds. -/
def inR (c : Dev nD) : In :=
  inOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))

theorem blkR0 (c : Dev nD) (b : Fin 2) (h : Fin 32) (d : Fin 128) : iblk m c 0 t0_0 (ix3 b h d) = m ((c : Thread nD τ).loc main_arg0) (ix4 b 0 h d) := by
  have e : iblk m c 0 t0_0 (ix3 b h d) = V m c main_v0 (ix3 b h d) := by
    blk_ext [iblk]
    all_goals exact ax0 (by rfl)
  rw [e]
  entry_read
  pointwise []
theorem blkR1 (c : Dev nD) (b : Fin 2) (h : Fin 4) (d : Fin 128) : iblk m c 1 t0_0 (ix3 b h d) = m ((c : Thread nD τ).loc main_arg1) (ix4 b 0 h d) := by
  have e : iblk m c 1 t0_0 (ix3 b h d) = V m c main_v9 (ix3 b h d) := by
    blk_ext [iblk]
    all_goals exact ax0 (by rfl)
  rw [e]
  entry_read
  pointwise []
theorem blkR2 (c : Dev nD) (b : Fin 2) (h : Fin 4) (d : Fin 128) : iblk m c 2 t0_0 (ix3 b h d) = m ((c : Thread nD τ).loc main_arg2) (ix4 b 0 h d) := by
  have e : iblk m c 2 t0_0 (ix3 b h d) = V m c main_v10 (ix3 b h d) := by
    blk_ext [iblk]
    all_goals exact ax0 (by rfl)
  rw [e]
  entry_read
  pointwise []
theorem blkR3 (c : Dev nD) (j : Fin 131072) (g : Fin 4) (d : Fin 128) : iblk m c 3 t0_0 (ix2 j ⟨128 * g.val + d.val, by omega⟩) = m ((c : Thread nD τ).loc main_arg3) (ix3 j g d) := by
  have e : iblk m c 3 t0_0 (ix2 j ⟨128 * g.val + d.val, by omega⟩) = V m c main_v1 (ix2 j ⟨128 * g.val + d.val, by omega⟩) := by
    blk_ext [iblk]
    all_goals exact ax0 (by rfl)
  rw [e]
  entry_read
  pointwise []
  blk_ext []
theorem blkR4 (c : Dev nD) (j : Fin 131072) (g : Fin 4) (d : Fin 128) : iblk m c 4 t0_0 (ix2 j ⟨128 * g.val + d.val, by omega⟩) = m ((c : Thread nD τ).loc main_arg4) (ix3 j g d) := by
  have e : iblk m c 4 t0_0 (ix2 j ⟨128 * g.val + d.val, by omega⟩) = V m c main_v2 (ix2 j ⟨128 * g.val + d.val, by omega⟩) := by
    blk_ext [iblk]
    all_goals exact ax0 (by rfl)
  rw [e]
  entry_read
  pointwise []
  blk_ext []
theorem blkR5 (c : Dev nD) (g : Fin 4) (j : Fin 131072) : iblk m c 5 t0_0 (ix2 g j) = m ((c : Thread nD τ).loc main_arg5) (ix2 j g) := by
  have e : iblk m c 5 t0_0 (ix2 g j) = V m c main_v5 (ix2 g j) := by
    blk_ext [iblk]
    all_goals exact ax0 (by rfl)
  rw [e]
  entry_read
  pointwise []
theorem blkR6 (c : Dev nD) (g : Fin 4) (j : Fin 131072) : iblk m c 6 t0_0 (ix2 g j) = m ((c : Thread nD τ).loc main_arg6) (ix2 j g) := by
  have e : iblk m c 6 t0_0 (ix2 g j) = V m c main_v6 (ix2 g j) := by
    blk_ext [iblk]
    all_goals exact ax0 (by rfl)
  rw [e]
  entry_read
  pointwise []
theorem blkR7 (c : Dev nD) (b : Fin 2) (j : Fin 1024) (g : Fin 4) (d : Fin 128) : iblk m c 7 t0_0 (ix3 b j ⟨128 * g.val + d.val, by omega⟩) = m ((c : Thread nD τ).loc main_arg7) (ix4 b j g d) := by
  have e : iblk m c 7 t0_0 (ix3 b j ⟨128 * g.val + d.val, by omega⟩) = V m c main_v3 (ix3 b j ⟨128 * g.val + d.val, by omega⟩) := by
    blk_ext [iblk]
    all_goals exact ax0 (by rfl)
  rw [e]
  entry_read
  pointwise []
  blk_ext []
theorem blkR8 (c : Dev nD) (b : Fin 2) (j : Fin 1024) (g : Fin 4) (d : Fin 128) : iblk m c 8 t0_0 (ix3 b j ⟨128 * g.val + d.val, by omega⟩) = m ((c : Thread nD τ).loc main_arg8) (ix4 b j g d) := by
  have e : iblk m c 8 t0_0 (ix3 b j ⟨128 * g.val + d.val, by omega⟩) = V m c main_v4 (ix3 b j ⟨128 * g.val + d.val, by omega⟩) := by
    blk_ext [iblk]
    all_goals exact ax0 (by rfl)
  rw [e]
  entry_read
  pointwise []
  blk_ext []
theorem blkR9 (c : Dev nD) (b : Fin 2) (g : Fin 4) (h : Fin 1024) : iblk m c 9 t0_0 (ix3 b g h) = m ((c : Thread nD τ).loc main_arg9) (ix3 b h g) := by
  have e : iblk m c 9 t0_0 (ix3 b g h) = V m c main_v7 (ix3 b g h) := by
    blk_ext [iblk]
    all_goals exact ax0 (by rfl)
  rw [e]
  entry_read
  pointwise []
theorem blkR10 (c : Dev nD) (b : Fin 2) (g : Fin 4) (h : Fin 1024) : iblk m c 10 t0_0 (ix3 b g h) = m ((c : Thread nD τ).loc main_arg10) (ix3 b h g) := by
  have e : iblk m c 10 t0_0 (ix3 b g h) = V m c main_v8 (ix3 b g h) := by
    blk_ext [iblk]
    all_goals exact ax0 (by rfl)
  rw [e]
  entry_read
  pointwise []
theorem blkR11 (c : Dev nD) (b : Fin 2) : iblk m c 11 t0_0 (ix1 b) = m ((c : Thread nD τ).loc main_arg11) (ix1 b) := by
  have e : iblk m c 11 t0_0 (ix1 b) = V m c main_arg11 (ix1 b) := by
    blk_ext [iblk]
    all_goals exact ax0 (by rfl)
  rw [e]
  entry_read
  rfl

end Cert.ReferenceIdeal.Gen

end
-- ==== Proof.Val.RefOut.lean ====
/- The reference's result: its eight stores together are the attention. -/
module

public import proofs.«01_k».proof.Proof.Val.RefBlk

@[expose] public section

set_option maxRecDepth 16384

noncomputable section

namespace Cert.ReferenceIdeal.Gen

open Idealize.ShloMosaic Idealize.ShloMosaic.TcCoe Idealize.ShloMosaic.Tactic
open Cert.Attn Finset

variable (m : (ℓ : Loc nD τ sig) → Buf (Elt Ideal) ℓ)

section
variable (c : Dev nD) (b g : ℕ) (hb : b < 2) (hg : g < 4)
include hb hg
theorem ld0 (h) (r : Fin 8) (d : Fin 128) : View.ld (iblk m c 0 t0_0) (Rect.unit ![b, 8 * g, 0] ![1, 8, 128] h) (ix3 0 r d) = (inR m c).q b (8 * g + r.val) d.val := by
  refine (View.ld_unit_apply_of _ _ _ _ _ (ix3 ⟨b, hb⟩ ⟨8 * g + r.val, by omega⟩ d) fun a => ?_).trans ?_
  · fin_cases a
    · show b = b + 0; rfl
    · show 8 * g + r.val = 8 * g + r.val; rfl
    · show d.val = 0 + d.val; omega
  · refine (blkR0 m c ⟨b, hb⟩ ⟨8 * g + r.val, by omega⟩ d).trans ?_
    simp only [inR, inOf, ofNat_val]
    rw [ofNat_eq (n := 2) b hb, ofNat_eq (n := 32) _ (by omega)]
theorem ld1 (h) (d : Fin 128) : View.ld (iblk m c 1 t0_0) (Rect.unit ![b, g, 0] ![1, 1, 128] h) (ix3 0 0 d) = (inR m c).kn b g d.val := by
  refine (View.ld_unit_apply_of _ _ _ _ _ (ix3 ⟨b, hb⟩ ⟨g, hg⟩ d) fun a => ?_).trans ?_
  · fin_cases a
    · show b = b + 0; rfl
    · show g = g + 0; rfl
    · show d.val = 0 + d.val; omega
  · refine (blkR1 m c ⟨b, hb⟩ ⟨g, hg⟩ d).trans ?_
    simp only [inR, inOf, ofNat_val]
    rw [ofNat_eq (n := 2) b hb, ofNat_eq (n := 4) g hg]
theorem ld2 (h) (d : Fin 128) : View.ld (iblk m c 2 t0_0) (Rect.unit ![b, g, 0] ![1, 1, 128] h) (ix3 0 0 d) = (inR m c).vn b g d.val := by
  refine (View.ld_unit_apply_of _ _ _ _ _ (ix3 ⟨b, hb⟩ ⟨g, hg⟩ d) fun a => ?_).trans ?_
  · fin_cases a
    · show b = b + 0; rfl
    · show g = g + 0; rfl
    · show d.val = 0 + d.val; omega
  · refine (blkR2 m c ⟨b, hb⟩ ⟨g, hg⟩ d).trans ?_
    simp only [inR, inOf, ofNat_val]
    rw [ofNat_eq (n := 2) b hb, ofNat_eq (n := 4) g hg]
theorem ld3 (h) (j : Fin 131072) (d : Fin 128) : View.ld (iblk m c 3 t0_0) (Rect.unit ![0, 128 * g] ![131072, 128] h) (ix2 j d) = (inR m c).kp j.val g d.val := by
  refine (View.ld_unit_apply_of _ _ _ _ _ (ix2 j ⟨128 * g + d.val, by omega⟩) fun a => ?_).trans ?_
  · fin_cases a
    · show j.val = 0 + j.val; omega
    · show 128 * g + d.val = 128 * g + d.val; rfl
  · refine (blkR3 m c j ⟨g, hg⟩ d).trans ?_
    simp only [inR, inOf, ofNat_val]
    rw [ofNat_eq (n := 4) g hg]
theorem ld4 (h) (j : Fin 131072) (d : Fin 128) : View.ld (iblk m c 4 t0_0) (Rect.unit ![0, 128 * g] ![131072, 128] h) (ix2 j d) = (inR m c).vp j.val g d.val := by
  refine (View.ld_unit_apply_of _ _ _ _ _ (ix2 j ⟨128 * g + d.val, by omega⟩) fun a => ?_).trans ?_
  · fin_cases a
    · show j.val = 0 + j.val; omega
    · show 128 * g + d.val = 128 * g + d.val; rfl
  · refine (blkR4 m c j ⟨g, hg⟩ d).trans ?_
    simp only [inR, inOf, ofNat_val]
    rw [ofNat_eq (n := 4) g hg]
theorem ld5 (h) (j : Fin 131072) : View.ld (iblk m c 5 t0_0) (Rect.unit ![g, 0] ![1, 131072] h) (ix2 0 j) = (inR m c).kps j.val g := by
  refine (View.ld_unit_apply_of _ _ _ _ _ (ix2 ⟨g, hg⟩ j) fun a => ?_).trans ?_
  · fin_cases a
    · show g = g + 0; rfl
    · show j.val = 0 + j.val; omega
  · refine (blkR5 m c ⟨g, hg⟩ j).trans ?_
    simp only [inR, inOf, ofNat_val]
    rw [ofNat_eq (n := 4) g hg]
theorem ld6 (h) (j : Fin 131072) : View.ld (iblk m c 6 t0_0) (Rect.unit ![g, 0] ![1, 131072] h) (ix2 0 j) = (inR m c).vps j.val g := by
  refine (View.ld_unit_apply_of _ _ _ _ _ (ix2 ⟨g, hg⟩ j) fun a => ?_).trans ?_
  · fin_cases a
    · show g = g + 0; rfl
    · show j.val = 0 + j.val; omega
  · refine (blkR6 m c ⟨g, hg⟩ j).trans ?_
    simp only [inR, inOf, ofNat_val]
    rw [ofNat_eq (n := 4) g hg]
theorem ld7 (h) (j : Fin 1024) (d : Fin 128) : View.ld (iblk m c 7 t0_0) (Rect.unit ![b, 0, 128 * g] ![1, 1024, 128] h) (ix3 0 j d) = (inR m c).kt b j.val g d.val := by
  refine (View.ld_unit_apply_of _ _ _ _ _ (ix3 ⟨b, hb⟩ j ⟨128 * g + d.val, by omega⟩) fun a => ?_).trans ?_
  · fin_cases a
    · show b = b + 0; rfl
    · show j.val = 0 + j.val; omega
    · show 128 * g + d.val = 128 * g + d.val; rfl
  · refine (blkR7 m c ⟨b, hb⟩ j ⟨g, hg⟩ d).trans ?_
    simp only [inR, inOf, ofNat_val]
    rw [ofNat_eq (n := 2) b hb, ofNat_eq (n := 4) g hg]
theorem ld8 (h) (j : Fin 1024) (d : Fin 128) : View.ld (iblk m c 8 t0_0) (Rect.unit ![b, 0, 128 * g] ![1, 1024, 128] h) (ix3 0 j d) = (inR m c).vt b j.val g d.val := by
  refine (View.ld_unit_apply_of _ _ _ _ _ (ix3 ⟨b, hb⟩ j ⟨128 * g + d.val, by omega⟩) fun a => ?_).trans ?_
  · fin_cases a
    · show b = b + 0; rfl
    · show j.val = 0 + j.val; omega
    · show 128 * g + d.val = 128 * g + d.val; rfl
  · refine (blkR8 m c ⟨b, hb⟩ j ⟨g, hg⟩ d).trans ?_
    simp only [inR, inOf, ofNat_val]
    rw [ofNat_eq (n := 2) b hb, ofNat_eq (n := 4) g hg]
theorem ld9 (h) (j : Fin 1024) : View.ld (iblk m c 9 t0_0) (Rect.unit ![b, g, 0] ![1, 1, 1024] h) (ix3 0 0 j) = (inR m c).kts b j.val g := by
  refine (View.ld_unit_apply_of _ _ _ _ _ (ix3 ⟨b, hb⟩ ⟨g, hg⟩ j) fun a => ?_).trans ?_
  · fin_cases a
    · show b = b + 0; rfl
    · show g = g + 0; rfl
    · show j.val = 0 + j.val; omega
  · refine (blkR9 m c ⟨b, hb⟩ ⟨g, hg⟩ j).trans ?_
    simp only [inR, inOf, ofNat_val]
    rw [ofNat_eq (n := 2) b hb, ofNat_eq (n := 4) g hg]
theorem ld10 (h) (j : Fin 1024) : View.ld (iblk m c 10 t0_0) (Rect.unit ![b, g, 0] ![1, 1, 1024] h) (ix3 0 0 j) = (inR m c).vts b j.val g := by
  refine (View.ld_unit_apply_of _ _ _ _ _ (ix3 ⟨b, hb⟩ ⟨g, hg⟩ j) fun a => ?_).trans ?_
  · fin_cases a
    · show b = b + 0; rfl
    · show g = g + 0; rfl
    · show j.val = 0 + j.val; omega
  · refine (blkR10 m c ⟨b, hb⟩ ⟨g, hg⟩ j).trans ?_
    simp only [inR, inOf, ofNat_val]
    rw [ofNat_eq (n := 2) b hb, ofNat_eq (n := 4) g hg]
theorem ld11 (h) (x : (Rect.unit (s := S2) ![b] ![1] h).shape.Idx) : (View.ld (iblk m c 11 t0_0) (Rect.unit (s := S2) ![b] ![1] h) x : BitVec 32).toInt = (inR m c).len b := by
  refine congrArg BitVec.toInt ((View.ld_unit_apply_of _ _ _ _ _ (ix1 ⟨b, hb⟩) fun a => ?_).trans ((blkR11 m c ⟨b, hb⟩).trans ?_))
  · fin_cases a
    show b = b + (x 0).val
    have hx : (x 0).val < 1 := (x 0).isLt
    omega
  · simp only [inR, inOf]
    rw [ofNat_eq (n := 2) b hb]

theorem rp_ok (h0 h1 h2 h3 h4 h5 h6 h7 h8 h9 h10 h11) (x : (Rect.unit (s := S2) ![b] ![1] h11).shape.Idx) (r : Fin 8) (d : Fin 128) :
    rpiece (View.ld (iblk m c 0 t0_0) (Rect.unit ![b, 8 * g, 0] ![1, 8, 128] h0)) (View.ld (iblk m c 3 t0_0) (Rect.unit ![0, 128 * g] ![131072, 128] h3)) (View.ld (iblk m c 5 t0_0) (Rect.unit ![g, 0] ![1, 131072] h5)) (View.ld (iblk m c 7 t0_0) (Rect.unit ![b, 0, 128 * g] ![1, 1024, 128] h7)) (View.ld (iblk m c 9 t0_0) (Rect.unit ![b, g, 0] ![1, 1, 1024] h9)) (View.ld (iblk m c 11 t0_0) (Rect.unit (s := S2) ![b] ![1] h11) x) (View.ld (iblk m c 1 t0_0) (Rect.unit ![b, g, 0] ![1, 1, 128] h1)) (View.ld (iblk m c 6 t0_0) (Rect.unit ![g, 0] ![1, 131072] h6)) (View.ld (iblk m c 10 t0_0) (Rect.unit ![b, g, 0] ![1, 1, 1024] h10)) (View.ld (iblk m c 4 t0_0) (Rect.unit ![0, 128 * g] ![131072, 128] h4)) (View.ld (iblk m c 8 t0_0) (Rect.unit ![b, 0, 128 * g] ![1, 1024, 128] h8)) (View.ld (iblk m c 2 t0_0) (Rect.unit ![b, g, 0] ![1, 1, 128] h2)) (ix3 0 r d)
      = rout (inR m c) b (8 * g + r.val) d.val := by
  unfold rpiece
  refine rout_at (inR m c) b g _ _ _ _ (8 * g + r.val) r (fun j => ?_) (fun j => ?_) ?_ (by omega) ?_ ?_ ?_ ?_ ?_ d
  · exact rs_at (inR m c) b g (ld0 m c b g hb hg h0) (ld3 m c b g hb hg h3) (ld5 m c b g hb hg h5) r j
  · exact rt_at (inR m c) b g (ld0 m c b g hb hg h0) (ld7 m c b g hb hg h7) (ld9 m c b g hb hg h9) (ld11 m c b g hb hg h11 x) r j
  · exact rn_at (inR m c) b g (ld0 m c b g hb hg h0) (ld1 m c b g hb hg h1) r
  · exact ld6 m c b g hb hg h6
  · exact ld10 m c b g hb hg h10
  · exact ld4 m c b g hb hg h4
  · exact ld8 m c b g hb hg h8
  · exact ld2 m c b g hb hg h2
end

/-- The reference's result. -/
def outR (c : Dev nD) : S2x32x128.Idx → EReal := fun j => rout (inR m c) (j 0).val (j 1).val (j 2).val

theorem outR_of (c : Dev nD) (j : S2x32x128.Idx) (x : S1x8x128.Idx) (b g : ℕ) (v : FVec Ideal S1x8x128 .bf16) (hv : ∀ (r : Fin 8) (d : Fin 128), v (ix3 0 r d) = rout (inR m c) b (8 * g + r.val) d.val)
    (x0 : (x 0).val < 1) (h0 : (j 0).val = b) (h1 : (j 1).val = 8 * g + (x 1).val) (h2 : (j 2).val = (x 2).val) : v x = outR m c j := by
  unfold outR
  rw [h0, h1, h2]
  have e : x = ix3 0 (x 1) (x 2) := by
    funext a; fin_cases a
    · exact Fin.ext (by show (x 0).val = 0; omega)
    · rfl
    · rfl
  rw [e]
  exact hv (x 1) (x 2)

theorem out_eq (c : Dev nD) : (dats m 0 c).arrAt 12 cfg0.N = outR m c := by
  refine (dats m 0 c).arrAt_eq_of_after_last 12 t0_0 (by decide +kernel) _ fun j => ?_
  blk_simp
  rw [after0_12, outsAt0]
  frame_out
  simp only [read_unread_whole]
  canon_tiles x h
  · refine outR_of m c j x 1 3 _ (fun r d => rp_ok m c 1 3 (by omega) (by omega) _ _ _ _ _ _ _ _ _ _ _ _ _ r d) ?_ ?_ ?_ ?_ <;> omega
  · refine outR_of m c j x 0 3 _ (fun r d => rp_ok m c 0 3 (by omega) (by omega) _ _ _ _ _ _ _ _ _ _ _ _ _ r d) ?_ ?_ ?_ ?_ <;> omega
  · refine outR_of m c j x 1 2 _ (fun r d => rp_ok m c 1 2 (by omega) (by omega) _ _ _ _ _ _ _ _ _ _ _ _ _ r d) ?_ ?_ ?_ ?_ <;> omega
  · refine outR_of m c j x 0 2 _ (fun r d => rp_ok m c 0 2 (by omega) (by omega) _ _ _ _ _ _ _ _ _ _ _ _ _ r d) ?_ ?_ ?_ ?_ <;> omega
  · refine outR_of m c j x 1 1 _ (fun r d => rp_ok m c 1 1 (by omega) (by omega) _ _ _ _ _ _ _ _ _ _ _ _ _ r d) ?_ ?_ ?_ ?_ <;> omega
  · refine outR_of m c j x 0 1 _ (fun r d => rp_ok m c 0 1 (by omega) (by omega) _ _ _ _ _ _ _ _ _ _ _ _ _ r d) ?_ ?_ ?_ ?_ <;> omega
  · refine outR_of m c j x 1 0 _ (fun r d => rp_ok m c 1 0 (by omega) (by omega) _ _ _ _ _ _ _ _ _ _ _ _ _ r d) ?_ ?_ ?_ ?_ <;> omega
  · refine outR_of m c j x 0 0 _ (fun r d => rp_ok m c 0 0 (by omega) (by omega) _ _ _ _ _ _ _ _ _ _ _ _ _ r d) ?_ ?_ ?_ ?_ <;> omega

end Cert.ReferenceIdeal.Gen

end
-- ==== Proof.lean ====
module

public import proofs.«01_k».proof.Defs
public import proofs.«01_k».proof.Proof.K.Frame
public import proofs.«01_k».proof.Proof.Val.Whole
public import proofs.«01_k».proof.Proof.Val.RefOut
public import proofs.«01_k».proof.Proof.Gen.ReferenceIdeal
public import proofs.«01_k».proof.Proof.Gen.ReferenceIdeal.Frame
public import proofs.«01_k».proof.Proof.Gen.ReferenceIdeal.Value

@[expose] public section

noncomputable section

namespace Cert.Proof

open Idealize.ShloMosaic Idealize.SL.Sem

/-- Both sides' result is `rout` of the same arguments: the kernel's by `Cert.KernelIdeal.Gen.value`, the reference's by
    `Cert.ReferenceIdeal.Gen.out_eq`. -/
theorem algebraic : Cert.algebraic_KernelIdeal_ReferenceIdeal (hKernelIdeal := Cert.KernelIdeal.Gen.facts) (hReferenceIdeal := Cert.ReferenceIdeal.Gen.facts) := by
  intro m g m' g' _ hag
  refine ⟨fun c => Cert.KernelIdeal.Gen.outK (Cert.KernelIdeal.Gen.inM m c),
    (θ_run _ _ _).mono (fun _ h => h.1) (Cert.KernelIdeal.Gen.value m g trivial),
    (θ_run _ _ _).mono (fun _ h c => ⟨(h c).1.trans ((Cert.ReferenceIdeal.Gen.out_eq m' c).trans ?_), (h c).2⟩) (Cert.ReferenceIdeal.Value.run_blocks m' g')⟩
  obtain ⟨h0, h1, h2, h3, h4, h5, h6, h7, h8, h9, h10, h11⟩ := hag c
  have e : Cert.ReferenceIdeal.Gen.inR m' c = Cert.KernelIdeal.Gen.inM m c := by
    unfold Cert.ReferenceIdeal.Gen.inR Cert.KernelIdeal.Gen.inM
    erw [h0, h1, h2, h3, h4, h5, h6, h7, h8, h9, h10, h11]
  unfold Cert.ReferenceIdeal.Gen.outR Cert.KernelIdeal.Gen.outK
  rw [e]

theorem claim : Cert.Claim :=
  ⟨Cert.Kernel.Gen.facts, Cert.KernelIdeal.Gen.facts, Cert.ReferenceIdeal.Gen.facts,
    fun m ρ _ => Cert.Kernel.Gen.frame m ρ trivial,
    fun m ρ _ => (θ_run _ _ _).mono (fun _ h => ⟨fun c => (h.1 c).2, h.2⟩) (Cert.KernelIdeal.Gen.value m ρ trivial),
    fun m ρ _ => Cert.ReferenceIdeal.Gen.frame m ρ,
    ⟨IdealRules.named_const.statement Cert.KernelIdeal.κ "neg" .f32 0xF149F2CA#32 ⊥ rfl,
    IdealRules.named_const.statement Cert.KernelIdeal.κ "qk_scale" .f32 0x3E0293EE#32 (((Real.sqrt 128)⁻¹ * (Real.log 2)⁻¹ : ℝ) : EReal) rfl⟩,
    algebraic⟩

end Cert.Proof

end
